-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8192x2048 : Shape := ⟨2, ![8192, 2048]⟩
abbrev S2048x11264 : Shape := ⟨2, ![2048, 11264]⟩
abbrev S3x11264 : Shape := ⟨2, ![3, 11264]⟩
abbrev S5632x2048 : Shape := ⟨2, ![5632, 2048]⟩
abbrev S1 : Shape := ⟨1, ![1]⟩
abbrev S11x2x8x512 : Shape := ⟨4, ![11, 2, 8, 512]⟩
abbrev S2x2x1032x256 : Shape := ⟨4, ![2, 2, 1032, 256]⟩
abbrev S2x1024x256 : Shape := ⟨3, ![2, 1024, 256]⟩
abbrev S2x1024x2048 : Shape := ⟨3, ![2, 1024, 2048]⟩
abbrev S2 : Shape := ⟨1, ![2]⟩
abbrev S2x2048x512 : Shape := ⟨3, ![2, 2048, 512]⟩
abbrev S2x3x512 : Shape := ⟨3, ![2, 3, 512]⟩
abbrev S2x512x2048 : Shape := ⟨3, ![2, 512, 2048]⟩
abbrev S_ : Shape := ⟨0, ![]⟩
abbrev S1x1024x2048 : Shape := ⟨3, ![1, 1024, 2048]⟩
abbrev S1024x2048 : Shape := ⟨2, ![1024, 2048]⟩
abbrev S1x2048x512 : Shape := ⟨3, ![1, 2048, 512]⟩
abbrev S2048x512 : Shape := ⟨2, ![2048, 512]⟩
abbrev S1x3x512 : Shape := ⟨3, ![1, 3, 512]⟩
abbrev S3x512 : Shape := ⟨2, ![3, 512]⟩
abbrev S1x512x2048 : Shape := ⟨3, ![1, 512, 2048]⟩
abbrev S512x2048 : Shape := ⟨2, ![512, 2048]⟩
abbrev S2x8x512 : Shape := ⟨3, ![2, 8, 512]⟩
abbrev S1x2x8x512 : Shape := ⟨4, ![1, 2, 8, 512]⟩
abbrev S1x1x8x256 : Shape := ⟨4, ![1, 1, 8, 256]⟩
abbrev S8x256 : Shape := ⟨2, ![8, 256]⟩
abbrev S2048x256 : Shape := ⟨2, ![2048, 256]⟩
abbrev S1024x256 : Shape := ⟨2, ![1024, 256]⟩
abbrev S1x1x1024x256 : Shape := ⟨4, ![1, 1, 1024, 256]⟩
abbrev S3x256 : Shape := ⟨2, ![3, 256]⟩
abbrev S1x256 : Shape := ⟨2, ![1, 256]⟩
abbrev S1x1024x256 : Shape := ⟨3, ![1, 1024, 256]⟩
abbrev S256x256 : Shape := ⟨2, ![256, 256]⟩

abbrev nBuf : Space → Nat
  | .hbm => 8
  | .vmem => 10
  | .smem => 1
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S3x11264, .f32⟩
  | .hbm, ⟨3, _⟩ => ⟨S5632x2048, .f32⟩
  | .hbm, ⟨4, _⟩ => ⟨S8192x2048, .bf16⟩
  | .hbm, ⟨5, _⟩ => ⟨S2048x11264, .bf16⟩
  | .hbm, ⟨6, _⟩ => ⟨S5632x2048, .bf16⟩
  | .hbm, ⟨7, _⟩ => ⟨S8192x2048, .f32⟩
  | .local _ .vmem, ⟨0, _⟩ => ⟨S11x2x8x512, .f32⟩
  | .local _ .vmem, ⟨1, _⟩ => ⟨S2x2x1032x256, .f32⟩
  | .local _ .vmem, ⟨2, _⟩ => ⟨S2x1024x256, .bf16⟩
  | .local _ .vmem, ⟨3, _⟩ => ⟨S2x1024x2048, .bf16⟩
  | .local _ .vmem, ⟨4, _⟩ => ⟨S2x2048x512, .bf16⟩
  | .local _ .vmem, ⟨5, _⟩ => ⟨S2x2048x512, .bf16⟩
  | .local _ .vmem, ⟨6, _⟩ => ⟨S2x3x512, .f32⟩
  | .local _ .vmem, ⟨7, _⟩ => ⟨S2x3x512, .f32⟩
  | .local _ .vmem, ⟨8, _⟩ => ⟨S2x512x2048, .bf16⟩
  | .local _ .vmem, ⟨9, _⟩ => ⟨S2x1024x2048, .f32⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_scoped8 : Ref sig .tc := ⟨.vmem, 7, rfl⟩
abbrev cc0_scoped10 : Ref sig .tc := ⟨.vmem, 8, rfl⟩
abbrev cc0_scoped12 : Ref sig .tc := ⟨.vmem, 9, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

def k0_off1 : Fin 1 → Nat :=
  let c0_i32_30_r0 : BitVec 32 := 0#32
  let c2_i32_r0 : BitVec 32 := 2#32
  let v34_r0 : BitVec 32 := Scalar.remui c0_i32_30_r0 c2_i32_r0
  ![v34_r0.toNat]
def k0_off2 : Fin 3 → Nat :=
  let c0_i32_30_r0 : BitVec 32 := 0#32
  let c2_i32_r0 : BitVec 32 := 2#32
  let v34_r0 : BitVec 32 := Scalar.remui c0_i32_30_r0 c2_i32_r0
  let c0_i32_31_r0 : BitVec 32 := 0#32
  let c0_i32_32_r0 : BitVec 32 := 0#32
  ![v34_r0.toNat, 0, 0]
def k0_off3 : Fin 3 → Nat :=
  let c0_i32_37_r0 : BitVec 32 := 0#32
  let c2_i32_38_r0 : BitVec 32 := 2#32
  let v41_r0 : BitVec 32 := Scalar.remui c0_i32_37_r0 c2_i32_38_r0
  let c0_i32_39_r0 : BitVec 32 := 0#32
  let c0_i32_40_r0 : BitVec 32 := 0#32
  ![v41_r0.toNat, 0, 0]
def k0_off4 : Fin 3 → Nat :=
  let c0_i32_52_r0 : BitVec 32 := 0#32
  let c2_i32_53_r0 : BitVec 32 := 2#32
  let v55_r0 : BitVec 32 := Scalar.remui c0_i32_52_r0 c2_i32_53_r0
  let c0_i32_54_r0 : BitVec 32 := 0#32
  let c0_i32_55_r0 : BitVec 32 := 0#32
  ![v55_r0.toNat, 0, 0]
def k0_off5 : Fin 3 → Nat :=
  let c0_i32_68_r0 : BitVec 32 := 0#32
  let c2_i32_69_r0 : BitVec 32 := 2#32
  let v69_r0 : BitVec 32 := Scalar.remui c0_i32_68_r0 c2_i32_69_r0
  let c0_i32_70_r0 : BitVec 32 := 0#32
  let c0_i32_71_r0 : BitVec 32 := 0#32
  ![v69_r0.toNat, 0, 0]
@[reducible] def k0_t1_loop : Scf.Loop 32 :=
  let c0_i32_86_r0 : BitVec 32 := 0#32
  let c88_i32_r0 : BitVec 32 := 88#32
  let v76_r0 : BitVec 32 := Scalar.addi c0_i32_86_r0 c88_i32_r0
  let c1_i32_87_r0 : BitVec 32 := 1#32
  ⟨c0_i32_86_r0, v76_r0, c1_i32_87_r0⟩
def k0_off6 (arg12_r0 : BitVec 32) : Fin 1 → Nat :=
  let c2_i32_701_r0 : BitVec 32 := 2#32
  let v844_r0 : BitVec 32 := Scalar.remui arg12_r0 c2_i32_701_r0
  ![v844_r0.toNat]
def k0_cond1 (k0_t1 : Fin k0_t1_loop.trips) (arg26_r0 : BitVec 32) (arg27_r0 : BitVec 32) : BitVec 1 :=
  let c0_i32_130_r0 : BitVec 32 := 0#32
  let v127_r0 : BitVec 32 := Scalar.addi arg26_r0 c0_i32_130_r0
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c1_i32_145_r0 : BitVec 32 := 1#32
  let v143_r0 : BitVec 32 := Scalar.addi arg26_r0 c1_i32_145_r0
  let v144_r0 : BitVec 32 := Scalar.select v141_r0 v143_r0 arg26_r0
  let c8_i32_146_r0 : BitVec 32 := 8#32
  let v145_r0 : BitVec 1 := Scalar.cmpi .eq v144_r0 c8_i32_146_r0
  let c0_i32_147_r0 : BitVec 32 := 0#32
  let v146_r0 : BitVec 32 := Scalar.select v145_r0 c0_i32_147_r0 v144_r0
  let c0_i32_148_r0 : BitVec 32 := 0#32
  let v147_r0 : BitVec 32 := Scalar.addi v146_r0 c0_i32_148_r0
  let v159_r0 : BitVec 1 := Scalar.cmpi .ne v127_r0 v147_r0
  let c0_i32_86_r0 : BitVec 32 := 0#32
  let c1_i32_87_r0 : BitVec 32 := 1#32
  let arg11_r0 : BitVec 32 := Scf.iv c0_i32_86_r0 c1_i32_87_r0 k0_t1
  let c87_i32_159_r0 : BitVec 32 := 87#32
  let v160_r0 : BitVec 1 := Scalar.cmpi .sge arg11_r0 c87_i32_159_r0
  let true_160_r0 : BitVec 1 := 1#1
  let v161_r0 : BitVec 1 := Scalar.xori v160_r0 true_160_r0
  let v162_r0 : BitVec 1 := Scalar.andi v159_r0 v161_r0
  let true_161_r0 : BitVec 1 := 1#1
  let v163_r0 : BitVec 1 := Scalar.andi v162_r0 true_161_r0
  let v164_r0 : BitVec 32 := Scalar.extui v163_r0
  let c0_i32_162_r0 : BitVec 32 := 0#32
  let v165_r0 : BitVec 1 := Scalar.cmpi .ne v164_r0 c0_i32_162_r0
  v165_r0

def k0_off7 (arg12_r0 : BitVec 32) : Fin 3 → Nat :=
  let c2_i32_701_r0 : BitVec 32 := 2#32
  let v844_r0 : BitVec 32 := Scalar.remui arg12_r0 c2_i32_701_r0
  let c0_i32_703_r0 : BitVec 32 := 0#32
  let c0_i32_704_r0 : BitVec 32 := 0#32
  ![v844_r0.toNat, 0, 0]
def k0_off8 (arg26_r0 : BitVec 32) (arg27_r0 : BitVec 32) : Fin 2 → Nat :=
  let c1024_i32_702_r0 : BitVec 32 := 1024#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c1_i32_145_r0 : BitVec 32 := 1#32
  let v143_r0 : BitVec 32 := Scalar.addi arg26_r0 c1_i32_145_r0
  let v144_r0 : BitVec 32 := Scalar.select v141_r0 v143_r0 arg26_r0
  let c8_i32_146_r0 : BitVec 32 := 8#32
  let v145_r0 : BitVec 1 := Scalar.cmpi .eq v144_r0 c8_i32_146_r0
  let c0_i32_147_r0 : BitVec 32 := 0#32
  let v146_r0 : BitVec 32 := Scalar.select v145_r0 c0_i32_147_r0 v144_r0
  let c0_i32_148_r0 : BitVec 32 := 0#32
  let v147_r0 : BitVec 32 := Scalar.addi v146_r0 c0_i32_148_r0
  let v845_r0 : BitVec 32 := Scalar.muli c1024_i32_702_r0 v147_r0
  let c0_i32_705_r0 : BitVec 32 := 0#32
  ![v845_r0.toNat, 0]
def k0_off9 (arg14_r0 : BitVec 32) : Fin 1 → Nat :=
  let c2_i32_701_r0 : BitVec 32 := 2#32
  let v844_r0 : BitVec 32 := Scalar.remui arg14_r0 c2_i32_701_r0
  ![v844_r0.toNat]
def k0_cond2 (k0_t1 : Fin k0_t1_loop.trips) (arg27_r0 : BitVec 32) : BitVec 1 :=
  let c0_i32_131_r0 : BitVec 32 := 0#32
  let v128_r0 : BitVec 32 := Scalar.addi arg27_r0 c0_i32_131_r0
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v169_r0 : BitVec 1 := Scalar.cmpi .ne v128_r0 v148_r0
  let c0_i32_86_r0 : BitVec 32 := 0#32
  let c1_i32_87_r0 : BitVec 32 := 1#32
  let arg11_r0 : BitVec 32 := Scf.iv c0_i32_86_r0 c1_i32_87_r0 k0_t1
  let c87_i32_165_r0 : BitVec 32 := 87#32
  let v170_r0 : BitVec 1 := Scalar.cmpi .sge arg11_r0 c87_i32_165_r0
  let true_166_r0 : BitVec 1 := 1#1
  let v171_r0 : BitVec 1 := Scalar.xori v170_r0 true_166_r0
  let v172_r0 : BitVec 1 := Scalar.andi v169_r0 v171_r0
  let true_167_r0 : BitVec 1 := 1#1
  let v173_r0 : BitVec 1 := Scalar.andi v172_r0 true_167_r0
  let v174_r0 : BitVec 32 := Scalar.extui v173_r0
  let c0_i32_168_r0 : BitVec 32 := 0#32
  let v175_r0 : BitVec 1 := Scalar.cmpi .ne v174_r0 c0_i32_168_r0
  v175_r0

def k0_off10 (arg14_r0 : BitVec 32) : Fin 3 → Nat :=
  let c2_i32_701_r0 : BitVec 32 := 2#32
  let v844_r0 : BitVec 32 := Scalar.remui arg14_r0 c2_i32_701_r0
  let c0_i32_702_r0 : BitVec 32 := 0#32
  let c0_i32_703_r0 : BitVec 32 := 0#32
  ![v844_r0.toNat, 0, 0]
def k0_off11 (arg27_r0 : BitVec 32) : Fin 2 → Nat :=
  let c0_i32_704_r0 : BitVec 32 := 0#32
  let c512_i32_r0 : BitVec 32 := 512#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v845_r0 : BitVec 32 := Scalar.muli c512_i32_r0 v148_r0
  ![0, v845_r0.toNat]
def k0_off12 (arg16_r0 : BitVec 32) : Fin 1 → Nat :=
  let c2_i32_701_r0 : BitVec 32 := 2#32
  let v844_r0 : BitVec 32 := Scalar.remui arg16_r0 c2_i32_701_r0
  ![v844_r0.toNat]
def k0_cond3 (k0_t1 : Fin k0_t1_loop.trips) (arg27_r0 : BitVec 32) : BitVec 1 :=
  let c11_i32_171_r0 : BitVec 32 := 11#32
  let c0_i32_131_r0 : BitVec 32 := 0#32
  let v128_r0 : BitVec 32 := Scalar.addi arg27_r0 c0_i32_131_r0
  let v179_r0 : BitVec 32 := Scalar.addi c11_i32_171_r0 v128_r0
  let c11_i32_172_r0 : BitVec 32 := 11#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v180_r0 : BitVec 32 := Scalar.addi c11_i32_172_r0 v148_r0
  let v181_r0 : BitVec 1 := Scalar.cmpi .ne v179_r0 v180_r0
  let c0_i32_86_r0 : BitVec 32 := 0#32
  let c1_i32_87_r0 : BitVec 32 := 1#32
  let arg11_r0 : BitVec 32 := Scf.iv c0_i32_86_r0 c1_i32_87_r0 k0_t1
  let c87_i32_173_r0 : BitVec 32 := 87#32
  let v182_r0 : BitVec 1 := Scalar.cmpi .sge arg11_r0 c87_i32_173_r0
  let true_174_r0 : BitVec 1 := 1#1
  let v183_r0 : BitVec 1 := Scalar.xori v182_r0 true_174_r0
  let v184_r0 : BitVec 1 := Scalar.andi v181_r0 v183_r0
  let true_175_r0 : BitVec 1 := 1#1
  let v185_r0 : BitVec 1 := Scalar.andi v184_r0 true_175_r0
  let v186_r0 : BitVec 32 := Scalar.extui v185_r0
  let c0_i32_176_r0 : BitVec 32 := 0#32
  let v187_r0 : BitVec 1 := Scalar.cmpi .ne v186_r0 c0_i32_176_r0
  v187_r0

def k0_off13 (arg16_r0 : BitVec 32) : Fin 3 → Nat :=
  let c2_i32_701_r0 : BitVec 32 := 2#32
  let v844_r0 : BitVec 32 := Scalar.remui arg16_r0 c2_i32_701_r0
  let c0_i32_703_r0 : BitVec 32 := 0#32
  let c0_i32_704_r0 : BitVec 32 := 0#32
  ![v844_r0.toNat, 0, 0]
def k0_off14 (arg27_r0 : BitVec 32) : Fin 2 → Nat :=
  let c0_i32_705_r0 : BitVec 32 := 0#32
  let c512_i32_r0 : BitVec 32 := 512#32
  let c11_i32_702_r0 : BitVec 32 := 11#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v845_r0 : BitVec 32 := Scalar.addi c11_i32_702_r0 v148_r0
  let v846_r0 : BitVec 32 := Scalar.muli c512_i32_r0 v845_r0
  ![0, v846_r0.toNat]
def k0_off15 (arg18_r0 : BitVec 32) : Fin 1 → Nat :=
  let c2_i32_701_r0 : BitVec 32 := 2#32
  let v844_r0 : BitVec 32 := Scalar.remui arg18_r0 c2_i32_701_r0
  ![v844_r0.toNat]
def k0_cond4 (k0_t1 : Fin k0_t1_loop.trips) (arg27_r0 : BitVec 32) : BitVec 1 :=
  let c0_i32_131_r0 : BitVec 32 := 0#32
  let v128_r0 : BitVec 32 := Scalar.addi arg27_r0 c0_i32_131_r0
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v191_r0 : BitVec 1 := Scalar.cmpi .ne v128_r0 v148_r0
  let c0_i32_86_r0 : BitVec 32 := 0#32
  let c1_i32_87_r0 : BitVec 32 := 1#32
  let arg11_r0 : BitVec 32 := Scf.iv c0_i32_86_r0 c1_i32_87_r0 k0_t1
  let c87_i32_179_r0 : BitVec 32 := 87#32
  let v192_r0 : BitVec 1 := Scalar.cmpi .sge arg11_r0 c87_i32_179_r0
  let true_180_r0 : BitVec 1 := 1#1
  let v193_r0 : BitVec 1 := Scalar.xori v192_r0 true_180_r0
  let v194_r0 : BitVec 1 := Scalar.andi v191_r0 v193_r0
  let true_181_r0 : BitVec 1 := 1#1
  let v195_r0 : BitVec 1 := Scalar.andi v194_r0 true_181_r0
  let v196_r0 : BitVec 32 := Scalar.extui v195_r0
  let c0_i32_182_r0 : BitVec 32 := 0#32
  let v197_r0 : BitVec 1 := Scalar.cmpi .ne v196_r0 c0_i32_182_r0
  v197_r0

def k0_off16 (arg18_r0 : BitVec 32) : Fin 3 → Nat :=
  let c2_i32_701_r0 : BitVec 32 := 2#32
  let v844_r0 : BitVec 32 := Scalar.remui arg18_r0 c2_i32_701_r0
  let c0_i32_702_r0 : BitVec 32 := 0#32
  let c0_i32_703_r0 : BitVec 32 := 0#32
  ![v844_r0.toNat, 0, 0]
def k0_off17 (arg27_r0 : BitVec 32) : Fin 2 → Nat :=
  let c0_i32_704_r0 : BitVec 32 := 0#32
  let c512_i32_r0 : BitVec 32 := 512#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v845_r0 : BitVec 32 := Scalar.muli c512_i32_r0 v148_r0
  ![0, v845_r0.toNat]
def k0_off18 (arg20_r0 : BitVec 32) : Fin 1 → Nat :=
  let c2_i32_701_r0 : BitVec 32 := 2#32
  let v844_r0 : BitVec 32 := Scalar.remui arg20_r0 c2_i32_701_r0
  ![v844_r0.toNat]
def k0_cond5 (k0_t1 : Fin k0_t1_loop.trips) (arg27_r0 : BitVec 32) : BitVec 1 :=
  let c11_i32_185_r0 : BitVec 32 := 11#32
  let c0_i32_131_r0 : BitVec 32 := 0#32
  let v128_r0 : BitVec 32 := Scalar.addi arg27_r0 c0_i32_131_r0
  let v201_r0 : BitVec 32 := Scalar.addi c11_i32_185_r0 v128_r0
  let c11_i32_186_r0 : BitVec 32 := 11#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v202_r0 : BitVec 32 := Scalar.addi c11_i32_186_r0 v148_r0
  let v203_r0 : BitVec 1 := Scalar.cmpi .ne v201_r0 v202_r0
  let c0_i32_86_r0 : BitVec 32 := 0#32
  let c1_i32_87_r0 : BitVec 32 := 1#32
  let arg11_r0 : BitVec 32 := Scf.iv c0_i32_86_r0 c1_i32_87_r0 k0_t1
  let c87_i32_187_r0 : BitVec 32 := 87#32
  let v204_r0 : BitVec 1 := Scalar.cmpi .sge arg11_r0 c87_i32_187_r0
  let true_188_r0 : BitVec 1 := 1#1
  let v205_r0 : BitVec 1 := Scalar.xori v204_r0 true_188_r0
  let v206_r0 : BitVec 1 := Scalar.andi v203_r0 v205_r0
  let true_189_r0 : BitVec 1 := 1#1
  let v207_r0 : BitVec 1 := Scalar.andi v206_r0 true_189_r0
  let v208_r0 : BitVec 32 := Scalar.extui v207_r0
  let c0_i32_190_r0 : BitVec 32 := 0#32
  let v209_r0 : BitVec 1 := Scalar.cmpi .ne v208_r0 c0_i32_190_r0
  v209_r0

def k0_off19 (arg20_r0 : BitVec 32) : Fin 3 → Nat :=
  let c2_i32_701_r0 : BitVec 32 := 2#32
  let v844_r0 : BitVec 32 := Scalar.remui arg20_r0 c2_i32_701_r0
  let c0_i32_703_r0 : BitVec 32 := 0#32
  let c0_i32_704_r0 : BitVec 32 := 0#32
  ![v844_r0.toNat, 0, 0]
def k0_off20 (arg27_r0 : BitVec 32) : Fin 2 → Nat :=
  let c0_i32_705_r0 : BitVec 32 := 0#32
  let c512_i32_r0 : BitVec 32 := 512#32
  let c11_i32_702_r0 : BitVec 32 := 11#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v845_r0 : BitVec 32 := Scalar.addi c11_i32_702_r0 v148_r0
  let v846_r0 : BitVec 32 := Scalar.muli c512_i32_r0 v845_r0
  ![0, v846_r0.toNat]
def k0_off21 (arg22_r0 : BitVec 32) : Fin 1 → Nat :=
  let c2_i32_701_r0 : BitVec 32 := 2#32
  let v844_r0 : BitVec 32 := Scalar.remui arg22_r0 c2_i32_701_r0
  ![v844_r0.toNat]
def k0_cond6 (k0_t1 : Fin k0_t1_loop.trips) (arg27_r0 : BitVec 32) : BitVec 1 :=
  let c0_i32_131_r0 : BitVec 32 := 0#32
  let v128_r0 : BitVec 32 := Scalar.addi arg27_r0 c0_i32_131_r0
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v213_r0 : BitVec 1 := Scalar.cmpi .ne v128_r0 v148_r0
  let c0_i32_86_r0 : BitVec 32 := 0#32
  let c1_i32_87_r0 : BitVec 32 := 1#32
  let arg11_r0 : BitVec 32 := Scf.iv c0_i32_86_r0 c1_i32_87_r0 k0_t1
  let c87_i32_193_r0 : BitVec 32 := 87#32
  let v214_r0 : BitVec 1 := Scalar.cmpi .sge arg11_r0 c87_i32_193_r0
  let true_194_r0 : BitVec 1 := 1#1
  let v215_r0 : BitVec 1 := Scalar.xori v214_r0 true_194_r0
  let v216_r0 : BitVec 1 := Scalar.andi v213_r0 v215_r0
  let true_195_r0 : BitVec 1 := 1#1
  let v217_r0 : BitVec 1 := Scalar.andi v216_r0 true_195_r0
  let v218_r0 : BitVec 32 := Scalar.extui v217_r0
  let c0_i32_196_r0 : BitVec 32 := 0#32
  let v219_r0 : BitVec 1 := Scalar.cmpi .ne v218_r0 c0_i32_196_r0
  v219_r0

def k0_off22 (arg22_r0 : BitVec 32) : Fin 3 → Nat :=
  let c2_i32_701_r0 : BitVec 32 := 2#32
  let v844_r0 : BitVec 32 := Scalar.remui arg22_r0 c2_i32_701_r0
  let c0_i32_702_r0 : BitVec 32 := 0#32
  let c0_i32_703_r0 : BitVec 32 := 0#32
  ![v844_r0.toNat, 0, 0]
def k0_off23 (arg27_r0 : BitVec 32) : Fin 2 → Nat :=
  let c512_i32_r0 : BitVec 32 := 512#32
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c0_i32_144_r0 : BitVec 32 := 0#32
  let v142_r0 : BitVec 32 := Scalar.select v141_r0 c0_i32_144_r0 v140_r0
  let c0_i32_149_r0 : BitVec 32 := 0#32
  let v148_r0 : BitVec 32 := Scalar.addi v142_r0 c0_i32_149_r0
  let v845_r0 : BitVec 32 := Scalar.muli c512_i32_r0 v148_r0
  let c0_i32_704_r0 : BitVec 32 := 0#32
  ![v845_r0.toNat, 0]
def k0_off24 (arg13_r0 : BitVec 32) : Fin 1 → Nat :=
  let c2_i32_702_r0 : BitVec 32 := 2#32
  let v845_r0 : BitVec 32 := Scalar.remui arg13_r0 c2_i32_702_r0
  ![v845_r0.toNat]
def k0_cond7 (k0_t1 : Fin k0_t1_loop.trips) (arg26_r0 : BitVec 32) (arg27_r0 : BitVec 32) : BitVec 1 :=
  let c0_i32_130_r0 : BitVec 32 := 0#32
  let v127_r0 : BitVec 32 := Scalar.addi arg26_r0 c0_i32_130_r0
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c1_i32_136_r0 : BitVec 32 := 1#32
  let v133_r0 : BitVec 32 := Scalar.subi arg26_r0 c1_i32_136_r0
  let v134_r0 : BitVec 32 := Scalar.select v131_r0 v133_r0 arg26_r0
  let c_m1_i32_137_r0 : BitVec 32 := 4294967295#32
  let v135_r0 : BitVec 1 := Scalar.cmpi .eq v134_r0 c_m1_i32_137_r0
  let c7_i32_138_r0 : BitVec 32 := 7#32
  let v136_r0 : BitVec 32 := Scalar.select v135_r0 c7_i32_138_r0 v134_r0
  let c0_i32_139_r0 : BitVec 32 := 0#32
  let v137_r0 : BitVec 32 := Scalar.addi v136_r0 c0_i32_139_r0
  let v227_r0 : BitVec 1 := Scalar.cmpi .ne v127_r0 v137_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v228_r0 : BitVec 1 := Scalar.ori v227_r0 v125_r0
  let c0_i32_201_r0 : BitVec 32 := 0#32
  let v229_r0 : BitVec 1 := Scalar.cmpi .sge arg11_r0 c0_i32_201_r0
  let v230_r0 : BitVec 1 := Scalar.andi v228_r0 v229_r0
  let v231_r0 : BitVec 32 := Scalar.extui v230_r0
  let c0_i32_202_r0 : BitVec 32 := 0#32
  let v232_r0 : BitVec 1 := Scalar.cmpi .ne v231_r0 c0_i32_202_r0
  v232_r0

def k0_off25 (arg13_r0 : BitVec 32) : Fin 3 → Nat :=
  let c2_i32_702_r0 : BitVec 32 := 2#32
  let v845_r0 : BitVec 32 := Scalar.remui arg13_r0 c2_i32_702_r0
  let c0_i32_703_r0 : BitVec 32 := 0#32
  let c0_i32_704_r0 : BitVec 32 := 0#32
  ![v845_r0.toNat, 0, 0]
def k0_off26 (arg26_r0 : BitVec 32) : Fin 2 → Nat :=
  let c1024_i32_701_r0 : BitVec 32 := 1024#32
  let c0_i32_130_r0 : BitVec 32 := 0#32
  let v127_r0 : BitVec 32 := Scalar.addi arg26_r0 c0_i32_130_r0
  let v844_r0 : BitVec 32 := Scalar.muli c1024_i32_701_r0 v127_r0
  let c0_i32_705_r0 : BitVec 32 := 0#32
  ![v844_r0.toNat, 0]
def k0_off27 (arg15_r0 : BitVec 32) : Fin 1 → Nat :=
  let c2_i32_701_r0 : BitVec 32 := 2#32
  let v845_r0 : BitVec 32 := Scalar.remui arg15_r0 c2_i32_701_r0
  ![v845_r0.toNat]
def k0_cond8 (k0_t1 : Fin k0_t1_loop.trips) (arg27_r0 : BitVec 32) : BitVec 1 :=
  let c0_i32_131_r0 : BitVec 32 := 0#32
  let v128_r0 : BitVec 32 := Scalar.addi arg27_r0 c0_i32_131_r0
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c10_i32_135_r0 : BitVec 32 := 10#32
  let v132_r0 : BitVec 32 := Scalar.select v131_r0 c10_i32_135_r0 v130_r0
  let c0_i32_140_r0 : BitVec 32 := 0#32
  let v138_r0 : BitVec 32 := Scalar.addi v132_r0 c0_i32_140_r0
  let v233_r0 : BitVec 1 := Scalar.cmpi .ne v128_r0 v138_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v234_r0 : BitVec 1 := Scalar.ori v233_r0 v125_r0
  let c0_i32_203_r0 : BitVec 32 := 0#32
  let v235_r0 : BitVec 1 := Scalar.cmpi .sge arg11_r0 c0_i32_203_r0
  let v236_r0 : BitVec 1 := Scalar.andi v234_r0 v235_r0
  let v237_r0 : BitVec 32 := Scalar.extui v236_r0
  let c0_i32_204_r0 : BitVec 32 := 0#32
  let v238_r0 : BitVec 1 := Scalar.cmpi .ne v237_r0 c0_i32_204_r0
  v238_r0

def k0_off28 (arg15_r0 : BitVec 32) : Fin 3 → Nat :=
  let c2_i32_701_r0 : BitVec 32 := 2#32
  let v845_r0 : BitVec 32 := Scalar.remui arg15_r0 c2_i32_701_r0
  let c0_i32_702_r0 : BitVec 32 := 0#32
  let c0_i32_703_r0 : BitVec 32 := 0#32
  ![v845_r0.toNat, 0, 0]
def k0_off29 (arg27_r0 : BitVec 32) : Fin 2 → Nat :=
  let c0_i32_704_r0 : BitVec 32 := 0#32
  let c512_i32_r0 : BitVec 32 := 512#32
  let c0_i32_131_r0 : BitVec 32 := 0#32
  let v128_r0 : BitVec 32 := Scalar.addi arg27_r0 c0_i32_131_r0
  let v844_r0 : BitVec 32 := Scalar.muli c512_i32_r0 v128_r0
  ![0, v844_r0.toNat]
def k0_off30 (arg17_r0 : BitVec 32) : Fin 1 → Nat :=
  let c2_i32_702_r0 : BitVec 32 := 2#32
  let v846_r0 : BitVec 32 := Scalar.remui arg17_r0 c2_i32_702_r0
  ![v846_r0.toNat]
def k0_cond9 (k0_t1 : Fin k0_t1_loop.trips) (arg27_r0 : BitVec 32) : BitVec 1 :=
  let c11_i32_171_r0 : BitVec 32 := 11#32
  let c0_i32_131_r0 : BitVec 32 := 0#32
  let v128_r0 : BitVec 32 := Scalar.addi arg27_r0 c0_i32_131_r0
  let v179_r0 : BitVec 32 := Scalar.addi c11_i32_171_r0 v128_r0
  let c11_i32_205_r0 : BitVec 32 := 11#32
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c10_i32_135_r0 : BitVec 32 := 10#32
  let v132_r0 : BitVec 32 := Scalar.select v131_r0 c10_i32_135_r0 v130_r0
  let c0_i32_140_r0 : BitVec 32 := 0#32
  let v138_r0 : BitVec 32 := Scalar.addi v132_r0 c0_i32_140_r0
  let v239_r0 : BitVec 32 := Scalar.addi c11_i32_205_r0 v138_r0
  let v240_r0 : BitVec 1 := Scalar.cmpi .ne v179_r0 v239_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v241_r0 : BitVec 1 := Scalar.ori v240_r0 v125_r0
  let c0_i32_206_r0 : BitVec 32 := 0#32
  let v242_r0 : BitVec 1 := Scalar.cmpi .sge arg11_r0 c0_i32_206_r0
  let v243_r0 : BitVec 1 := Scalar.andi v241_r0 v242_r0
  let v244_r0 : BitVec 32 := Scalar.extui v243_r0
  let c0_i32_207_r0 : BitVec 32 := 0#32
  let v245_r0 : BitVec 1 := Scalar.cmpi .ne v244_r0 c0_i32_207_r0
  v245_r0

def k0_off31 (arg17_r0 : BitVec 32) : Fin 3 → Nat :=
  let c2_i32_702_r0 : BitVec 32 := 2#32
  let v846_r0 : BitVec 32 := Scalar.remui arg17_r0 c2_i32_702_r0
  let c0_i32_703_r0 : BitVec 32 := 0#32
  let c0_i32_704_r0 : BitVec 32 := 0#32
  ![v846_r0.toNat, 0, 0]
def k0_off32 (arg27_r0 : BitVec 32) : Fin 2 → Nat :=
  let c0_i32_705_r0 : BitVec 32 := 0#32
  let c512_i32_r0 : BitVec 32 := 512#32
  let c11_i32_701_r0 : BitVec 32 := 11#32
  let c0_i32_131_r0 : BitVec 32 := 0#32
  let v128_r0 : BitVec 32 := Scalar.addi arg27_r0 c0_i32_131_r0
  let v844_r0 : BitVec 32 := Scalar.addi c11_i32_701_r0 v128_r0
  let v845_r0 : BitVec 32 := Scalar.muli c512_i32_r0 v844_r0
  ![0, v845_r0.toNat]
def k0_off33 (arg19_r0 : BitVec 32) : Fin 1 → Nat :=
  let c2_i32_701_r0 : BitVec 32 := 2#32
  let v845_r0 : BitVec 32 := Scalar.remui arg19_r0 c2_i32_701_r0
  ![v845_r0.toNat]
def k0_cond10 (k0_t1 : Fin k0_t1_loop.trips) (arg27_r0 : BitVec 32) : BitVec 1 :=
  let c0_i32_131_r0 : BitVec 32 := 0#32
  let v128_r0 : BitVec 32 := Scalar.addi arg27_r0 c0_i32_131_r0
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c10_i32_135_r0 : BitVec 32 := 10#32
  let v132_r0 : BitVec 32 := Scalar.select v131_r0 c10_i32_135_r0 v130_r0
  let c0_i32_140_r0 : BitVec 32 := 0#32
  let v138_r0 : BitVec 32 := Scalar.addi v132_r0 c0_i32_140_r0
  let v246_r0 : BitVec 1 := Scalar.cmpi .ne v128_r0 v138_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v247_r0 : BitVec 1 := Scalar.ori v246_r0 v125_r0
  let c0_i32_208_r0 : BitVec 32 := 0#32
  let v248_r0 : BitVec 1 := Scalar.cmpi .sge arg11_r0 c0_i32_208_r0
  let v249_r0 : BitVec 1 := Scalar.andi v247_r0 v248_r0
  let v250_r0 : BitVec 32 := Scalar.extui v249_r0
  let c0_i32_209_r0 : BitVec 32 := 0#32
  let v251_r0 : BitVec 1 := Scalar.cmpi .ne v250_r0 c0_i32_209_r0
  v251_r0

def k0_off34 (arg19_r0 : BitVec 32) : Fin 3 → Nat :=
  let c2_i32_701_r0 : BitVec 32 := 2#32
  let v845_r0 : BitVec 32 := Scalar.remui arg19_r0 c2_i32_701_r0
  let c0_i32_702_r0 : BitVec 32 := 0#32
  let c0_i32_703_r0 : BitVec 32 := 0#32
  ![v845_r0.toNat, 0, 0]
def k0_off35 (arg27_r0 : BitVec 32) : Fin 2 → Nat :=
  let c0_i32_704_r0 : BitVec 32 := 0#32
  let c512_i32_r0 : BitVec 32 := 512#32
  let c0_i32_131_r0 : BitVec 32 := 0#32
  let v128_r0 : BitVec 32 := Scalar.addi arg27_r0 c0_i32_131_r0
  let v844_r0 : BitVec 32 := Scalar.muli c512_i32_r0 v128_r0
  ![0, v844_r0.toNat]
def k0_off36 (arg21_r0 : BitVec 32) : Fin 1 → Nat :=
  let c2_i32_702_r0 : BitVec 32 := 2#32
  let v846_r0 : BitVec 32 := Scalar.remui arg21_r0 c2_i32_702_r0
  ![v846_r0.toNat]
def k0_cond11 (k0_t1 : Fin k0_t1_loop.trips) (arg27_r0 : BitVec 32) : BitVec 1 :=
  let c11_i32_185_r0 : BitVec 32 := 11#32
  let c0_i32_131_r0 : BitVec 32 := 0#32
  let v128_r0 : BitVec 32 := Scalar.addi arg27_r0 c0_i32_131_r0
  let v201_r0 : BitVec 32 := Scalar.addi c11_i32_185_r0 v128_r0
  let c11_i32_210_r0 : BitVec 32 := 11#32
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c10_i32_135_r0 : BitVec 32 := 10#32
  let v132_r0 : BitVec 32 := Scalar.select v131_r0 c10_i32_135_r0 v130_r0
  let c0_i32_140_r0 : BitVec 32 := 0#32
  let v138_r0 : BitVec 32 := Scalar.addi v132_r0 c0_i32_140_r0
  let v252_r0 : BitVec 32 := Scalar.addi c11_i32_210_r0 v138_r0
  let v253_r0 : BitVec 1 := Scalar.cmpi .ne v201_r0 v252_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v254_r0 : BitVec 1 := Scalar.ori v253_r0 v125_r0
  let c0_i32_211_r0 : BitVec 32 := 0#32
  let v255_r0 : BitVec 1 := Scalar.cmpi .sge arg11_r0 c0_i32_211_r0
  let v256_r0 : BitVec 1 := Scalar.andi v254_r0 v255_r0
  let v257_r0 : BitVec 32 := Scalar.extui v256_r0
  let c0_i32_212_r0 : BitVec 32 := 0#32
  let v258_r0 : BitVec 1 := Scalar.cmpi .ne v257_r0 c0_i32_212_r0
  v258_r0

def k0_off37 (arg21_r0 : BitVec 32) : Fin 3 → Nat :=
  let c2_i32_702_r0 : BitVec 32 := 2#32
  let v846_r0 : BitVec 32 := Scalar.remui arg21_r0 c2_i32_702_r0
  let c0_i32_703_r0 : BitVec 32 := 0#32
  let c0_i32_704_r0 : BitVec 32 := 0#32
  ![v846_r0.toNat, 0, 0]
def k0_off38 (arg27_r0 : BitVec 32) : Fin 2 → Nat :=
  let c0_i32_705_r0 : BitVec 32 := 0#32
  let c512_i32_r0 : BitVec 32 := 512#32
  let c11_i32_701_r0 : BitVec 32 := 11#32
  let c0_i32_131_r0 : BitVec 32 := 0#32
  let v128_r0 : BitVec 32 := Scalar.addi arg27_r0 c0_i32_131_r0
  let v844_r0 : BitVec 32 := Scalar.addi c11_i32_701_r0 v128_r0
  let v845_r0 : BitVec 32 := Scalar.muli c512_i32_r0 v844_r0
  ![0, v845_r0.toNat]
def k0_off39 (arg23_r0 : BitVec 32) : Fin 1 → Nat :=
  let c2_i32_701_r0 : BitVec 32 := 2#32
  let v845_r0 : BitVec 32 := Scalar.remui arg23_r0 c2_i32_701_r0
  ![v845_r0.toNat]
def k0_cond12 (k0_t1 : Fin k0_t1_loop.trips) (arg27_r0 : BitVec 32) : BitVec 1 :=
  let c0_i32_131_r0 : BitVec 32 := 0#32
  let v128_r0 : BitVec 32 := Scalar.addi arg27_r0 c0_i32_131_r0
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c10_i32_135_r0 : BitVec 32 := 10#32
  let v132_r0 : BitVec 32 := Scalar.select v131_r0 c10_i32_135_r0 v130_r0
  let c0_i32_140_r0 : BitVec 32 := 0#32
  let v138_r0 : BitVec 32 := Scalar.addi v132_r0 c0_i32_140_r0
  let v259_r0 : BitVec 1 := Scalar.cmpi .ne v128_r0 v138_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let v260_r0 : BitVec 1 := Scalar.ori v259_r0 v125_r0
  let c0_i32_213_r0 : BitVec 32 := 0#32
  let v261_r0 : BitVec 1 := Scalar.cmpi .sge arg11_r0 c0_i32_213_r0
  let v262_r0 : BitVec 1 := Scalar.andi v260_r0 v261_r0
  let v263_r0 : BitVec 32 := Scalar.extui v262_r0
  let c0_i32_214_r0 : BitVec 32 := 0#32
  let v264_r0 : BitVec 1 := Scalar.cmpi .ne v263_r0 c0_i32_214_r0
  v264_r0

def k0_off40 (arg23_r0 : BitVec 32) : Fin 3 → Nat :=
  let c2_i32_701_r0 : BitVec 32 := 2#32
  let v845_r0 : BitVec 32 := Scalar.remui arg23_r0 c2_i32_701_r0
  let c0_i32_702_r0 : BitVec 32 := 0#32
  let c0_i32_703_r0 : BitVec 32 := 0#32
  ![v845_r0.toNat, 0, 0]
def k0_off41 (arg27_r0 : BitVec 32) : Fin 2 → Nat :=
  let c512_i32_r0 : BitVec 32 := 512#32
  let c0_i32_131_r0 : BitVec 32 := 0#32
  let v128_r0 : BitVec 32 := Scalar.addi arg27_r0 c0_i32_131_r0
  let v844_r0 : BitVec 32 := Scalar.muli c512_i32_r0 v128_r0
  let c0_i32_704_r0 : BitVec 32 := 0#32
  ![v844_r0.toNat, 0]
def k0_off42 (v278_r0 : BitVec 32) : Fin 4 → Nat :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let v845_r0 : Index := Scalar.indexCast v307_r0
  let c0_702_r0 : Index := 0#32
  let c0_703_r0 : Index := 0#32
  let c0_704_r0 : Index := 0#32
  ![v845_r0.toNat, 0, 0, 0]
def k0_cond14 (v278_r0 : BitVec 32) : BitVec 1 :=
  let c0_i32_228_r0 : BitVec 32 := 0#32
  let v282_r0 : BitVec 1 := Scalar.cmpi .sgt v278_r0 c0_i32_228_r0
  let v283_r0 : BitVec 32 := Scalar.extui v282_r0
  let c0_i32_229_r0 : BitVec 32 := 0#32
  let v284_r0 : BitVec 1 := Scalar.cmpi .slt v278_r0 c0_i32_229_r0
  let v285_r0 : BitVec 32 := Scalar.extui v284_r0
  let v286_r0 : BitVec 32 := Scalar.subi v283_r0 v285_r0
  let c11_i32_227_r0 : BitVec 32 := 11#32
  let c0_i32_230_r0 : BitVec 32 := 0#32
  let v287_r0 : BitVec 1 := Scalar.cmpi .sgt c11_i32_227_r0 c0_i32_230_r0
  let v288_r0 : BitVec 32 := Scalar.extui v287_r0
  let c0_i32_231_r0 : BitVec 32 := 0#32
  let v289_r0 : BitVec 1 := Scalar.cmpi .slt c11_i32_227_r0 c0_i32_231_r0
  let v290_r0 : BitVec 32 := Scalar.extui v289_r0
  let v291_r0 : BitVec 32 := Scalar.subi v288_r0 v290_r0
  let v292_r0 : BitVec 1 := Scalar.cmpi .ne v286_r0 v291_r0
  let v293_r0 : BitVec 32 := Scalar.remsi v278_r0 c11_i32_227_r0
  let c0_i32_232_r0 : BitVec 32 := 0#32
  let v294_r0 : BitVec 1 := Scalar.cmpi .ne v293_r0 c0_i32_232_r0
  let v295_r0 : BitVec 1 := Scalar.andi v292_r0 v294_r0
  let v281_r0 : BitVec 32 := Scalar.divsi v278_r0 c11_i32_227_r0
  let c1_i32_233_r0 : BitVec 32 := 1#32
  let v296_r0 : BitVec 32 := Scalar.subi v281_r0 c1_i32_233_r0
  let v297_r0 : BitVec 32 := Scalar.select v295_r0 v296_r0 v281_r0
  let c0_i32_240_r0 : BitVec 32 := 0#32
  let v308_r0 : BitVec 1 := Scalar.cmpi .eq v297_r0 c0_i32_240_r0
  let v309_r0 : BitVec 32 := Scalar.extui v308_r0
  let c0_i32_241_r0 : BitVec 32 := 0#32
  let v310_r0 : BitVec 1 := Scalar.cmpi .ne v309_r0 c0_i32_241_r0
  v310_r0

def k0_off43 (arg24_r0 : BitVec 32) : Fin 3 → Nat :=
  let c2_i32_223_r0 : BitVec 32 := 2#32
  let v277_r0 : BitVec 32 := Scalar.remui arg24_r0 c2_i32_223_r0
  let v845_r0 : Index := Scalar.indexCast v277_r0
  let c0_702_r0 : Index := 0#32
  let c0_703_r0 : Index := 0#32
  ![v845_r0.toNat, 0, 0]
def k0_cond15 (v278_r0 : BitVec 32) : BitVec 1 :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let c0_i32_242_r0 : BitVec 32 := 0#32
  let v311_r0 : BitVec 1 := Scalar.cmpi .eq v307_r0 c0_i32_242_r0
  let v312_r0 : BitVec 32 := Scalar.extui v311_r0
  let c0_i32_243_r0 : BitVec 32 := 0#32
  let v313_r0 : BitVec 1 := Scalar.cmpi .ne v312_r0 c0_i32_243_r0
  v313_r0

def k0_off44 (arg13_r0 : BitVec 32) : Fin 3 → Nat :=
  let c2_i32_217_r0 : BitVec 32 := 2#32
  let v271_r0 : BitVec 32 := Scalar.remui arg13_r0 c2_i32_217_r0
  let v314_r0 : Index := Scalar.indexCast v271_r0
  let c0_244_r0 : Index := 0#32
  let c0_245_r0 : Index := 0#32
  ![v314_r0.toNat, 0, 0]

def k0_chk3 (arg13_r0 : BitVec 32) : Prop :=
  (∀ a, (k0_off44 arg13_r0) a + S1x1024x2048.size a ≤ S2x1024x2048.size a)
theorem k0_off44_inb : ∀ (arg13_r0 : BitVec 32) (k0_hw3 : k0_chk3 arg13_r0), ∀ a, (k0_off44 arg13_r0) a + S1x1024x2048.size a ≤ S2x1024x2048.size a := fun arg13_r0 k0_hw3 => k0_hw3

def k0_off45 (v278_r0 : BitVec 32) : Fin 4 → Nat :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let v317_r0 : Index := Scalar.indexCast v307_r0
  let c0_246_r0 : Index := 0#32
  let c0_247_r0 : Index := 0#32
  let c0_248_r0 : Index := 0#32
  ![v317_r0.toNat, 0, 0, 0]
def k0_off46 (arg15_r0 : BitVec 32) : Fin 3 → Nat :=
  let c2_i32_218_r0 : BitVec 32 := 2#32
  let v272_r0 : BitVec 32 := Scalar.remui arg15_r0 c2_i32_218_r0
  let c0_i32_253_r0 : BitVec 32 := 0#32
  let c0_i32_254_r0 : BitVec 32 := 0#32
  ![v272_r0.toNat, 0, 0]

def k0_chk4 (arg15_r0 : BitVec 32) : Prop :=
  (∀ a, (k0_off46 arg15_r0) a + S1x2048x512.size a ≤ S2x2048x512.size a)
theorem k0_off46_inb : ∀ (arg15_r0 : BitVec 32) (k0_hw4 : k0_chk4 arg15_r0), ∀ a, (k0_off46 arg15_r0) a + S1x2048x512.size a ≤ S2x2048x512.size a := fun arg15_r0 k0_hw4 => k0_hw4

def k0_off47 (v278_r0 : BitVec 32) : Fin 4 → Nat :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let v337_r0 : Index := Scalar.indexCast v307_r0
  let c1_r0 : Index := 1#32
  let c0_266_r0 : Index := 0#32
  let c0_267_r0 : Index := 0#32
  ![v337_r0.toNat, 1, 0, 0]
def k0_off48 (arg17_r0 : BitVec 32) : Fin 3 → Nat :=
  let c2_i32_219_r0 : BitVec 32 := 2#32
  let v273_r0 : BitVec 32 := Scalar.remui arg17_r0 c2_i32_219_r0
  let c0_i32_272_r0 : BitVec 32 := 0#32
  let c0_i32_273_r0 : BitVec 32 := 0#32
  ![v273_r0.toNat, 0, 0]

def k0_chk5 (arg17_r0 : BitVec 32) : Prop :=
  (∀ a, (k0_off48 arg17_r0) a + S1x2048x512.size a ≤ S2x2048x512.size a)
theorem k0_off48_inb : ∀ (arg17_r0 : BitVec 32) (k0_hw5 : k0_chk5 arg17_r0), ∀ a, (k0_off48 arg17_r0) a + S1x2048x512.size a ≤ S2x2048x512.size a := fun arg17_r0 k0_hw5 => k0_hw5

def k0_off49 (v278_r0 : BitVec 32) : Fin 4 → Nat :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let v357_r0 : Index := Scalar.indexCast v307_r0
  let c0_288_r0 : Index := 0#32
  let c0_289_r0 : Index := 0#32
  let c256_r0 : Index := 256#32
  ![v357_r0.toNat, 0, 0, 256]
def k0_off50 (v278_r0 : BitVec 32) : Fin 4 → Nat :=
  let c11_i32_234_r0 : BitVec 32 := 11#32
  let c0_i32_235_r0 : BitVec 32 := 0#32
  let v298_r0 : BitVec 1 := Scalar.cmpi .eq c11_i32_234_r0 c0_i32_235_r0
  let c1_i32_236_r0 : BitVec 32 := 1#32
  let v299_r0 : BitVec 32 := Scalar.select v298_r0 c1_i32_236_r0 c11_i32_234_r0
  let v300_r0 : BitVec 32 := Scalar.remsi v278_r0 v299_r0
  let c0_i32_238_r0 : BitVec 32 := 0#32
  let v302_r0 : BitVec 1 := Scalar.cmpi .slt v300_r0 c0_i32_238_r0
  let c0_i32_239_r0 : BitVec 32 := 0#32
  let v303_r0 : BitVec 1 := Scalar.cmpi .slt v299_r0 c0_i32_239_r0
  let v304_r0 : BitVec 1 := Scalar.xori v302_r0 v303_r0
  let c0_i32_237_r0 : BitVec 32 := 0#32
  let v301_r0 : BitVec 1 := Scalar.cmpi .ne v300_r0 c0_i32_237_r0
  let v305_r0 : BitVec 1 := Scalar.andi v304_r0 v301_r0
  let v306_r0 : BitVec 32 := Scalar.addi v300_r0 v299_r0
  let v307_r0 : BitVec 32 := Scalar.select v305_r0 v306_r0 v300_r0
  let v377_r0 : Index := Scalar.indexCast v307_r0
  let c1_310_r0 : Index := 1#32
  let c0_311_r0 : Index := 0#32
  let c256_312_r0 : Index := 256#32
  ![v377_r0.toNat, 1, 0, 256]

def k0_chk2 (arg24_r0 : BitVec 32) (v278_r0 : BitVec 32) : Prop :=
  (∀ (k0_h14 : k0_cond14 v278_r0 = 1#1), ∀ a, (k0_off42 v278_r0) a + S1x2x8x512.size a ≤ S11x2x8x512.size a) ∧
  (∀ (k0_h15 : k0_cond15 v278_r0 = 1#1), ∀ a, (k0_off43 arg24_r0) a + S1x1024x2048.size a ≤ S2x1024x2048.size a) ∧
  (∀ a, (k0_off45 v278_r0) a + S1x1x8x256.size a ≤ S11x2x8x512.size a) ∧
  (∀ a, (k0_off47 v278_r0) a + S1x1x8x256.size a ≤ S11x2x8x512.size a) ∧
  (∀ a, (k0_off49 v278_r0) a + S1x1x8x256.size a ≤ S11x2x8x512.size a) ∧
  (∀ a, (k0_off50 v278_r0) a + S1x1x8x256.size a ≤ S11x2x8x512.size a)
theorem k0_off42_inb : ∀ (arg24_r0 : BitVec 32) (v278_r0 : BitVec 32) (k0_hw2 : k0_chk2 arg24_r0 v278_r0), ∀ (k0_h14 : k0_cond14 v278_r0 = 1#1), ∀ a, (k0_off42 v278_r0) a + S1x2x8x512.size a ≤ S11x2x8x512.size a := fun arg24_r0 v278_r0 k0_hw2 k0_h14 => k0_hw2.1 k0_h14
theorem k0_off43_inb : ∀ (arg24_r0 : BitVec 32) (v278_r0 : BitVec 32) (k0_hw2 : k0_chk2 arg24_r0 v278_r0), ∀ (k0_h15 : k0_cond15 v278_r0 = 1#1), ∀ a, (k0_off43 arg24_r0) a + S1x1024x2048.size a ≤ S2x1024x2048.size a := fun arg24_r0 v278_r0 k0_hw2 k0_h15 => k0_hw2.2.1 k0_h15
theorem k0_off45_inb : ∀ (arg24_r0 : BitVec 32) (v278_r0 : BitVec 32) (k0_hw2 : k0_chk2 arg24_r0 v278_r0), ∀ a, (k0_off45 v278_r0) a + S1x1x8x256.size a ≤ S11x2x8x512.size a := fun arg24_r0 v278_r0 k0_hw2 => k0_hw2.2.2.1
theorem k0_off47_inb : ∀ (arg24_r0 : BitVec 32) (v278_r0 : BitVec 32) (k0_hw2 : k0_chk2 arg24_r0 v278_r0), ∀ a, (k0_off47 v278_r0) a + S1x1x8x256.size a ≤ S11x2x8x512.size a := fun arg24_r0 v278_r0 k0_hw2 => k0_hw2.2.2.2.1
theorem k0_off49_inb : ∀ (arg24_r0 : BitVec 32) (v278_r0 : BitVec 32) (k0_hw2 : k0_chk2 arg24_r0 v278_r0), ∀ a, (k0_off49 v278_r0) a + S1x1x8x256.size a ≤ S11x2x8x512.size a := fun arg24_r0 v278_r0 k0_hw2 => k0_hw2.2.2.2.2.1
theorem k0_off50_inb : ∀ (arg24_r0 : BitVec 32) (v278_r0 : BitVec 32) (k0_hw2 : k0_chk2 arg24_r0 v278_r0), ∀ a, (k0_off50 v278_r0) a + S1x1x8x256.size a ≤ S11x2x8x512.size a := fun arg24_r0 v278_r0 k0_hw2 => k0_hw2.2.2.2.2.2

def k0_off51 (arg19_r0 : BitVec 32) : Fin 3 → Nat :=
  let c2_i32_220_r0 : BitVec 32 := 2#32
  let v274_r0 : BitVec 32 := Scalar.remui arg19_r0 c2_i32_220_r0
  let c0_i32_333_r0 : BitVec 32 := 0#32
  let c0_i32_334_r0 : BitVec 32 := 0#32
  ![v274_r0.toNat, 0, 0]

def k0_chk6 (arg19_r0 : BitVec 32) : Prop :=
  (∀ a, (k0_off51 arg19_r0) a + S1x3x512.size a ≤ S2x3x512.size a)
theorem k0_off51_inb : ∀ (arg19_r0 : BitVec 32) (k0_hw6 : k0_chk6 arg19_r0), ∀ a, (k0_off51 arg19_r0) a + S1x3x512.size a ≤ S2x3x512.size a := fun arg19_r0 k0_hw6 => k0_hw6

def k0_off52 (arg21_r0 : BitVec 32) : Fin 3 → Nat :=
  let c2_i32_221_r0 : BitVec 32 := 2#32
  let v275_r0 : BitVec 32 := Scalar.remui arg21_r0 c2_i32_221_r0
  let c0_i32_347_r0 : BitVec 32 := 0#32
  let c0_i32_348_r0 : BitVec 32 := 0#32
  ![v275_r0.toNat, 0, 0]

def k0_chk7 (arg21_r0 : BitVec 32) : Prop :=
  (∀ a, (k0_off52 arg21_r0) a + S1x3x512.size a ≤ S2x3x512.size a)
theorem k0_off52_inb : ∀ (arg21_r0 : BitVec 32) (k0_hw7 : k0_chk7 arg21_r0), ∀ a, (k0_off52 arg21_r0) a + S1x3x512.size a ≤ S2x3x512.size a := fun arg21_r0 k0_hw7 => k0_hw7

def k0_off53 (arg24_r0 : BitVec 32) : Fin 3 → Nat :=
  let c2_i32_223_r0 : BitVec 32 := 2#32
  let v277_r0 : BitVec 32 := Scalar.remui arg24_r0 c2_i32_223_r0
  let c0_i32_401_r0 : BitVec 32 := 0#32
  let c0_i32_402_r0 : BitVec 32 := 0#32
  ![v277_r0.toNat, 0, 0]

def k0_chk8 (arg24_r0 : BitVec 32) : Prop :=
  (∀ a, (k0_off53 arg24_r0) a + S1x1024x2048.size a ≤ S2x1024x2048.size a)
theorem k0_off53_inb : ∀ (arg24_r0 : BitVec 32) (k0_hw8 : k0_chk8 arg24_r0), ∀ a, (k0_off53 arg24_r0) a + S1x1024x2048.size a ≤ S2x1024x2048.size a := fun arg24_r0 k0_hw8 => k0_hw8

def k0_off54 (arg23_r0 : BitVec 32) : Fin 3 → Nat :=
  let c2_i32_222_r0 : BitVec 32 := 2#32
  let v276_r0 : BitVec 32 := Scalar.remui arg23_r0 c2_i32_222_r0
  let c0_i32_408_r0 : BitVec 32 := 0#32
  let c0_i32_409_r0 : BitVec 32 := 0#32
  ![v276_r0.toNat, 0, 0]

def k0_chk9 (arg23_r0 : BitVec 32) : Prop :=
  (∀ a, (k0_off54 arg23_r0) a + S1x512x2048.size a ≤ S2x512x2048.size a)
theorem k0_off54_inb : ∀ (arg23_r0 : BitVec 32) (k0_hw9 : k0_chk9 arg23_r0), ∀ a, (k0_off54 arg23_r0) a + S1x512x2048.size a ≤ S2x512x2048.size a := fun arg23_r0 k0_hw9 => k0_hw9

def k0_off55 (arg24_r0 : BitVec 32) : Fin 1 → Nat :=
  let c2_i32_701_r0 : BitVec 32 := 2#32
  let v844_r0 : BitVec 32 := Scalar.remui arg24_r0 c2_i32_701_r0
  ![v844_r0.toNat]
def k0_cond22 (k0_t1 : Fin k0_t1_loop.trips) (arg26_r0 : BitVec 32) (arg27_r0 : BitVec 32) : BitVec 1 :=
  let c0_i32_130_r0 : BitVec 32 := 0#32
  let v127_r0 : BitVec 32 := Scalar.addi arg26_r0 c0_i32_130_r0
  let true_142_r0 : BitVec 1 := 1#1
  let c1_i32_141_r0 : BitVec 32 := 1#32
  let v139_r0 : BitVec 32 := Scalar.addi arg27_r0 c1_i32_141_r0
  let v140_r0 : BitVec 32 := Scalar.select true_142_r0 v139_r0 arg27_r0
  let c11_i32_143_r0 : BitVec 32 := 11#32
  let v141_r0 : BitVec 1 := Scalar.cmpi .eq v140_r0 c11_i32_143_r0
  let c1_i32_145_r0 : BitVec 32 := 1#32
  let v143_r0 : BitVec 32 := Scalar.addi arg26_r0 c1_i32_145_r0
  let v144_r0 : BitVec 32 := Scalar.select v141_r0 v143_r0 arg26_r0
  let c8_i32_146_r0 : BitVec 32 := 8#32
  let v145_r0 : BitVec 1 := Scalar.cmpi .eq v144_r0 c8_i32_146_r0
  let c0_i32_147_r0 : BitVec 32 := 0#32
  let v146_r0 : BitVec 32 := Scalar.select v145_r0 c0_i32_147_r0 v144_r0
  let c0_i32_148_r0 : BitVec 32 := 0#32
  let v147_r0 : BitVec 32 := Scalar.addi v146_r0 c0_i32_148_r0
  let v761_r0 : BitVec 1 := Scalar.cmpi .ne v127_r0 v147_r0
  let c0_i32_86_r0 : BitVec 32 := 0#32
  let c1_i32_87_r0 : BitVec 32 := 1#32
  let arg11_r0 : BitVec 32 := Scf.iv c0_i32_86_r0 c1_i32_87_r0 k0_t1
  let c87_i32_r0 : BitVec 32 := 87#32
  let v126_r0 : BitVec 1 := Scalar.cmpi .eq arg11_r0 c87_i32_r0
  let v762_r0 : BitVec 1 := Scalar.ori v761_r0 v126_r0
  let v763_r0 : BitVec 32 := Scalar.extui v762_r0
  let c0_i32_663_r0 : BitVec 32 := 0#32
  let v764_r0 : BitVec 1 := Scalar.cmpi .ne v763_r0 c0_i32_663_r0
  v764_r0

def k0_off56 (arg26_r0 : BitVec 32) : Fin 2 → Nat :=
  let c1024_i32_702_r0 : BitVec 32 := 1024#32
  let c0_i32_130_r0 : BitVec 32 := 0#32
  let v127_r0 : BitVec 32 := Scalar.addi arg26_r0 c0_i32_130_r0
  let v845_r0 : BitVec 32 := Scalar.muli c1024_i32_702_r0 v127_r0
  let c0_i32_703_r0 : BitVec 32 := 0#32
  ![v845_r0.toNat, 0]
def k0_off57 (arg24_r0 : BitVec 32) : Fin 3 → Nat :=
  let c2_i32_701_r0 : BitVec 32 := 2#32
  let v844_r0 : BitVec 32 := Scalar.remui arg24_r0 c2_i32_701_r0
  let c0_i32_704_r0 : BitVec 32 := 0#32
  let c0_i32_705_r0 : BitVec 32 := 0#32
  ![v844_r0.toNat, 0, 0]
def k0_off58 (arg25_r0 : BitVec 32) : Fin 1 → Nat :=
  let c2_i32_701_r0 : BitVec 32 := 2#32
  let v844_r0 : BitVec 32 := Scalar.remui arg25_r0 c2_i32_701_r0
  ![v844_r0.toNat]
def k0_cond29 (k0_t1 : Fin k0_t1_loop.trips) (arg26_r0 : BitVec 32) (arg27_r0 : BitVec 32) : BitVec 1 :=
  let c0_i32_130_r0 : BitVec 32 := 0#32
  let v127_r0 : BitVec 32 := Scalar.addi arg26_r0 c0_i32_130_r0
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c1_i32_136_r0 : BitVec 32 := 1#32
  let v133_r0 : BitVec 32 := Scalar.subi arg26_r0 c1_i32_136_r0
  let v134_r0 : BitVec 32 := Scalar.select v131_r0 v133_r0 arg26_r0
  let c_m1_i32_137_r0 : BitVec 32 := 4294967295#32
  let v135_r0 : BitVec 1 := Scalar.cmpi .eq v134_r0 c_m1_i32_137_r0
  let c7_i32_138_r0 : BitVec 32 := 7#32
  let v136_r0 : BitVec 32 := Scalar.select v135_r0 c7_i32_138_r0 v134_r0
  let c0_i32_139_r0 : BitVec 32 := 0#32
  let v137_r0 : BitVec 32 := Scalar.addi v136_r0 c0_i32_139_r0
  let v804_r0 : BitVec 1 := Scalar.cmpi .ne v127_r0 v137_r0
  let c0_i32_86_r0 : BitVec 32 := 0#32
  let c1_i32_87_r0 : BitVec 32 := 1#32
  let arg11_r0 : BitVec 32 := Scf.iv c0_i32_86_r0 c1_i32_87_r0 k0_t1
  let c0_i32_129_r0 : BitVec 32 := 0#32
  let v125_r0 : BitVec 1 := Scalar.cmpi .eq arg11_r0 c0_i32_129_r0
  let true_684_r0 : BitVec 1 := 1#1
  let v805_r0 : BitVec 1 := Scalar.xori v125_r0 true_684_r0
  let v806_r0 : BitVec 1 := Scalar.andi v804_r0 v805_r0
  let v807_r0 : BitVec 32 := Scalar.extui v806_r0
  let c0_i32_685_r0 : BitVec 32 := 0#32
  let v808_r0 : BitVec 1 := Scalar.cmpi .ne v807_r0 c0_i32_685_r0
  v808_r0

def k0_off59 (arg26_r0 : BitVec 32) (arg27_r0 : BitVec 32) : Fin 2 → Nat :=
  let c1024_i32_702_r0 : BitVec 32 := 1024#32
  let true_133_r0 : BitVec 1 := 1#1
  let c1_i32_132_r0 : BitVec 32 := 1#32
  let v129_r0 : BitVec 32 := Scalar.subi arg27_r0 c1_i32_132_r0
  let v130_r0 : BitVec 32 := Scalar.select true_133_r0 v129_r0 arg27_r0
  let c_m1_i32_134_r0 : BitVec 32 := 4294967295#32
  let v131_r0 : BitVec 1 := Scalar.cmpi .eq v130_r0 c_m1_i32_134_r0
  let c1_i32_136_r0 : BitVec 32 := 1#32
  let v133_r0 : BitVec 32 := Scalar.subi arg26_r0 c1_i32_136_r0
  let v134_r0 : BitVec 32 := Scalar.select v131_r0 v133_r0 arg26_r0
  let c_m1_i32_137_r0 : BitVec 32 := 4294967295#32
  let v135_r0 : BitVec 1 := Scalar.cmpi .eq v134_r0 c_m1_i32_137_r0
  let c7_i32_138_r0 : BitVec 32 := 7#32
  let v136_r0 : BitVec 32 := Scalar.select v135_r0 c7_i32_138_r0 v134_r0
  let c0_i32_139_r0 : BitVec 32 := 0#32
  let v137_r0 : BitVec 32 := Scalar.addi v136_r0 c0_i32_139_r0
  let v845_r0 : BitVec 32 := Scalar.muli c1024_i32_702_r0 v137_r0
  let c0_i32_703_r0 : BitVec 32 := 0#32
  ![v845_r0.toNat, 0]
def k0_off60 (arg25_r0 : BitVec 32) : Fin 3 → Nat :=
  let c2_i32_701_r0 : BitVec 32 := 2#32
  let v844_r0 : BitVec 32 := Scalar.remui arg25_r0 c2_i32_701_r0
  let c0_i32_704_r0 : BitVec 32 := 0#32
  let c0_i32_705_r0 : BitVec 32 := 0#32
  ![v844_r0.toNat, 0, 0]

def k0_chk1_0 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) : Prop :=
  (∀ (k0_h1 : k0_cond1 k0_t1 arg26_r0 arg27_r0 = 1#1), ∀ a, (k0_off6 arg12_r0) a + S1.size a ≤ S2.size a) ∧
  (∀ (k0_h1 : k0_cond1 k0_t1 arg26_r0 arg27_r0 = 1#1), ∀ a, (k0_off7 arg12_r0) a + S1x1024x2048.size a ≤ S2x1024x2048.size a) ∧
  (∀ (k0_h1 : k0_cond1 k0_t1 arg26_r0 arg27_r0 = 1#1), ∀ a, (k0_off8 arg26_r0 arg27_r0) a + S1024x2048.size a ≤ S8192x2048.size a) ∧
  (∀ (k0_h1 : k0_cond1 k0_t1 arg26_r0 arg27_r0 = 1#1), ∀ (hinb : ∀ a, (k0_off8 arg26_r0 arg27_r0) a + S1024x2048.size a ≤ S8192x2048.size a), (Rect.unit (s := S8192x2048) (k0_off8 arg26_r0 arg27_r0) S1024x2048.size hinb).WholeWords (EltTy.packing .bf16)) ∧
  (∀ (k0_h1 : k0_cond1 k0_t1 arg26_r0 arg27_r0 = 1#1), ∀ (hinb : ∀ a, (k0_off7 arg12_r0) a + S1x1024x2048.size a ≤ S2x1024x2048.size a), (Rect.unit (s := S2x1024x2048) (k0_off7 arg12_r0) S1x1024x2048.size hinb).WholeWords (EltTy.packing .bf16)) ∧
  (∀ (k0_h2 : k0_cond2 k0_t1 arg27_r0 = 1#1), ∀ a, (k0_off9 arg14_r0) a + S1.size a ≤ S2.size a) ∧
  (∀ (k0_h2 : k0_cond2 k0_t1 arg27_r0 = 1#1), ∀ a, (k0_off10 arg14_r0) a + S1x2048x512.size a ≤ S2x2048x512.size a) ∧
  (∀ (k0_h2 : k0_cond2 k0_t1 arg27_r0 = 1#1), ∀ a, (k0_off11 arg27_r0) a + S2048x512.size a ≤ S2048x11264.size a) ∧
  (∀ (k0_h2 : k0_cond2 k0_t1 arg27_r0 = 1#1), ∀ (hinb : ∀ a, (k0_off11 arg27_r0) a + S2048x512.size a ≤ S2048x11264.size a), (Rect.unit (s := S2048x11264) (k0_off11 arg27_r0) S2048x512.size hinb).WholeWords (EltTy.packing .bf16)) ∧
  (∀ (k0_h2 : k0_cond2 k0_t1 arg27_r0 = 1#1), ∀ (hinb : ∀ a, (k0_off10 arg14_r0) a + S1x2048x512.size a ≤ S2x2048x512.size a), (Rect.unit (s := S2x2048x512) (k0_off10 arg14_r0) S1x2048x512.size hinb).WholeWords (EltTy.packing .bf16)) ∧
  (∀ (k0_h3 : k0_cond3 k0_t1 arg27_r0 = 1#1), ∀ a, (k0_off12 arg16_r0) a + S1.size a ≤ S2.size a) ∧
  (∀ (k0_h3 : k0_cond3 k0_t1 arg27_r0 = 1#1), ∀ a, (k0_off13 arg16_r0) a + S1x2048x512.size a ≤ S2x2048x512.size a) ∧
  (∀ (k0_h3 : k0_cond3 k0_t1 arg27_r0 = 1#1), ∀ a, (k0_off14 arg27_r0) a + S2048x512.size a ≤ S2048x11264.size a) ∧
  (∀ (k0_h3 : k0_cond3 k0_t1 arg27_r0 = 1#1), ∀ (hinb : ∀ a, (k0_off14 arg27_r0) a + S2048x512.size a ≤ S2048x11264.size a), (Rect.unit (s := S2048x11264) (k0_off14 arg27_r0) S2048x512.size hinb).WholeWords (EltTy.packing .bf16)) ∧
  (∀ (k0_h3 : k0_cond3 k0_t1 arg27_r0 = 1#1), ∀ (hinb : ∀ a, (k0_off13 arg16_r0) a + S1x2048x512.size a ≤ S2x2048x512.size a), (Rect.unit (s := S2x2048x512) (k0_off13 arg16_r0) S1x2048x512.size hinb).WholeWords (EltTy.packing .bf16)) ∧
  (∀ (k0_h4 : k0_cond4 k0_t1 arg27_r0 = 1#1), ∀ a, (k0_off15 arg18_r0) a + S1.size a ≤ S2.size a) ∧
  (∀ (k0_h4 : k0_cond4 k0_t1 arg27_r0 = 1#1), ∀ a, (k0_off16 arg18_r0) a + S1x3x512.size a ≤ S2x3x512.size a) ∧
  (∀ (k0_h4 : k0_cond4 k0_t1 arg27_r0 = 1#1), ∀ a, (k0_off17 arg27_r0) a + S3x512.size a ≤ S3x11264.size a) ∧
  (∀ (k0_h5 : k0_cond5 k0_t1 arg27_r0 = 1#1), ∀ a, (k0_off18 arg20_r0) a + S1.size a ≤ S2.size a) ∧
  (∀ (k0_h5 : k0_cond5 k0_t1 arg27_r0 = 1#1), ∀ a, (k0_off19 arg20_r0) a + S1x3x512.size a ≤ S2x3x512.size a) ∧
  (∀ (k0_h5 : k0_cond5 k0_t1 arg27_r0 = 1#1), ∀ a, (k0_off20 arg27_r0) a + S3x512.size a ≤ S3x11264.size a) ∧
  (∀ (k0_h6 : k0_cond6 k0_t1 arg27_r0 = 1#1), ∀ a, (k0_off21 arg22_r0) a + S1.size a ≤ S2.size a) ∧
  (∀ (k0_h6 : k0_cond6 k0_t1 arg27_r0 = 1#1), ∀ a, (k0_off22 arg22_r0) a + S1x512x2048.size a ≤ S2x512x2048.size a) ∧
  (∀ (k0_h6 : k0_cond6 k0_t1 arg27_r0 = 1#1), ∀ a, (k0_off23 arg27_r0) a + S512x2048.size a ≤ S5632x2048.size a) ∧
  (∀ (k0_h6 : k0_cond6 k0_t1 arg27_r0 = 1#1), ∀ (hinb : ∀ a, (k0_off23 arg27_r0) a + S512x2048.size a ≤ S5632x2048.size a), (Rect.unit (s := S5632x2048) (k0_off23 arg27_r0) S512x2048.size hinb).WholeWords (EltTy.packing .bf16)) ∧
  (∀ (k0_h6 : k0_cond6 k0_t1 arg27_r0 = 1#1), ∀ (hinb : ∀ a, (k0_off22 arg22_r0) a + S1x512x2048.size a ≤ S2x512x2048.size a), (Rect.unit (s := S2x512x2048) (k0_off22 arg22_r0) S1x512x2048.size hinb).WholeWords (EltTy.packing .bf16)) ∧
  (∀ (k0_h7 : k0_cond7 k0_t1 arg26_r0 arg27_r0 = 1#1), ∀ a, (k0_off24 arg13_r0) a + S1.size a ≤ S2.size a) ∧
  (∀ (k0_h7 : k0_cond7 k0_t1 arg26_r0 arg27_r0 = 1#1), ∀ a, (k0_off25 arg13_r0) a + S1x1024x2048.size a ≤ S2x1024x2048.size a) ∧
  (∀ (k0_h7 : k0_cond7 k0_t1 arg26_r0 arg27_r0 = 1#1), ∀ a, (k0_off26 arg26_r0) a + S1024x2048.size a ≤ S8192x2048.size a) ∧
  (∀ (k0_h7 : k0_cond7 k0_t1 arg26_r0 arg27_r0 = 1#1), ∀ (hinb : ∀ a, (k0_off26 arg26_r0) a + S1024x2048.size a ≤ S8192x2048.size a), (Rect.unit (s := S8192x2048) (k0_off26 arg26_r0) S1024x2048.size hinb).WholeWords (EltTy.packing .bf16)) ∧
  (∀ (k0_h7 : k0_cond7 k0_t1 arg26_r0 arg27_r0 = 1#1), ∀ (hinb : ∀ a, (k0_off25 arg13_r0) a + S1x1024x2048.size a ≤ S2x1024x2048.size a), (Rect.unit (s := S2x1024x2048) (k0_off25 arg13_r0) S1x1024x2048.size hinb).WholeWords (EltTy.packing .bf16)) ∧
  (∀ (k0_h8 : k0_cond8 k0_t1 arg27_r0 = 1#1), ∀ a, (k0_off27 arg15_r0) a + S1.size a ≤ S2.size a)
def k0_chk1_1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) : Prop :=
  (∀ (k0_h8 : k0_cond8 k0_t1 arg27_r0 = 1#1), ∀ a, (k0_off28 arg15_r0) a + S1x2048x512.size a ≤ S2x2048x512.size a) ∧
  (∀ (k0_h8 : k0_cond8 k0_t1 arg27_r0 = 1#1), ∀ a, (k0_off29 arg27_r0) a + S2048x512.size a ≤ S2048x11264.size a) ∧
  (∀ (k0_h8 : k0_cond8 k0_t1 arg27_r0 = 1#1), ∀ (hinb : ∀ a, (k0_off29 arg27_r0) a + S2048x512.size a ≤ S2048x11264.size a), (Rect.unit (s := S2048x11264) (k0_off29 arg27_r0) S2048x512.size hinb).WholeWords (EltTy.packing .bf16)) ∧
  (∀ (k0_h8 : k0_cond8 k0_t1 arg27_r0 = 1#1), ∀ (hinb : ∀ a, (k0_off28 arg15_r0) a + S1x2048x512.size a ≤ S2x2048x512.size a), (Rect.unit (s := S2x2048x512) (k0_off28 arg15_r0) S1x2048x512.size hinb).WholeWords (EltTy.packing .bf16)) ∧
  (∀ (k0_h9 : k0_cond9 k0_t1 arg27_r0 = 1#1), ∀ a, (k0_off30 arg17_r0) a + S1.size a ≤ S2.size a) ∧
  (∀ (k0_h9 : k0_cond9 k0_t1 arg27_r0 = 1#1), ∀ a, (k0_off31 arg17_r0) a + S1x2048x512.size a ≤ S2x2048x512.size a) ∧
  (∀ (k0_h9 : k0_cond9 k0_t1 arg27_r0 = 1#1), ∀ a, (k0_off32 arg27_r0) a + S2048x512.size a ≤ S2048x11264.size a) ∧
  (∀ (k0_h9 : k0_cond9 k0_t1 arg27_r0 = 1#1), ∀ (hinb : ∀ a, (k0_off32 arg27_r0) a + S2048x512.size a ≤ S2048x11264.size a), (Rect.unit (s := S2048x11264) (k0_off32 arg27_r0) S2048x512.size hinb).WholeWords (EltTy.packing .bf16)) ∧
  (∀ (k0_h9 : k0_cond9 k0_t1 arg27_r0 = 1#1), ∀ (hinb : ∀ a, (k0_off31 arg17_r0) a + S1x2048x512.size a ≤ S2x2048x512.size a), (Rect.unit (s := S2x2048x512) (k0_off31 arg17_r0) S1x2048x512.size hinb).WholeWords (EltTy.packing .bf16)) ∧
  (∀ (k0_h10 : k0_cond10 k0_t1 arg27_r0 = 1#1), ∀ a, (k0_off33 arg19_r0) a + S1.size a ≤ S2.size a) ∧
  (∀ (k0_h10 : k0_cond10 k0_t1 arg27_r0 = 1#1), ∀ a, (k0_off34 arg19_r0) a + S1x3x512.size a ≤ S2x3x512.size a) ∧
  (∀ (k0_h10 : k0_cond10 k0_t1 arg27_r0 = 1#1), ∀ a, (k0_off35 arg27_r0) a + S3x512.size a ≤ S3x11264.size a) ∧
  (∀ (k0_h11 : k0_cond11 k0_t1 arg27_r0 = 1#1), ∀ a, (k0_off36 arg21_r0) a + S1.size a ≤ S2.size a) ∧
  (∀ (k0_h11 : k0_cond11 k0_t1 arg27_r0 = 1#1), ∀ a, (k0_off37 arg21_r0) a + S1x3x512.size a ≤ S2x3x512.size a) ∧
  (∀ (k0_h11 : k0_cond11 k0_t1 arg27_r0 = 1#1), ∀ a, (k0_off38 arg27_r0) a + S3x512.size a ≤ S3x11264.size a) ∧
  (∀ (k0_h12 : k0_cond12 k0_t1 arg27_r0 = 1#1), ∀ a, (k0_off39 arg23_r0) a + S1.size a ≤ S2.size a) ∧
  (∀ (k0_h12 : k0_cond12 k0_t1 arg27_r0 = 1#1), ∀ a, (k0_off40 arg23_r0) a + S1x512x2048.size a ≤ S2x512x2048.size a) ∧
  (∀ (k0_h12 : k0_cond12 k0_t1 arg27_r0 = 1#1), ∀ a, (k0_off41 arg27_r0) a + S512x2048.size a ≤ S5632x2048.size a) ∧
  (∀ (k0_h12 : k0_cond12 k0_t1 arg27_r0 = 1#1), ∀ (hinb : ∀ a, (k0_off41 arg27_r0) a + S512x2048.size a ≤ S5632x2048.size a), (Rect.unit (s := S5632x2048) (k0_off41 arg27_r0) S512x2048.size hinb).WholeWords (EltTy.packing .bf16)) ∧
  (∀ (k0_h12 : k0_cond12 k0_t1 arg27_r0 = 1#1), ∀ (hinb : ∀ a, (k0_off40 arg23_r0) a + S1x512x2048.size a ≤ S2x512x2048.size a), (Rect.unit (s := S2x512x2048) (k0_off40 arg23_r0) S1x512x2048.size hinb).WholeWords (EltTy.packing .bf16)) ∧
  (∀ (k0_h22 : k0_cond22 k0_t1 arg26_r0 arg27_r0 = 1#1), ∀ a, (k0_off55 arg24_r0) a + S1.size a ≤ S2.size a) ∧
  (∀ (k0_h22 : k0_cond22 k0_t1 arg26_r0 arg27_r0 = 1#1), ∀ a, (k0_off56 arg26_r0) a + S1024x2048.size a ≤ S8192x2048.size a) ∧
  (∀ (k0_h22 : k0_cond22 k0_t1 arg26_r0 arg27_r0 = 1#1), ∀ a, (k0_off57 arg24_r0) a + S1x1024x2048.size a ≤ S2x1024x2048.size a) ∧
  (∀ (k0_h29 : k0_cond29 k0_t1 arg26_r0 arg27_r0 = 1#1), ∀ a, (k0_off58 arg25_r0) a + S1.size a ≤ S2.size a) ∧
  (∀ (k0_h29 : k0_cond29 k0_t1 arg26_r0 arg27_r0 = 1#1), ∀ a, (k0_off59 arg26_r0 arg27_r0) a + S1024x2048.size a ≤ S8192x2048.size a) ∧
  (∀ (k0_h29 : k0_cond29 k0_t1 arg26_r0 arg27_r0 = 1#1), ∀ a, (k0_off60 arg25_r0) a + S1x1024x2048.size a ≤ S2x1024x2048.size a)
def k0_chk1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) : Prop :=
  k0_chk1_0 k0_t1 arg12_r0 arg13_r0 arg14_r0 arg15_r0 arg16_r0 arg17_r0 arg18_r0 arg19_r0 arg20_r0 arg21_r0 arg22_r0 arg23_r0 arg24_r0 arg25_r0 arg26_r0 arg27_r0 ∧
  k0_chk1_1 k0_t1 arg12_r0 arg13_r0 arg14_r0 arg15_r0 arg16_r0 arg17_r0 arg18_r0 arg19_r0 arg20_r0 arg21_r0 arg22_r0 arg23_r0 arg24_r0 arg25_r0 arg26_r0 arg27_r0
theorem k0_off6_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h1 : k0_cond1 k0_t1 arg26_r0 arg27_r0 = 1#1), ∀ a, (k0_off6 arg12_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1 => k0_hw1.1.1 k0_h1
theorem k0_off7_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h1 : k0_cond1 k0_t1 arg26_r0 arg27_r0 = 1#1), ∀ a, (k0_off7 arg12_r0) a + S1x1024x2048.size a ≤ S2x1024x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1 => k0_hw1.1.2.1 k0_h1
theorem k0_off8_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h1 : k0_cond1 k0_t1 arg26_r0 arg27_r0 = 1#1), ∀ a, (k0_off8 arg26_r0 arg27_r0) a + S1024x2048.size a ≤ S8192x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1 => k0_hw1.1.2.2.1 k0_h1
theorem k0_off8_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h1 : k0_cond1 k0_t1 arg26_r0 arg27_r0 = 1#1), (Rect.unit (s := S8192x2048) (k0_off8 arg26_r0 arg27_r0) S1024x2048.size (k0_off8_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1 => k0_hw1.1.2.2.2.1 k0_h1 (k0_off8_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1)
theorem k0_off7_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h1 : k0_cond1 k0_t1 arg26_r0 arg27_r0 = 1#1), (Rect.unit (s := S2x1024x2048) (k0_off7 arg12_r0) S1x1024x2048.size (k0_off7_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1 => k0_hw1.1.2.2.2.2.1 k0_h1 (k0_off7_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h1)
theorem k0_off9_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h2 : k0_cond2 k0_t1 arg27_r0 = 1#1), ∀ a, (k0_off9 arg14_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2 => k0_hw1.1.2.2.2.2.2.1 k0_h2
theorem k0_off10_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h2 : k0_cond2 k0_t1 arg27_r0 = 1#1), ∀ a, (k0_off10 arg14_r0) a + S1x2048x512.size a ≤ S2x2048x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2 => k0_hw1.1.2.2.2.2.2.2.1 k0_h2
theorem k0_off11_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h2 : k0_cond2 k0_t1 arg27_r0 = 1#1), ∀ a, (k0_off11 arg27_r0) a + S2048x512.size a ≤ S2048x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2 => k0_hw1.1.2.2.2.2.2.2.2.1 k0_h2
theorem k0_off11_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h2 : k0_cond2 k0_t1 arg27_r0 = 1#1), (Rect.unit (s := S2048x11264) (k0_off11 arg27_r0) S2048x512.size (k0_off11_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2 => k0_hw1.1.2.2.2.2.2.2.2.2.1 k0_h2 (k0_off11_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2)
theorem k0_off10_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h2 : k0_cond2 k0_t1 arg27_r0 = 1#1), (Rect.unit (s := S2x2048x512) (k0_off10 arg14_r0) S1x2048x512.size (k0_off10_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2 => k0_hw1.1.2.2.2.2.2.2.2.2.2.1 k0_h2 (k0_off10_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h2)
theorem k0_off12_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h3 : k0_cond3 k0_t1 arg27_r0 = 1#1), ∀ a, (k0_off12 arg16_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3 => k0_hw1.1.2.2.2.2.2.2.2.2.2.2.1 k0_h3
theorem k0_off13_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h3 : k0_cond3 k0_t1 arg27_r0 = 1#1), ∀ a, (k0_off13 arg16_r0) a + S1x2048x512.size a ≤ S2x2048x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3 => k0_hw1.1.2.2.2.2.2.2.2.2.2.2.2.1 k0_h3
theorem k0_off14_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h3 : k0_cond3 k0_t1 arg27_r0 = 1#1), ∀ a, (k0_off14 arg27_r0) a + S2048x512.size a ≤ S2048x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3 => k0_hw1.1.2.2.2.2.2.2.2.2.2.2.2.2.1 k0_h3
theorem k0_off14_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h3 : k0_cond3 k0_t1 arg27_r0 = 1#1), (Rect.unit (s := S2048x11264) (k0_off14 arg27_r0) S2048x512.size (k0_off14_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3 => k0_hw1.1.2.2.2.2.2.2.2.2.2.2.2.2.2.1 k0_h3 (k0_off14_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3)
theorem k0_off13_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h3 : k0_cond3 k0_t1 arg27_r0 = 1#1), (Rect.unit (s := S2x2048x512) (k0_off13 arg16_r0) S1x2048x512.size (k0_off13_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3 => k0_hw1.1.2.2.2.2.2.2.2.2.2.2.2.2.2.2.1 k0_h3 (k0_off13_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h3)
theorem k0_off15_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h4 : k0_cond4 k0_t1 arg27_r0 = 1#1), ∀ a, (k0_off15 arg18_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h4 => k0_hw1.1.2.2.2.2.2.2.2.2.2.2.2.2.2.2.2.1 k0_h4
theorem k0_off16_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h4 : k0_cond4 k0_t1 arg27_r0 = 1#1), ∀ a, (k0_off16 arg18_r0) a + S1x3x512.size a ≤ S2x3x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h4 => k0_hw1.1.2.2.2.2.2.2.2.2.2.2.2.2.2.2.2.2.1 k0_h4
theorem k0_off17_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h4 : k0_cond4 k0_t1 arg27_r0 = 1#1), ∀ a, (k0_off17 arg27_r0) a + S3x512.size a ≤ S3x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h4 => k0_hw1.1.2.2.2.2.2.2.2.2.2.2.2.2.2.2.2.2.2.1 k0_h4
theorem k0_off18_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h5 : k0_cond5 k0_t1 arg27_r0 = 1#1), ∀ a, (k0_off18 arg20_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h5 => k0_hw1.1.2.2.2.2.2.2.2.2.2.2.2.2.2.2.2.2.2.2.1 k0_h5
theorem k0_off19_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h5 : k0_cond5 k0_t1 arg27_r0 = 1#1), ∀ a, (k0_off19 arg20_r0) a + S1x3x512.size a ≤ S2x3x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h5 => k0_hw1.1.2.2.2.2.2.2.2.2.2.2.2.2.2.2.2.2.2.2.2.1 k0_h5
theorem k0_off20_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h5 : k0_cond5 k0_t1 arg27_r0 = 1#1), ∀ a, (k0_off20 arg27_r0) a + S3x512.size a ≤ S3x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h5 => k0_hw1.1.2.2.2.2.2.2.2.2.2.2.2.2.2.2.2.2.2.2.2.2.1 k0_h5
theorem k0_off21_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h6 : k0_cond6 k0_t1 arg27_r0 = 1#1), ∀ a, (k0_off21 arg22_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6 => k0_hw1.1.2.2.2.2.2.2.2.2.2.2.2.2.2.2.2.2.2.2.2.2.2.1 k0_h6
theorem k0_off22_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h6 : k0_cond6 k0_t1 arg27_r0 = 1#1), ∀ a, (k0_off22 arg22_r0) a + S1x512x2048.size a ≤ S2x512x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6 => k0_hw1.1.2.2.2.2.2.2.2.2.2.2.2.2.2.2.2.2.2.2.2.2.2.2.1 k0_h6
theorem k0_off23_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h6 : k0_cond6 k0_t1 arg27_r0 = 1#1), ∀ a, (k0_off23 arg27_r0) a + S512x2048.size a ≤ S5632x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6 => k0_hw1.1.2.2.2.2.2.2.2.2.2.2.2.2.2.2.2.2.2.2.2.2.2.2.2.1 k0_h6
theorem k0_off23_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h6 : k0_cond6 k0_t1 arg27_r0 = 1#1), (Rect.unit (s := S5632x2048) (k0_off23 arg27_r0) S512x2048.size (k0_off23_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6 => k0_hw1.1.2.2.2.2.2.2.2.2.2.2.2.2.2.2.2.2.2.2.2.2.2.2.2.2.1 k0_h6 (k0_off23_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6)
theorem k0_off22_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h6 : k0_cond6 k0_t1 arg27_r0 = 1#1), (Rect.unit (s := S2x512x2048) (k0_off22 arg22_r0) S1x512x2048.size (k0_off22_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6 => k0_hw1.1.2.2.2.2.2.2.2.2.2.2.2.2.2.2.2.2.2.2.2.2.2.2.2.2.2.1 k0_h6 (k0_off22_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h6)
theorem k0_off24_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h7 : k0_cond7 k0_t1 arg26_r0 arg27_r0 = 1#1), ∀ a, (k0_off24 arg13_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7 => k0_hw1.1.2.2.2.2.2.2.2.2.2.2.2.2.2.2.2.2.2.2.2.2.2.2.2.2.2.2.1 k0_h7
theorem k0_off25_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h7 : k0_cond7 k0_t1 arg26_r0 arg27_r0 = 1#1), ∀ a, (k0_off25 arg13_r0) a + S1x1024x2048.size a ≤ S2x1024x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7 => k0_hw1.1.2.2.2.2.2.2.2.2.2.2.2.2.2.2.2.2.2.2.2.2.2.2.2.2.2.2.2.1 k0_h7
theorem k0_off26_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h7 : k0_cond7 k0_t1 arg26_r0 arg27_r0 = 1#1), ∀ a, (k0_off26 arg26_r0) a + S1024x2048.size a ≤ S8192x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7 => k0_hw1.1.2.2.2.2.2.2.2.2.2.2.2.2.2.2.2.2.2.2.2.2.2.2.2.2.2.2.2.2.1 k0_h7
theorem k0_off26_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h7 : k0_cond7 k0_t1 arg26_r0 arg27_r0 = 1#1), (Rect.unit (s := S8192x2048) (k0_off26 arg26_r0) S1024x2048.size (k0_off26_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7 => k0_hw1.1.2.2.2.2.2.2.2.2.2.2.2.2.2.2.2.2.2.2.2.2.2.2.2.2.2.2.2.2.2.1 k0_h7 (k0_off26_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7)
theorem k0_off25_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h7 : k0_cond7 k0_t1 arg26_r0 arg27_r0 = 1#1), (Rect.unit (s := S2x1024x2048) (k0_off25 arg13_r0) S1x1024x2048.size (k0_off25_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7 => k0_hw1.1.2.2.2.2.2.2.2.2.2.2.2.2.2.2.2.2.2.2.2.2.2.2.2.2.2.2.2.2.2.2.1 k0_h7 (k0_off25_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h7)
theorem k0_off27_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h8 : k0_cond8 k0_t1 arg27_r0 = 1#1), ∀ a, (k0_off27 arg15_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8 => k0_hw1.1.2.2.2.2.2.2.2.2.2.2.2.2.2.2.2.2.2.2.2.2.2.2.2.2.2.2.2.2.2.2.2 k0_h8
theorem k0_off28_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h8 : k0_cond8 k0_t1 arg27_r0 = 1#1), ∀ a, (k0_off28 arg15_r0) a + S1x2048x512.size a ≤ S2x2048x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8 => k0_hw1.2.1 k0_h8
theorem k0_off29_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h8 : k0_cond8 k0_t1 arg27_r0 = 1#1), ∀ a, (k0_off29 arg27_r0) a + S2048x512.size a ≤ S2048x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8 => k0_hw1.2.2.1 k0_h8
theorem k0_off29_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h8 : k0_cond8 k0_t1 arg27_r0 = 1#1), (Rect.unit (s := S2048x11264) (k0_off29 arg27_r0) S2048x512.size (k0_off29_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8 => k0_hw1.2.2.2.1 k0_h8 (k0_off29_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8)
theorem k0_off28_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h8 : k0_cond8 k0_t1 arg27_r0 = 1#1), (Rect.unit (s := S2x2048x512) (k0_off28 arg15_r0) S1x2048x512.size (k0_off28_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8 => k0_hw1.2.2.2.2.1 k0_h8 (k0_off28_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h8)
theorem k0_off30_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h9 : k0_cond9 k0_t1 arg27_r0 = 1#1), ∀ a, (k0_off30 arg17_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9 => k0_hw1.2.2.2.2.2.1 k0_h9
theorem k0_off31_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h9 : k0_cond9 k0_t1 arg27_r0 = 1#1), ∀ a, (k0_off31 arg17_r0) a + S1x2048x512.size a ≤ S2x2048x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9 => k0_hw1.2.2.2.2.2.2.1 k0_h9
theorem k0_off32_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h9 : k0_cond9 k0_t1 arg27_r0 = 1#1), ∀ a, (k0_off32 arg27_r0) a + S2048x512.size a ≤ S2048x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9 => k0_hw1.2.2.2.2.2.2.2.1 k0_h9
theorem k0_off32_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h9 : k0_cond9 k0_t1 arg27_r0 = 1#1), (Rect.unit (s := S2048x11264) (k0_off32 arg27_r0) S2048x512.size (k0_off32_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9 => k0_hw1.2.2.2.2.2.2.2.2.1 k0_h9 (k0_off32_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9)
theorem k0_off31_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h9 : k0_cond9 k0_t1 arg27_r0 = 1#1), (Rect.unit (s := S2x2048x512) (k0_off31 arg17_r0) S1x2048x512.size (k0_off31_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9 => k0_hw1.2.2.2.2.2.2.2.2.2.1 k0_h9 (k0_off31_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h9)
theorem k0_off33_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h10 : k0_cond10 k0_t1 arg27_r0 = 1#1), ∀ a, (k0_off33 arg19_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h10 => k0_hw1.2.2.2.2.2.2.2.2.2.2.1 k0_h10
theorem k0_off34_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h10 : k0_cond10 k0_t1 arg27_r0 = 1#1), ∀ a, (k0_off34 arg19_r0) a + S1x3x512.size a ≤ S2x3x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h10 => k0_hw1.2.2.2.2.2.2.2.2.2.2.2.1 k0_h10
theorem k0_off35_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h10 : k0_cond10 k0_t1 arg27_r0 = 1#1), ∀ a, (k0_off35 arg27_r0) a + S3x512.size a ≤ S3x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h10 => k0_hw1.2.2.2.2.2.2.2.2.2.2.2.2.1 k0_h10
theorem k0_off36_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h11 : k0_cond11 k0_t1 arg27_r0 = 1#1), ∀ a, (k0_off36 arg21_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h11 => k0_hw1.2.2.2.2.2.2.2.2.2.2.2.2.2.1 k0_h11
theorem k0_off37_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h11 : k0_cond11 k0_t1 arg27_r0 = 1#1), ∀ a, (k0_off37 arg21_r0) a + S1x3x512.size a ≤ S2x3x512.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h11 => k0_hw1.2.2.2.2.2.2.2.2.2.2.2.2.2.2.1 k0_h11
theorem k0_off38_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h11 : k0_cond11 k0_t1 arg27_r0 = 1#1), ∀ a, (k0_off38 arg27_r0) a + S3x512.size a ≤ S3x11264.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h11 => k0_hw1.2.2.2.2.2.2.2.2.2.2.2.2.2.2.2.1 k0_h11
theorem k0_off39_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h12 : k0_cond12 k0_t1 arg27_r0 = 1#1), ∀ a, (k0_off39 arg23_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12 => k0_hw1.2.2.2.2.2.2.2.2.2.2.2.2.2.2.2.2.1 k0_h12
theorem k0_off40_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h12 : k0_cond12 k0_t1 arg27_r0 = 1#1), ∀ a, (k0_off40 arg23_r0) a + S1x512x2048.size a ≤ S2x512x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12 => k0_hw1.2.2.2.2.2.2.2.2.2.2.2.2.2.2.2.2.2.1 k0_h12
theorem k0_off41_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h12 : k0_cond12 k0_t1 arg27_r0 = 1#1), ∀ a, (k0_off41 arg27_r0) a + S512x2048.size a ≤ S5632x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12 => k0_hw1.2.2.2.2.2.2.2.2.2.2.2.2.2.2.2.2.2.2.1 k0_h12
theorem k0_off41_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h12 : k0_cond12 k0_t1 arg27_r0 = 1#1), (Rect.unit (s := S5632x2048) (k0_off41 arg27_r0) S512x2048.size (k0_off41_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12 => k0_hw1.2.2.2.2.2.2.2.2.2.2.2.2.2.2.2.2.2.2.2.1 k0_h12 (k0_off41_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12)
theorem k0_off40_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h12 : k0_cond12 k0_t1 arg27_r0 = 1#1), (Rect.unit (s := S2x512x2048) (k0_off40 arg23_r0) S1x512x2048.size (k0_off40_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12 => k0_hw1.2.2.2.2.2.2.2.2.2.2.2.2.2.2.2.2.2.2.2.2.1 k0_h12 (k0_off40_inb k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h12)
theorem k0_off55_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h22 : k0_cond22 k0_t1 arg26_r0 arg27_r0 = 1#1), ∀ a, (k0_off55 arg24_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h22 => k0_hw1.2.2.2.2.2.2.2.2.2.2.2.2.2.2.2.2.2.2.2.2.2.1 k0_h22
theorem k0_off56_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h22 : k0_cond22 k0_t1 arg26_r0 arg27_r0 = 1#1), ∀ a, (k0_off56 arg26_r0) a + S1024x2048.size a ≤ S8192x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h22 => k0_hw1.2.2.2.2.2.2.2.2.2.2.2.2.2.2.2.2.2.2.2.2.2.2.1 k0_h22
theorem k0_off57_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h22 : k0_cond22 k0_t1 arg26_r0 arg27_r0 = 1#1), ∀ a, (k0_off57 arg24_r0) a + S1x1024x2048.size a ≤ S2x1024x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h22 => k0_hw1.2.2.2.2.2.2.2.2.2.2.2.2.2.2.2.2.2.2.2.2.2.2.2.1 k0_h22
theorem k0_off58_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h29 : k0_cond29 k0_t1 arg26_r0 arg27_r0 = 1#1), ∀ a, (k0_off58 arg25_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h29 => k0_hw1.2.2.2.2.2.2.2.2.2.2.2.2.2.2.2.2.2.2.2.2.2.2.2.2.1 k0_h29
theorem k0_off59_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h29 : k0_cond29 k0_t1 arg26_r0 arg27_r0 = 1#1), ∀ a, (k0_off59 arg26_r0 arg27_r0) a + S1024x2048.size a ≤ S8192x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h29 => k0_hw1.2.2.2.2.2.2.2.2.2.2.2.2.2.2.2.2.2.2.2.2.2.2.2.2.2.1 k0_h29
theorem k0_off60_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0 arg27_r0), ∀ (k0_h29 : k0_cond29 k0_t1 arg26_r0 arg27_r0 = 1#1), ∀ a, (k0_off60 arg25_r0) a + S1x1024x2048.size a ≤ S2x1024x2048.size a := fun k0_t1 arg12_r0 arg13_r0 arg14_r0 arg15_r0 arg16_r0 arg17_r0 arg18_r0 arg19_r0 arg20_r0 arg21_r0 arg22_r0 arg23_r0 arg24_r0 arg25_r0 arg26_r0 arg27_r0 k0_hw1 k0_h29 => k0_hw1.2.2.2.2.2.2.2.2.2.2.2.2.2.2.2.2.2.2.2.2.2.2.2.2.2.2 k0_h29

def k0_off61 (v77_13_r0 : BitVec 32) : Fin 1 → Nat :=
  let c2_i32_125_r0 : BitVec 32 := 2#32
  let v118_r0 : BitVec 32 := Scalar.remui v77_13_r0 c2_i32_125_r0
  ![v118_r0.toNat]

def k0_off62 (v77_15_r0 : BitVec 32) (v77_14_r0 : BitVec 32) : Fin 2 → Nat :=
  let c1024_i32_r0 : BitVec 32 := 1024#32
  let true_90_r0 : BitVec 1 := 1#1
  let c1_i32_89_r0 : BitVec 32 := 1#32
  let v78_r0 : BitVec 32 := Scalar.subi v77_15_r0 c1_i32_89_r0
  let v79_r0 : BitVec 32 := Scalar.select true_90_r0 v78_r0 v77_15_r0
  let c_m1_i32_91_r0 : BitVec 32 := 4294967295#32
  let v80_r0 : BitVec 1 := Scalar.cmpi .eq v79_r0 c_m1_i32_91_r0
  let c1_i32_93_r0 : BitVec 32 := 1#32
  let v82_r0 : BitVec 32 := Scalar.subi v77_14_r0 c1_i32_93_r0
  let v83_r0 : BitVec 32 := Scalar.select v80_r0 v82_r0 v77_14_r0
  let c_m1_i32_94_r0 : BitVec 32 := 4294967295#32
  let v84_r0 : BitVec 1 := Scalar.cmpi .eq v83_r0 c_m1_i32_94_r0
  let c7_i32_95_r0 : BitVec 32 := 7#32
  let v85_r0 : BitVec 32 := Scalar.select v84_r0 c7_i32_95_r0 v83_r0
  let c0_i32_96_r0 : BitVec 32 := 0#32
  let v86_r0 : BitVec 32 := Scalar.addi v85_r0 c0_i32_96_r0
  let v119_r0 : BitVec 32 := Scalar.muli c1024_i32_r0 v86_r0
  let c0_i32_126_r0 : BitVec 32 := 0#32
  ![v119_r0.toNat, 0]

def k0_chk11 (v77_15_r0 : BitVec 32) (v77_14_r0 : BitVec 32) : Prop :=
  (∀ a, (k0_off62 v77_15_r0 v77_14_r0) a + S1024x2048.size a ≤ S8192x2048.size a)
theorem k0_off62_inb : ∀ (v77_15_r0 : BitVec 32) (v77_14_r0 : BitVec 32) (k0_hw11 : k0_chk11 v77_15_r0 v77_14_r0), ∀ a, (k0_off62 v77_15_r0 v77_14_r0) a + S1024x2048.size a ≤ S8192x2048.size a := fun v77_15_r0 v77_14_r0 k0_hw11 => k0_hw11

def k0_off63 (v77_13_r0 : BitVec 32) : Fin 3 → Nat :=
  let c2_i32_125_r0 : BitVec 32 := 2#32
  let v118_r0 : BitVec 32 := Scalar.remui v77_13_r0 c2_i32_125_r0
  let c0_i32_127_r0 : BitVec 32 := 0#32
  let c0_i32_128_r0 : BitVec 32 := 0#32
  ![v118_r0.toNat, 0, 0]

def k0_chk10 (v77_13_r0 : BitVec 32) : Prop :=
  (∀ a, (k0_off61 v77_13_r0) a + S1.size a ≤ S2.size a) ∧
  (∀ a, (k0_off63 v77_13_r0) a + S1x1024x2048.size a ≤ S2x1024x2048.size a)
theorem k0_off61_inb : ∀ (v77_13_r0 : BitVec 32) (k0_hw10 : k0_chk10 v77_13_r0), ∀ a, (k0_off61 v77_13_r0) a + S1.size a ≤ S2.size a := fun v77_13_r0 k0_hw10 => k0_hw10.1
theorem k0_off63_inb : ∀ (v77_13_r0 : BitVec 32) (k0_hw10 : k0_chk10 v77_13_r0), ∀ a, (k0_off63 v77_13_r0) a + S1x1024x2048.size a ≤ S2x1024x2048.size a := fun v77_13_r0 k0_hw10 => k0_hw10.2
-- ==== ReferenceIdeal.lean ====
abbrev S8192x2048 : Shape := ⟨2, ![8192, 2048]⟩
abbrev S2048x11264 : Shape := ⟨2, ![2048, 11264]⟩
abbrev S3x11264 : Shape := ⟨2, ![3, 11264]⟩
abbrev S5632x2048 : Shape := ⟨2, ![5632, 2048]⟩
abbrev S8192x11264 : Shape := ⟨2, ![8192, 11264]⟩
abbrev S_ : Shape := ⟨0, ![]⟩
abbrev S2x11264 : Shape := ⟨2, ![2, 11264]⟩
abbrev S8194x11264 : Shape := ⟨2, ![8194, 11264]⟩
abbrev S1x11264 : Shape := ⟨2, ![1, 11264]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S3x11264, .f32⟩
  | .hbm, ⟨3, _⟩ => ⟨S5632x2048, .f32⟩
  | .hbm, ⟨4, _⟩ => ⟨S8192x11264, .f32⟩
  | .hbm, ⟨5, _⟩ => ⟨S_, .f32⟩
  | .hbm, ⟨6, _⟩ => ⟨S2x11264, .f32⟩
  | .hbm, ⟨7, _⟩ => ⟨S8194x11264, .f32⟩
  | .hbm, ⟨8, _⟩ => ⟨S1x11264, .f32⟩
  | .hbm, ⟨9, _⟩ => ⟨S8192x11264, .f32⟩
  | .hbm, ⟨10, _⟩ => ⟨S8192x11264, .f32⟩
  | .hbm, ⟨11, _⟩ => ⟨S8192x11264, .f32⟩
  | .hbm, ⟨12, _⟩ => ⟨S1x11264, .f32⟩
  | .hbm, ⟨13, _⟩ => ⟨S8192x11264, .f32⟩
  | .hbm, ⟨14, _⟩ => ⟨S8192x11264, .f32⟩
  | .hbm, ⟨15, _⟩ => ⟨S8192x11264, .f32⟩
  | .hbm, ⟨16, _⟩ => ⟨S8192x11264, .f32⟩
  | .hbm, ⟨17, _⟩ => ⟨S1x11264, .f32⟩
  | .hbm, ⟨18, _⟩ => ⟨S8192x11264, .f32⟩
  | .hbm, ⟨19, _⟩ => ⟨S8192x11264, .f32⟩
  | .hbm, ⟨20, _⟩ => ⟨S8192x11264, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel2.lean ====
abbrev S8192x2048 : Shape := ⟨2, ![8192, 2048]⟩
abbrev S8192x256 : Shape := ⟨2, ![8192, 256]⟩
abbrev S256x2048 : Shape := ⟨2, ![256, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S256x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S2048x2048, .bf16⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S1x2048, .f32⟩
  | .local _ .vmem, ⟨8, _⟩ => ⟨S1x2048, .f32⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x2048 : Shape := ⟨2, ![8192, 2048]⟩
abbrev S8192x256 : Shape := ⟨2, ![8192, 256]⟩
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S256x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S8192x1024 : Shape := ⟨2, ![8192, 1024]⟩
abbrev S2048x10240 : Shape := ⟨2, ![2048, 10240]⟩
abbrev S2x2048 : Shape := ⟨2, ![2, 2048]⟩
abbrev S1024x2048 : Shape := ⟨2, ![1024, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x1024, .f32⟩
  | .hbm, ⟨3, _⟩ => ⟨S8192x1024, .f32⟩
  | .hbm, ⟨4, _⟩ => ⟨S2048x10240, .f32⟩
  | .hbm, ⟨5, _⟩ => ⟨S2x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S1x2048, .f32⟩
  | .hbm, ⟨15, _⟩ => ⟨S8192x1024, .bf16⟩
  | .hbm, ⟨16, _⟩ => ⟨S8192x1024, .bf16⟩
  | .hbm, ⟨17, _⟩ => ⟨S1024x2048, .bf16⟩
  | .hbm, ⟨18, _⟩ => ⟨S1024x2048, .bf16⟩
  | .hbm, ⟨19, _⟩ => ⟨S2048x2048, .bf16⟩
  | .hbm, ⟨20, _⟩ => ⟨S1x2048, .f32⟩
  | .hbm, ⟨21, _⟩ => ⟨S8192x2048, .f32⟩
  | .hbm, ⟨22, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S2048x2048, .bf16⟩
  | .local _ .vmem, ⟨8, _⟩ => ⟨S2048x2048, .bf16⟩
  | .local _ .vmem, ⟨9, _⟩ => ⟨S2x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8192x2048 : Shape := ⟨2, ![8192, 2048]⟩
abbrev S2048 : Shape := ⟨1, ![2048]⟩
abbrev S8192x1024 : Shape := ⟨2, ![8192, 1024]⟩
abbrev S2048x10240 : Shape := ⟨2, ![2048, 10240]⟩
abbrev S2x2048 : Shape := ⟨2, ![2, 2048]⟩
abbrev S1024x2048 : Shape := ⟨2, ![1024, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x10240 : Shape := ⟨2, ![8192, 10240]⟩
abbrev S8192x4096 : Shape := ⟨2, ![8192, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x1024, .f32⟩
  | .hbm, ⟨3, _⟩ => ⟨S8192x1024, .f32⟩
  | .hbm, ⟨4, _⟩ => ⟨S2048x10240, .f32⟩
  | .hbm, ⟨5, _⟩ => ⟨S2x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x10240, .f32⟩
  | .hbm, ⟨27, _⟩ => ⟨S8192x4096, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel4.lean ====
abbrev S64 : Shape := ⟨1, ![64]⟩
abbrev S128 : Shape := ⟨1, ![128]⟩
abbrev S8192x2048 : Shape := ⟨2, ![8192, 2048]⟩
abbrev S8192x1024 : Shape := ⟨2, ![8192, 1024]⟩
abbrev S1x64 : Shape := ⟨2, ![1, 64]⟩
abbrev S4x64 : Shape := ⟨2, ![4, 64]⟩
abbrev S_ : Shape := ⟨0, ![]⟩
abbrev S8192x8x128 : Shape := ⟨3, ![8192, 8, 128]⟩
abbrev S8192x8x256 : Shape := ⟨3, ![8192, 8, 256]⟩
abbrev S8192x6144 : Shape := ⟨2, ![8192, 6144]⟩
abbrev S1x128 : Shape := ⟨2, ![1, 128]⟩
abbrev S1024x128 : Shape := ⟨2, ![1024, 128]⟩
abbrev S8192x128 : Shape := ⟨2, ![8192, 128]⟩
abbrev S8192x256 : Shape := ⟨2, ![8192, 256]⟩
abbrev S2x1024x256 : Shape := ⟨3, ![2, 1024, 256]⟩
abbrev S512x512 : Shape := ⟨2, ![512, 512]⟩
abbrev S512x128 : Shape := ⟨2, ![512, 128]⟩
abbrev S512x256 : Shape := ⟨2, ![512, 256]⟩
abbrev S1x512x256 : Shape := ⟨3, ![1, 512, 256]⟩
abbrev S512x1024 : Shape := ⟨2, ![512, 1024]⟩
abbrev S1024x256 : Shape := ⟨2, ![1024, 256]⟩
abbrev S1536x128 : Shape := ⟨2, ![1536, 128]⟩
abbrev S512x1536 : Shape := ⟨2, ![512, 1536]⟩
abbrev S1536x256 : Shape := ⟨2, ![1536, 256]⟩
abbrev S2048x128 : Shape := ⟨2, ![2048, 128]⟩
abbrev S512x2048 : Shape := ⟨2, ![512, 2048]⟩
abbrev S2048x256 : Shape := ⟨2, ![2048, 256]⟩
abbrev S2560x128 : Shape := ⟨2, ![2560, 128]⟩
abbrev S512x2560 : Shape := ⟨2, ![512, 2560]⟩
abbrev S2560x256 : Shape := ⟨2, ![2560, 256]⟩
abbrev S3072x128 : Shape := ⟨2, ![3072, 128]⟩
abbrev S512x3072 : Shape := ⟨2, ![512, 3072]⟩
abbrev S3072x256 : Shape := ⟨2, ![3072, 256]⟩
abbrev S3584x128 : Shape := ⟨2, ![3584, 128]⟩
abbrev S512x3584 : Shape := ⟨2, ![512, 3584]⟩
abbrev S3584x256 : Shape := ⟨2, ![3584, 256]⟩
abbrev S4096x128 : Shape := ⟨2, ![4096, 128]⟩
abbrev S512x4096 : Shape := ⟨2, ![512, 4096]⟩
abbrev S4096x256 : Shape := ⟨2, ![4096, 256]⟩
abbrev S1024x4096 : Shape := ⟨2, ![1024, 4096]⟩
abbrev S1x1024x256 : Shape := ⟨3, ![1, 1024, 256]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 22
  | .vmem => 15
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S_, .f32⟩
  | .hbm, ⟨14, _⟩ => ⟨S8192x8x128, .f32⟩
  | .hbm, ⟨15, _⟩ => ⟨S8192x8x128, .f32⟩
  | .hbm, ⟨16, _⟩ => ⟨S8192x8x256, .f32⟩
  | .hbm, ⟨17, _⟩ => ⟨S8192x2048, .f32⟩
  | .hbm, ⟨18, _⟩ => ⟨S8192x6144, .f32⟩
  | .hbm, ⟨19, _⟩ => ⟨S8192x6144, .bf16⟩
  | .hbm, ⟨20, _⟩ => ⟨S1x128, .f32⟩
  | .hbm, ⟨21, _⟩ => ⟨S8192x1024, .bf16⟩
  | .local _ .vmem, ⟨0, _⟩ => ⟨S4x64, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x256, .bf16⟩
  | .local _ .vmem, ⟨11, _⟩ => ⟨S8192x256, .bf16⟩
  | .local _ .vmem, ⟨12, _⟩ => ⟨S1024x128, .bf16⟩
  | .local _ .vmem, ⟨13, _⟩ => ⟨S1024x128, .bf16⟩
  | .local _ .vmem, ⟨14, _⟩ => ⟨S2x1024x256, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c4_i32_7 : BitVec 32 := 4#32
  let v21 : BitVec 32 := Scalar.muli v20 c4_i32_7
  let v22 : BitVec 32 := Scalar.subi arg1 v21
  let c0_i32_8 : BitVec 32 := 0#32
  let v23 : BitVec 1 := Scalar.cmpi .eq v22 c0_i32_8
  let v24 : BitVec 32 := Scalar.extui v23
  let c0_i32_9 : BitVec 32 := 0#32
  let v25 : BitVec 1 := Scalar.cmpi .ne v24 c0_i32_9
  v25

def k0_mult1 (i : grid0.Coords) : BitVec 32 :=
  let arg1 : BitVec 32 := BitVec.ofNat 32 (i 1).val
  let c0_i32_39 : BitVec 32 := 0#32
  let v94 : BitVec 32 := Scalar.subi arg1 c0_i32_39
  let c1024_i32 : BitVec 32 := 1024#32
  let v95 : BitVec 32 := Scalar.muli v94 c1024_i32
  v95
def k0_off1 (i : grid0.Coords) : Fin 2 → Nat :=
  let arg1 : BitVec 32 := BitVec.ofNat 32 (i 1).val
  let c0_i32_39 : BitVec 32 := 0#32
  let v94 : BitVec 32 := Scalar.subi arg1 c0_i32_39
  let c1024_i32 : BitVec 32 := 1024#32
  let v95 : BitVec 32 := Scalar.muli v94 c1024_i32
  let v96 : BitVec 32 := v95
  let v100 : Index := Scalar.indexCast v96
  let c0_40 : Index := 0#32
  ![v100.toNat, 0]
def k0_off2 (i : grid0.Coords) : Fin 2 → Nat :=
  let arg1 : BitVec 32 := BitVec.ofNat 32 (i 1).val
  let c0_i32_39 : BitVec 32 := 0#32
  let v94 : BitVec 32 := Scalar.subi arg1 c0_i32_39
  let c1024_i32 : BitVec 32 := 1024#32
  let v95 : BitVec 32 := Scalar.muli v94 c1024_i32
  let v96 : BitVec 32 := v95
  let v109 : Index := Scalar.indexCast v96
  let c0_43 : Index := 0#32
  ![v109.toNat, 0]
def k0_off3 (i : grid0.Coords) : Fin 2 → Nat :=
  let arg1 : BitVec 32 := BitVec.ofNat 32 (i 1).val
  let c0_i32_39 : BitVec 32 := 0#32
  let v94 : BitVec 32 := Scalar.subi arg1 c0_i32_39
  let c1024_i32 : BitVec 32 := 1024#32
  let v95 : BitVec 32 := Scalar.muli v94 c1024_i32
  let v96 : BitVec 32 := v95
  let v116 : Index := Scalar.indexCast v96
  let c0_48 : Index := 0#32
  ![v116.toNat, 0]
def k0_off4 (i : grid0.Coords) : Fin 2 → Nat :=
  let arg1 : BitVec 32 := BitVec.ofNat 32 (i 1).val
  let c0_i32_39 : BitVec 32 := 0#32
  let v94 : BitVec 32 := Scalar.subi arg1 c0_i32_39
  let c1024_i32 : BitVec 32 := 1024#32
  let v95 : BitVec 32 := Scalar.muli v94 c1024_i32
  let v96 : BitVec 32 := v95
  let v128 : Index := Scalar.indexCast v96
  let c0_51 : Index := 0#32
  ![v128.toNat, 0]
def k0_cond2 (i : grid0.Coords) : BitVec 1 :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c4_i32_10 : BitVec 32 := 4#32
  let v26 : BitVec 32 := Scalar.muli v20 c4_i32_10
  let v27 : BitVec 32 := Scalar.subi arg1 v26
  let c1_i32_11 : BitVec 32 := 1#32
  let v28 : BitVec 1 := Scalar.cmpi .eq v27 c1_i32_11
  let v29 : BitVec 32 := Scalar.extui v28
  let c0_i32_12 : BitVec 32 := 0#32
  let v30 : BitVec 1 := Scalar.cmpi .ne v29 c0_i32_12
  v30

def k0_mult2 (i : grid0.Coords) : BitVec 32 :=
  let arg1 : BitVec 32 := BitVec.ofNat 32 (i 1).val
  let c1_i32_39 : BitVec 32 := 1#32
  let v94 : BitVec 32 := Scalar.subi arg1 c1_i32_39
  let c1024_i32 : BitVec 32 := 1024#32
  let v95 : BitVec 32 := Scalar.muli v94 c1024_i32
  v95
def k0_off5 (i : grid0.Coords) : Fin 2 → Nat :=
  let arg1 : BitVec 32 := BitVec.ofNat 32 (i 1).val
  let c1_i32_39 : BitVec 32 := 1#32
  let v94 : BitVec 32 := Scalar.subi arg1 c1_i32_39
  let c1024_i32 : BitVec 32 := 1024#32
  let v95 : BitVec 32 := Scalar.muli v94 c1024_i32
  let v96 : BitVec 32 := v95
  let v100 : Index := Scalar.indexCast v96
  let c0_40 : Index := 0#32
  ![v100.toNat, 0]
def k0_off6 (i : grid0.Coords) : Fin 2 → Nat :=
  let arg1 : BitVec 32 := BitVec.ofNat 32 (i 1).val
  let c1_i32_39 : BitVec 32 := 1#32
  let v94 : BitVec 32 := Scalar.subi arg1 c1_i32_39
  let c1024_i32 : BitVec 32 := 1024#32
  let v95 : BitVec 32 := Scalar.muli v94 c1024_i32
  let v96 : BitVec 32 := v95
  let v112 : Index := Scalar.indexCast v96
  let c0_43 : Index := 0#32
  ![v112.toNat, 0]
def k0_off7 (i : grid0.Coords) : Fin 2 → Nat :=
  let arg1 : BitVec 32 := BitVec.ofNat 32 (i 1).val
  let c1_i32_39 : BitVec 32 := 1#32
  let v94 : BitVec 32 := Scalar.subi arg1 c1_i32_39
  let c1024_i32 : BitVec 32 := 1024#32
  let v95 : BitVec 32 := Scalar.muli v94 c1024_i32
  let v96 : BitVec 32 := v95
  let v119 : Index := Scalar.indexCast v96
  let c0_48 : Index := 0#32
  ![v119.toNat, 0]
def k0_off8 (i : grid0.Coords) : Fin 2 → Nat :=
  let arg1 : BitVec 32 := BitVec.ofNat 32 (i 1).val
  let c1_i32_39 : BitVec 32 := 1#32
  let v94 : BitVec 32 := Scalar.subi arg1 c1_i32_39
  let c1024_i32 : BitVec 32 := 1024#32
  let v95 : BitVec 32 := Scalar.muli v94 c1024_i32
  let v96 : BitVec 32 := v95
  let v131 : Index := Scalar.indexCast v96
  let c0_51 : Index := 0#32
  ![v131.toNat, 0]
def k0_cond3 (i : grid0.Coords) : BitVec 1 :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c4_i32_13 : BitVec 32 := 4#32
  let v31 : BitVec 32 := Scalar.muli v20 c4_i32_13
  let v32 : BitVec 32 := Scalar.subi arg1 v31
  let c2_i32 : BitVec 32 := 2#32
  let v33 : BitVec 1 := Scalar.cmpi .eq v32 c2_i32
  let v34 : BitVec 32 := Scalar.extui v33
  let c0_i32_14 : BitVec 32 := 0#32
  let v35 : BitVec 1 := Scalar.cmpi .ne v34 c0_i32_14
  v35

def k0_mult3 (i : grid0.Coords) : BitVec 32 :=
  let arg1 : BitVec 32 := BitVec.ofNat 32 (i 1).val
  let c2_i32_39 : BitVec 32 := 2#32
  let v94 : BitVec 32 := Scalar.subi arg1 c2_i32_39
  let c1024_i32 : BitVec 32 := 1024#32
  let v95 : BitVec 32 := Scalar.muli v94 c1024_i32
  v95
def k0_off9 (i : grid0.Coords) : Fin 2 → Nat :=
  let arg1 : BitVec 32 := BitVec.ofNat 32 (i 1).val
  let c2_i32_39 : BitVec 32 := 2#32
  let v94 : BitVec 32 := Scalar.subi arg1 c2_i32_39
  let c1024_i32 : BitVec 32 := 1024#32
  let v95 : BitVec 32 := Scalar.muli v94 c1024_i32
  let v96 : BitVec 32 := v95
  let v100 : Index := Scalar.indexCast v96
  let c0_40 : Index := 0#32
  ![v100.toNat, 0]
def k0_off10 (i : grid0.Coords) : Fin 2 → Nat :=
  let arg1 : BitVec 32 := BitVec.ofNat 32 (i 1).val
  let c2_i32_39 : BitVec 32 := 2#32
  let v94 : BitVec 32 := Scalar.subi arg1 c2_i32_39
  let c1024_i32 : BitVec 32 := 1024#32
  let v95 : BitVec 32 := Scalar.muli v94 c1024_i32
  let v96 : BitVec 32 := v95
  let v112 : Index := Scalar.indexCast v96
  let c0_43 : Index := 0#32
  ![v112.toNat, 0]
def k0_off11 (i : grid0.Coords) : Fin 2 → Nat :=
  let arg1 : BitVec 32 := BitVec.ofNat 32 (i 1).val
  let c2_i32_39 : BitVec 32 := 2#32
  let v94 : BitVec 32 := Scalar.subi arg1 c2_i32_39
  let c1024_i32 : BitVec 32 := 1024#32
  let v95 : BitVec 32 := Scalar.muli v94 c1024_i32
  let v96 : BitVec 32 := v95
  let v119 : Index := Scalar.indexCast v96
  let c0_48 : Index := 0#32
  ![v119.toNat, 0]
def k0_off12 (i : grid0.Coords) : Fin 2 → Nat :=
  let arg1 : BitVec 32 := BitVec.ofNat 32 (i 1).val
  let c2_i32_39 : BitVec 32 := 2#32
  let v94 : BitVec 32 := Scalar.subi arg1 c2_i32_39
  let c1024_i32 : BitVec 32 := 1024#32
  let v95 : BitVec 32 := Scalar.muli v94 c1024_i32
  let v96 : BitVec 32 := v95
  let v131 : Index := Scalar.indexCast v96
  let c0_51 : Index := 0#32
  ![v131.toNat, 0]
def k0_cond4 (i : grid0.Coords) : BitVec 1 :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c4_i32_15 : BitVec 32 := 4#32
  let v36 : BitVec 32 := Scalar.muli v20 c4_i32_15
  let v37 : BitVec 32 := Scalar.subi arg1 v36
  let c3_i32 : BitVec 32 := 3#32
  let v38 : BitVec 1 := Scalar.cmpi .eq v37 c3_i32
  let v39 : BitVec 32 := Scalar.extui v38
  let c0_i32_16 : BitVec 32 := 0#32
  let v40 : BitVec 1 := Scalar.cmpi .ne v39 c0_i32_16
  v40

def k0_mult4 (i : grid0.Coords) : BitVec 32 :=
  let arg1 : BitVec 32 := BitVec.ofNat 32 (i 1).val
  let c3_i32_39 : BitVec 32 := 3#32
  let v94 : BitVec 32 := Scalar.subi arg1 c3_i32_39
  let c1024_i32 : BitVec 32 := 1024#32
  let v95 : BitVec 32 := Scalar.muli v94 c1024_i32
  v95
def k0_off13 (i : grid0.Coords) : Fin 2 → Nat :=
  let arg1 : BitVec 32 := BitVec.ofNat 32 (i 1).val
  let c3_i32_39 : BitVec 32 := 3#32
  let v94 : BitVec 32 := Scalar.subi arg1 c3_i32_39
  let c1024_i32 : BitVec 32 := 1024#32
  let v95 : BitVec 32 := Scalar.muli v94 c1024_i32
  let v96 : BitVec 32 := v95
  let v100 : Index := Scalar.indexCast v96
  let c0_40 : Index := 0#32
  ![v100.toNat, 0]
def k0_off14 (i : grid0.Coords) : Fin 2 → Nat :=
  let arg1 : BitVec 32 := BitVec.ofNat 32 (i 1).val
  let c3_i32_39 : BitVec 32 := 3#32
  let v94 : BitVec 32 := Scalar.subi arg1 c3_i32_39
  let c1024_i32 : BitVec 32 := 1024#32
  let v95 : BitVec 32 := Scalar.muli v94 c1024_i32
  let v96 : BitVec 32 := v95
  let v112 : Index := Scalar.indexCast v96
  let c0_43 : Index := 0#32
  ![v112.toNat, 0]
def k0_off15 (i : grid0.Coords) : Fin 2 → Nat :=
  let arg1 : BitVec 32 := BitVec.ofNat 32 (i 1).val
  let c3_i32_39 : BitVec 32 := 3#32
  let v94 : BitVec 32 := Scalar.subi arg1 c3_i32_39
  let c1024_i32 : BitVec 32 := 1024#32
  let v95 : BitVec 32 := Scalar.muli v94 c1024_i32
  let v96 : BitVec 32 := v95
  let v119 : Index := Scalar.indexCast v96
  let c0_48 : Index := 0#32
  ![v119.toNat, 0]
def k0_off16 (i : grid0.Coords) : Fin 2 → Nat :=
  let arg1 : BitVec 32 := BitVec.ofNat 32 (i 1).val
  let c3_i32_39 : BitVec 32 := 3#32
  let v94 : BitVec 32 := Scalar.subi arg1 c3_i32_39
  let c1024_i32 : BitVec 32 := 1024#32
  let v95 : BitVec 32 := Scalar.muli v94 c1024_i32
  let v96 : BitVec 32 := v95
  let v131 : Index := Scalar.indexCast v96
  let c0_51 : Index := 0#32
  ![v131.toNat, 0]
@[reducible] def k0_t1_loop (i : grid0.Coords) : Scf.Loop 32 :=
  let c0_i32_18 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v41 : BitVec 32 := Scalar.subi v20 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_20 : BitVec 32 := 1#32
  ⟨c0_i32_18, v45, c1_i32_20⟩
def k0_mult5 (i : grid0.Coords) (k0_t1 : Fin (k0_t1_loop i).trips) : BitVec 32 :=
  let c0_i32_18 : BitVec 32 := 0#32
  let c1_i32_20 : BitVec 32 := 1#32
  let arg11 : BitVec 32 := Scf.iv c0_i32_18 c1_i32_20 k0_t1
  let c4_i32_39 : BitVec 32 := 4#32
  let v94 : BitVec 32 := Scalar.muli arg11 c4_i32_39
  let c1024_i32 : BitVec 32 := 1024#32
  let v95 : BitVec 32 := Scalar.muli v94 c1024_i32
  v95
def k0_off17 (i : grid0.Coords) (k0_t1 : Fin (k0_t1_loop i).trips) : Fin 2 → Nat :=
  let c0_i32_18 : BitVec 32 := 0#32
  let c1_i32_20 : BitVec 32 := 1#32
  let arg11 : BitVec 32 := Scf.iv c0_i32_18 c1_i32_20 k0_t1
  let c4_i32_39 : BitVec 32 := 4#32
  let v94 : BitVec 32 := Scalar.muli arg11 c4_i32_39
  let c1024_i32 : BitVec 32 := 1024#32
  let v95 : BitVec 32 := Scalar.muli v94 c1024_i32
  let v96 : BitVec 32 := v95
  let v97 : Index := Scalar.indexCast v96
  let c0_40 : Index := 0#32
  ![v97.toNat, 0]
def k0_off18 (i : grid0.Coords) (k0_t1 : Fin (k0_t1_loop i).trips) : Fin 2 → Nat :=
  let c0_i32_18 : BitVec 32 := 0#32
  let c1_i32_20 : BitVec 32 := 1#32
  let arg11 : BitVec 32 := Scf.iv c0_i32_18 c1_i32_20 k0_t1
  let c4_i32_39 : BitVec 32 := 4#32
  let v94 : BitVec 32 := Scalar.muli arg11 c4_i32_39
  let c1024_i32 : BitVec 32 := 1024#32
  let v95 : BitVec 32 := Scalar.muli v94 c1024_i32
  let v96 : BitVec 32 := v95
  let v100 : Index := Scalar.indexCast v96
  let c0_41 : Index := 0#32
  ![v100.toNat, 0]
@[reducible] def k0_t2_loop (i : grid0.Coords) : Scf.Loop 32 :=
  let c0_i32_18 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v41 : BitVec 32 := Scalar.subi v20 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let v42 : BitVec 32 := Scalar.addi c0_i32_18 v41
  let c1_i32_21 : BitVec 32 := 1#32
  ⟨v45, v42, c1_i32_21⟩
def k0_mult6 (i : grid0.Coords) (k0_t2 : Fin (k0_t2_loop i).trips) : BitVec 32 :=
  let c0_i32_18 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v41 : BitVec 32 := Scalar.subi v20 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_21 : BitVec 32 := 1#32
  let arg11 : BitVec 32 := Scf.iv v45 c1_i32_21 k0_t2
  let c4_i32_39 : BitVec 32 := 4#32
  let v94 : BitVec 32 := Scalar.muli arg11 c4_i32_39
  let c1024_i32 : BitVec 32 := 1024#32
  let v95 : BitVec 32 := Scalar.muli v94 c1024_i32
  v95
def k0_off19 (i : grid0.Coords) (k0_t2 : Fin (k0_t2_loop i).trips) : Fin 2 → Nat :=
  let c0_i32_18 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v41 : BitVec 32 := Scalar.subi v20 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_21 : BitVec 32 := 1#32
  let arg11 : BitVec 32 := Scf.iv v45 c1_i32_21 k0_t2
  let c4_i32_39 : BitVec 32 := 4#32
  let v94 : BitVec 32 := Scalar.muli arg11 c4_i32_39
  let c1024_i32 : BitVec 32 := 1024#32
  let v95 : BitVec 32 := Scalar.muli v94 c1024_i32
  let v96 : BitVec 32 := v95
  let v97 : Index := Scalar.indexCast v96
  let c0_40 : Index := 0#32
  ![v97.toNat, 0]
def k0_off20 (i : grid0.Coords) (k0_t2 : Fin (k0_t2_loop i).trips) : Fin 2 → Nat :=
  let c0_i32_18 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_3 : BitVec 32 := 0#32
  let v7 : BitVec 1 := Scalar.cmpi .slt arg1 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg1 c4_i32
  let c0_i32_6 : BitVec 32 := 0#32
  let v17 : BitVec 1 := Scalar.cmpi .ne v16 c0_i32_6
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v41 : BitVec 32 := Scalar.subi v20 c0_i32_18
  let c1_i32_19 : BitVec 32 := 1#32
  let v43 : BitVec 32 := Scalar.divsi v41 c1_i32_19
  let v44 : BitVec 32 := Scalar.muli v43 c1_i32_19
  let v45 : BitVec 32 := Scalar.addi c0_i32_18 v44
  let c1_i32_21 : BitVec 32 := 1#32
  let arg11 : BitVec 32 := Scf.iv v45 c1_i32_21 k0_t2
  let c4_i32_39 : BitVec 32 := 4#32
  let v94 : BitVec 32 := Scalar.muli arg11 c4_i32_39
  let c1024_i32 : BitVec 32 := 1024#32
  let v95 : BitVec 32 := Scalar.muli v94 c1024_i32
  let v96 : BitVec 32 := v95
  let v100 : Index := Scalar.indexCast v96
  let c0_41 : Index := 0#32
  ![v100.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.addi c16_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c16_i32 : BitVec 32 := 16#32
  let v1 : BitVec 32 := Scalar.addi c16_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S64 : Shape := ⟨1, ![64]⟩
abbrev S128 : Shape := ⟨1, ![128]⟩
abbrev S8192x2048 : Shape := ⟨2, ![8192, 2048]⟩
abbrev S8192x1024 : Shape := ⟨2, ![8192, 1024]⟩
abbrev S_ : Shape := ⟨0, ![]⟩
abbrev S8192x8x2x128 : Shape := ⟨4, ![8192, 8, 2, 128]⟩
abbrev S8192x8x128 : Shape := ⟨3, ![8192, 8, 128]⟩
abbrev S8x2x8192x8192 : Shape := ⟨4, ![8, 2, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x2x8192x128 : Shape := ⟨4, ![8, 2, 8192, 128]⟩
abbrev S8x2x8192 : Shape := ⟨3, ![8, 2, 8192]⟩
abbrev S8x2x8192x1 : Shape := ⟨4, ![8, 2, 8192, 1]⟩
abbrev S8x1x8192x128 : Shape := ⟨4, ![8, 1, 8192, 128]⟩
abbrev S8x8192x128 : Shape := ⟨3, ![8, 8192, 128]⟩
abbrev S8x8192 : Shape := ⟨2, ![8, 8192]⟩
abbrev S8x8192x1 : Shape := ⟨3, ![8, 8192, 1]⟩
abbrev S1x1x128 : Shape := ⟨3, ![1, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x8x2x128, .f32⟩
  | .hbm, ⟨20, _⟩ => ⟨S8192x8x2x128, .f32⟩
  | .hbm, ⟨21, _⟩ => ⟨S8192x8x128, .f32⟩
  | .hbm, ⟨22, _⟩ => ⟨S8x2x8192x8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S8x2x8192x8192, .i1⟩
  | .hbm, ⟨32, _⟩ => ⟨S8x2x8192x8192, .f32⟩
  | .hbm, ⟨33, _⟩ => ⟨S8x2x8192x8192, .f32⟩
  | .hbm, ⟨34, _⟩ => ⟨S8x2x8192x8192, .f32⟩
  | .hbm, ⟨35, _⟩ => ⟨S8x2x8192x128, .f32⟩
  | .hbm, ⟨36, _⟩ => ⟨S_, .f32⟩
  | .hbm, ⟨37, _⟩ => ⟨S8x2x8192, .f32⟩
  | .hbm, ⟨38, _⟩ => ⟨S8x2x8192x1, .f32⟩
  | .hbm, ⟨39, _⟩ => ⟨S8x2x8192x128, .f32⟩
  | .hbm, ⟨40, _⟩ => ⟨S8x2x8192x128, .f32⟩
  | .hbm, ⟨41, _⟩ => ⟨S8x1x8192x128, .f32⟩
  | .hbm, ⟨42, _⟩ => ⟨S8x8192x128, .f32⟩
  | .hbm, ⟨43, _⟩ => ⟨S8x1x8192x128, .f32⟩
  | .hbm, ⟨44, _⟩ => ⟨S8x8192x128, .f32⟩
  | .hbm, ⟨45, _⟩ => ⟨S8x8192x128, .f32⟩
  | .hbm, ⟨46, _⟩ => ⟨S8x8192x128, .f32⟩
  | .hbm, ⟨47, _⟩ => ⟨S8x8192x128, .f32⟩
  | .hbm, ⟨48, _⟩ => ⟨S8x8192x128, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1, .f32⟩
  | .hbm, ⟨59, _⟩ => ⟨S8x8192x128, .f32⟩
  | .hbm, ⟨60, _⟩ => ⟨S8x8192x128, .f32⟩
  | .hbm, ⟨61, _⟩ => ⟨S1x1x128, .f32⟩
  | .hbm, ⟨62, _⟩ => ⟨S8x8192x128, .f32⟩
  | .hbm, ⟨63, _⟩ => ⟨S8x8192x128, .f32⟩
  | .hbm, ⟨64, _⟩ => ⟨S_, .f32⟩
  | .hbm, ⟨65, _⟩ => ⟨S8x8192x128, .f32⟩
  | .hbm, ⟨66, _⟩ => ⟨S8x8192x128, .f32⟩
  | .hbm, ⟨67, _⟩ => ⟨S8192x8x128, .f32⟩
  | .hbm, ⟨68, _⟩ => ⟨S8192x1024, .f32⟩
  | .hbm, ⟨69, _⟩ => ⟨S8192x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Names.lean ====
/-
  The canonical names of the convolutional feed-forward kernel's pieces: the blocks of its arrays in HBM, the two
  slots of each of its seven staging buffers with their DMA semaphores, the words the software pipeline carries
  from trip to trip, and the equations that put the printed slices under these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-- The loop's trips: 8 row blocks of 11 column blocks each. -/
abbrev Trip : Type := Fin k0_t1_loop.trips
theorem trip_lt (k : Trip) : k.val < 88 := k.isLt

/-! ## The words carried before trip `k` -/

/-- Row blocks of `h` issued so far. -/
def wH (k : ℕ) : BitVec 32 := BitVec.ofNat 32 (min (k / 11 + 1) 8)
/-- Row blocks finished so far. -/
def wI (k : ℕ) : BitVec 32 := BitVec.ofNat 32 (k / 11)
/-- Column blocks issued so far. -/
def wN (k : ℕ) : BitVec 32 := BitVec.ofNat 32 (min (k + 1) 88)
/-- Trips finished so far. -/
def wK (k : ℕ) : BitVec 32 := BitVec.ofNat 32 k
/-- Result blocks waited for so far. -/
def wO (k : ℕ) : BitVec 32 := BitVec.ofNat 32 ((k - 1) / 11)
/-- The row coordinate. -/
def wR (k : ℕ) : BitVec 32 := BitVec.ofNat 32 (k / 11 % 8)
/-- The column coordinate. -/
def wF (k : ℕ) : BitVec 32 := BitVec.ofNat 32 (k % 11)

/-- The sixteen words the pipeline carries into trip `k`. -/
abbrev Words : Type := BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32
def words (k : ℕ) : Words := (wH k, wI k, wN k, wK k, wN k, wK k, wN k, wK k, wN k, wK k, wN k, wK k, wI k, wO k, wR k, wF k)

/-! ## Offsets -/

abbrev semOff (s : Fin 2) : Fin 1 → Nat := ![s.val]
theorem semOff_inb (s : Fin 2) : ∀ a, semOff s a + S1.size a ≤ S2.size a := by
  revert s; decide
abbrev slotOff (s : Fin 2) : Fin 3 → Nat := ![s.val, 0, 0]
instance (s : Fin 2) : ClosedOff (slotOff s) := ⟨slotOff s, rfl⟩
/-- Column block `f`, row half `x`, lane offset `l` of the carry. -/
abbrev carryOff (f x l : ℕ) : Fin 4 → Nat := ![f, x, 0, l]

/-! ## Ring H: the activations `h` -/

abbrev hbmH : Memref sig .tc .hbm S8192x2048 .bf16 := Memref.whole main_v0
abbrev bufH : Memref sig .tc .vmem S2x1024x2048 .bf16 := Memref.whole cc0_scoped0
abbrev offH (b : Fin 8) : Fin 2 → Nat := ![1024 * b.val, 0]
theorem offH_inb (b : Fin 8) : ∀ a, offH b a + S1024x2048.size a ≤ S8192x2048.size a := by
  revert b; decide
theorem slotOff_inbH (s : Fin 2) : ∀ a, slotOff s a + S1x1024x2048.size a ≤ S2x1024x2048.size a := by
  revert s; decide
/-- Block `b` of the activations `h`. -/
def blkH (b : Fin 8) : Memref sig .tc .hbm S1024x2048 .bf16 :=
  hbmH.slice (Rect.unit (s := S8192x2048) (offH b) S1024x2048.size (offH_inb b)) (fun _ => rfl)
/-- Slot `s` of the staging buffer of the activations `h`. -/
def slotH (s : Fin 2) : Memref sig .tc .vmem S1024x2048 .bf16 :=
  (bufH.slice (Rect.unit (s := S2x1024x2048) (slotOff s) S1x1024x2048.size (slotOff_inbH s)) (fun _ => rfl)).squeeze S1024x2048 squeezes_S1x1024x2048_S1024x2048
/-- Slot `s`'s DMA semaphore. -/
def semH (s : Fin 2) : DmaSems sig S_ :=
  ((cc0_scoped1 : DmaSems sig S2).slice (Rect.unit (s := S2) (semOff s) S1.size (semOff_inb s))).squeeze S_ squeezes_S1_S_

theorem blkH_congr {off : Fin 2 → Nat} {b : Fin 8} (e : off = offH b) (hh hs) :
    (hbmH.slice (Rect.unit (s := S8192x2048) off S1024x2048.size hh) hs) = blkH b :=
  Memref.slice_unit_congr _ e _ _ _ (fun _ => rfl)
theorem slotH_congr {off : Fin 3 → Nat} {s : Fin 2} (e : off = slotOff s) (hh hs) :
    (bufH.slice (Rect.unit (s := S2x1024x2048) off S1x1024x2048.size hh) hs).squeeze S1024x2048 squeezes_S1x1024x2048_S1024x2048 = slotH s :=
  congrArg (fun M : Memref sig .tc .vmem S1x1024x2048 .bf16 => M.squeeze S1024x2048 squeezes_S1x1024x2048_S1024x2048) (Memref.slice_unit_congr _ e _ _ _ _)
theorem semH_congr {off : Fin 1 → Nat} {s : Fin 2} (e : off = semOff s) (hh) :
    ((cc0_scoped1 : DmaSems sig S2).slice (Rect.unit (s := S2) off S1.size hh)).squeeze S_ squeezes_S1_S_ = semH s :=
  congrArg (fun A : DmaSems sig S1 => A.squeeze S_ squeezes_S1_S_) (SemArray.slice_unit_congr _ e _ _)

/-! ## Ring G: the gate half of the up-projection -/

abbrev hbmG : Memref sig .tc .hbm S2048x11264 .bf16 := Memref.whole main_v1
abbrev bufG : Memref sig .tc .vmem S2x2048x512 .bf16 := Memref.whole cc0_scoped2
abbrev offG (b : Fin 11) : Fin 2 → Nat := ![0, 512 * b.val]
theorem offG_inb (b : Fin 11) : ∀ a, offG b a + S2048x512.size a ≤ S2048x11264.size a := by
  revert b; decide
theorem slotOff_inbG (s : Fin 2) : ∀ a, slotOff s a + S1x2048x512.size a ≤ S2x2048x512.size a := by
  revert s; decide
/-- Block `b` of the gate half of the up-projection. -/
def blkG (b : Fin 11) : Memref sig .tc .hbm S2048x512 .bf16 :=
  hbmG.slice (Rect.unit (s := S2048x11264) (offG b) S2048x512.size (offG_inb b)) (fun _ => rfl)
/-- Slot `s` of the staging buffer of the gate half of the up-projection. -/
def slotG (s : Fin 2) : Memref sig .tc .vmem S2048x512 .bf16 :=
  (bufG.slice (Rect.unit (s := S2x2048x512) (slotOff s) S1x2048x512.size (slotOff_inbG s)) (fun _ => rfl)).squeeze S2048x512 squeezes_S1x2048x512_S2048x512
/-- Slot `s`'s DMA semaphore. -/
def semG (s : Fin 2) : DmaSems sig S_ :=
  ((cc0_scoped3 : DmaSems sig S2).slice (Rect.unit (s := S2) (semOff s) S1.size (semOff_inb s))).squeeze S_ squeezes_S1_S_

theorem blkG_congr {off : Fin 2 → Nat} {b : Fin 11} (e : off = offG b) (hh hs) :
    (hbmG.slice (Rect.unit (s := S2048x11264) off S2048x512.size hh) hs) = blkG b :=
  Memref.slice_unit_congr _ e _ _ _ (fun _ => rfl)
theorem slotG_congr {off : Fin 3 → Nat} {s : Fin 2} (e : off = slotOff s) (hh hs) :
    (bufG.slice (Rect.unit (s := S2x2048x512) off S1x2048x512.size hh) hs).squeeze S2048x512 squeezes_S1x2048x512_S2048x512 = slotG s :=
  congrArg (fun M : Memref sig .tc .vmem S1x2048x512 .bf16 => M.squeeze S2048x512 squeezes_S1x2048x512_S2048x512) (Memref.slice_unit_congr _ e _ _ _ _)
theorem semG_congr {off : Fin 1 → Nat} {s : Fin 2} (e : off = semOff s) (hh) :
    ((cc0_scoped3 : DmaSems sig S2).slice (Rect.unit (s := S2) off S1.size hh)).squeeze S_ squeezes_S1_S_ = semG s :=
  congrArg (fun A : DmaSems sig S1 => A.squeeze S_ squeezes_S1_S_) (SemArray.slice_unit_congr _ e _ _)

/-! ## Ring V: the value half of the up-projection -/

abbrev hbmV : Memref sig .tc .hbm S2048x11264 .bf16 := Memref.whole main_v1
abbrev bufV : Memref sig .tc .vmem S2x2048x512 .bf16 := Memref.whole cc0_scoped4
abbrev offV (b : Fin 11) : Fin 2 → Nat := ![0, 512 * b.val + 5632]
theorem offV_inb (b : Fin 11) : ∀ a, offV b a + S2048x512.size a ≤ S2048x11264.size a := by
  revert b; decide
theorem slotOff_inbV (s : Fin 2) : ∀ a, slotOff s a + S1x2048x512.size a ≤ S2x2048x512.size a := by
  revert s; decide
/-- Block `b` of the value half of the up-projection. -/
def blkV (b : Fin 11) : Memref sig .tc .hbm S2048x512 .bf16 :=
  hbmV.slice (Rect.unit (s := S2048x11264) (offV b) S2048x512.size (offV_inb b)) (fun _ => rfl)
/-- Slot `s` of the staging buffer of the value half of the up-projection. -/
def slotV (s : Fin 2) : Memref sig .tc .vmem S2048x512 .bf16 :=
  (bufV.slice (Rect.unit (s := S2x2048x512) (slotOff s) S1x2048x512.size (slotOff_inbV s)) (fun _ => rfl)).squeeze S2048x512 squeezes_S1x2048x512_S2048x512
/-- Slot `s`'s DMA semaphore. -/
def semV (s : Fin 2) : DmaSems sig S_ :=
  ((cc0_scoped5 : DmaSems sig S2).slice (Rect.unit (s := S2) (semOff s) S1.size (semOff_inb s))).squeeze S_ squeezes_S1_S_

theorem blkV_congr {off : Fin 2 → Nat} {b : Fin 11} (e : off = offV b) (hh hs) :
    (hbmV.slice (Rect.unit (s := S2048x11264) off S2048x512.size hh) hs) = blkV b :=
  Memref.slice_unit_congr _ e _ _ _ (fun _ => rfl)
theorem slotV_congr {off : Fin 3 → Nat} {s : Fin 2} (e : off = slotOff s) (hh hs) :
    (bufV.slice (Rect.unit (s := S2x2048x512) off S1x2048x512.size hh) hs).squeeze S2048x512 squeezes_S1x2048x512_S2048x512 = slotV s :=
  congrArg (fun M : Memref sig .tc .vmem S1x2048x512 .bf16 => M.squeeze S2048x512 squeezes_S1x2048x512_S2048x512) (Memref.slice_unit_congr _ e _ _ _ _)
theorem semV_congr {off : Fin 1 → Nat} {s : Fin 2} (e : off = semOff s) (hh) :
    ((cc0_scoped5 : DmaSems sig S2).slice (Rect.unit (s := S2) off S1.size hh)).squeeze S_ squeezes_S1_S_ = semV s :=
  congrArg (fun A : DmaSems sig S1 => A.squeeze S_ squeezes_S1_S_) (SemArray.slice_unit_congr _ e _ _)

/-! ## Ring A: the gate half of the convolution weights -/

abbrev hbmA : Memref sig .tc .hbm S3x11264 .f32 := Memref.whole main_arg2
abbrev bufA : Memref sig .tc .vmem S2x3x512 .f32 := Memref.whole cc0_scoped6
abbrev offA (b : Fin 11) : Fin 2 → Nat := ![0, 512 * b.val]
theorem offA_inb (b : Fin 11) : ∀ a, offA b a + S3x512.size a ≤ S3x11264.size a := by
  revert b; decide
theorem slotOff_inbA (s : Fin 2) : ∀ a, slotOff s a + S1x3x512.size a ≤ S2x3x512.size a := by
  revert s; decide
/-- Block `b` of the gate half of the convolution weights. -/
def blkA (b : Fin 11) : Memref sig .tc .hbm S3x512 .f32 :=
  hbmA.slice (Rect.unit (s := S3x11264) (offA b) S3x512.size (offA_inb b)) (fun _ => rfl)
/-- Slot `s` of the staging buffer of the gate half of the convolution weights. -/
def slotA (s : Fin 2) : Memref sig .tc .vmem S3x512 .f32 :=
  (bufA.slice (Rect.unit (s := S2x3x512) (slotOff s) S1x3x512.size (slotOff_inbA s)) (fun _ => rfl)).squeeze S3x512 squeezes_S1x3x512_S3x512
/-- Slot `s`'s DMA semaphore. -/
def semA (s : Fin 2) : DmaSems sig S_ :=
  ((cc0_scoped7 : DmaSems sig S2).slice (Rect.unit (s := S2) (semOff s) S1.size (semOff_inb s))).squeeze S_ squeezes_S1_S_

theorem blkA_congr {off : Fin 2 → Nat} {b : Fin 11} (e : off = offA b) (hh hs) :
    (hbmA.slice (Rect.unit (s := S3x11264) off S3x512.size hh) hs) = blkA b :=
  Memref.slice_unit_congr _ e _ _ _ (fun _ => rfl)
theorem slotA_congr {off : Fin 3 → Nat} {s : Fin 2} (e : off = slotOff s) (hh hs) :
    (bufA.slice (Rect.unit (s := S2x3x512) off S1x3x512.size hh) hs).squeeze S3x512 squeezes_S1x3x512_S3x512 = slotA s :=
  congrArg (fun M : Memref sig .tc .vmem S1x3x512 .f32 => M.squeeze S3x512 squeezes_S1x3x512_S3x512) (Memref.slice_unit_congr _ e _ _ _ _)
theorem semA_congr {off : Fin 1 → Nat} {s : Fin 2} (e : off = semOff s) (hh) :
    ((cc0_scoped7 : DmaSems sig S2).slice (Rect.unit (s := S2) off S1.size hh)).squeeze S_ squeezes_S1_S_ = semA s :=
  congrArg (fun A : DmaSems sig S1 => A.squeeze S_ squeezes_S1_S_) (SemArray.slice_unit_congr _ e _ _)

/-! ## Ring B: the value half of the convolution weights -/

abbrev hbmB : Memref sig .tc .hbm S3x11264 .f32 := Memref.whole main_arg2
abbrev bufB : Memref sig .tc .vmem S2x3x512 .f32 := Memref.whole cc0_scoped8
abbrev offB (b : Fin 11) : Fin 2 → Nat := ![0, 512 * b.val + 5632]
theorem offB_inb (b : Fin 11) : ∀ a, offB b a + S3x512.size a ≤ S3x11264.size a := by
  revert b; decide
theorem slotOff_inbB (s : Fin 2) : ∀ a, slotOff s a + S1x3x512.size a ≤ S2x3x512.size a := by
  revert s; decide
/-- Block `b` of the value half of the convolution weights. -/
def blkB (b : Fin 11) : Memref sig .tc .hbm S3x512 .f32 :=
  hbmB.slice (Rect.unit (s := S3x11264) (offB b) S3x512.size (offB_inb b)) (fun _ => rfl)
/-- Slot `s` of the staging buffer of the value half of the convolution weights. -/
def slotB (s : Fin 2) : Memref sig .tc .vmem S3x512 .f32 :=
  (bufB.slice (Rect.unit (s := S2x3x512) (slotOff s) S1x3x512.size (slotOff_inbB s)) (fun _ => rfl)).squeeze S3x512 squeezes_S1x3x512_S3x512
/-- Slot `s`'s DMA semaphore. -/
def semB (s : Fin 2) : DmaSems sig S_ :=
  ((cc0_scoped9 : DmaSems sig S2).slice (Rect.unit (s := S2) (semOff s) S1.size (semOff_inb s))).squeeze S_ squeezes_S1_S_

theorem blkB_congr {off : Fin 2 → Nat} {b : Fin 11} (e : off = offB b) (hh hs) :
    (hbmB.slice (Rect.unit (s := S3x11264) off S3x512.size hh) hs) = blkB b :=
  Memref.slice_unit_congr _ e _ _ _ (fun _ => rfl)
theorem slotB_congr {off : Fin 3 → Nat} {s : Fin 2} (e : off = slotOff s) (hh hs) :
    (bufB.slice (Rect.unit (s := S2x3x512) off S1x3x512.size hh) hs).squeeze S3x512 squeezes_S1x3x512_S3x512 = slotB s :=
  congrArg (fun M : Memref sig .tc .vmem S1x3x512 .f32 => M.squeeze S3x512 squeezes_S1x3x512_S3x512) (Memref.slice_unit_congr _ e _ _ _ _)
theorem semB_congr {off : Fin 1 → Nat} {s : Fin 2} (e : off = semOff s) (hh) :
    ((cc0_scoped9 : DmaSems sig S2).slice (Rect.unit (s := S2) off S1.size hh)).squeeze S_ squeezes_S1_S_ = semB s :=
  congrArg (fun A : DmaSems sig S1 => A.squeeze S_ squeezes_S1_S_) (SemArray.slice_unit_congr _ e _ _)

/-! ## Ring D: the down-projection -/

abbrev hbmD : Memref sig .tc .hbm S5632x2048 .bf16 := Memref.whole main_v2
abbrev bufD : Memref sig .tc .vmem S2x512x2048 .bf16 := Memref.whole cc0_scoped10
abbrev offD (b : Fin 11) : Fin 2 → Nat := ![512 * b.val, 0]
theorem offD_inb (b : Fin 11) : ∀ a, offD b a + S512x2048.size a ≤ S5632x2048.size a := by
  revert b; decide
theorem slotOff_inbD (s : Fin 2) : ∀ a, slotOff s a + S1x512x2048.size a ≤ S2x512x2048.size a := by
  revert s; decide
/-- Block `b` of the down-projection. -/
def blkD (b : Fin 11) : Memref sig .tc .hbm S512x2048 .bf16 :=
  hbmD.slice (Rect.unit (s := S5632x2048) (offD b) S512x2048.size (offD_inb b)) (fun _ => rfl)
/-- Slot `s` of the staging buffer of the down-projection. -/
def slotD (s : Fin 2) : Memref sig .tc .vmem S512x2048 .bf16 :=
  (bufD.slice (Rect.unit (s := S2x512x2048) (slotOff s) S1x512x2048.size (slotOff_inbD s)) (fun _ => rfl)).squeeze S512x2048 squeezes_S1x512x2048_S512x2048
/-- Slot `s`'s DMA semaphore. -/
def semD (s : Fin 2) : DmaSems sig S_ :=
  ((cc0_scoped11 : DmaSems sig S2).slice (Rect.unit (s := S2) (semOff s) S1.size (semOff_inb s))).squeeze S_ squeezes_S1_S_

theorem blkD_congr {off : Fin 2 → Nat} {b : Fin 11} (e : off = offD b) (hh hs) :
    (hbmD.slice (Rect.unit (s := S5632x2048) off S512x2048.size hh) hs) = blkD b :=
  Memref.slice_unit_congr _ e _ _ _ (fun _ => rfl)
theorem slotD_congr {off : Fin 3 → Nat} {s : Fin 2} (e : off = slotOff s) (hh hs) :
    (bufD.slice (Rect.unit (s := S2x512x2048) off S1x512x2048.size hh) hs).squeeze S512x2048 squeezes_S1x512x2048_S512x2048 = slotD s :=
  congrArg (fun M : Memref sig .tc .vmem S1x512x2048 .bf16 => M.squeeze S512x2048 squeezes_S1x512x2048_S512x2048) (Memref.slice_unit_congr _ e _ _ _ _)
theorem semD_congr {off : Fin 1 → Nat} {s : Fin 2} (e : off = semOff s) (hh) :
    ((cc0_scoped11 : DmaSems sig S2).slice (Rect.unit (s := S2) off S1.size hh)).squeeze S_ squeezes_S1_S_ = semD s :=
  congrArg (fun A : DmaSems sig S1 => A.squeeze S_ squeezes_S1_S_) (SemArray.slice_unit_congr _ e _ _)

/-! ## Ring O: the result -/

abbrev hbmO : Memref sig .tc .hbm S8192x2048 .f32 := Memref.whole main_v3
abbrev bufO : Memref sig .tc .vmem S2x1024x2048 .f32 := Memref.whole cc0_scoped12
abbrev offO (b : Fin 8) : Fin 2 → Nat := ![1024 * b.val, 0]
theorem offO_inb (b : Fin 8) : ∀ a, offO b a + S1024x2048.size a ≤ S8192x2048.size a := by
  revert b; decide
theorem slotOff_inbO (s : Fin 2) : ∀ a, slotOff s a + S1x1024x2048.size a ≤ S2x1024x2048.size a := by
  revert s; decide
/-- Block `b` of the result. -/
def blkO (b : Fin 8) : Memref sig .tc .hbm S1024x2048 .f32 :=
  hbmO.slice (Rect.unit (s := S8192x2048) (offO b) S1024x2048.size (offO_inb b)) (fun _ => rfl)
/-- Slot `s` of the staging buffer of the result. -/
def slotO (s : Fin 2) : Memref sig .tc .vmem S1024x2048 .f32 :=
  (bufO.slice (Rect.unit (s := S2x1024x2048) (slotOff s) S1x1024x2048.size (slotOff_inbO s)) (fun _ => rfl)).squeeze S1024x2048 squeezes_S1x1024x2048_S1024x2048
/-- Slot `s`'s DMA semaphore. -/
def semO (s : Fin 2) : DmaSems sig S_ :=
  ((cc0_scoped13 : DmaSems sig S2).slice (Rect.unit (s := S2) (semOff s) S1.size (semOff_inb s))).squeeze S_ squeezes_S1_S_

theorem blkO_congr {off : Fin 2 → Nat} {b : Fin 8} (e : off = offO b) (hh hs) :
    (hbmO.slice (Rect.unit (s := S8192x2048) off S1024x2048.size hh) hs) = blkO b :=
  Memref.slice_unit_congr _ e _ _ _ (fun _ => rfl)
theorem slotO_congr {off : Fin 3 → Nat} {s : Fin 2} (e : off = slotOff s) (hh hs) :
    (bufO.slice (Rect.unit (s := S2x1024x2048) off S1x1024x2048.size hh) hs).squeeze S1024x2048 squeezes_S1x1024x2048_S1024x2048 = slotO s :=
  congrArg (fun M : Memref sig .tc .vmem S1x1024x2048 .f32 => M.squeeze S1024x2048 squeezes_S1x1024x2048_S1024x2048) (Memref.slice_unit_congr _ e _ _ _ _)
theorem semO_congr {off : Fin 1 → Nat} {s : Fin 2} (e : off = semOff s) (hh) :
    ((cc0_scoped13 : DmaSems sig S2).slice (Rect.unit (s := S2) off S1.size hh)).squeeze S_ squeezes_S1_S_ = semO s :=
  congrArg (fun A : DmaSems sig S1 => A.squeeze S_ squeezes_S1_S_) (SemArray.slice_unit_congr _ e _ _)

/-! ## The printed offsets in closed form, and the slices under their names -/

theorem offR1_eq : k0_off1 = semOff 0 := by decide
theorem offR2_eq : k0_off2 = slotOff 0 := by decide
theorem offR3_eq : k0_off3 = slotOff 0 := by decide
theorem offR4_eq : k0_off4 = slotOff 0 := by decide
theorem offR5_eq : k0_off5 = slotOff 0 := by decide
@[sl_canon] theorem semCH1  (hh) : ((cc0_scoped1 : DmaSems sig S2).slice (Rect.unit (s := S2) (k0_off1 ) S1.size hh)).squeeze S_ squeezes_S1_S_ = semH (0) := semH_congr (offR1_eq) _
@[sl_canon] theorem slotCH2  (hh hs) : (bufH.slice (Rect.unit (s := S2x1024x2048) (k0_off2 ) S1x1024x2048.size hh) hs).squeeze S1024x2048 squeezes_S1x1024x2048_S1024x2048 = slotH (0) := slotH_congr (offR2_eq) _ _
@[sl_canon] theorem blkCH_first (hh hs) : (hbmH.slice (Rect.unit (s := S8192x2048) ![0, 0] S1024x2048.size hh) hs) = blkH 0 := blkH_congr (by decide) _ _
@[sl_canon] theorem semCG1  (hh) : ((cc0_scoped3 : DmaSems sig S2).slice (Rect.unit (s := S2) (k0_off1 ) S1.size hh)).squeeze S_ squeezes_S1_S_ = semG (0) := semG_congr (offR1_eq) _
@[sl_canon] theorem slotCG3  (hh hs) : (bufG.slice (Rect.unit (s := S2x2048x512) (k0_off3 ) S1x2048x512.size hh) hs).squeeze S2048x512 squeezes_S1x2048x512_S2048x512 = slotG (0) := slotG_congr (offR3_eq) _ _
@[sl_canon] theorem blkCG_first (hh hs) : (hbmG.slice (Rect.unit (s := S2048x11264) ![0, 0] S2048x512.size hh) hs) = blkG 0 := blkG_congr (by decide) _ _
@[sl_canon] theorem semCV1  (hh) : ((cc0_scoped5 : DmaSems sig S2).slice (Rect.unit (s := S2) (k0_off1 ) S1.size hh)).squeeze S_ squeezes_S1_S_ = semV (0) := semV_congr (offR1_eq) _
@[sl_canon] theorem slotCV3  (hh hs) : (bufV.slice (Rect.unit (s := S2x2048x512) (k0_off3 ) S1x2048x512.size hh) hs).squeeze S2048x512 squeezes_S1x2048x512_S2048x512 = slotV (0) := slotV_congr (offR3_eq) _ _
@[sl_canon] theorem blkCV_first (hh hs) : (hbmV.slice (Rect.unit (s := S2048x11264) ![0, 5632] S2048x512.size hh) hs) = blkV 0 := blkV_congr (by decide) _ _
@[sl_canon] theorem semCA1  (hh) : ((cc0_scoped7 : DmaSems sig S2).slice (Rect.unit (s := S2) (k0_off1 ) S1.size hh)).squeeze S_ squeezes_S1_S_ = semA (0) := semA_congr (offR1_eq) _
@[sl_canon] theorem slotCA4  (hh hs) : (bufA.slice (Rect.unit (s := S2x3x512) (k0_off4 ) S1x3x512.size hh) hs).squeeze S3x512 squeezes_S1x3x512_S3x512 = slotA (0) := slotA_congr (offR4_eq) _ _
@[sl_canon] theorem blkCA_first (hh hs) : (hbmA.slice (Rect.unit (s := S3x11264) ![0, 0] S3x512.size hh) hs) = blkA 0 := blkA_congr (by decide) _ _
@[sl_canon] theorem semCB1  (hh) : ((cc0_scoped9 : DmaSems sig S2).slice (Rect.unit (s := S2) (k0_off1 ) S1.size hh)).squeeze S_ squeezes_S1_S_ = semB (0) := semB_congr (offR1_eq) _
@[sl_canon] theorem slotCB4  (hh hs) : (bufB.slice (Rect.unit (s := S2x3x512) (k0_off4 ) S1x3x512.size hh) hs).squeeze S3x512 squeezes_S1x3x512_S3x512 = slotB (0) := slotB_congr (offR4_eq) _ _
@[sl_canon] theorem blkCB_first (hh hs) : (hbmB.slice (Rect.unit (s := S3x11264) ![0, 5632] S3x512.size hh) hs) = blkB 0 := blkB_congr (by decide) _ _
@[sl_canon] theorem semCD1  (hh) : ((cc0_scoped11 : DmaSems sig S2).slice (Rect.unit (s := S2) (k0_off1 ) S1.size hh)).squeeze S_ squeezes_S1_S_ = semD (0) := semD_congr (offR1_eq) _
@[sl_canon] theorem slotCD5  (hh hs) : (bufD.slice (Rect.unit (s := S2x512x2048) (k0_off5 ) S1x512x2048.size hh) hs).squeeze S512x2048 squeezes_S1x512x2048_S512x2048 = slotD (0) := slotD_congr (offR5_eq) _ _
@[sl_canon] theorem blkCD_first (hh hs) : (hbmD.slice (Rect.unit (s := S5632x2048) ![0, 0] S512x2048.size hh) hs) = blkD 0 := blkD_congr (by decide) _ _

theorem off6_eq : ∀ (k : Trip), k0_off6 (wH k.val) = semOff (Ring.sl 2 (k.val / 11 + 1)) := by decide +kernel
theorem off7_eq : ∀ (k : Trip), k0_off7 (wH k.val) = slotOff (Ring.sl 2 (k.val / 11 + 1)) := by decide +kernel
theorem off8_eq : ∀ (k : Trip) (hl : k.val % 11 = 10) (hk : k.val < 87), k0_off8 (wR k.val) (wF k.val) = offH (Ring.bk 8 (k.val / 11 + 1)) := by decide +kernel
@[sl_canon] theorem semCH6 (k : Trip) (hh) : ((cc0_scoped1 : DmaSems sig S2).slice (Rect.unit (s := S2) (k0_off6 (wH k.val)) S1.size hh)).squeeze S_ squeezes_S1_S_ = semH (Ring.sl 2 (k.val / 11 + 1)) := semH_congr (off6_eq k) _
@[sl_canon] theorem slotCH7 (k : Trip) (hh hs) : (bufH.slice (Rect.unit (s := S2x1024x2048) (k0_off7 (wH k.val)) S1x1024x2048.size hh) hs).squeeze S1024x2048 squeezes_S1x1024x2048_S1024x2048 = slotH (Ring.sl 2 (k.val / 11 + 1)) := slotH_congr (off7_eq k) _ _
@[sl_canon] theorem blkCH8 (k : Trip) (hl : k.val % 11 = 10) (hk : k.val < 87) (hh hs) : (hbmH.slice (Rect.unit (s := S8192x2048) (k0_off8 (wR k.val) (wF k.val)) S1024x2048.size hh) hs) = blkH (Ring.bk 8 (k.val / 11 + 1)) := blkH_congr (off8_eq k hl hk) _ _
theorem off9_eq : ∀ (k : Trip), k0_off9 (wN k.val) = semOff (Ring.sl 2 (k.val + 1)) := by decide +kernel
theorem off10_eq : ∀ (k : Trip), k0_off10 (wN k.val) = slotOff (Ring.sl 2 (k.val + 1)) := by decide +kernel
theorem off11_eq : ∀ (k : Trip), k0_off11 (wF k.val) = offG (Ring.bk 11 (k.val + 1)) := by decide +kernel
@[sl_canon] theorem semCG9 (k : Trip) (hh) : ((cc0_scoped3 : DmaSems sig S2).slice (Rect.unit (s := S2) (k0_off9 (wN k.val)) S1.size hh)).squeeze S_ squeezes_S1_S_ = semG (Ring.sl 2 (k.val + 1)) := semG_congr (off9_eq k) _
@[sl_canon] theorem slotCG10 (k : Trip) (hh hs) : (bufG.slice (Rect.unit (s := S2x2048x512) (k0_off10 (wN k.val)) S1x2048x512.size hh) hs).squeeze S2048x512 squeezes_S1x2048x512_S2048x512 = slotG (Ring.sl 2 (k.val + 1)) := slotG_congr (off10_eq k) _ _
@[sl_canon] theorem blkCG11 (k : Trip) (hh hs) : (hbmG.slice (Rect.unit (s := S2048x11264) (k0_off11 (wF k.val)) S2048x512.size hh) hs) = blkG (Ring.bk 11 (k.val + 1)) := blkG_congr (off11_eq k) _ _
theorem off12_eq : ∀ (k : Trip), k0_off12 (wN k.val) = semOff (Ring.sl 2 (k.val + 1)) := by decide +kernel
theorem off13_eq : ∀ (k : Trip), k0_off13 (wN k.val) = slotOff (Ring.sl 2 (k.val + 1)) := by decide +kernel
theorem off14_eq : ∀ (k : Trip), k0_off14 (wF k.val) = offV (Ring.bk 11 (k.val + 1)) := by decide +kernel
@[sl_canon] theorem semCV12 (k : Trip) (hh) : ((cc0_scoped5 : DmaSems sig S2).slice (Rect.unit (s := S2) (k0_off12 (wN k.val)) S1.size hh)).squeeze S_ squeezes_S1_S_ = semV (Ring.sl 2 (k.val + 1)) := semV_congr (off12_eq k) _
@[sl_canon] theorem slotCV13 (k : Trip) (hh hs) : (bufV.slice (Rect.unit (s := S2x2048x512) (k0_off13 (wN k.val)) S1x2048x512.size hh) hs).squeeze S2048x512 squeezes_S1x2048x512_S2048x512 = slotV (Ring.sl 2 (k.val + 1)) := slotV_congr (off13_eq k) _ _
@[sl_canon] theorem blkCV14 (k : Trip) (hh hs) : (hbmV.slice (Rect.unit (s := S2048x11264) (k0_off14 (wF k.val)) S2048x512.size hh) hs) = blkV (Ring.bk 11 (k.val + 1)) := blkV_congr (off14_eq k) _ _
theorem off15_eq : ∀ (k : Trip), k0_off15 (wN k.val) = semOff (Ring.sl 2 (k.val + 1)) := by decide +kernel
theorem off16_eq : ∀ (k : Trip), k0_off16 (wN k.val) = slotOff (Ring.sl 2 (k.val + 1)) := by decide +kernel
theorem off17_eq : ∀ (k : Trip), k0_off17 (wF k.val) = offA (Ring.bk 11 (k.val + 1)) := by decide +kernel
@[sl_canon] theorem semCA15 (k : Trip) (hh) : ((cc0_scoped7 : DmaSems sig S2).slice (Rect.unit (s := S2) (k0_off15 (wN k.val)) S1.size hh)).squeeze S_ squeezes_S1_S_ = semA (Ring.sl 2 (k.val + 1)) := semA_congr (off15_eq k) _
@[sl_canon] theorem slotCA16 (k : Trip) (hh hs) : (bufA.slice (Rect.unit (s := S2x3x512) (k0_off16 (wN k.val)) S1x3x512.size hh) hs).squeeze S3x512 squeezes_S1x3x512_S3x512 = slotA (Ring.sl 2 (k.val + 1)) := slotA_congr (off16_eq k) _ _
@[sl_canon] theorem blkCA17 (k : Trip) (hh hs) : (hbmA.slice (Rect.unit (s := S3x11264) (k0_off17 (wF k.val)) S3x512.size hh) hs) = blkA (Ring.bk 11 (k.val + 1)) := blkA_congr (off17_eq k) _ _
theorem off18_eq : ∀ (k : Trip), k0_off18 (wN k.val) = semOff (Ring.sl 2 (k.val + 1)) := by decide +kernel
theorem off19_eq : ∀ (k : Trip), k0_off19 (wN k.val) = slotOff (Ring.sl 2 (k.val + 1)) := by decide +kernel
theorem off20_eq : ∀ (k : Trip), k0_off20 (wF k.val) = offB (Ring.bk 11 (k.val + 1)) := by decide +kernel
@[sl_canon] theorem semCB18 (k : Trip) (hh) : ((cc0_scoped9 : DmaSems sig S2).slice (Rect.unit (s := S2) (k0_off18 (wN k.val)) S1.size hh)).squeeze S_ squeezes_S1_S_ = semB (Ring.sl 2 (k.val + 1)) := semB_congr (off18_eq k) _
@[sl_canon] theorem slotCB19 (k : Trip) (hh hs) : (bufB.slice (Rect.unit (s := S2x3x512) (k0_off19 (wN k.val)) S1x3x512.size hh) hs).squeeze S3x512 squeezes_S1x3x512_S3x512 = slotB (Ring.sl 2 (k.val + 1)) := slotB_congr (off19_eq k) _ _
@[sl_canon] theorem blkCB20 (k : Trip) (hh hs) : (hbmB.slice (Rect.unit (s := S3x11264) (k0_off20 (wF k.val)) S3x512.size hh) hs) = blkB (Ring.bk 11 (k.val + 1)) := blkB_congr (off20_eq k) _ _
theorem off21_eq : ∀ (k : Trip), k0_off21 (wN k.val) = semOff (Ring.sl 2 (k.val + 1)) := by decide +kernel
theorem off22_eq : ∀ (k : Trip), k0_off22 (wN k.val) = slotOff (Ring.sl 2 (k.val + 1)) := by decide +kernel
theorem off23_eq : ∀ (k : Trip), k0_off23 (wF k.val) = offD (Ring.bk 11 (k.val + 1)) := by decide +kernel
@[sl_canon] theorem semCD21 (k : Trip) (hh) : ((cc0_scoped11 : DmaSems sig S2).slice (Rect.unit (s := S2) (k0_off21 (wN k.val)) S1.size hh)).squeeze S_ squeezes_S1_S_ = semD (Ring.sl 2 (k.val + 1)) := semD_congr (off21_eq k) _
@[sl_canon] theorem slotCD22 (k : Trip) (hh hs) : (bufD.slice (Rect.unit (s := S2x512x2048) (k0_off22 (wN k.val)) S1x512x2048.size hh) hs).squeeze S512x2048 squeezes_S1x512x2048_S512x2048 = slotD (Ring.sl 2 (k.val + 1)) := slotD_congr (off22_eq k) _ _
@[sl_canon] theorem blkCD23 (k : Trip) (hh hs) : (hbmD.slice (Rect.unit (s := S5632x2048) (k0_off23 (wF k.val)) S512x2048.size hh) hs) = blkD (Ring.bk 11 (k.val + 1)) := blkD_congr (off23_eq k) _ _
theorem off24_eq : ∀ (k : Trip), k0_off24 (wI k.val) = semOff (Ring.sl 2 (k.val / 11)) := by decide +kernel
theorem off25_eq : ∀ (k : Trip), k0_off25 (wI k.val) = slotOff (Ring.sl 2 (k.val / 11)) := by decide +kernel
theorem off26_eq : ∀ (k : Trip), k0_off26 (wR k.val) = offH (Ring.bk 8 (k.val / 11)) := by decide +kernel
@[sl_canon] theorem semCH24 (k : Trip) (hh) : ((cc0_scoped1 : DmaSems sig S2).slice (Rect.unit (s := S2) (k0_off24 (wI k.val)) S1.size hh)).squeeze S_ squeezes_S1_S_ = semH (Ring.sl 2 (k.val / 11)) := semH_congr (off24_eq k) _
@[sl_canon] theorem slotCH25 (k : Trip) (hh hs) : (bufH.slice (Rect.unit (s := S2x1024x2048) (k0_off25 (wI k.val)) S1x1024x2048.size hh) hs).squeeze S1024x2048 squeezes_S1x1024x2048_S1024x2048 = slotH (Ring.sl 2 (k.val / 11)) := slotH_congr (off25_eq k) _ _
@[sl_canon] theorem blkCH26 (k : Trip) (hh hs) : (hbmH.slice (Rect.unit (s := S8192x2048) (k0_off26 (wR k.val)) S1024x2048.size hh) hs) = blkH (Ring.bk 8 (k.val / 11)) := blkH_congr (off26_eq k) _ _
theorem off27_eq : ∀ (k : Trip), k0_off27 (wK k.val) = semOff (Ring.sl 2 (k.val)) := by decide +kernel
theorem off28_eq : ∀ (k : Trip), k0_off28 (wK k.val) = slotOff (Ring.sl 2 (k.val)) := by decide +kernel
theorem off29_eq : ∀ (k : Trip), k0_off29 (wF k.val) = offG (Ring.bk 11 (k.val)) := by decide +kernel
@[sl_canon] theorem semCG27 (k : Trip) (hh) : ((cc0_scoped3 : DmaSems sig S2).slice (Rect.unit (s := S2) (k0_off27 (wK k.val)) S1.size hh)).squeeze S_ squeezes_S1_S_ = semG (Ring.sl 2 (k.val)) := semG_congr (off27_eq k) _
@[sl_canon] theorem slotCG28 (k : Trip) (hh hs) : (bufG.slice (Rect.unit (s := S2x2048x512) (k0_off28 (wK k.val)) S1x2048x512.size hh) hs).squeeze S2048x512 squeezes_S1x2048x512_S2048x512 = slotG (Ring.sl 2 (k.val)) := slotG_congr (off28_eq k) _ _
@[sl_canon] theorem blkCG29 (k : Trip) (hh hs) : (hbmG.slice (Rect.unit (s := S2048x11264) (k0_off29 (wF k.val)) S2048x512.size hh) hs) = blkG (Ring.bk 11 (k.val)) := blkG_congr (off29_eq k) _ _
theorem off30_eq : ∀ (k : Trip), k0_off30 (wK k.val) = semOff (Ring.sl 2 (k.val)) := by decide +kernel
theorem off31_eq : ∀ (k : Trip), k0_off31 (wK k.val) = slotOff (Ring.sl 2 (k.val)) := by decide +kernel
theorem off32_eq : ∀ (k : Trip), k0_off32 (wF k.val) = offV (Ring.bk 11 (k.val)) := by decide +kernel
@[sl_canon] theorem semCV30 (k : Trip) (hh) : ((cc0_scoped5 : DmaSems sig S2).slice (Rect.unit (s := S2) (k0_off30 (wK k.val)) S1.size hh)).squeeze S_ squeezes_S1_S_ = semV (Ring.sl 2 (k.val)) := semV_congr (off30_eq k) _
@[sl_canon] theorem slotCV31 (k : Trip) (hh hs) : (bufV.slice (Rect.unit (s := S2x2048x512) (k0_off31 (wK k.val)) S1x2048x512.size hh) hs).squeeze S2048x512 squeezes_S1x2048x512_S2048x512 = slotV (Ring.sl 2 (k.val)) := slotV_congr (off31_eq k) _ _
@[sl_canon] theorem blkCV32 (k : Trip) (hh hs) : (hbmV.slice (Rect.unit (s := S2048x11264) (k0_off32 (wF k.val)) S2048x512.size hh) hs) = blkV (Ring.bk 11 (k.val)) := blkV_congr (off32_eq k) _ _
theorem off33_eq : ∀ (k : Trip), k0_off33 (wK k.val) = semOff (Ring.sl 2 (k.val)) := by decide +kernel
theorem off34_eq : ∀ (k : Trip), k0_off34 (wK k.val) = slotOff (Ring.sl 2 (k.val)) := by decide +kernel
theorem off35_eq : ∀ (k : Trip), k0_off35 (wF k.val) = offA (Ring.bk 11 (k.val)) := by decide +kernel
@[sl_canon] theorem semCA33 (k : Trip) (hh) : ((cc0_scoped7 : DmaSems sig S2).slice (Rect.unit (s := S2) (k0_off33 (wK k.val)) S1.size hh)).squeeze S_ squeezes_S1_S_ = semA (Ring.sl 2 (k.val)) := semA_congr (off33_eq k) _
@[sl_canon] theorem slotCA34 (k : Trip) (hh hs) : (bufA.slice (Rect.unit (s := S2x3x512) (k0_off34 (wK k.val)) S1x3x512.size hh) hs).squeeze S3x512 squeezes_S1x3x512_S3x512 = slotA (Ring.sl 2 (k.val)) := slotA_congr (off34_eq k) _ _
@[sl_canon] theorem blkCA35 (k : Trip) (hh hs) : (hbmA.slice (Rect.unit (s := S3x11264) (k0_off35 (wF k.val)) S3x512.size hh) hs) = blkA (Ring.bk 11 (k.val)) := blkA_congr (off35_eq k) _ _
theorem off36_eq : ∀ (k : Trip), k0_off36 (wK k.val) = semOff (Ring.sl 2 (k.val)) := by decide +kernel
theorem off37_eq : ∀ (k : Trip), k0_off37 (wK k.val) = slotOff (Ring.sl 2 (k.val)) := by decide +kernel
theorem off38_eq : ∀ (k : Trip), k0_off38 (wF k.val) = offB (Ring.bk 11 (k.val)) := by decide +kernel
@[sl_canon] theorem semCB36 (k : Trip) (hh) : ((cc0_scoped9 : DmaSems sig S2).slice (Rect.unit (s := S2) (k0_off36 (wK k.val)) S1.size hh)).squeeze S_ squeezes_S1_S_ = semB (Ring.sl 2 (k.val)) := semB_congr (off36_eq k) _
@[sl_canon] theorem slotCB37 (k : Trip) (hh hs) : (bufB.slice (Rect.unit (s := S2x3x512) (k0_off37 (wK k.val)) S1x3x512.size hh) hs).squeeze S3x512 squeezes_S1x3x512_S3x512 = slotB (Ring.sl 2 (k.val)) := slotB_congr (off37_eq k) _ _
@[sl_canon] theorem blkCB38 (k : Trip) (hh hs) : (hbmB.slice (Rect.unit (s := S3x11264) (k0_off38 (wF k.val)) S3x512.size hh) hs) = blkB (Ring.bk 11 (k.val)) := blkB_congr (off38_eq k) _ _
theorem off39_eq : ∀ (k : Trip), k0_off39 (wK k.val) = semOff (Ring.sl 2 (k.val)) := by decide +kernel
theorem off40_eq : ∀ (k : Trip), k0_off40 (wK k.val) = slotOff (Ring.sl 2 (k.val)) := by decide +kernel
theorem off41_eq : ∀ (k : Trip), k0_off41 (wF k.val) = offD (Ring.bk 11 (k.val)) := by decide +kernel
@[sl_canon] theorem semCD39 (k : Trip) (hh) : ((cc0_scoped11 : DmaSems sig S2).slice (Rect.unit (s := S2) (k0_off39 (wK k.val)) S1.size hh)).squeeze S_ squeezes_S1_S_ = semD (Ring.sl 2 (k.val)) := semD_congr (off39_eq k) _
@[sl_canon] theorem slotCD40 (k : Trip) (hh hs) : (bufD.slice (Rect.unit (s := S2x512x2048) (k0_off40 (wK k.val)) S1x512x2048.size hh) hs).squeeze S512x2048 squeezes_S1x512x2048_S512x2048 = slotD (Ring.sl 2 (k.val)) := slotD_congr (off40_eq k) _ _
@[sl_canon] theorem blkCD41 (k : Trip) (hh hs) : (hbmD.slice (Rect.unit (s := S5632x2048) (k0_off41 (wF k.val)) S512x2048.size hh) hs) = blkD (Ring.bk 11 (k.val)) := blkD_congr (off41_eq k) _ _

-- the slices the body computes on
theorem off46_eq : ∀ (k : Trip), k0_off46 (wK k.val) = slotOff (Ring.sl 2 (k.val)) := by decide +kernel
@[sl_canon] theorem slotCG46 (k : Trip) (hh hs) : (bufG.slice (Rect.unit (s := S2x2048x512) (k0_off46 (wK k.val)) S1x2048x512.size hh) hs).squeeze S2048x512 squeezes_S1x2048x512_S2048x512 = slotG (Ring.sl 2 (k.val)) := slotG_congr (off46_eq k) _ _
theorem off48_eq : ∀ (k : Trip), k0_off48 (wK k.val) = slotOff (Ring.sl 2 (k.val)) := by decide +kernel
@[sl_canon] theorem slotCV48 (k : Trip) (hh hs) : (bufV.slice (Rect.unit (s := S2x2048x512) (k0_off48 (wK k.val)) S1x2048x512.size hh) hs).squeeze S2048x512 squeezes_S1x2048x512_S2048x512 = slotV (Ring.sl 2 (k.val)) := slotV_congr (off48_eq k) _ _
theorem off51_eq : ∀ (k : Trip), k0_off51 (wK k.val) = slotOff (Ring.sl 2 (k.val)) := by decide +kernel
@[sl_canon] theorem slotCA51 (k : Trip) (hh hs) : (bufA.slice (Rect.unit (s := S2x3x512) (k0_off51 (wK k.val)) S1x3x512.size hh) hs).squeeze S3x512 squeezes_S1x3x512_S3x512 = slotA (Ring.sl 2 (k.val)) := slotA_congr (off51_eq k) _ _
theorem off52_eq : ∀ (k : Trip), k0_off52 (wK k.val) = slotOff (Ring.sl 2 (k.val)) := by decide +kernel
@[sl_canon] theorem slotCB52 (k : Trip) (hh hs) : (bufB.slice (Rect.unit (s := S2x3x512) (k0_off52 (wK k.val)) S1x3x512.size hh) hs).squeeze S3x512 squeezes_S1x3x512_S3x512 = slotB (Ring.sl 2 (k.val)) := slotB_congr (off52_eq k) _ _
theorem off53_eq : ∀ (k : Trip), k0_off53 (wI k.val) = slotOff (Ring.sl 2 (k.val / 11)) := by decide +kernel
@[sl_canon] theorem slotCO53 (k : Trip) (hh hs) : (bufO.slice (Rect.unit (s := S2x1024x2048) (k0_off53 (wI k.val)) S1x1024x2048.size hh) hs).squeeze S1024x2048 squeezes_S1x1024x2048_S1024x2048 = slotO (Ring.sl 2 (k.val / 11)) := slotO_congr (off53_eq k) _ _
theorem off54_eq : ∀ (k : Trip), k0_off54 (wK k.val) = slotOff (Ring.sl 2 (k.val)) := by decide +kernel
@[sl_canon] theorem slotCD54 (k : Trip) (hh hs) : (bufD.slice (Rect.unit (s := S2x512x2048) (k0_off54 (wK k.val)) S1x512x2048.size hh) hs).squeeze S512x2048 squeezes_S1x512x2048_S512x2048 = slotD (Ring.sl 2 (k.val)) := slotD_congr (off54_eq k) _ _

-- the result: issued, waited for in the loop, waited for after it
theorem off55_eq : ∀ (k : Trip), k0_off55 (wI k.val) = semOff (Ring.sl 2 (k.val / 11)) := by decide +kernel
theorem off57_eq : ∀ (k : Trip), k0_off57 (wI k.val) = slotOff (Ring.sl 2 (k.val / 11)) := by decide +kernel
theorem off56_eq : ∀ (k : Trip), k0_off56 (wR k.val) = offO (Ring.bk 8 (k.val / 11)) := by decide +kernel
@[sl_canon] theorem semCO55 (k : Trip) (hh) : ((cc0_scoped13 : DmaSems sig S2).slice (Rect.unit (s := S2) (k0_off55 (wI k.val)) S1.size hh)).squeeze S_ squeezes_S1_S_ = semO (Ring.sl 2 (k.val / 11)) := semO_congr (off55_eq k) _
@[sl_canon] theorem slotCO57 (k : Trip) (hh hs) : (bufO.slice (Rect.unit (s := S2x1024x2048) (k0_off57 (wI k.val)) S1x1024x2048.size hh) hs).squeeze S1024x2048 squeezes_S1x1024x2048_S1024x2048 = slotO (Ring.sl 2 (k.val / 11)) := slotO_congr (off57_eq k) _ _
@[sl_canon] theorem blkCO56 (k : Trip) (hh hs) : (hbmO.slice (Rect.unit (s := S8192x2048) (k0_off56 (wR k.val)) S1024x2048.size hh) hs) = blkO (Ring.bk 8 (k.val / 11)) := blkO_congr (off56_eq k) _ _
theorem off58_eq : ∀ (k : Trip), k0_off58 (wO k.val) = semOff (Ring.sl 2 ((k.val - 1) / 11)) := by decide +kernel
theorem off60_eq : ∀ (k : Trip), k0_off60 (wO k.val) = slotOff (Ring.sl 2 ((k.val - 1) / 11)) := by decide +kernel
theorem off59_eq : ∀ (k : Trip) (hz : k.val % 11 = 0) (h0 : 0 < k.val), k0_off59 (wR k.val) (wF k.val) = offO (Ring.bk 8 ((k.val - 1) / 11)) := by decide +kernel
@[sl_canon] theorem semCO58 (k : Trip) (hh) : ((cc0_scoped13 : DmaSems sig S2).slice (Rect.unit (s := S2) (k0_off58 (wO k.val)) S1.size hh)).squeeze S_ squeezes_S1_S_ = semO (Ring.sl 2 ((k.val - 1) / 11)) := semO_congr (off58_eq k) _
@[sl_canon] theorem slotCO60 (k : Trip) (hh hs) : (bufO.slice (Rect.unit (s := S2x1024x2048) (k0_off60 (wO k.val)) S1x1024x2048.size hh) hs).squeeze S1024x2048 squeezes_S1x1024x2048_S1024x2048 = slotO (Ring.sl 2 ((k.val - 1) / 11)) := slotO_congr (off60_eq k) _ _
@[sl_canon] theorem blkCO59 (k : Trip) (hz : k.val % 11 = 0) (h0 : 0 < k.val) (hh hs) : (hbmO.slice (Rect.unit (s := S8192x2048) (k0_off59 (wR k.val) (wF k.val)) S1024x2048.size hh) hs) = blkO (Ring.bk 8 ((k.val - 1) / 11)) := blkO_congr (off59_eq k hz h0) _ _
theorem off61_eq : k0_off61 (wO 88) = semOff 1 := by decide +kernel
theorem off62_eq : k0_off62 (wF 88) (wR 88) = offO 7 := by decide +kernel
theorem off63_eq : k0_off63 (wO 88) = slotOff 1 := by decide +kernel
@[sl_canon] theorem semCO61  (hh) : ((cc0_scoped13 : DmaSems sig S2).slice (Rect.unit (s := S2) (k0_off61 (wO 88)) S1.size hh)).squeeze S_ squeezes_S1_S_ = semO (1) := semO_congr (off61_eq) _
@[sl_canon] theorem blkCO62  (hh hs) : (hbmO.slice (Rect.unit (s := S8192x2048) (k0_off62 (wF 88) (wR 88)) S1024x2048.size hh) hs) = blkO (7) := blkO_congr (off62_eq) _ _
@[sl_canon] theorem slotCO63  (hh hs) : (bufO.slice (Rect.unit (s := S2x1024x2048) (k0_off63 (wO 88)) S1x1024x2048.size hh) hs).squeeze S1024x2048 squeezes_S1x1024x2048_S1024x2048 = slotO (1) := slotO_congr (off63_eq) _ _

-- the offsets of loads and stores through whole buffers
theorem off42_eq : ∀ (k : Trip), k0_off42 (wK k.val) = carryOff (k.val % 11) 0 0 := by decide +kernel
instance (k : Trip) : ClosedOff (k0_off42 (wK k.val)) := ⟨carryOff (k.val % 11) 0 0, off42_eq k⟩
theorem off43_eq : ∀ (k : Trip), k0_off43 (wI k.val) = slotOff (Ring.sl 2 (k.val / 11)) := by decide +kernel
instance (k : Trip) : ClosedOff (k0_off43 (wI k.val)) := ⟨slotOff (Ring.sl 2 (k.val / 11)), off43_eq k⟩
theorem off44_eq : ∀ (k : Trip), k0_off44 (wI k.val) = slotOff (Ring.sl 2 (k.val / 11)) := by decide +kernel
instance (k : Trip) : ClosedOff (k0_off44 (wI k.val)) := ⟨slotOff (Ring.sl 2 (k.val / 11)), off44_eq k⟩
theorem off45_eq : ∀ (k : Trip), k0_off45 (wK k.val) = carryOff (k.val % 11) 0 0 := by decide +kernel
instance (k : Trip) : ClosedOff (k0_off45 (wK k.val)) := ⟨carryOff (k.val % 11) 0 0, off45_eq k⟩
theorem off47_eq : ∀ (k : Trip), k0_off47 (wK k.val) = carryOff (k.val % 11) 1 0 := by decide +kernel
instance (k : Trip) : ClosedOff (k0_off47 (wK k.val)) := ⟨carryOff (k.val % 11) 1 0, off47_eq k⟩
theorem off49_eq : ∀ (k : Trip), k0_off49 (wK k.val) = carryOff (k.val % 11) 0 256 := by decide +kernel
instance (k : Trip) : ClosedOff (k0_off49 (wK k.val)) := ⟨carryOff (k.val % 11) 0 256, off49_eq k⟩
theorem off50_eq : ∀ (k : Trip), k0_off50 (wK k.val) = carryOff (k.val % 11) 1 256 := by decide +kernel
instance (k : Trip) : ClosedOff (k0_off50 (wK k.val)) := ⟨carryOff (k.val % 11) 1 256, off50_eq k⟩

/-! ## The conditions and the checks -/

theorem cond1_iff : ∀ k : Trip, k0_cond1 k (wR k.val) (wF k.val) = 1#1 ↔ k.val % 11 = 10 ∧ k.val < 87 := by decide +kernel
theorem cond2_iff : ∀ k : Trip, k0_cond2 k (wF k.val) = 1#1 ↔ k.val < 87 := by decide +kernel
theorem cond3_iff : ∀ k : Trip, k0_cond3 k (wF k.val) = 1#1 ↔ k.val < 87 := by decide +kernel
theorem cond4_iff : ∀ k : Trip, k0_cond4 k (wF k.val) = 1#1 ↔ k.val < 87 := by decide +kernel
theorem cond5_iff : ∀ k : Trip, k0_cond5 k (wF k.val) = 1#1 ↔ k.val < 87 := by decide +kernel
theorem cond6_iff : ∀ k : Trip, k0_cond6 k (wF k.val) = 1#1 ↔ k.val < 87 := by decide +kernel
theorem cond7_iff : ∀ k : Trip, k0_cond7 k (wR k.val) (wF k.val) = 1#1 ↔ k.val % 11 = 0 := by decide +kernel
theorem cond8_iff : ∀ k : Trip, k0_cond8 k (wF k.val) = 1#1 ↔ True := by decide +kernel
theorem cond9_iff : ∀ k : Trip, k0_cond9 k (wF k.val) = 1#1 ↔ True := by decide +kernel
theorem cond10_iff : ∀ k : Trip, k0_cond10 k (wF k.val) = 1#1 ↔ True := by decide +kernel
theorem cond11_iff : ∀ k : Trip, k0_cond11 k (wF k.val) = 1#1 ↔ True := by decide +kernel
theorem cond12_iff : ∀ k : Trip, k0_cond12 k (wF k.val) = 1#1 ↔ True := by decide +kernel
theorem cond22_iff : ∀ k : Trip, k0_cond22 k (wR k.val) (wF k.val) = 1#1 ↔ k.val % 11 = 10 := by decide +kernel
theorem cond29_iff : ∀ k : Trip, k0_cond29 k (wR k.val) (wF k.val) = 1#1 ↔ k.val % 11 = 0 ∧ 0 < k.val := by decide +kernel
theorem cond14_iff : ∀ k : Trip, k0_cond14 (wK k.val) = 1#1 ↔ k.val < 11 := by decide +kernel
theorem cond15_iff : ∀ k : Trip, k0_cond15 (wK k.val) = 1#1 ↔ k.val % 11 = 0 := by decide +kernel
theorem chk1_ok : ∀ k : Trip, k0_chk1 k (wH k.val) (wI k.val) (wN k.val) (wK k.val) (wN k.val) (wK k.val) (wN k.val) (wK k.val) (wN k.val) (wK k.val) (wN k.val) (wK k.val) (wI k.val) (wO k.val) (wR k.val) (wF k.val) := by decide +kernel
theorem chk2_ok : ∀ k : Trip, k0_chk2 (wI k.val) (wK k.val) := by decide +kernel
theorem chk3_ok : ∀ k : Trip, k0_chk3 (wI k.val) := by decide +kernel
theorem chk4_ok : ∀ k : Trip, k0_chk4 (wK k.val) := by decide +kernel
theorem chk5_ok : ∀ k : Trip, k0_chk5 (wK k.val) := by decide +kernel
theorem chk6_ok : ∀ k : Trip, k0_chk6 (wK k.val) := by decide +kernel
theorem chk7_ok : ∀ k : Trip, k0_chk7 (wK k.val) := by decide +kernel
theorem chk8_ok : ∀ k : Trip, k0_chk8 (wI k.val) := by decide +kernel
theorem chk9_ok : ∀ k : Trip, k0_chk9 (wK k.val) := by decide +kernel
theorem chk11_ok : k0_chk11 (wF 88) (wR 88) := by decide +kernel
theorem chk10_ok : k0_chk10 (wO 88) := by decide +kernel
theorem words_zero : words 0 = (Scalar.addi 0#32 1#32, 0#32, Scalar.addi 0#32 1#32, 0#32, Scalar.addi 0#32 1#32, 0#32, Scalar.addi 0#32 1#32, 0#32, Scalar.addi 0#32 1#32, 0#32, Scalar.addi 0#32 1#32, 0#32, 0#32, 0#32, 0#32, 0#32) := rfl

end Cert.Proof.Ffn

end
-- ==== Proof.Pieces.lean ====
/-
  The pieces of memory and the semaphores the kernel holds, in separation logic: a slot held, a block held, a
  semaphore at rest, a transfer in flight.
-/
module

public import proofs.«01_k».proof.Proof.Names

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The trip counter in SMEM, the carried rows, the two halves' pre-activations, the activations. -/
abbrev smC : Memref sig .tc .smem S1 .i32 := Memref.whole cc0_scratch0
abbrev bufC : Memref sig .tc .vmem S11x2x8x512 .f32 := Memref.whole cc0_scratch1
abbrev bufP : Memref sig .tc .vmem S2x2x1032x256 .f32 := Memref.whole cc0_scratch2
abbrev bufX : Memref sig .tc .vmem S2x1024x256 .bf16 := Memref.whole cc0_scratch3

section Pieces
variable (c : Dev nD)

abbrev smP (f : Buf (Elt F) (smC.view.loc (c : Thread nD τ))) : sProp 𝕄 := smC.view.loc (c : Thread nD τ) ↦[smC.view.set]{fullShare} f
abbrev carP (f : Buf (Elt F) (bufC.view.loc (c : Thread nD τ))) : sProp 𝕄 := bufC.view.loc (c : Thread nD τ) ↦[bufC.view.set]{fullShare} f
abbrev preP (f : Buf (Elt F) (bufP.view.loc (c : Thread nD τ))) : sProp 𝕄 := bufP.view.loc (c : Thread nD τ) ↦[bufP.view.set]{fullShare} f
abbrev actP (f : Buf (Elt F) (bufX.view.loc (c : Thread nD τ))) : sProp 𝕄 := bufX.view.loc (c : Thread nD τ) ↦[bufX.view.set]{fullShare} f

abbrev cellH (s : Fin 2) : sProp 𝕄 := semVal ((c : Thread nD τ), SemLoc.dma (semH s).sem) 0
abbrev SBufH (s : Fin 2) : Type := Buf (Elt F) ((slotH s).view.loc (c : Thread nD τ))
abbrev heldH (s : Fin 2) (f : Buf (Elt F) ((slotH s).view.loc (c : Thread nD τ))) : sProp 𝕄 :=
  (slotH s).view.loc (c : Thread nD τ) ↦[(slotH s).view.set]{fullShare} f
abbrev homeH (X : Buf (Elt F) (hbmH.view.loc (c : Thread nD τ))) (b : Fin 8) : sProp 𝕄 :=
  (blkH b).view.loc (c : Thread nD τ) ↦[(blkH b).view.set]{fullShare} X
abbrev landH (X : Buf (Elt F) (hbmH.view.loc (c : Thread nD τ))) (s : Fin 2) (b : Fin 8) (f : Buf (Elt F) ((slotH s).view.loc (c : Thread nD τ))) : Buf (Elt F) ((slotH s).view.loc (c : Thread nD τ)) :=
  (slotH s).view.writes (Elt F) f [⟨Rect.whole S1024x2048, ReadAs.same.apply ((blkH b).view.read (Elt F) X)⟩]
/-- What the slot holds once block `b` has arrived. -/
abbrev gotH (X : Buf (Elt F) (hbmH.view.loc (c : Thread nD τ))) (s : Fin 2) (b : Fin 8) : Buf (Elt F) ((slotH s).view.loc (c : Thread nD τ)) :=
  landH c X s b (slotH s).view.junk
abbrev flyH (X : Buf (Elt F) (hbmH.view.loc (c : Thread nD τ))) (s : Fin 2) (b : Fin 8) (f : Buf (Elt F) ((slotH s).view.loc (c : Thread nD τ))) : sProp 𝕄 :=
  Transfers.Flight countersEmb (c : Thread nD τ) (SemLoc.dma (semH s).sem) () 131072 iprop(heldH c s (landH c X s b f) ∗ homeH c X b)

abbrev cellG (s : Fin 2) : sProp 𝕄 := semVal ((c : Thread nD τ), SemLoc.dma (semG s).sem) 0
abbrev SBufG (s : Fin 2) : Type := Buf (Elt F) ((slotG s).view.loc (c : Thread nD τ))
abbrev heldG (s : Fin 2) (f : Buf (Elt F) ((slotG s).view.loc (c : Thread nD τ))) : sProp 𝕄 :=
  (slotG s).view.loc (c : Thread nD τ) ↦[(slotG s).view.set]{fullShare} f
abbrev homeG (X : Buf (Elt F) (hbmG.view.loc (c : Thread nD τ))) (b : Fin 11) : sProp 𝕄 :=
  (blkG b).view.loc (c : Thread nD τ) ↦[(blkG b).view.set]{fullShare} X
abbrev landG (X : Buf (Elt F) (hbmG.view.loc (c : Thread nD τ))) (s : Fin 2) (b : Fin 11) (f : Buf (Elt F) ((slotG s).view.loc (c : Thread nD τ))) : Buf (Elt F) ((slotG s).view.loc (c : Thread nD τ)) :=
  (slotG s).view.writes (Elt F) f [⟨Rect.whole S2048x512, ReadAs.same.apply ((blkG b).view.read (Elt F) X)⟩]
/-- What the slot holds once block `b` has arrived. -/
abbrev gotG (X : Buf (Elt F) (hbmG.view.loc (c : Thread nD τ))) (s : Fin 2) (b : Fin 11) : Buf (Elt F) ((slotG s).view.loc (c : Thread nD τ)) :=
  landG c X s b (slotG s).view.junk
abbrev flyG (X : Buf (Elt F) (hbmG.view.loc (c : Thread nD τ))) (s : Fin 2) (b : Fin 11) (f : Buf (Elt F) ((slotG s).view.loc (c : Thread nD τ))) : sProp 𝕄 :=
  Transfers.Flight countersEmb (c : Thread nD τ) (SemLoc.dma (semG s).sem) () 65536 iprop(heldG c s (landG c X s b f) ∗ homeG c X b)

abbrev cellV (s : Fin 2) : sProp 𝕄 := semVal ((c : Thread nD τ), SemLoc.dma (semV s).sem) 0
abbrev SBufV (s : Fin 2) : Type := Buf (Elt F) ((slotV s).view.loc (c : Thread nD τ))
abbrev heldV (s : Fin 2) (f : Buf (Elt F) ((slotV s).view.loc (c : Thread nD τ))) : sProp 𝕄 :=
  (slotV s).view.loc (c : Thread nD τ) ↦[(slotV s).view.set]{fullShare} f
abbrev homeV (X : Buf (Elt F) (hbmV.view.loc (c : Thread nD τ))) (b : Fin 11) : sProp 𝕄 :=
  (blkV b).view.loc (c : Thread nD τ) ↦[(blkV b).view.set]{fullShare} X
abbrev landV (X : Buf (Elt F) (hbmV.view.loc (c : Thread nD τ))) (s : Fin 2) (b : Fin 11) (f : Buf (Elt F) ((slotV s).view.loc (c : Thread nD τ))) : Buf (Elt F) ((slotV s).view.loc (c : Thread nD τ)) :=
  (slotV s).view.writes (Elt F) f [⟨Rect.whole S2048x512, ReadAs.same.apply ((blkV b).view.read (Elt F) X)⟩]
/-- What the slot holds once block `b` has arrived. -/
abbrev gotV (X : Buf (Elt F) (hbmV.view.loc (c : Thread nD τ))) (s : Fin 2) (b : Fin 11) : Buf (Elt F) ((slotV s).view.loc (c : Thread nD τ)) :=
  landV c X s b (slotV s).view.junk
abbrev flyV (X : Buf (Elt F) (hbmV.view.loc (c : Thread nD τ))) (s : Fin 2) (b : Fin 11) (f : Buf (Elt F) ((slotV s).view.loc (c : Thread nD τ))) : sProp 𝕄 :=
  Transfers.Flight countersEmb (c : Thread nD τ) (SemLoc.dma (semV s).sem) () 65536 iprop(heldV c s (landV c X s b f) ∗ homeV c X b)

abbrev cellA (s : Fin 2) : sProp 𝕄 := semVal ((c : Thread nD τ), SemLoc.dma (semA s).sem) 0
abbrev SBufA (s : Fin 2) : Type := Buf (Elt F) ((slotA s).view.loc (c : Thread nD τ))
abbrev heldA (s : Fin 2) (f : Buf (Elt F) ((slotA s).view.loc (c : Thread nD τ))) : sProp 𝕄 :=
  (slotA s).view.loc (c : Thread nD τ) ↦[(slotA s).view.set]{fullShare} f
abbrev homeA (X : Buf (Elt F) (hbmA.view.loc (c : Thread nD τ))) (b : Fin 11) : sProp 𝕄 :=
  (blkA b).view.loc (c : Thread nD τ) ↦[(blkA b).view.set]{fullShare} X
abbrev landA (X : Buf (Elt F) (hbmA.view.loc (c : Thread nD τ))) (s : Fin 2) (b : Fin 11) (f : Buf (Elt F) ((slotA s).view.loc (c : Thread nD τ))) : Buf (Elt F) ((slotA s).view.loc (c : Thread nD τ)) :=
  (slotA s).view.writes (Elt F) f [⟨Rect.whole S3x512, ReadAs.same.apply ((blkA b).view.read (Elt F) X)⟩]
/-- What the slot holds once block `b` has arrived. -/
abbrev gotA (X : Buf (Elt F) (hbmA.view.loc (c : Thread nD τ))) (s : Fin 2) (b : Fin 11) : Buf (Elt F) ((slotA s).view.loc (c : Thread nD τ)) :=
  landA c X s b (slotA s).view.junk
abbrev flyA (X : Buf (Elt F) (hbmA.view.loc (c : Thread nD τ))) (s : Fin 2) (b : Fin 11) (f : Buf (Elt F) ((slotA s).view.loc (c : Thread nD τ))) : sProp 𝕄 :=
  Transfers.Flight countersEmb (c : Thread nD τ) (SemLoc.dma (semA s).sem) () 192 iprop(heldA c s (landA c X s b f) ∗ homeA c X b)

abbrev cellB (s : Fin 2) : sProp 𝕄 := semVal ((c : Thread nD τ), SemLoc.dma (semB s).sem) 0
abbrev SBufB (s : Fin 2) : Type := Buf (Elt F) ((slotB s).view.loc (c : Thread nD τ))
abbrev heldB (s : Fin 2) (f : Buf (Elt F) ((slotB s).view.loc (c : Thread nD τ))) : sProp 𝕄 :=
  (slotB s).view.loc (c : Thread nD τ) ↦[(slotB s).view.set]{fullShare} f
abbrev homeB (X : Buf (Elt F) (hbmB.view.loc (c : Thread nD τ))) (b : Fin 11) : sProp 𝕄 :=
  (blkB b).view.loc (c : Thread nD τ) ↦[(blkB b).view.set]{fullShare} X
abbrev landB (X : Buf (Elt F) (hbmB.view.loc (c : Thread nD τ))) (s : Fin 2) (b : Fin 11) (f : Buf (Elt F) ((slotB s).view.loc (c : Thread nD τ))) : Buf (Elt F) ((slotB s).view.loc (c : Thread nD τ)) :=
  (slotB s).view.writes (Elt F) f [⟨Rect.whole S3x512, ReadAs.same.apply ((blkB b).view.read (Elt F) X)⟩]
/-- What the slot holds once block `b` has arrived. -/
abbrev gotB (X : Buf (Elt F) (hbmB.view.loc (c : Thread nD τ))) (s : Fin 2) (b : Fin 11) : Buf (Elt F) ((slotB s).view.loc (c : Thread nD τ)) :=
  landB c X s b (slotB s).view.junk
abbrev flyB (X : Buf (Elt F) (hbmB.view.loc (c : Thread nD τ))) (s : Fin 2) (b : Fin 11) (f : Buf (Elt F) ((slotB s).view.loc (c : Thread nD τ))) : sProp 𝕄 :=
  Transfers.Flight countersEmb (c : Thread nD τ) (SemLoc.dma (semB s).sem) () 192 iprop(heldB c s (landB c X s b f) ∗ homeB c X b)

abbrev cellD (s : Fin 2) : sProp 𝕄 := semVal ((c : Thread nD τ), SemLoc.dma (semD s).sem) 0
abbrev SBufD (s : Fin 2) : Type := Buf (Elt F) ((slotD s).view.loc (c : Thread nD τ))
abbrev heldD (s : Fin 2) (f : Buf (Elt F) ((slotD s).view.loc (c : Thread nD τ))) : sProp 𝕄 :=
  (slotD s).view.loc (c : Thread nD τ) ↦[(slotD s).view.set]{fullShare} f
abbrev homeD (X : Buf (Elt F) (hbmD.view.loc (c : Thread nD τ))) (b : Fin 11) : sProp 𝕄 :=
  (blkD b).view.loc (c : Thread nD τ) ↦[(blkD b).view.set]{fullShare} X
abbrev landD (X : Buf (Elt F) (hbmD.view.loc (c : Thread nD τ))) (s : Fin 2) (b : Fin 11) (f : Buf (Elt F) ((slotD s).view.loc (c : Thread nD τ))) : Buf (Elt F) ((slotD s).view.loc (c : Thread nD τ)) :=
  (slotD s).view.writes (Elt F) f [⟨Rect.whole S512x2048, ReadAs.same.apply ((blkD b).view.read (Elt F) X)⟩]
/-- What the slot holds once block `b` has arrived. -/
abbrev gotD (X : Buf (Elt F) (hbmD.view.loc (c : Thread nD τ))) (s : Fin 2) (b : Fin 11) : Buf (Elt F) ((slotD s).view.loc (c : Thread nD τ)) :=
  landD c X s b (slotD s).view.junk
abbrev flyD (X : Buf (Elt F) (hbmD.view.loc (c : Thread nD τ))) (s : Fin 2) (b : Fin 11) (f : Buf (Elt F) ((slotD s).view.loc (c : Thread nD τ))) : sProp 𝕄 :=
  Transfers.Flight countersEmb (c : Thread nD τ) (SemLoc.dma (semD s).sem) () 65536 iprop(heldD c s (landD c X s b f) ∗ homeD c X b)

abbrev cellO (s : Fin 2) : sProp 𝕄 := semVal ((c : Thread nD τ), SemLoc.dma (semO s).sem) 0
abbrev SBufO (s : Fin 2) : Type := Buf (Elt F) ((slotO s).view.loc (c : Thread nD τ))
abbrev heldO (s : Fin 2) (f : Buf (Elt F) ((slotO s).view.loc (c : Thread nD τ))) : sProp 𝕄 :=
  (slotO s).view.loc (c : Thread nD τ) ↦[(slotO s).view.set]{fullShare} f
abbrev homeO (X : Buf (Elt F) (hbmO.view.loc (c : Thread nD τ))) (b : Fin 8) : sProp 𝕄 :=
  (blkO b).view.loc (c : Thread nD τ) ↦[(blkO b).view.set]{fullShare} X
abbrev landO (s : Fin 2) (b : Fin 8) (g : Buf (Elt F) ((slotO s).view.loc (c : Thread nD τ))) (X : Buf (Elt F) (hbmO.view.loc (c : Thread nD τ))) : Buf (Elt F) (hbmO.view.loc (c : Thread nD τ)) :=
  (blkO b).view.writes (Elt F) X [⟨Rect.whole S1024x2048, ReadAs.same.apply ((slotO s).view.read (Elt F) g)⟩]
abbrev flyO (s : Fin 2) (b : Fin 8) (g : Buf (Elt F) ((slotO s).view.loc (c : Thread nD τ))) (X : Buf (Elt F) (hbmO.view.loc (c : Thread nD τ))) : sProp 𝕄 :=
  Transfers.Flight countersEmb (c : Thread nD τ) (SemLoc.dma (semO s).sem) () 262144 iprop(homeO c (landO c s b g X) b ∗ heldO c s g)

end Pieces

end Cert.Proof.Ffn

end
-- ==== Proof.Comp.lean ====
/-
  The arithmetic of one trip: from the slots the pipeline delivered to the carried rows and the accumulated result.
-/
module

public import proofs.«01_k».proof.Proof.Pieces

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev P1 := k0_part1 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P2 := k0_part2 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P3 := k0_part3 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P4 := k0_part4 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P5 := k0_part5 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P6 := k0_part6 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P7 := k0_part7 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P8 := k0_part8 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P9 := k0_part9 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P10 := k0_part10 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P11 := k0_part11 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P12 := k0_part12 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P13 := k0_part13 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P14 := k0_part14 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P15 := k0_part15 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P16 := k0_part16 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P17 := k0_part17 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P18 := k0_part18 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P19 := k0_part19 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P20 := k0_part20 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P21 := k0_part21 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P22 := k0_part22 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13
abbrev P23 := k0_part23 (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13

/-- The trip's arithmetic followed by `kk`. -/
def compG {β : Type} (k : Trip) (v271 v277 v281 : BitVec 32) (v295 v126 : BitVec 1) (v127 v147 : BitVec 32)
    (kk : BitVec 1 → Prog (TpuEff nD τ sig (Elt F) Λ₀ .tc) β) : Prog (TpuEff nD τ sig (Elt F) Λ₀ .tc) β :=
  (do
    let ⟨v307, v316, v327⟩ ← P6 (F := F) (wI k.val) (wK k.val) (wI k.val) (chk4_ok k) (chk3_ok k) v271 v277 (wK k.val) (chk2_ok k) v281 v295
    let v352 ← P7 (F := F) (wK k.val) (wI k.val) (chk5_ok k) (wK k.val) (chk2_ok k) v307 v316 v327
    let v379 ← P8 (F := F) (wK k.val) (wI k.val) (chk4_ok k) (wK k.val) (chk2_ok k) v307 v316 v352
    let ⟨v399, v404, v405⟩ ← P9 (F := F) (wK k.val) (wK k.val) (wI k.val) (chk6_ok k) (chk5_ok k) (wK k.val) (chk2_ok k) v307 v316 v379
    let ⟨v440, v441⟩ ← P10 (F := F) (wK k.val) (chk7_ok k) v399 v404 v405
    let ⟨v463, v466, v471, v472⟩ ← P11 (F := F) (wK k.val) (wK k.val) (chk7_ok k) (chk6_ok k) v440 v441
    P12 (F := F) (wK k.val) (wI k.val) (chk9_ok k) (chk8_ok k) v463 v466 v471 v472
    let v532 ← P13 (F := F) (wK k.val) (wI k.val) (chk9_ok k) (chk8_ok k)
    let v562 ← P14 (F := F) (wK k.val) (wI k.val) (chk9_ok k) (chk8_ok k) v532
    let ⟨v584, v586, v590, cst⟩ ← P15 (F := F) (wK k.val) (wI k.val) (chk9_ok k) (chk8_ok k) v562
    let ⟨v614, v616⟩ ← P16 (F := F) (wK k.val) (wI k.val) (chk9_ok k) (chk8_ok k) v584 v586 v590 cst
    let ⟨v644, v646⟩ ← P17 (F := F) (wK k.val) (wI k.val) (chk9_ok k) (chk8_ok k) v614 v616
    let v674 ← P18 (F := F) (wK k.val) (wI k.val) (chk9_ok k) (chk8_ok k) v644 v646
    P19 (F := F) (wK k.val) (wI k.val) (chk9_ok k) (chk8_ok k) v674
    let v732 ← P20 (F := F) (wK k.val) (wI k.val) (chk9_ok k) (chk8_ok k) v126 v127 v147
    kk v732)

section Run
variable (c : Dev nD)

def compRun (k : Trip)
    (gH : SBufH (F := F) c (Ring.sl 2 (k.val / 11))) (gG : SBufG (F := F) c (Ring.sl 2 k.val)) (gV : SBufV (F := F) c (Ring.sl 2 k.val))
    (gA : SBufA (F := F) c (Ring.sl 2 k.val)) (gB : SBufB (F := F) c (Ring.sl 2 k.val)) (gD : SBufD (F := F) c (Ring.sl 2 k.val))
    (gO : SBufO (F := F) c (Ring.sl 2 (k.val / 11))) (gC : Buf (Elt F) (bufC.view.loc (c : Thread nD τ)))
    (gP : Buf (Elt F) (bufP.view.loc (c : Thread nD τ))) (gX : Buf (Elt F) (bufX.view.loc (c : Thread nD τ))) :
    { w : Buf (Elt F) (bufC.view.loc (c : Thread nD τ)) × SBufO (F := F) c (Ring.sl 2 (k.val / 11)) //
      ∀ (β : Type) (v271 v277 v281 : BitVec 32) (v295 v126 : BitVec 1) (v127 v147 : BitVec 32)
        (kk : BitVec 1 → Prog (TpuEff nD τ sig (Elt F) Λ₀ .tc) β) (Q : β → sProp 𝕄) (Wt : Waits sig Unit),
        iprop(heldH c (Ring.sl 2 (k.val / 11)) gH ∗ heldG c (Ring.sl 2 k.val) gG ∗ heldV c (Ring.sl 2 k.val) gV
          ∗ heldA c (Ring.sl 2 k.val) gA ∗ heldB c (Ring.sl 2 k.val) gB ∗ heldD c (Ring.sl 2 k.val) gD
          ∗ heldO c (Ring.sl 2 (k.val / 11)) gO ∗ carP c gC ∗ preP c gP ∗ actP c gX ∗ owes (c : Thread nD τ) 0 Wt
          ∗ (∀ v, (heldH c (Ring.sl 2 (k.val / 11)) gH ∗ heldG c (Ring.sl 2 k.val) gG ∗ heldV c (Ring.sl 2 k.val) gV
          ∗ heldA c (Ring.sl 2 k.val) gA ∗ heldB c (Ring.sl 2 k.val) gB ∗ heldD c (Ring.sl 2 k.val) gD
          ∗ heldO c (Ring.sl 2 (k.val / 11)) w.2 ∗ carP c w.1 ∗ (∃ g, preP c g) ∗ (∃ g, actP c g) ∗ owes (c : Thread nD τ) 0 Wt)
              -∗ wp frame (wpE (defs₀ (F := F)) 𝒱₀ (c : Thread nD τ) none) Set.univ (kk v) Q))
        ⊢ wp frame (wpE (defs₀ (F := F)) 𝒱₀ (c : Thread nD τ) none) Set.univ (compG k v271 v277 v281 v295 v126 v127 v147 kk) Q } := by
  refine ⟨(?_, ?_), ?run⟩
  case run =>
    intro β v271 v277 v281 v295 v126 v127 v147 kk Q Wt
    iintro ⟨HH, HG, HV, HA, HB, HD, HO, HC, HP, HX, HW, Hk⟩
    unfold compG
    sl_exec
    iapply Hk
    isplitl [HH]; · iexact HH
    isplitl [HG]; · iexact HG
    isplitl [HV]; · iexact HV
    isplitl [HA]; · iexact HA
    isplitl [HB]; · iexact HB
    isplitl [HD]; · iexact HD
    isplitl [HO]; · iexact HO
    isplitl [HC]; · iexact HC
    isplitl [HP]; · iexists _; iexact HP
    isplitl [HX]; · iexists _; iexact HX
    iexact HW

end Run

end Cert.Proof.Ffn

end
-- ==== Proof.State.lean ====
/-
  The state of the pipeline before each trip, and one trip from each state to the next.
-/
module

public import proofs.«01_k».proof.Proof.Comp

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## A ring of two slots over `NB` blocks, one block in flight -/

section RingOf
variable {M : Type _} [Idealize.SL.RA.URA M] {NB : ℕ} [NeZero NB] (cell slot : Fin 2 → sProp M) (fly : Fin 2 → Fin NB → sProp M) (home : Fin NB → sProp M)

/-- Block `k` in flight in slot `k`, the other slot free, every other block home. -/
def ringAt (k : ℕ) : sProp M :=
  iprop(fly (Ring.sl 2 k) (Ring.bk NB k) ∗ cell (Ring.sl 2 (k + 1)) ∗ slot (Ring.sl 2 (k + 1)) ∗ bigSep (Finset.univ.erase (Ring.bk NB k)) home)
/-- Both slots free, every block home. -/
def ringDone (k : ℕ) : sProp M :=
  iprop(cell (Ring.sl 2 k) ∗ slot (Ring.sl 2 k) ∗ cell (Ring.sl 2 (k + 1)) ∗ slot (Ring.sl 2 (k + 1)) ∗ bigSep Finset.univ home)

theorem sl2_add2 (k : ℕ) : Ring.sl 2 (k + 1 + 1) = Ring.sl 2 k := by rw [show k + 1 + 1 = k + 2 from rfl, Ring.sl_add]

theorem home_take (b : Fin NB) : bigSep Finset.univ home = iprop(home b ∗ bigSep (Finset.univ.erase b) home) := by
  conv_lhs => rw [← Finset.insert_erase (Finset.mem_univ b), bigSep_insert (Finset.notMem_erase _ _)]
  rfl
theorem home_take2 {b b' : Fin NB} (h : b' ≠ b) :
    bigSep (Finset.univ.erase b) home = iprop(home b' ∗ bigSep ((Finset.univ.erase b).erase b') home) := by
  conv_lhs => rw [← Finset.insert_erase (Finset.mem_erase.2 ⟨h, Finset.mem_univ b'⟩), bigSep_insert (Finset.notMem_erase _ _)]
  rfl
theorem bk_succ_ne (h : 1 < NB) (k : ℕ) : Ring.bk NB (k + 1) ≠ Ring.bk NB k := by
  intro e
  have e' : (k + 1) % NB = k % NB := congrArg Fin.val e
  rcases Nat.lt_or_ge (k % NB + 1) NB with h1 | h1
  · rw [Nat.add_mod, Nat.mod_eq_of_lt h, Nat.mod_eq_of_lt h1] at e'; omega
  · have h2 : k % NB < NB := Nat.mod_lt _ (by omega)
    have h3 : k % NB + 1 = NB := by omega
    rw [Nat.add_mod, Nat.mod_eq_of_lt h, h3, Nat.mod_self] at e'; omega

/-- The ring opened at the block to issue next. -/
theorem ringAt_open (h : 1 < NB) (k : ℕ) : ringAt cell slot fly home k
    = iprop(fly (Ring.sl 2 k) (Ring.bk NB k) ∗ cell (Ring.sl 2 (k + 1)) ∗ slot (Ring.sl 2 (k + 1)) ∗ home (Ring.bk NB (k + 1))
        ∗ bigSep ((Finset.univ.erase (Ring.bk NB k)).erase (Ring.bk NB (k + 1))) home) := by
  unfold ringAt; rw [home_take2 home (bk_succ_ne h k)]
/-- The ring after that block is issued and the earlier one has arrived. -/
theorem ringAt_next (h : 1 < NB) (k : ℕ) : ringAt cell slot fly home (k + 1)
    = iprop(fly (Ring.sl 2 (k + 1)) (Ring.bk NB (k + 1)) ∗ cell (Ring.sl 2 k) ∗ slot (Ring.sl 2 k) ∗ home (Ring.bk NB k)
        ∗ bigSep ((Finset.univ.erase (Ring.bk NB k)).erase (Ring.bk NB (k + 1))) home) := by
  unfold ringAt; rw [sl2_add2, home_take2 home (bk_succ_ne h k).symm, Finset.erase_right_comm]
/-- The ring at the next block. -/
theorem ringAt_succ (k : ℕ) : ringAt cell slot fly home (k + 1)
    = iprop(fly (Ring.sl 2 (k + 1)) (Ring.bk NB (k + 1)) ∗ cell (Ring.sl 2 k) ∗ slot (Ring.sl 2 k) ∗ bigSep (Finset.univ.erase (Ring.bk NB (k + 1))) home) := by
  unfold ringAt; rw [sl2_add2]
/-- Two trips on, the free slots have swapped roles. -/
theorem ringDone_swap (k : ℕ) : ringDone cell slot home (k + 1)
    = iprop(cell (Ring.sl 2 (k + 1)) ∗ slot (Ring.sl 2 (k + 1)) ∗ cell (Ring.sl 2 k) ∗ slot (Ring.sl 2 k) ∗ bigSep Finset.univ home) := by
  unfold ringDone; rw [sl2_add2]

end RingOf

/-! ## What is claimed of the values, left open -/

/-- What a run keeps about the values: of the carried rows before trip `n` (`Car n`), of the accumulating slot after
    `n` trips (`Acc n`), of a finished block of the result (`Res b`). -/
structure Claim (F : FTy → Type) [FloatOps F] (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ))) where
  Car : ℕ → Buf (Elt F) (bufC.view.loc (c : Thread nD τ)) → Prop
  Acc : ℕ → (s : Fin 2) → SBufO (F := F) c s → Prop
  Res : Fin 8 → (S1024x2048.Idx → Elt F .f32) → Prop
  start : ∀ g, Car 0 g
  step : ∀ (k : Trip) (gC) (fH fG fV fA fB fD) (gO) (gP) (gX), Car k.val gC → (k.val % 11 ≠ 0 → Acc k.val (Ring.sl 2 (k.val / 11)) gO) →
    Car (k.val + 1) (compRun c k (landH c XH (Ring.sl 2 (k.val / 11)) (Ring.bk 8 (k.val / 11)) fH) (landG c XU (Ring.sl 2 k.val) (Ring.bk 11 k.val) fG)
        (landV c XU (Ring.sl 2 k.val) (Ring.bk 11 k.val) fV) (landA c XC (Ring.sl 2 k.val) (Ring.bk 11 k.val) fA) (landB c XC (Ring.sl 2 k.val) (Ring.bk 11 k.val) fB)
        (landD c XD (Ring.sl 2 k.val) (Ring.bk 11 k.val) fD) gO gC gP gX).1.1
    ∧ Acc (k.val + 1) (Ring.sl 2 (k.val / 11)) (compRun c k (landH c XH (Ring.sl 2 (k.val / 11)) (Ring.bk 8 (k.val / 11)) fH) (landG c XU (Ring.sl 2 k.val) (Ring.bk 11 k.val) fG)
        (landV c XU (Ring.sl 2 k.val) (Ring.bk 11 k.val) fV) (landA c XC (Ring.sl 2 k.val) (Ring.bk 11 k.val) fA) (landB c XC (Ring.sl 2 k.val) (Ring.bk 11 k.val) fB)
        (landD c XD (Ring.sl 2 k.val) (Ring.bk 11 k.val) fD) gO gC gP gX).1.2
  done : ∀ (k : Trip) (gO), k.val % 11 = 10 → Acc (k.val + 1) (Ring.sl 2 (k.val / 11)) gO →
    Res (Ring.bk 8 (k.val / 11)) ((slotO (Ring.sl 2 (k.val / 11))).view.read (Elt F) gO)

section State
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD)

/-- Block `b` of the result home; a block among the first `i` holds what `Res` says. -/
def oblk (i : ℕ) (b : Fin 8) : sProp 𝕄 :=
  iprop(∃ X, ⌜b.val < i → P.Res b ((blkO b).view.read (Elt F) X)⌝ ∗ homeO c X b)

abbrev ringH (k : ℕ) : sProp 𝕄 := ringAt (cellH (F := F) c) (fun s => iprop(∃ f, heldH c s f)) (fun s b => iprop(∃ f, flyH c XH s b f)) (homeH c XH) k
abbrev restH (k : ℕ) : sProp 𝕄 := ringDone (cellH (F := F) c) (fun s => iprop(∃ f, heldH c s f)) (homeH c XH) k

abbrev ringG (k : ℕ) : sProp 𝕄 := ringAt (cellG (F := F) c) (fun s => iprop(∃ f, heldG c s f)) (fun s b => iprop(∃ f, flyG c XU s b f)) (homeG c XU) k
abbrev restG (k : ℕ) : sProp 𝕄 := ringDone (cellG (F := F) c) (fun s => iprop(∃ f, heldG c s f)) (homeG c XU) k
/-- Ring G before trip `k`. -/
def stG (k : ℕ) : sProp 𝕄 := if k < 88 then ringG c XU k else restG c XU k

abbrev ringV (k : ℕ) : sProp 𝕄 := ringAt (cellV (F := F) c) (fun s => iprop(∃ f, heldV c s f)) (fun s b => iprop(∃ f, flyV c XU s b f)) (homeV c XU) k
abbrev restV (k : ℕ) : sProp 𝕄 := ringDone (cellV (F := F) c) (fun s => iprop(∃ f, heldV c s f)) (homeV c XU) k
/-- Ring V before trip `k`. -/
def stV (k : ℕ) : sProp 𝕄 := if k < 88 then ringV c XU k else restV c XU k

abbrev ringA (k : ℕ) : sProp 𝕄 := ringAt (cellA (F := F) c) (fun s => iprop(∃ f, heldA c s f)) (fun s b => iprop(∃ f, flyA c XC s b f)) (homeA c XC) k
abbrev restA (k : ℕ) : sProp 𝕄 := ringDone (cellA (F := F) c) (fun s => iprop(∃ f, heldA c s f)) (homeA c XC) k
/-- Ring A before trip `k`. -/
def stA (k : ℕ) : sProp 𝕄 := if k < 88 then ringA c XC k else restA c XC k

abbrev ringB (k : ℕ) : sProp 𝕄 := ringAt (cellB (F := F) c) (fun s => iprop(∃ f, heldB c s f)) (fun s b => iprop(∃ f, flyB c XC s b f)) (homeB c XC) k
abbrev restB (k : ℕ) : sProp 𝕄 := ringDone (cellB (F := F) c) (fun s => iprop(∃ f, heldB c s f)) (homeB c XC) k
/-- Ring B before trip `k`. -/
def stB (k : ℕ) : sProp 𝕄 := if k < 88 then ringB c XC k else restB c XC k

abbrev ringD (k : ℕ) : sProp 𝕄 := ringAt (cellD (F := F) c) (fun s => iprop(∃ f, heldD c s f)) (fun s b => iprop(∃ f, flyD c XD s b f)) (homeD c XD) k
abbrev restD (k : ℕ) : sProp 𝕄 := ringDone (cellD (F := F) c) (fun s => iprop(∃ f, heldD c s f)) (homeD c XD) k
/-- Ring D before trip `k`. -/
def stD (k : ℕ) : sProp 𝕄 := if k < 88 then ringD c XD k else restD c XD k

/-- A row block of `h` arrived in its slot, the other slot free, every block home. -/
def hereH (i : ℕ) : sProp 𝕄 :=
  iprop(cellH c (Ring.sl 2 i) ∗ (∃ f, heldH c (Ring.sl 2 i) (landH c XH (Ring.sl 2 i) (Ring.bk 8 i) f)) ∗ cellH c (Ring.sl 2 (i + 1)) ∗ (∃ f, heldH c (Ring.sl 2 (i + 1)) f)
    ∗ bigSep Finset.univ (homeH c XH))
/-- The ring of `h` before trip `k`: at the start of a row block its transfer is in flight. -/
def stH (k : ℕ) : sProp 𝕄 :=
  if k % 11 = 0 then (if k < 88 then ringH c XH (k / 11) else restH c XH (k / 11)) else hereH c XH (k / 11)

/-- The result's ring with nothing in flight in row block `i` before trip `k`: the accumulating slot `i`, the other slot `s'` free. -/
def accO (i : ℕ) (s' : Fin 2) (k : ℕ) : sProp 𝕄 :=
  iprop(cellO c (Ring.sl 2 i) ∗ (∃ g, ⌜k % 11 ≠ 0 → P.Acc k (Ring.sl 2 i) g⌝ ∗ heldO c (Ring.sl 2 i) g)
    ∗ cellO c s' ∗ (∃ f, heldO c s' f) ∗ bigSep Finset.univ (oblk c XH XU XC XD P i))
/-- The result's ring with block `p` on its way out of slot `p`, the slot of row block `i` free. -/
def outO (p i : ℕ) : sProp 𝕄 :=
  iprop((∃ g X, ⌜P.Res (Ring.bk 8 p) ((slotO (Ring.sl 2 p)).view.read (Elt F) g)⌝ ∗ flyO c (Ring.sl 2 p) (Ring.bk 8 p) g X)
    ∗ cellO c (Ring.sl 2 i) ∗ (∃ f, heldO c (Ring.sl 2 i) f)
    ∗ bigSep (Finset.univ.erase (Ring.bk 8 p)) (oblk c XH XU XC XD P i))
/-- The result's ring before trip `k`. -/
def stO (k : ℕ) : sProp 𝕄 :=
  if k % 11 = 0 ∧ 0 < k then outO c XH XU XC XD P ((k - 1) / 11) ((k - 1) / 11 + 1) else accO c XH XU XC XD P (k / 11) (Ring.sl 2 (k / 11 + 1)) k

/-- The word the trip counter holds. -/
abbrev ctr (g : Buf (Elt F) (smC.view.loc (c : Thread nD τ))) : BitVec 32 :=
  smC.view.readAt (Elt F) (Rect.unit (s := S1) ![0] S1.size inb_S1_S1_0).toLoadRect g (Shape.Idx.first (by decide))

/-- Everything the trip does not find in a ring. -/
def common (k : ℕ) : sProp 𝕄 :=
  iprop((∃ g, ⌜ctr c g = wK k⌝ ∗ smP c g) ∗ (∃ g, ⌜P.Car k g⌝ ∗ carP c g) ∗ (∃ g, preP c g) ∗ (∃ g, actP c g) ∗ ∃ W, owes (c : Thread nD τ) 0 W)

/-- The state of the pipeline before trip `k`. -/
def stAt (k : ℕ) : sProp 𝕄 :=
  iprop(common c XH XU XC XD P k ∗ stH c XH k ∗ stG c XU k ∗ stV c XU k ∗ stA c XC k ∗ stB c XC k ∗ stD c XD k ∗ stO c XH XU XC XD P k)

end State

end Cert.Proof.Ffn

end
-- ==== Proof.TripBase.lean ====
/-
  The trip as printed, and the small facts its states close by.
-/
module

public import proofs.«01_k».proof.Proof.State
public import Idealize.ShloMosaic.Lib.VecWindow

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

/-- Trip `k`, at the words carried into it. -/
abbrev tripG (k : Trip) : Prog (TpuEff nD τ sig (Elt F) Λ₀ .tc) Words :=
  k0_t1_body (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13 v40 v47 v54 k (words k.val)

/-- The sixteen words of the next trip, component by component. -/
theorem words_eq {a1 a2 a3 a4 a5 a6 a7 a8 : Trip → BitVec 32} (h1 : ∀ j : Trip, a1 j = wH (j.val + 1)) (h2 : ∀ j : Trip, a2 j = wI (j.val + 1))
    (h3 : ∀ j : Trip, a3 j = wN (j.val + 1)) (h4 : ∀ j : Trip, a4 j = wK (j.val + 1)) (h5 : ∀ j : Trip, a5 j = wI (j.val + 1))
    (h6 : ∀ j : Trip, a6 j = wO (j.val + 1)) (h7 : ∀ j : Trip, a7 j = wR (j.val + 1)) (h8 : ∀ j : Trip, a8 j = wF (j.val + 1)) (k : Trip) :
    (a1 k, a2 k, a3 k, a4 k, a3 k, a4 k, a3 k, a4 k, a3 k, a4 k, a3 k, a4 k, a5 k, a6 k, a7 k, a8 k) = words (k.val + 1) := by
  unfold words; rw [h1, h2, h3, h4, h5, h6, h7, h8]

/-- The counter after a trip holds the number of the next one. -/
theorem ctr_next (n : ℕ) (g : Buf (Elt F) (smC.view.loc (c : Thread nD τ))) :
    ctr c (smC.view.writes (Elt F) g [⟨Rect.unit (s := S1) ![0] S1.size inb_S1_S1_0, fun _ => Scalar.addi (BitVec.ofNat 32 n) 1#32⟩]) = wK (n + 1) := by
  refine (congrFun (View.readAt_writes_full smC.view g (off := ![0]) inb_S1_S1_0 inb_S1_S1_0 _ _) _).trans ?_
  exact (BitVec.ofNat_add n 1).symm

/-- The counter after the first store. -/
theorem ctr_zero (g : Buf (Elt F) (smC.view.loc (c : Thread nD τ))) :
    ctr c (smC.view.writes (Elt F) g [⟨Rect.unit (s := S1) ![0] S1.size inb_S1_S1_0, fun _ => 0#32⟩]) = wK 0 :=
  (congrFun (View.readAt_writes_full smC.view g (off := ![0]) inb_S1_S1_0 inb_S1_S1_0 _ _) _).trans rfl

/-- The block of the result the slot was copied to reads as the slot. -/
theorem read_landO (s : Fin 2) (b : Fin 8) (g : SBufO (F := F) c s) (X : Buf (Elt F) (hbmO.view.loc (c : Thread nD τ))) :
    (blkO b).view.read (Elt F) (landO c s b g X) = (slotO s).view.read (Elt F) g :=
  View.read_writes_whole _ _ _

/-- One block of the result, spelt out. -/
theorem oblk_eq (i : ℕ) (b : Fin 8) : oblk c XH XU XC XD P i b = iprop(∃ X, ⌜b.val < i → P.Res b ((blkO b).view.read (Elt F) X)⌝ ∗ homeO c X b) := rfl

/-- The blocks beside block `i` are in the same state whether block `i` counts as finished or not. -/
theorem oblk_rest (i : ℕ) (hi : i < 8) : bigSep (Finset.univ.erase (Ring.bk 8 i)) (oblk c XH XU XC XD P (i + 1))
    = bigSep (Finset.univ.erase (Ring.bk 8 i)) (oblk c XH XU XC XD P i) := by
  refine bigSep_congr fun b hb => ?_
  have hne : b.val ≠ i := fun e => Finset.ne_of_mem_erase hb (Fin.ext (by rw [Ring.bk_val hi]; exact e))
  unfold oblk
  rw [show (b.val < i + 1) = (b.val < i) from propext (by omega)]

end Trips

end Cert.Proof.Ffn

end
-- ==== Proof.TripMid.lean ====
/-
  A trip inside a row block: neither its first column block nor its last.
-/
module

public import proofs.«01_k».proof.Proof.TripBase

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

set_option maxHeartbeats 4000000 in
/-- A trip inside a row block: neither its first column block nor its last. -/
theorem trip_mid (k : Trip) (h0 : k.val % 11 ≠ 0) (hl : k.val % 11 ≠ 10) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  have hk87 : k.val < 87 := by omega
  have n1 : ¬ k0_cond1 k (wR k.val) (wF k.val) = 1#1 := fun h => by have := (cond1_iff k).1 h; omega
  have n2 := (cond2_iff k).2 hk87
  have n3 := (cond3_iff k).2 hk87
  have n4 := (cond4_iff k).2 hk87
  have n5 := (cond5_iff k).2 hk87
  have n6 := (cond6_iff k).2 hk87
  have n7 : ¬ k0_cond7 k (wR k.val) (wF k.val) = 1#1 := fun h => by have := (cond7_iff k).1 h; omega
  have n8 := (cond8_iff k).2 trivial
  have n9 := (cond9_iff k).2 trivial
  have n10 := (cond10_iff k).2 trivial
  have n11 := (cond11_iff k).2 trivial
  have n12 := (cond12_iff k).2 trivial
  have n22 : ¬ k0_cond22 k (wR k.val) (wF k.val) = 1#1 := fun h => by have := (cond22_iff k).1 h; omega
  have n29 : ¬ k0_cond29 k (wR k.val) (wF k.val) = 1#1 := fun h => by have := (cond29_iff k).1 h; omega
  have a1 := chk1_ok k
  have a3 := chk3_ok k
  have a4 := chk4_ok k
  have a5 := chk5_ok k
  have a6 := chk6_ok k
  have a7 := chk7_ok k
  have a8 := chk8_ok k
  have a9 := chk9_ok k
  unfold stAt stH stG stV stA stB stD stO common
  simp only [if_pos hk, if_pos (show k.val + 1 < 88 by omega), if_neg (show ¬ k.val % 11 = 0 by omega), if_neg (show ¬ (k.val + 1) % 11 = 0 by omega), if_neg (show ¬ (k.val % 11 = 0 ∧ 0 < k.val) by omega), if_neg (show ¬ ((k.val + 1) % 11 = 0 ∧ 0 < k.val + 1) by omega), Nat.add_sub_cancel, show (k.val + 1) / 11 = k.val / 11 by omega]
  simp only [ringG, ringV, ringA, ringB, ringD, ringAt_next (NB := 11) _ _ _ _ (show 1 < 11 by decide)]
  simp only [ringAt_open (NB := 11) _ _ _ _ (show 1 < 11 by decide)]
  simp only [hereH]
  simp only [accO]
  iintro ⟨⟨⟨%gS, %hS, HS⟩, ⟨%gC, %hC, HC⟩, ⟨%gP, HP⟩, ⟨%gX, HX⟩, ⟨%W, HW⟩⟩,
    ⟨HcH, ⟨%f0, HsH⟩, HcH', ⟨%fH, HsH'⟩, HrH⟩,
    ⟨⟨%f1, HFG⟩, HcG, ⟨%f2, HsG⟩, HhG, HrG⟩, ⟨⟨%f3, HFV⟩, HcV, ⟨%f4, HsV⟩, HhV, HrV⟩, ⟨⟨%f5, HFA⟩, HcA, ⟨%f6, HsA⟩, HhA, HrA⟩,
    ⟨⟨%f7, HFB⟩, HcB, ⟨%f8, HsB⟩, HhB, HrB⟩, ⟨⟨%f9, HFD⟩, HcD, ⟨%f10, HsD⟩, HhD, HrD⟩,
    ⟨HcO, ⟨%gO, %hO, HsO⟩, HcO', ⟨%fO, HsO'⟩, HrO⟩⟩
  dsimp only [tripG]
  sl_unfold [k0_t1_body]
  unfold words
  sl_exec
  have e : trip_mid.sl.r c gS = wK k.val := hS
  rw [e]
  have a2 := chk2_ok k
  set_option sl_exec.stopBefore "k0_part6" in sl_exec
  iapply ((compRun c k _ _ _ _ _ _ _ _ _ _).2 _ _ _ _ _ _ _ _ _ _ _)
  isplitl [HsH]; · iexact HsH
  isplitl [HFG_dst]; · iexact HFG_dst
  isplitl [HFV_dst]; · iexact HFV_dst
  isplitl [HFA_dst]; · iexact HFA_dst
  isplitl [HFB_dst]; · iexact HFB_dst
  isplitl [HFD_dst]; · iexact HFD_dst
  isplitl [HsO]; · iexact HsO
  isplitl [HC]; · iexact HC
  isplitl [HP]; · iexact HP
  isplitl [HX]; · iexact HX
  isplitl [HW]; · iexact HW
  have hst := P.step k gC f0 f1 f3 f5 f7 f9 gO gP gX hC hO
  iintro %v732 ⟨HsH, HFG_dst, HFV_dst, HFA_dst, HFB_dst, HFD_dst, HsO, HC, ⟨%gP', HP⟩, ⟨%gX', HX⟩, HW⟩
  sl_exec
  sl_step
  isplitr
  · ipureintro
    exact words_eq (by decide +kernel : ∀ j : Trip, trip_mid.sl.v168_r0 j = wH (j.val + 1)) (by decide +kernel : ∀ j : Trip, trip_mid.sl.v815_r0 j = wI (j.val + 1))
      (by decide +kernel : ∀ j : Trip, trip_mid.sl.v178_r0 j = wN (j.val + 1)) (by decide +kernel : ∀ j : Trip, trip_mid.sl.v819_r0 j = wK (j.val + 1))
      (by decide +kernel : ∀ j : Trip, trip_mid.sl.v767_r0 j = wI (j.val + 1)) (by decide +kernel : ∀ j : Trip, trip_mid.sl.v811_r0 j = wO (j.val + 1))
      (by decide +kernel : ∀ j : Trip, trip_mid.sl.v843_r0 j = wR (j.val + 1)) (by decide +kernel : ∀ j : Trip, trip_mid.sl.v839_r0 j = wF (j.val + 1)) k
  isplitl [HS HC HP HX HW]
  · isplitl [HS]
    · iexists _; isplitr
      on_goal 2 => iexact HS
      ipureintro; exact ctr_next c k.val gS
    isplitl [HC]
    · iexists _; isplitr
      on_goal 2 => iexact HC
      ipureintro; exact hst.1
    isplitl [HP]; · iexists _; iexact HP
    isplitl [HX]; · iexists _; iexact HX
    iexists _; iexact HW
  isplitl [HcH HsH HcH' HsH' HrH]
  · isplitl [HcH]; · iexact HcH
    isplitl [HsH]; · iexists f0; iexact HsH
    isplitl [HcH']; · iexact HcH'
    isplitl [HsH']; · iexists fH; iexact HsH'
    iexact HrH
  isplitl [HcG HFG HFG_dst HFG_src HrG]
  · isplitl [HcG]; · iexists f2; iexact HcG
    isplitl [HFG]; · iexact HFG
    isplitl [HFG_dst]; · iexists _; iexact HFG_dst
    isplitl [HFG_src]; · iexact HFG_src
    iexact HrG
  isplitl [HcV HFV HFV_dst HFV_src HrV]
  · isplitl [HcV]; · iexists f4; iexact HcV
    isplitl [HFV]; · iexact HFV
    isplitl [HFV_dst]; · iexists _; iexact HFV_dst
    isplitl [HFV_src]; · iexact HFV_src
    iexact HrV
  isplitl [HcA HFA HFA_dst HFA_src HrA]
  · isplitl [HcA]; · iexists f6; iexact HcA
    isplitl [HFA]; · iexact HFA
    isplitl [HFA_dst]; · iexists _; iexact HFA_dst
    isplitl [HFA_src]; · iexact HFA_src
    iexact HrA
  isplitl [HcB HFB HFB_dst HFB_src HrB]
  · isplitl [HcB]; · iexists f8; iexact HcB
    isplitl [HFB]; · iexact HFB
    isplitl [HFB_dst]; · iexists _; iexact HFB_dst
    isplitl [HFB_src]; · iexact HFB_src
    iexact HrB
  isplitl [HcD HFD HFD_dst HFD_src HrD]
  · isplitl [HcD]; · iexists f10; iexact HcD
    isplitl [HFD]; · iexact HFD
    isplitl [HFD_dst]; · iexists _; iexact HFD_dst
    isplitl [HFD_src]; · iexact HFD_src
    iexact HrD
  isplitl [HcO]; · iexact HcO
  isplitl [HsO]
  · iexists _; isplitr
    on_goal 2 => iexact HsO
    ipureintro; exact fun _ => hst.2
  isplitl [HcO']; · iexact HcO'
  isplitl [HsO']; · iexists _; iexact HsO'
  iexact HrO

end Trips

end Cert.Proof.Ffn

end
-- ==== Proof.TripFirst.lean ====
/-
  The first trip of all.
-/
module

public import proofs.«01_k».proof.Proof.TripBase

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

set_option maxHeartbeats 4000000 in
/-- The first trip of all. -/
theorem trip_first (k : Trip) (hz : k.val % 11 = 0) (h0 : k.val = 0) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  have hk87 : k.val < 87 := by omega
  have n1 : ¬ k0_cond1 k (wR k.val) (wF k.val) = 1#1 := fun h => by have := (cond1_iff k).1 h; omega
  have n2 := (cond2_iff k).2 hk87
  have n3 := (cond3_iff k).2 hk87
  have n4 := (cond4_iff k).2 hk87
  have n5 := (cond5_iff k).2 hk87
  have n6 := (cond6_iff k).2 hk87
  have n7 := (cond7_iff k).2 hz
  have n8 := (cond8_iff k).2 trivial
  have n9 := (cond9_iff k).2 trivial
  have n10 := (cond10_iff k).2 trivial
  have n11 := (cond11_iff k).2 trivial
  have n12 := (cond12_iff k).2 trivial
  have n22 : ¬ k0_cond22 k (wR k.val) (wF k.val) = 1#1 := fun h => by have := (cond22_iff k).1 h; omega
  have n29 : ¬ k0_cond29 k (wR k.val) (wF k.val) = 1#1 := fun h => by have := (cond29_iff k).1 h; omega
  have a1 := chk1_ok k
  have a3 := chk3_ok k
  have a4 := chk4_ok k
  have a5 := chk5_ok k
  have a6 := chk6_ok k
  have a7 := chk7_ok k
  have a8 := chk8_ok k
  have a9 := chk9_ok k
  unfold stAt stH stG stV stA stB stD stO common
  simp only [if_pos hk, if_pos (show k.val + 1 < 88 by omega), if_pos hz, if_neg (show ¬ (k.val + 1) % 11 = 0 by omega), if_neg (show ¬ (k.val % 11 = 0 ∧ 0 < k.val) by omega), if_neg (show ¬ ((k.val + 1) % 11 = 0 ∧ 0 < k.val + 1) by omega), Nat.add_sub_cancel, show (k.val + 1) / 11 = k.val / 11 by omega]
  simp only [ringG, ringV, ringA, ringB, ringD, ringAt_next (NB := 11) _ _ _ _ (show 1 < 11 by decide)]
  simp only [ringAt_open (NB := 11) _ _ _ _ (show 1 < 11 by decide)]
  simp only [ringH, hereH, home_take (homeH c XH) (Ring.bk 8 (k.val / 11)), ringAt]
  simp only [accO]
  iintro ⟨⟨⟨%gS, %hS, HS⟩, ⟨%gC, %hC, HC⟩, ⟨%gP, HP⟩, ⟨%gX, HX⟩, ⟨%W, HW⟩⟩,
    ⟨⟨%f0, HFH⟩, HcH, ⟨%fH, HsH⟩, HrH⟩,
    ⟨⟨%f1, HFG⟩, HcG, ⟨%f2, HsG⟩, HhG, HrG⟩, ⟨⟨%f3, HFV⟩, HcV, ⟨%f4, HsV⟩, HhV, HrV⟩, ⟨⟨%f5, HFA⟩, HcA, ⟨%f6, HsA⟩, HhA, HrA⟩,
    ⟨⟨%f7, HFB⟩, HcB, ⟨%f8, HsB⟩, HhB, HrB⟩, ⟨⟨%f9, HFD⟩, HcD, ⟨%f10, HsD⟩, HhD, HrD⟩,
    ⟨HcO, ⟨%gO, %hO, HsO⟩, HcO', ⟨%fO, HsO'⟩, HrO⟩⟩
  dsimp only [tripG]
  sl_unfold [k0_t1_body]
  unfold words
  sl_exec
  have e : trip_first.sl.r c gS = wK k.val := hS
  rw [e]
  have a2 := chk2_ok k
  set_option sl_exec.stopBefore "k0_part6" in sl_exec
  iapply ((compRun c k _ _ _ _ _ _ _ _ _ _).2 _ _ _ _ _ _ _ _ _ _ _)
  isplitl [HFH_dst]; · iexact HFH_dst
  isplitl [HFG_dst]; · iexact HFG_dst
  isplitl [HFV_dst]; · iexact HFV_dst
  isplitl [HFA_dst]; · iexact HFA_dst
  isplitl [HFB_dst]; · iexact HFB_dst
  isplitl [HFD_dst]; · iexact HFD_dst
  isplitl [HsO]; · iexact HsO
  isplitl [HC]; · iexact HC
  isplitl [HP]; · iexact HP
  isplitl [HX]; · iexact HX
  isplitl [HW]; · iexact HW
  have hst := P.step k gC f0 f1 f3 f5 f7 f9 gO gP gX hC (fun h => absurd hz h)
  iintro %v732 ⟨HFH_dst, HFG_dst, HFV_dst, HFA_dst, HFB_dst, HFD_dst, HsO, HC, ⟨%gP', HP⟩, ⟨%gX', HX⟩, HW⟩
  sl_exec
  sl_step
  isplitr
  · ipureintro
    exact words_eq (by decide +kernel : ∀ j : Trip, trip_first.sl.v168_r0 j = wH (j.val + 1)) (by decide +kernel : ∀ j : Trip, trip_first.sl.v815_r0 j = wI (j.val + 1))
      (by decide +kernel : ∀ j : Trip, trip_first.sl.v178_r0 j = wN (j.val + 1)) (by decide +kernel : ∀ j : Trip, trip_first.sl.v819_r0 j = wK (j.val + 1))
      (by decide +kernel : ∀ j : Trip, trip_first.sl.v767_r0 j = wI (j.val + 1)) (by decide +kernel : ∀ j : Trip, trip_first.sl.v811_r0 j = wO (j.val + 1))
      (by decide +kernel : ∀ j : Trip, trip_first.sl.v843_r0 j = wR (j.val + 1)) (by decide +kernel : ∀ j : Trip, trip_first.sl.v839_r0 j = wF (j.val + 1)) k
  isplitl [HS HC HP HX HW]
  · isplitl [HS]
    · iexists _; isplitr
      on_goal 2 => iexact HS
      ipureintro; exact ctr_next c k.val gS
    isplitl [HC]
    · iexists _; isplitr
      on_goal 2 => iexact HC
      ipureintro; exact hst.1
    isplitl [HP]; · iexists _; iexact HP
    isplitl [HX]; · iexists _; iexact HX
    iexists _; iexact HW
  isplitl [HFH HFH_dst HFH_src HcH HsH HrH]
  · isplitl [HFH]; · iexact HFH
    isplitl [HFH_dst]; · iexists f0; iexact HFH_dst
    isplitl [HcH]; · iexact HcH
    isplitl [HsH]; · iexists fH; iexact HsH
    isplitl [HFH_src]; · iexact HFH_src
    iexact HrH
  isplitl [HcG HFG HFG_dst HFG_src HrG]
  · isplitl [HcG]; · iexists f2; iexact HcG
    isplitl [HFG]; · iexact HFG
    isplitl [HFG_dst]; · iexists _; iexact HFG_dst
    isplitl [HFG_src]; · iexact HFG_src
    iexact HrG
  isplitl [HcV HFV HFV_dst HFV_src HrV]
  · isplitl [HcV]; · iexists f4; iexact HcV
    isplitl [HFV]; · iexact HFV
    isplitl [HFV_dst]; · iexists _; iexact HFV_dst
    isplitl [HFV_src]; · iexact HFV_src
    iexact HrV
  isplitl [HcA HFA HFA_dst HFA_src HrA]
  · isplitl [HcA]; · iexists f6; iexact HcA
    isplitl [HFA]; · iexact HFA
    isplitl [HFA_dst]; · iexists _; iexact HFA_dst
    isplitl [HFA_src]; · iexact HFA_src
    iexact HrA
  isplitl [HcB HFB HFB_dst HFB_src HrB]
  · isplitl [HcB]; · iexists f8; iexact HcB
    isplitl [HFB]; · iexact HFB
    isplitl [HFB_dst]; · iexists _; iexact HFB_dst
    isplitl [HFB_src]; · iexact HFB_src
    iexact HrB
  isplitl [HcD HFD HFD_dst HFD_src HrD]
  · isplitl [HcD]; · iexists f10; iexact HcD
    isplitl [HFD]; · iexact HFD
    isplitl [HFD_dst]; · iexists _; iexact HFD_dst
    isplitl [HFD_src]; · iexact HFD_src
    iexact HrD
  isplitl [HcO]; · iexact HcO
  isplitl [HsO]
  · iexists _; isplitr
    on_goal 2 => iexact HsO
    ipureintro; exact fun _ => hst.2
  isplitl [HcO']; · iexact HcO'
  isplitl [HsO']; · iexists _; iexact HsO'
  iexact HrO

end Trips

end Cert.Proof.Ffn

end
-- ==== Proof.TripRow.lean ====
/-
  The first trip of a later row block: the finished block of the result is waited for.
-/
module

public import proofs.«01_k».proof.Proof.TripBase

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

set_option maxHeartbeats 4000000 in
/-- The first trip of a later row block: the finished block of the result is waited for. -/
theorem trip_row (k : Trip) (hz : k.val % 11 = 0) (h0 : 0 < k.val) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  have hk87 : k.val < 87 := by omega
  have n1 : ¬ k0_cond1 k (wR k.val) (wF k.val) = 1#1 := fun h => by have := (cond1_iff k).1 h; omega
  have n2 := (cond2_iff k).2 hk87
  have n3 := (cond3_iff k).2 hk87
  have n4 := (cond4_iff k).2 hk87
  have n5 := (cond5_iff k).2 hk87
  have n6 := (cond6_iff k).2 hk87
  have n7 := (cond7_iff k).2 hz
  have n8 := (cond8_iff k).2 trivial
  have n9 := (cond9_iff k).2 trivial
  have n10 := (cond10_iff k).2 trivial
  have n11 := (cond11_iff k).2 trivial
  have n12 := (cond12_iff k).2 trivial
  have n22 : ¬ k0_cond22 k (wR k.val) (wF k.val) = 1#1 := fun h => by have := (cond22_iff k).1 h; omega
  have n29 := (cond29_iff k).2 ⟨hz, h0⟩
  have a1 := chk1_ok k
  have a3 := chk3_ok k
  have a4 := chk4_ok k
  have a5 := chk5_ok k
  have a6 := chk6_ok k
  have a7 := chk7_ok k
  have a8 := chk8_ok k
  have a9 := chk9_ok k
  unfold stAt stH stG stV stA stB stD stO common
  simp only [if_pos hk, if_pos (show k.val + 1 < 88 by omega), if_pos hz, if_neg (show ¬ (k.val + 1) % 11 = 0 by omega), if_pos (show k.val % 11 = 0 ∧ 0 < k.val from ⟨hz, h0⟩), if_neg (show ¬ ((k.val + 1) % 11 = 0 ∧ 0 < k.val + 1) by omega), Nat.add_sub_cancel, show (k.val + 1) / 11 = k.val / 11 by omega]
  simp only [ringG, ringV, ringA, ringB, ringD, ringAt_next (NB := 11) _ _ _ _ (show 1 < 11 by decide)]
  simp only [ringAt_open (NB := 11) _ _ _ _ (show 1 < 11 by decide)]
  simp only [ringH, hereH, home_take (homeH c XH) (Ring.bk 8 (k.val / 11)), ringAt]
  simp only [show (k.val - 1) / 11 + 1 = k.val / 11 by omega,
    show Ring.sl 2 (k.val / 11 + 1) = Ring.sl 2 ((k.val - 1) / 11) by rw [show k.val / 11 + 1 = (k.val - 1) / 11 + 2 by omega, Ring.sl_add]]
  simp only [accO, outO, home_take (oblk c XH XU XC XD P (k.val / 11)) (Ring.bk 8 ((k.val - 1) / 11))]
  simp only [oblk_eq c XH XU XC XD P (k.val / 11) (Ring.bk 8 ((k.val - 1) / 11))]
  iintro ⟨⟨⟨%gS, %hS, HS⟩, ⟨%gC, %hC, HC⟩, ⟨%gP, HP⟩, ⟨%gX, HX⟩, ⟨%W, HW⟩⟩,
    ⟨⟨%f0, HFH⟩, HcH, ⟨%fH, HsH⟩, HrH⟩,
    ⟨⟨%f1, HFG⟩, HcG, ⟨%f2, HsG⟩, HhG, HrG⟩, ⟨⟨%f3, HFV⟩, HcV, ⟨%f4, HsV⟩, HhV, HrV⟩, ⟨⟨%f5, HFA⟩, HcA, ⟨%f6, HsA⟩, HhA, HrA⟩,
    ⟨⟨%f7, HFB⟩, HcB, ⟨%f8, HsB⟩, HhB, HrB⟩, ⟨⟨%f9, HFD⟩, HcD, ⟨%f10, HsD⟩, HhD, HrD⟩,
    ⟨⟨%gD, %XO, %hR, HFO⟩, HcO, ⟨%gO, HsO⟩, HrO⟩⟩
  dsimp only [tripG]
  sl_unfold [k0_t1_body]
  unfold words
  sl_exec
  have e : trip_row.sl.r c gS = wK k.val := hS
  rw [e]
  have a2 := chk2_ok k
  set_option sl_exec.stopBefore "k0_part6" in sl_exec
  iapply ((compRun c k _ _ _ _ _ _ _ _ _ _).2 _ _ _ _ _ _ _ _ _ _ _)
  isplitl [HFH_dst]; · iexact HFH_dst
  isplitl [HFG_dst]; · iexact HFG_dst
  isplitl [HFV_dst]; · iexact HFV_dst
  isplitl [HFA_dst]; · iexact HFA_dst
  isplitl [HFB_dst]; · iexact HFB_dst
  isplitl [HFD_dst]; · iexact HFD_dst
  isplitl [HsO]; · iexact HsO
  isplitl [HC]; · iexact HC
  isplitl [HP]; · iexact HP
  isplitl [HX]; · iexact HX
  isplitl [HW]; · iexact HW
  have hst := P.step k gC f0 f1 f3 f5 f7 f9 gO gP gX hC (fun h => absurd hz h)
  iintro %v732 ⟨HFH_dst, HFG_dst, HFV_dst, HFA_dst, HFB_dst, HFD_dst, HsO, HC, ⟨%gP', HP⟩, ⟨%gX', HX⟩, HW⟩
  sl_exec
  sl_step
  isplitr
  · ipureintro
    exact words_eq (by decide +kernel : ∀ j : Trip, trip_row.sl.v168_r0 j = wH (j.val + 1)) (by decide +kernel : ∀ j : Trip, trip_row.sl.v815_r0 j = wI (j.val + 1))
      (by decide +kernel : ∀ j : Trip, trip_row.sl.v178_r0 j = wN (j.val + 1)) (by decide +kernel : ∀ j : Trip, trip_row.sl.v819_r0 j = wK (j.val + 1))
      (by decide +kernel : ∀ j : Trip, trip_row.sl.v767_r0 j = wI (j.val + 1)) (by decide +kernel : ∀ j : Trip, trip_row.sl.v811_r0 j = wO (j.val + 1))
      (by decide +kernel : ∀ j : Trip, trip_row.sl.v843_r0 j = wR (j.val + 1)) (by decide +kernel : ∀ j : Trip, trip_row.sl.v839_r0 j = wF (j.val + 1)) k
  isplitl [HS HC HP HX HW]
  · isplitl [HS]
    · iexists _; isplitr
      on_goal 2 => iexact HS
      ipureintro; exact ctr_next c k.val gS
    isplitl [HC]
    · iexists _; isplitr
      on_goal 2 => iexact HC
      ipureintro; exact hst.1
    isplitl [HP]; · iexists _; iexact HP
    isplitl [HX]; · iexists _; iexact HX
    iexists _; iexact HW
  isplitl [HFH HFH_dst HFH_src HcH HsH HrH]
  · isplitl [HFH]; · iexact HFH
    isplitl [HFH_dst]; · iexists f0; iexact HFH_dst
    isplitl [HcH]; · iexact HcH
    isplitl [HsH]; · iexists fH; iexact HsH
    isplitl [HFH_src]; · iexact HFH_src
    iexact HrH
  isplitl [HcG HFG HFG_dst HFG_src HrG]
  · isplitl [HcG]; · iexists f2; iexact HcG
    isplitl [HFG]; · iexact HFG
    isplitl [HFG_dst]; · iexists _; iexact HFG_dst
    isplitl [HFG_src]; · iexact HFG_src
    iexact HrG
  isplitl [HcV HFV HFV_dst HFV_src HrV]
  · isplitl [HcV]; · iexists f4; iexact HcV
    isplitl [HFV]; · iexact HFV
    isplitl [HFV_dst]; · iexists _; iexact HFV_dst
    isplitl [HFV_src]; · iexact HFV_src
    iexact HrV
  isplitl [HcA HFA HFA_dst HFA_src HrA]
  · isplitl [HcA]; · iexists f6; iexact HcA
    isplitl [HFA]; · iexact HFA
    isplitl [HFA_dst]; · iexists _; iexact HFA_dst
    isplitl [HFA_src]; · iexact HFA_src
    iexact HrA
  isplitl [HcB HFB HFB_dst HFB_src HrB]
  · isplitl [HcB]; · iexists f8; iexact HcB
    isplitl [HFB]; · iexact HFB
    isplitl [HFB_dst]; · iexists _; iexact HFB_dst
    isplitl [HFB_src]; · iexact HFB_src
    iexact HrB
  isplitl [HcD HFD HFD_dst HFD_src HrD]
  · isplitl [HcD]; · iexists f10; iexact HcD
    isplitl [HFD]; · iexact HFD
    isplitl [HFD_dst]; · iexists _; iexact HFD_dst
    isplitl [HFD_src]; · iexact HFD_src
    iexact HrD
  isplitl [HcO]; · iexact HcO
  isplitl [HsO]
  · iexists _; isplitr
    on_goal 2 => iexact HsO
    ipureintro; exact fun _ => hst.2
  isplitl [HFO]; · iexact HFO
  isplitl [HFO_src]; · iexists _; iexact HFO_src
  isplitl [HFO_dst]
  · iexists _; isplitr
    on_goal 2 => iexact HFO_dst
    ipureintro; intro _; rw [read_landO]; exact hR
  iexact HrO

end Trips

end Cert.Proof.Ffn

end
-- ==== Proof.TripLast.lean ====
/-
  The last trip of a row block with another to follow: the next row block of `h` and the finished block of the result are issued.
-/
module

public import proofs.«01_k».proof.Proof.TripBase

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

set_option maxHeartbeats 4000000 in
/-- The last trip of a row block with another to follow: the next row block of `h` and the finished block of the result are issued. -/
theorem trip_last (k : Trip) (hl : k.val % 11 = 10) (hk87' : k.val < 87) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  have hk87 : k.val < 87 := by omega
  have n1 := (cond1_iff k).2 ⟨hl, hk87⟩
  have n2 := (cond2_iff k).2 hk87
  have n3 := (cond3_iff k).2 hk87
  have n4 := (cond4_iff k).2 hk87
  have n5 := (cond5_iff k).2 hk87
  have n6 := (cond6_iff k).2 hk87
  have n7 : ¬ k0_cond7 k (wR k.val) (wF k.val) = 1#1 := fun h => by have := (cond7_iff k).1 h; omega
  have n8 := (cond8_iff k).2 trivial
  have n9 := (cond9_iff k).2 trivial
  have n10 := (cond10_iff k).2 trivial
  have n11 := (cond11_iff k).2 trivial
  have n12 := (cond12_iff k).2 trivial
  have n22 := (cond22_iff k).2 hl
  have n29 : ¬ k0_cond29 k (wR k.val) (wF k.val) = 1#1 := fun h => by have := (cond29_iff k).1 h; omega
  have a1 := chk1_ok k
  have a3 := chk3_ok k
  have a4 := chk4_ok k
  have a5 := chk5_ok k
  have a6 := chk6_ok k
  have a7 := chk7_ok k
  have a8 := chk8_ok k
  have a9 := chk9_ok k
  unfold stAt stH stG stV stA stB stD stO common
  simp only [if_pos hk, if_pos (show k.val + 1 < 88 by omega), if_neg (show ¬ k.val % 11 = 0 by omega), if_pos (show (k.val + 1) % 11 = 0 by omega), if_neg (show ¬ (k.val % 11 = 0 ∧ 0 < k.val) by omega), if_pos (show (k.val + 1) % 11 = 0 ∧ 0 < k.val + 1 by omega), Nat.add_sub_cancel, show (k.val + 1) / 11 = k.val / 11 + 1 by omega]
  simp only [ringG, ringV, ringA, ringB, ringD, ringAt_next (NB := 11) _ _ _ _ (show 1 < 11 by decide)]
  simp only [ringAt_open (NB := 11) _ _ _ _ (show 1 < 11 by decide)]
  simp only [ringH, ringAt_succ]
  simp only [hereH, home_take (homeH c XH) (Ring.bk 8 (k.val / 11 + 1))]
  simp only [accO, outO, home_take (oblk c XH XU XC XD P (k.val / 11)) (Ring.bk 8 (k.val / 11)), oblk_rest c XH XU XC XD P (k.val / 11) (show k.val / 11 < 8 by omega)]
  simp only [oblk_eq c XH XU XC XD P (k.val / 11) (Ring.bk 8 (k.val / 11))]
  iintro ⟨⟨⟨%gS, %hS, HS⟩, ⟨%gC, %hC, HC⟩, ⟨%gP, HP⟩, ⟨%gX, HX⟩, ⟨%W, HW⟩⟩,
    ⟨HcH, ⟨%f0, HsH⟩, HcH', ⟨%fH, HsH'⟩, HhH, HrH⟩,
    ⟨⟨%f1, HFG⟩, HcG, ⟨%f2, HsG⟩, HhG, HrG⟩, ⟨⟨%f3, HFV⟩, HcV, ⟨%f4, HsV⟩, HhV, HrV⟩, ⟨⟨%f5, HFA⟩, HcA, ⟨%f6, HsA⟩, HhA, HrA⟩,
    ⟨⟨%f7, HFB⟩, HcB, ⟨%f8, HsB⟩, HhB, HrB⟩, ⟨⟨%f9, HFD⟩, HcD, ⟨%f10, HsD⟩, HhD, HrD⟩,
    ⟨HcO, ⟨%gO, %hO, HsO⟩, HcO', ⟨%fO, HsO'⟩, ⟨%XO, %hX, HhO⟩, HrO⟩⟩
  dsimp only [tripG]
  sl_unfold [k0_t1_body]
  unfold words
  sl_exec
  have e : trip_last.sl.r c gS = wK k.val := hS
  rw [e]
  have a2 := chk2_ok k
  set_option sl_exec.stopBefore "k0_part6" in sl_exec
  iapply ((compRun c k _ _ _ _ _ _ _ _ _ _).2 _ _ _ _ _ _ _ _ _ _ _)
  isplitl [HsH]; · iexact HsH
  isplitl [HFG_dst]; · iexact HFG_dst
  isplitl [HFV_dst]; · iexact HFV_dst
  isplitl [HFA_dst]; · iexact HFA_dst
  isplitl [HFB_dst]; · iexact HFB_dst
  isplitl [HFD_dst]; · iexact HFD_dst
  isplitl [HsO]; · iexact HsO
  isplitl [HC]; · iexact HC
  isplitl [HP]; · iexact HP
  isplitl [HX]; · iexact HX
  isplitl [HW]; · iexact HW
  have hst := P.step k gC f0 f1 f3 f5 f7 f9 gO gP gX hC hO
  iintro %v732 ⟨HsH, HFG_dst, HFV_dst, HFA_dst, HFB_dst, HFD_dst, HsO, HC, ⟨%gP', HP⟩, ⟨%gX', HX⟩, HW⟩
  have hdn := P.done k _ hl hst.2
  sl_exec
  sl_step
  isplitr
  · ipureintro
    exact words_eq (by decide +kernel : ∀ j : Trip, trip_last.sl.v168_r0 j = wH (j.val + 1)) (by decide +kernel : ∀ j : Trip, trip_last.sl.v815_r0 j = wI (j.val + 1))
      (by decide +kernel : ∀ j : Trip, trip_last.sl.v178_r0 j = wN (j.val + 1)) (by decide +kernel : ∀ j : Trip, trip_last.sl.v819_r0 j = wK (j.val + 1))
      (by decide +kernel : ∀ j : Trip, trip_last.sl.v767_r0 j = wI (j.val + 1)) (by decide +kernel : ∀ j : Trip, trip_last.sl.v811_r0 j = wO (j.val + 1))
      (by decide +kernel : ∀ j : Trip, trip_last.sl.v843_r0 j = wR (j.val + 1)) (by decide +kernel : ∀ j : Trip, trip_last.sl.v839_r0 j = wF (j.val + 1)) k
  isplitl [HS HC HP HX HW]
  · isplitl [HS]
    · iexists _; isplitr
      on_goal 2 => iexact HS
      ipureintro; exact ctr_next c k.val gS
    isplitl [HC]
    · iexists _; isplitr
      on_goal 2 => iexact HC
      ipureintro; exact hst.1
    isplitl [HP]; · iexists _; iexact HP
    isplitl [HX]; · iexists _; iexact HX
    iexists _; iexact HW
  isplitl [HcH HsH HcH' HrH]
  · isplitl [HcH']; · iexists fH; iexact HcH'
    isplitl [HcH]; · iexact HcH
    isplitl [HsH]; · iexists _; iexact HsH
    iexact HrH
  isplitl [HcG HFG HFG_dst HFG_src HrG]
  · isplitl [HcG]; · iexists f2; iexact HcG
    isplitl [HFG]; · iexact HFG
    isplitl [HFG_dst]; · iexists _; iexact HFG_dst
    isplitl [HFG_src]; · iexact HFG_src
    iexact HrG
  isplitl [HcV HFV HFV_dst HFV_src HrV]
  · isplitl [HcV]; · iexists f4; iexact HcV
    isplitl [HFV]; · iexact HFV
    isplitl [HFV_dst]; · iexists _; iexact HFV_dst
    isplitl [HFV_src]; · iexact HFV_src
    iexact HrV
  isplitl [HcA HFA HFA_dst HFA_src HrA]
  · isplitl [HcA]; · iexists f6; iexact HcA
    isplitl [HFA]; · iexact HFA
    isplitl [HFA_dst]; · iexists _; iexact HFA_dst
    isplitl [HFA_src]; · iexact HFA_src
    iexact HrA
  isplitl [HcB HFB HFB_dst HFB_src HrB]
  · isplitl [HcB]; · iexists f8; iexact HcB
    isplitl [HFB]; · iexact HFB
    isplitl [HFB_dst]; · iexists _; iexact HFB_dst
    isplitl [HFB_src]; · iexact HFB_src
    iexact HrB
  isplitl [HcD HFD HFD_dst HFD_src HrD]
  · isplitl [HcD]; · iexists f10; iexact HcD
    isplitl [HFD]; · iexact HFD
    isplitl [HFD_dst]; · iexists _; iexact HFD_dst
    isplitl [HFD_src]; · iexact HFD_src
    iexact HrD
  isplitl [HcO]
  · iexists _, XO; isplitr
    on_goal 2 => iexact HcO
    ipureintro; exact hdn
  isplitl [HcO']; · iexact HcO'
  isplitl [HsO']; · iexists _; iexact HsO'
  iexact HrO

end Trips

end Cert.Proof.Ffn

end
-- ==== Proof.TripEnd.lean ====
/-
  The last trip of all.
-/
module

public import proofs.«01_k».proof.Proof.TripBase

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trips
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD) (v40 v47 v54 : BitVec 32)

set_option maxHeartbeats 4000000 in
/-- The last trip of all. -/
theorem trip_end (k : Trip) (h87 : k.val = 87) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  have hl : k.val % 11 = 10 := by omega
  have hk87 : ¬ k.val < 87 := by omega
  have n1 : ¬ k0_cond1 k (wR k.val) (wF k.val) = 1#1 := fun h => by have := (cond1_iff k).1 h; omega
  have n2 : ¬ k0_cond2 k (wF k.val) = 1#1 := fun h => hk87 ((cond2_iff k).1 h)
  have n3 : ¬ k0_cond3 k (wF k.val) = 1#1 := fun h => hk87 ((cond3_iff k).1 h)
  have n4 : ¬ k0_cond4 k (wF k.val) = 1#1 := fun h => hk87 ((cond4_iff k).1 h)
  have n5 : ¬ k0_cond5 k (wF k.val) = 1#1 := fun h => hk87 ((cond5_iff k).1 h)
  have n6 : ¬ k0_cond6 k (wF k.val) = 1#1 := fun h => hk87 ((cond6_iff k).1 h)
  have n7 : ¬ k0_cond7 k (wR k.val) (wF k.val) = 1#1 := fun h => by have := (cond7_iff k).1 h; omega
  have n8 := (cond8_iff k).2 trivial
  have n9 := (cond9_iff k).2 trivial
  have n10 := (cond10_iff k).2 trivial
  have n11 := (cond11_iff k).2 trivial
  have n12 := (cond12_iff k).2 trivial
  have n22 := (cond22_iff k).2 hl
  have n29 : ¬ k0_cond29 k (wR k.val) (wF k.val) = 1#1 := fun h => by have := (cond29_iff k).1 h; omega
  have a1 := chk1_ok k
  have a3 := chk3_ok k
  have a4 := chk4_ok k
  have a5 := chk5_ok k
  have a6 := chk6_ok k
  have a7 := chk7_ok k
  have a8 := chk8_ok k
  have a9 := chk9_ok k
  unfold stAt stH stG stV stA stB stD stO common
  simp only [if_pos hk, if_neg (show ¬ k.val + 1 < 88 by omega), if_neg (show ¬ k.val % 11 = 0 by omega), if_pos (show (k.val + 1) % 11 = 0 by omega), if_neg (show ¬ (k.val % 11 = 0 ∧ 0 < k.val) by omega), if_pos (show (k.val + 1) % 11 = 0 ∧ 0 < k.val + 1 by omega), Nat.add_sub_cancel, show (k.val + 1) / 11 = k.val / 11 + 1 by omega]
  simp only [restG, restV, restA, restB, restD, restH, ringDone_swap, home_take (homeG c XU) (Ring.bk 11 k.val), home_take (homeV c XU) (Ring.bk 11 k.val), home_take (homeA c XC) (Ring.bk 11 k.val), home_take (homeB c XC) (Ring.bk 11 k.val), home_take (homeD c XD) (Ring.bk 11 k.val)]
  simp only [ringG, ringV, ringA, ringB, ringD, ringAt]
  simp only [hereH]
  simp only [accO, outO, home_take (oblk c XH XU XC XD P (k.val / 11)) (Ring.bk 8 (k.val / 11)), oblk_rest c XH XU XC XD P (k.val / 11) (show k.val / 11 < 8 by omega)]
  simp only [oblk_eq c XH XU XC XD P (k.val / 11) (Ring.bk 8 (k.val / 11))]
  iintro ⟨⟨⟨%gS, %hS, HS⟩, ⟨%gC, %hC, HC⟩, ⟨%gP, HP⟩, ⟨%gX, HX⟩, ⟨%W, HW⟩⟩,
    ⟨HcH, ⟨%f0, HsH⟩, HcH', ⟨%fH, HsH'⟩, HrH⟩,
    ⟨⟨%f1, HFG⟩, HcG, ⟨%f2, HsG⟩, HrG⟩, ⟨⟨%f3, HFV⟩, HcV, ⟨%f4, HsV⟩, HrV⟩, ⟨⟨%f5, HFA⟩, HcA, ⟨%f6, HsA⟩, HrA⟩,
    ⟨⟨%f7, HFB⟩, HcB, ⟨%f8, HsB⟩, HrB⟩, ⟨⟨%f9, HFD⟩, HcD, ⟨%f10, HsD⟩, HrD⟩,
    ⟨HcO, ⟨%gO, %hO, HsO⟩, HcO', ⟨%fO, HsO'⟩, ⟨%XO, %hX, HhO⟩, HrO⟩⟩
  dsimp only [tripG]
  sl_unfold [k0_t1_body]
  unfold words
  sl_exec
  have e : trip_end.sl.r c gS = wK k.val := hS
  rw [e]
  have a2 := chk2_ok k
  set_option sl_exec.stopBefore "k0_part6" in sl_exec
  iapply ((compRun c k _ _ _ _ _ _ _ _ _ _).2 _ _ _ _ _ _ _ _ _ _ _)
  isplitl [HsH]; · iexact HsH
  isplitl [HFG_dst]; · iexact HFG_dst
  isplitl [HFV_dst]; · iexact HFV_dst
  isplitl [HFA_dst]; · iexact HFA_dst
  isplitl [HFB_dst]; · iexact HFB_dst
  isplitl [HFD_dst]; · iexact HFD_dst
  isplitl [HsO]; · iexact HsO
  isplitl [HC]; · iexact HC
  isplitl [HP]; · iexact HP
  isplitl [HX]; · iexact HX
  isplitl [HW]; · iexact HW
  have hst := P.step k gC f0 f1 f3 f5 f7 f9 gO gP gX hC hO
  iintro %v732 ⟨HsH, HFG_dst, HFV_dst, HFA_dst, HFB_dst, HFD_dst, HsO, HC, ⟨%gP', HP⟩, ⟨%gX', HX⟩, HW⟩
  have hdn := P.done k _ hl hst.2
  sl_exec
  sl_step
  isplitr
  · ipureintro
    exact words_eq (by decide +kernel : ∀ j : Trip, trip_end.sl.v168_r0 j = wH (j.val + 1)) (by decide +kernel : ∀ j : Trip, trip_end.sl.v815_r0 j = wI (j.val + 1))
      (by decide +kernel : ∀ j : Trip, trip_end.sl.v178_r0 j = wN (j.val + 1)) (by decide +kernel : ∀ j : Trip, trip_end.sl.v819_r0 j = wK (j.val + 1))
      (by decide +kernel : ∀ j : Trip, trip_end.sl.v767_r0 j = wI (j.val + 1)) (by decide +kernel : ∀ j : Trip, trip_end.sl.v811_r0 j = wO (j.val + 1))
      (by decide +kernel : ∀ j : Trip, trip_end.sl.v843_r0 j = wR (j.val + 1)) (by decide +kernel : ∀ j : Trip, trip_end.sl.v839_r0 j = wF (j.val + 1)) k
  isplitl [HS HC HP HX HW]
  · isplitl [HS]
    · iexists _; isplitr
      on_goal 2 => iexact HS
      ipureintro; exact ctr_next c k.val gS
    isplitl [HC]
    · iexists _; isplitr
      on_goal 2 => iexact HC
      ipureintro; exact hst.1
    isplitl [HP]; · iexists _; iexact HP
    isplitl [HX]; · iexists _; iexact HX
    iexists _; iexact HW
  isplitl [HcH HsH HcH' HsH' HrH]
  · isplitl [HcH']; · iexact HcH'
    isplitl [HsH']; · iexists fH; iexact HsH'
    isplitl [HcH]; · iexact HcH
    isplitl [HsH]; · iexists _; iexact HsH
    iexact HrH
  isplitl [HcG HsG HFG HFG_dst HFG_src HrG]
  · isplitl [HcG]; · iexact HcG
    isplitl [HsG]; · iexists _; iexact HsG
    isplitl [HFG]; · iexact HFG
    isplitl [HFG_dst]; · iexists _; iexact HFG_dst
    isplitl [HFG_src]; · iexact HFG_src
    iexact HrG
  isplitl [HcV HsV HFV HFV_dst HFV_src HrV]
  · isplitl [HcV]; · iexact HcV
    isplitl [HsV]; · iexists _; iexact HsV
    isplitl [HFV]; · iexact HFV
    isplitl [HFV_dst]; · iexists _; iexact HFV_dst
    isplitl [HFV_src]; · iexact HFV_src
    iexact HrV
  isplitl [HcA HsA HFA HFA_dst HFA_src HrA]
  · isplitl [HcA]; · iexact HcA
    isplitl [HsA]; · iexists _; iexact HsA
    isplitl [HFA]; · iexact HFA
    isplitl [HFA_dst]; · iexists _; iexact HFA_dst
    isplitl [HFA_src]; · iexact HFA_src
    iexact HrA
  isplitl [HcB HsB HFB HFB_dst HFB_src HrB]
  · isplitl [HcB]; · iexact HcB
    isplitl [HsB]; · iexists _; iexact HsB
    isplitl [HFB]; · iexact HFB
    isplitl [HFB_dst]; · iexists _; iexact HFB_dst
    isplitl [HFB_src]; · iexact HFB_src
    iexact HrB
  isplitl [HcD HsD HFD HFD_dst HFD_src HrD]
  · isplitl [HcD]; · iexact HcD
    isplitl [HsD]; · iexists _; iexact HsD
    isplitl [HFD]; · iexact HFD
    isplitl [HFD_dst]; · iexists _; iexact HFD_dst
    isplitl [HFD_src]; · iexact HFD_src
    iexact HrD
  isplitl [HcO]
  · iexists _, XO; isplitr
    on_goal 2 => iexact HcO
    ipureintro; exact hdn
  isplitl [HcO']; · iexact HcO'
  isplitl [HsO']; · iexists _; iexact HsO'
  iexact HrO

end Trips

end Cert.Proof.Ffn

end
-- ==== Proof.Body.lean ====
/-
  The whole kernel body: the first blocks issued, the 88 trips, the last block of the result waited for.
-/
module

public import proofs.«01_k».proof.Proof.TripMid
public import proofs.«01_k».proof.Proof.TripFirst
public import proofs.«01_k».proof.Proof.TripRow
public import proofs.«01_k».proof.Proof.TripLast
public import proofs.«01_k».proof.Proof.TripEnd

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body
variable (c : Dev nD)
    (XH : Buf (Elt F) (hbmH.view.loc (c : Thread nD τ))) (XU : Buf (Elt F) (hbmG.view.loc (c : Thread nD τ)))
    (XC : Buf (Elt F) (hbmA.view.loc (c : Thread nD τ))) (XD : Buf (Elt F) (hbmD.view.loc (c : Thread nD τ)))
    (P : Claim F c XH XU XC XD)

/-- Every trip takes the state before it, with its words, to the state before the next. -/
theorem trip_step (v40 v47 v54 : BitVec 32) (k : Trip) :
    stAt c XH XU XC XD P k.val ⊢ wp frame (wpE (defs₀ (F := F)) 𝒱₀ (c : Thread nD τ) none) Set.univ (tripG v40 v47 v54 k)
      (fun acc => iprop(⌜acc = words (k.val + 1)⌝ ∗ stAt c XH XU XC XD P (k.val + 1))) := by
  have hk := trip_lt k
  by_cases h87 : k.val = 87
  · exact trip_end c XH XU XC XD P v40 v47 v54 k h87
  by_cases hz : k.val % 11 = 0
  · by_cases h0 : k.val = 0
    · exact trip_first c XH XU XC XD P v40 v47 v54 k hz h0
    · exact trip_row c XH XU XC XD P v40 v47 v54 k hz (by omega)
  by_cases hl : k.val % 11 = 10
  · exact trip_last c XH XU XC XD P v40 v47 v54 k hl (by omega)
  exact trip_mid c XH XU XC XD P v40 v47 v54 k hz hl

/-- The kernel's body at its own buffers. -/
abbrev bodyG : Prog (TpuEff nD τ sig (Elt F) Λ₀ .tc) PUnit :=
  cc0_conv_ffn (F := F) hbmH (Memref.isWhole_whole _) hbmG (Memref.isWhole_whole _) hbmV (Memref.isWhole_whole _) hbmA (Memref.isWhole_whole _) hbmB (Memref.isWhole_whole _) hbmD (Memref.isWhole_whole _) hbmO (Memref.isWhole_whole _) smC (Memref.isWhole_whole _) bufC (Memref.isWhole_whole _) bufP (Memref.isWhole_whole _) bufX (Memref.isWhole_whole _) bufH (Memref.isWhole_whole _) cc0_scoped1 bufG (Memref.isWhole_whole _) cc0_scoped3 bufV (Memref.isWhole_whole _) cc0_scoped5 bufA (Memref.isWhole_whole _) cc0_scoped7 bufB (Memref.isWhole_whole _) cc0_scoped9 bufD (Memref.isWhole_whole _) cc0_scoped11 bufO (Memref.isWhole_whole _) cc0_scoped13

/-- Before the body: scratch at anything, every ring at rest, the result's blocks at anything. -/
def PRE : sProp 𝕄 :=
  iprop(((∃ g, smP c g) ∗ (∃ g, carP c g) ∗ (∃ g, preP c g) ∗ (∃ g, actP c g))
    ∗ restH c XH 0 ∗ restG c XU 0 ∗ restV c XU 0 ∗ restA c XC 0 ∗ restB c XC 0 ∗ restD c XD 0 ∗ accO c XH XU XC XD P 0 (Ring.sl 2 1) 0)
/-- The result's ring after the body: both slots free, every block home and finished. -/
def endO : sProp 𝕄 :=
  iprop(cellO c 0 ∗ (∃ f, heldO c 0 f) ∗ cellO c 1 ∗ (∃ f, heldO c 1 f) ∗ bigSep Finset.univ (oblk c XH XU XC XD P 8))
/-- After the body: as before it, every block of the result finished. -/
def POST : sProp 𝕄 :=
  iprop(((∃ g, smP c g) ∗ (∃ g, carP c g) ∗ (∃ g, preP c g) ∗ (∃ g, actP c g))
    ∗ restH c XH 8 ∗ restG c XU 88 ∗ restV c XU 88 ∗ restA c XC 88 ∗ restB c XC 88 ∗ restD c XD 88 ∗ endO c XH XU XC XD P)

theorem sl0 : Ring.sl 2 0 = 0 := Fin.ext rfl
theorem sl1 : Ring.sl 2 1 = 1 := Fin.ext rfl
theorem sl7 : Ring.sl 2 7 = 1 := Fin.ext rfl
theorem sl8 : Ring.sl 2 8 = 0 := Fin.ext rfl
theorem bk8_0 : Ring.bk 8 0 = 0 := Fin.ext rfl
theorem bk8_7 : Ring.bk 8 7 = 7 := Fin.ext rfl
theorem bk11_0 : Ring.bk 11 0 = 0 := Fin.ext rfl

set_option maxHeartbeats 1000000 in
/-- The body runs from `PRE` to `POST`. -/
theorem bodyRun (Q : PUnit → sProp 𝕄) :
    iprop((PRE c XH XU XC XD P ∗ ∃ W, owes (c : Thread nD τ) 0 W) ∗ ((POST c XH XU XC XD P ∗ ∃ W, owes (c : Thread nD τ) 0 W) -∗ Q ⟨⟩))
      ⊢ wp frame (wpE (defs₀ (F := F)) 𝒱₀ (c : Thread nD τ) none) Set.univ (bodyG (F := F)) Q := by
  unfold PRE
  simp only [restH, restG, restV, restA, restB, restD, ringDone, accO, show (0 : ℕ) + 1 = 1 from rfl, sl0, sl1, home_take (homeH c XH) (0 : Fin 8), home_take (homeG c XU) (0 : Fin 11), home_take (homeV c XU) (0 : Fin 11), home_take (homeA c XC) (0 : Fin 11), home_take (homeB c XC) (0 : Fin 11), home_take (homeD c XD) (0 : Fin 11)]
  iintro ⟨⟨⟨⟨⟨%gS, HS⟩, ⟨%gC, HC⟩, ⟨%gP, HP⟩, ⟨%gX, HX⟩⟩,
    ⟨HcH, ⟨%fH, HsH⟩, HcH', ⟨%fH', HsH'⟩, HhH, HrH⟩, ⟨HcG, ⟨%fG, HsG⟩, HcG', ⟨%fG', HsG'⟩, HhG, HrG⟩, ⟨HcV, ⟨%fV, HsV⟩, HcV', ⟨%fV', HsV'⟩, HhV, HrV⟩, ⟨HcA, ⟨%fA, HsA⟩, HcA', ⟨%fA', HsA'⟩, HhA, HrA⟩, ⟨HcB, ⟨%fB, HsB⟩, HcB', ⟨%fB', HsB'⟩, HhB, HrB⟩, ⟨HcD, ⟨%fD, HsD⟩, HcD', ⟨%fD', HsD'⟩, HhD, HrD⟩,
    ⟨HcO, ⟨%gO, -, HsO⟩, HcO', ⟨%fO, HsO'⟩, HrO⟩⟩, ⟨%W, HW⟩⟩, Hk⟩
  unfold bodyG
  sl_unfold [cc0_conv_ffn]
  sl_exec
  sl_for (fun k acc => iprop(⌜acc = words k⌝ ∗ stAt c XH XU XC XD P k)) $$ [HS HC HP HX HW HcH HcH' HsH' HrH HcG HcG' HsG' HrG HcV HcV' HsV' HrV HcA HcA' HsA' HrA HcB HcB' HsB' HrB HcD HcD' HsD' HrD HcO HsO HcO' HsO' HrO]
  case region =>
    intro k acc
    iintro ⟨%e, H⟩
    subst e
    iapply (trip_step c XH XU XC XD P _ _ _ k); iexact H
  · isplitr
    · ipureintro; exact words_zero.symm
    unfold stAt stH stG stV stA stB stD stO common
    simp only [show (0 : ℕ) % 11 = 0 from rfl, show (0 : ℕ) / 11 = 0 from rfl, show (0 : ℕ) < 88 by omega, if_true, show ¬ (0 : ℕ) < 0 by omega, and_false, if_false,
      ringH, ringG, ringV, ringA, ringB, ringD, ringAt, accO, show (0 : ℕ) + 1 = 1 from rfl, sl0, sl1, bk8_0, bk11_0]
    isplitl [HS HC HP HX HW]
    · isplitl [HS]
      · iexists _; isplitr
        on_goal 2 => iexact HS
        ipureintro; exact ctr_zero c gS
      isplitl [HC]
      · iexists _; isplitr
        on_goal 2 => iexact HC
        ipureintro; exact P.start _
      isplitl [HP]; · iexists _; iexact HP
      isplitl [HX]; · iexists _; iexact HX
      iexists _; iexact HW
    isplitl [HcH HcH' HsH' HrH]
    · isplitl [HcH]; · iexists fH; iexact HcH
      isplitl [HcH']; · iexact HcH'
      isplitl [HsH']; · iexists fH'; iexact HsH'
      iexact HrH
    isplitl [HcG HcG' HsG' HrG]
    · isplitl [HcG]; · iexists fG; iexact HcG
      isplitl [HcG']; · iexact HcG'
      isplitl [HsG']; · iexists fG'; iexact HsG'
      iexact HrG
    isplitl [HcV HcV' HsV' HrV]
    · isplitl [HcV]; · iexists fV; iexact HcV
      isplitl [HcV']; · iexact HcV'
      isplitl [HsV']; · iexists fV'; iexact HsV'
      iexact HrV
    isplitl [HcA HcA' HsA' HrA]
    · isplitl [HcA]; · iexists fA; iexact HcA
      isplitl [HcA']; · iexact HcA'
      isplitl [HsA']; · iexists fA'; iexact HsA'
      iexact HrA
    isplitl [HcB HcB' HsB' HrB]
    · isplitl [HcB]; · iexists fB; iexact HcB
      isplitl [HcB']; · iexact HcB'
      isplitl [HsB']; · iexists fB'; iexact HsB'
      iexact HrB
    isplitl [HcD HcD' HsD' HrD]
    · isplitl [HcD]; · iexists fD; iexact HcD
      isplitl [HcD']; · iexact HcD'
      isplitl [HsD']; · iexists fD'; iexact HsD'
      iexact HrD
    isplitl [HcO]; · iexact HcO
    isplitl [HsO]
    · iexists _; isplitr
      on_goal 2 => iexact HsO
      ipureintro; exact fun h => absurd rfl h
    isplitl [HcO']; · iexact HcO'
    isplitl [HsO']; · iexists _; iexact HsO'
    iexact HrO
  iintro %acc ⟨%e, H⟩
  subst e
  rw [show Scf.trips k0_t1_loop.lb k0_t1_loop.ub k0_t1_loop.st = 88 from rfl]
  unfold stAt stH stG stV stA stB stD stO common
  simp only [show (88 : ℕ) % 11 = 0 from rfl, show (88 : ℕ) / 11 = 8 from rfl, show ((88 : ℕ) - 1) / 11 = 7 from rfl, show (7 : ℕ) + 1 = 8 from rfl, show ¬ (88 : ℕ) < 88 by omega, show (0 : ℕ) < 88 by omega, and_self, if_true, if_false, outO, sl7, sl8, bk8_7]
  icases H with ⟨⟨⟨%gS', -, HS⟩, ⟨%gC', -, HC⟩, ⟨%gP', HP⟩, ⟨%gX', HX⟩, ⟨%W', HW⟩⟩, HrH, HrG, HrV, HrA, HrB, HrD, ⟨⟨%gD, %XO, %hR, HFO⟩, HcO, ⟨%gO', HsO⟩, HrO⟩⟩
  have a11 := chk11_ok
  have a10 := chk10_ok
  unfold words
  sl_exec
  sl_step
  iapply Hk
  unfold POST endO
  isplitr [HW]
  on_goal 2 => iexists _; iexact HW
  isplitl [HS HC HP HX]
  · isplitl [HS]; · iexists _; iexact HS
    isplitl [HC]; · iexists _; iexact HC
    isplitl [HP]; · iexists _; iexact HP
    iexists _; iexact HX
  isplitl [HrH]; · iexact HrH
  isplitl [HrG]; · iexact HrG
  isplitl [HrV]; · iexact HrV
  isplitl [HrA]; · iexact HrA
  isplitl [HrB]; · iexact HrB
  isplitl [HrD]; · iexact HrD
  isplitl [HcO]; · iexact HcO
  isplitl [HsO]; · iexists _; iexact HsO
  isplitl [HFO]; · iexact HFO
  isplitl [HFO_src]; · iexists _; iexact HFO_src
  irw [home_take (oblk c XH XU XC XD P 8) (7 : Fin 8)]
  isplitl [HFO_dst]
  · unfold oblk
    iexists _; isplitr
    on_goal 2 => iexact HFO_dst
    ipureintro; intro _; rw [read_landO]; exact hR
  iexact HrO

end Body

end Cert.Proof.Ffn

end
-- ==== Proof.Launch.lean ====
/-
  The launch: the arrays taken apart into blocks and the buffers into slots, and the run of the whole program.
-/
module

public import proofs.«01_k».proof.Proof.Body

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Element sets of blocks and slots -/

section Sets

abbrev blkSetH (b : Fin 8) : Finset S8192x2048.Idx := (Rect.unit (s := S8192x2048) (offH b) S1024x2048.size (offH_inb b)).set
theorem blkH_set (b : Fin 8) : (blkH b).view.set = blkSetH b := View.set_slice_whole _ _
theorem mem_blkSetH (b : Fin 8) (y : S8192x2048.Idx) : y ∈ blkSetH b ↔ (y 0).val / 1024 = b.val := by
  rw [Rect.mem_set_unit]
  have hb := b.isLt
  have h1 : (y 1).val < 2048 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2048; omega

abbrev blkSetG (b : Fin 11) : Finset S2048x11264.Idx := (Rect.unit (s := S2048x11264) (offG b) S2048x512.size (offG_inb b)).set
theorem blkG_set (b : Fin 11) : (blkG b).view.set = blkSetG b := View.set_slice_whole _ _
theorem mem_blkSetG (b : Fin 11) (y : S2048x11264.Idx) : y ∈ blkSetG b ↔ (y 1).val / 512 = b.val := by
  rw [Rect.mem_set_unit]
  have hb := b.isLt
  have h1 : (y 0).val < 2048 := (y 0).isLt
  constructor
  · intro H; have a0 : 512 * b.val ≤ (y 1).val ∧ (y 1).val < 512 * b.val + 512 := H 1; omega
  · intro H i; fin_cases i
    · show 0 ≤ (y 0).val ∧ (y 0).val < 0 + 2048; omega
    · show 512 * b.val ≤ (y 1).val ∧ (y 1).val < 512 * b.val + 512; omega

abbrev blkSetV (b : Fin 11) : Finset S2048x11264.Idx := (Rect.unit (s := S2048x11264) (offV b) S2048x512.size (offV_inb b)).set
theorem blkV_set (b : Fin 11) : (blkV b).view.set = blkSetV b := View.set_slice_whole _ _
theorem mem_blkSetV (b : Fin 11) (y : S2048x11264.Idx) : y ∈ blkSetV b ↔ (y 1).val / 512 = b.val + 11 := by
  rw [Rect.mem_set_unit]
  have hb := b.isLt
  have h1 : (y 0).val < 2048 := (y 0).isLt
  constructor
  · intro H; have a0 : 512 * b.val + 5632 ≤ (y 1).val ∧ (y 1).val < 512 * b.val + 5632 + 512 := H 1; omega
  · intro H i; fin_cases i
    · show 0 ≤ (y 0).val ∧ (y 0).val < 0 + 2048; omega
    · show 512 * b.val + 5632 ≤ (y 1).val ∧ (y 1).val < 512 * b.val + 5632 + 512; omega

abbrev blkSetA (b : Fin 11) : Finset S3x11264.Idx := (Rect.unit (s := S3x11264) (offA b) S3x512.size (offA_inb b)).set
theorem blkA_set (b : Fin 11) : (blkA b).view.set = blkSetA b := View.set_slice_whole _ _
theorem mem_blkSetA (b : Fin 11) (y : S3x11264.Idx) : y ∈ blkSetA b ↔ (y 1).val / 512 = b.val := by
  rw [Rect.mem_set_unit]
  have hb := b.isLt
  have h1 : (y 0).val < 3 := (y 0).isLt
  constructor
  · intro H; have a0 : 512 * b.val ≤ (y 1).val ∧ (y 1).val < 512 * b.val + 512 := H 1; omega
  · intro H i; fin_cases i
    · show 0 ≤ (y 0).val ∧ (y 0).val < 0 + 3; omega
    · show 512 * b.val ≤ (y 1).val ∧ (y 1).val < 512 * b.val + 512; omega

abbrev blkSetB (b : Fin 11) : Finset S3x11264.Idx := (Rect.unit (s := S3x11264) (offB b) S3x512.size (offB_inb b)).set
theorem blkB_set (b : Fin 11) : (blkB b).view.set = blkSetB b := View.set_slice_whole _ _
theorem mem_blkSetB (b : Fin 11) (y : S3x11264.Idx) : y ∈ blkSetB b ↔ (y 1).val / 512 = b.val + 11 := by
  rw [Rect.mem_set_unit]
  have hb := b.isLt
  have h1 : (y 0).val < 3 := (y 0).isLt
  constructor
  · intro H; have a0 : 512 * b.val + 5632 ≤ (y 1).val ∧ (y 1).val < 512 * b.val + 5632 + 512 := H 1; omega
  · intro H i; fin_cases i
    · show 0 ≤ (y 0).val ∧ (y 0).val < 0 + 3; omega
    · show 512 * b.val + 5632 ≤ (y 1).val ∧ (y 1).val < 512 * b.val + 5632 + 512; omega

abbrev blkSetD (b : Fin 11) : Finset S5632x2048.Idx := (Rect.unit (s := S5632x2048) (offD b) S512x2048.size (offD_inb b)).set
theorem blkD_set (b : Fin 11) : (blkD b).view.set = blkSetD b := View.set_slice_whole _ _
theorem mem_blkSetD (b : Fin 11) (y : S5632x2048.Idx) : y ∈ blkSetD b ↔ (y 0).val / 512 = b.val := by
  rw [Rect.mem_set_unit]
  have hb := b.isLt
  have h1 : (y 1).val < 2048 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 2048; omega

abbrev blkSetO (b : Fin 8) : Finset S8192x2048.Idx := (Rect.unit (s := S8192x2048) (offO b) S1024x2048.size (offO_inb b)).set
theorem blkO_set (b : Fin 8) : (blkO b).view.set = blkSetO b := View.set_slice_whole _ _
theorem mem_blkSetO (b : Fin 8) (y : S8192x2048.Idx) : y ∈ blkSetO b ↔ (y 0).val / 1024 = b.val := by
  rw [Rect.mem_set_unit]
  have hb := b.isLt
  have h1 : (y 1).val < 2048 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2048; omega

abbrev slotSet_S2x1024x2048 (s : Fin 2) : Finset S2x1024x2048.Idx := (Rect.unit (s := S2x1024x2048) (slotOff s) S1x1024x2048.size (slotOff_inbH s)).set
theorem mem_slotSet_S2x1024x2048 (s : Fin 2) (y : S2x1024x2048.Idx) : y ∈ slotSet_S2x1024x2048 s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem slotSet_S2x1024x2048_disjoint : ∀ s s' : Fin 2, s ≠ s' → Disjoint (slotSet_S2x1024x2048 s) (slotSet_S2x1024x2048 s') := by
  intro s s' hne; rw [Finset.disjoint_left]; intro y hy hy'; rw [mem_slotSet_S2x1024x2048] at hy hy'; exact hne (Fin.ext (hy.symm.trans hy'))
theorem slotSet_S2x1024x2048_cover : (Finset.univ : Finset (Fin 2)).biUnion slotSet_S2x1024x2048 = Finset.univ := by
  ext y; simp only [Finset.mem_biUnion, Finset.mem_univ, true_and, iff_true]; exact ⟨(y 0).cast (by decide), by rw [mem_slotSet_S2x1024x2048]; rfl⟩

abbrev slotSet_S2x2048x512 (s : Fin 2) : Finset S2x2048x512.Idx := (Rect.unit (s := S2x2048x512) (slotOff s) S1x2048x512.size (slotOff_inbG s)).set
theorem mem_slotSet_S2x2048x512 (s : Fin 2) (y : S2x2048x512.Idx) : y ∈ slotSet_S2x2048x512 s ↔ (y 0).val = s.val := by
  rw [Rect.mem_set_unit]
  have h1 : (y 1).val < 2048 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 512; omega
theorem slotSet_S2x2048x512_disjoint : ∀ s s' : Fin 2, s ≠ s' → Disjoint (slotSet_S2x2048x512 s) (slotSet_S2x2048x512 s') := by
  intro s s' hne; rw [Finset.disjoint_left]; intro y hy hy'; rw [mem_slotSet_S2x2048x512] at hy hy'; exact hne (Fin.ext (hy.symm.trans hy'))
theorem slotSet_S2x2048x512_cover : (Finset.univ : Finset (Fin 2)).biUnion slotSet_S2x2048x512 = Finset.univ := by
  ext y; simp only [Finset.mem_biUnion, Finset.mem_univ, true_and, iff_true]; exact ⟨(y 0).cast (by decide), by rw [mem_slotSet_S2x2048x512]; rfl⟩

abbrev slotSet_S2x3x512 (s : Fin 2) : Finset S2x3x512.Idx := (Rect.unit (s := S2x3x512) (slotOff s) S1x3x512.size (slotOff_inbA s)).set
theorem mem_slotSet_S2x3x512 (s : Fin 2) (y : S2x3x512.Idx) : y ∈ slotSet_S2x3x512 s ↔ (y 0).val = s.val := by
  rw [Rect.mem_set_unit]
  have h1 : (y 1).val < 3 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3; omega
    · show 0 ≤ (y 2).val ∧ (y 2).val < 0 + 512; omega
theorem slotSet_S2x3x512_disjoint : ∀ s s' : Fin 2, s ≠ s' → Disjoint (slotSet_S2x3x512 s) (slotSet_S2x3x512 s') := by
  intro s s' hne; rw [Finset.disjoint_left]; intro y hy hy'; rw [mem_slotSet_S2x3x512] at hy hy'; exact hne (Fin.ext (hy.symm.trans hy'))
theorem slotSet_S2x3x512_cover : (Finset.univ : Finset (Fin 2)).biUnion slotSet_S2x3x512 = Finset.univ := by
  ext y; simp only [Finset.mem_biUnion, Finset.mem_univ, true_and, iff_true]; exact ⟨(y 0).cast (by decide), by rw [mem_slotSet_S2x3x512]; rfl⟩

abbrev slotSet_S2x512x2048 (s : Fin 2) : Finset S2x512x2048.Idx := (Rect.unit (s := S2x512x2048) (slotOff s) S1x512x2048.size (slotOff_inbD s)).set
theorem mem_slotSet_S2x512x2048 (s : Fin 2) (y : S2x512x2048.Idx) : y ∈ slotSet_S2x512x2048 s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem slotSet_S2x512x2048_disjoint : ∀ s s' : Fin 2, s ≠ s' → Disjoint (slotSet_S2x512x2048 s) (slotSet_S2x512x2048 s') := by
  intro s s' hne; rw [Finset.disjoint_left]; intro y hy hy'; rw [mem_slotSet_S2x512x2048] at hy hy'; exact hne (Fin.ext (hy.symm.trans hy'))
theorem slotSet_S2x512x2048_cover : (Finset.univ : Finset (Fin 2)).biUnion slotSet_S2x512x2048 = Finset.univ := by
  ext y; simp only [Finset.mem_biUnion, Finset.mem_univ, true_and, iff_true]; exact ⟨(y 0).cast (by decide), by rw [mem_slotSet_S2x512x2048]; rfl⟩

theorem slotH_set (s : Fin 2) : (slotH s).view.set = slotSet_S2x1024x2048 s := (View.set_reshape _ _).trans (View.set_slice_whole _ _)
theorem slotG_set (s : Fin 2) : (slotG s).view.set = slotSet_S2x2048x512 s := (View.set_reshape _ _).trans (View.set_slice_whole _ _)
theorem slotV_set (s : Fin 2) : (slotV s).view.set = slotSet_S2x2048x512 s := (View.set_reshape _ _).trans (View.set_slice_whole _ _)
theorem slotA_set (s : Fin 2) : (slotA s).view.set = slotSet_S2x3x512 s := (View.set_reshape _ _).trans (View.set_slice_whole _ _)
theorem slotB_set (s : Fin 2) : (slotB s).view.set = slotSet_S2x3x512 s := (View.set_reshape _ _).trans (View.set_slice_whole _ _)
theorem slotD_set (s : Fin 2) : (slotD s).view.set = slotSet_S2x512x2048 s := (View.set_reshape _ _).trans (View.set_slice_whole _ _)
theorem slotO_set (s : Fin 2) : (slotO s).view.set = slotSet_S2x1024x2048 s := (View.set_reshape _ _).trans (View.set_slice_whole _ _)
theorem blkSetH_disjoint : ∀ b b' : Fin 8, b ≠ b' → Disjoint (blkSetH b) (blkSetH b') := by
  intro b b' hne; rw [Finset.disjoint_left]; intro y hy hy'; rw [mem_blkSetH] at hy hy'; exact hne (Fin.ext (hy.symm.trans hy'))
theorem blkSetH_cover : (Finset.univ : Finset (Fin 8)).biUnion blkSetH = Finset.univ := by
  ext y; simp only [Finset.mem_biUnion, Finset.mem_univ, true_and, iff_true]
  have h0 : (y 0).val < 8192 := (y 0).isLt
  exact ⟨⟨(y 0).val / 1024, by omega⟩, by rw [mem_blkSetH]⟩

theorem blkSetD_disjoint : ∀ b b' : Fin 11, b ≠ b' → Disjoint (blkSetD b) (blkSetD b') := by
  intro b b' hne; rw [Finset.disjoint_left]; intro y hy hy'; rw [mem_blkSetD] at hy hy'; exact hne (Fin.ext (hy.symm.trans hy'))
theorem blkSetD_cover : (Finset.univ : Finset (Fin 11)).biUnion blkSetD = Finset.univ := by
  ext y; simp only [Finset.mem_biUnion, Finset.mem_univ, true_and, iff_true]
  have h0 : (y 0).val < 5632 := (y 0).isLt
  exact ⟨⟨(y 0).val / 512, by omega⟩, by rw [mem_blkSetD]⟩

theorem blkSetO_disjoint : ∀ b b' : Fin 8, b ≠ b' → Disjoint (blkSetO b) (blkSetO b') := by
  intro b b' hne; rw [Finset.disjoint_left]; intro y hy hy'; rw [mem_blkSetO] at hy hy'; exact hne (Fin.ext (hy.symm.trans hy'))
theorem blkSetO_cover : (Finset.univ : Finset (Fin 8)).biUnion blkSetO = Finset.univ := by
  ext y; simp only [Finset.mem_biUnion, Finset.mem_univ, true_and, iff_true]
  have h0 : (y 0).val < 8192 := (y 0).isLt
  exact ⟨⟨(y 0).val / 1024, by omega⟩, by rw [mem_blkSetO]⟩

/-- The blocks of both rings over one array. -/
abbrev halvesG : Fin 11 ⊕ Fin 11 → Finset S2048x11264.Idx := Sum.elim blkSetG blkSetV
theorem halvesG_disjoint : ∀ b b' : Fin 11 ⊕ Fin 11, b ≠ b' → Disjoint (halvesG b) (halvesG b') := by
  intro b b' hne; rw [Finset.disjoint_left]; intro y hy hy'
  rcases b with b | b <;> rcases b' with b' | b' <;> simp only [halvesG, Sum.elim_inl, Sum.elim_inr, mem_blkSetG, mem_blkSetV] at hy hy'
  · exact hne (congrArg _ (Fin.ext (by omega)))
  · have := b.isLt; omega
  · have := b'.isLt; omega
  · exact hne (congrArg _ (Fin.ext (by omega)))
theorem halvesG_cover : (Finset.univ : Finset (Fin 11 ⊕ Fin 11)).biUnion halvesG = Finset.univ := by
  ext y; simp only [Finset.mem_biUnion, Finset.mem_univ, true_and, iff_true]
  have h1 : (y 1).val < 11264 := (y 1).isLt
  by_cases h : (y 1).val / 512 < 11
  · exact ⟨.inl ⟨(y 1).val / 512, h⟩, by simp only [halvesG, Sum.elim_inl]; rw [mem_blkSetG]⟩
  · exact ⟨.inr ⟨(y 1).val / 512 - 11, by omega⟩, by simp only [halvesG, Sum.elim_inr]; rw [mem_blkSetV]; show _ = (y 1).val / 512 - 11 + 11; omega⟩

/-- The blocks of both rings over one array. -/
abbrev halvesA : Fin 11 ⊕ Fin 11 → Finset S3x11264.Idx := Sum.elim blkSetA blkSetB
theorem halvesA_disjoint : ∀ b b' : Fin 11 ⊕ Fin 11, b ≠ b' → Disjoint (halvesA b) (halvesA b') := by
  intro b b' hne; rw [Finset.disjoint_left]; intro y hy hy'
  rcases b with b | b <;> rcases b' with b' | b' <;> simp only [halvesA, Sum.elim_inl, Sum.elim_inr, mem_blkSetA, mem_blkSetB] at hy hy'
  · exact hne (congrArg _ (Fin.ext (by omega)))
  · have := b.isLt; omega
  · have := b'.isLt; omega
  · exact hne (congrArg _ (Fin.ext (by omega)))
theorem halvesA_cover : (Finset.univ : Finset (Fin 11 ⊕ Fin 11)).biUnion halvesA = Finset.univ := by
  ext y; simp only [Finset.mem_biUnion, Finset.mem_univ, true_and, iff_true]
  have h1 : (y 1).val < 11264 := (y 1).isLt
  by_cases h : (y 1).val / 512 < 11
  · exact ⟨.inl ⟨(y 1).val / 512, h⟩, by simp only [halvesA, Sum.elim_inl]; rw [mem_blkSetA]⟩
  · exact ⟨.inr ⟨(y 1).val / 512 - 11, by omega⟩, by simp only [halvesA, Sum.elim_inr]; rw [mem_blkSetB]; show _ = (y 1).val / 512 - 11 + 11; omega⟩

end Sets

/-! ## Arrays as blocks, buffers as slots -/

section Split
variable (c : Dev nD)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem arrayH_eq (X : Buf (Elt F) (hbmH.view.loc (c : Thread nD τ))) :
    (((c : Thread nD τ).loc main_v0) ↦{fullShare} X : sProp 𝕄) = bigSep Finset.univ (homeH c X) := by
  rw [Ring.pointsTo_blocks (ℓ := (c : Thread nD τ).loc main_v0) blkSetH blkSetH_disjoint blkSetH_cover]
  exact bigSep_congr fun b _ => by rw [← blkH_set]; rfl

theorem arrayD_eq (X : Buf (Elt F) (hbmD.view.loc (c : Thread nD τ))) :
    (((c : Thread nD τ).loc main_v2) ↦{fullShare} X : sProp 𝕄) = bigSep Finset.univ (homeD c X) := by
  rw [Ring.pointsTo_blocks (ℓ := (c : Thread nD τ).loc main_v2) blkSetD blkSetD_disjoint blkSetD_cover]
  exact bigSep_congr fun b _ => by rw [← blkD_set]; rfl

theorem arrayG_eq (X : Buf (Elt F) (hbmG.view.loc (c : Thread nD τ))) :
    (((c : Thread nD τ).loc main_v1) ↦{fullShare} X : sProp 𝕄) = iprop(bigSep Finset.univ (homeG c X) ∗ bigSep Finset.univ (homeV c X)) := by
  rw [Ring.pointsTo_blocks (ℓ := (c : Thread nD τ).loc main_v1) halvesG halvesG_disjoint halvesG_cover, bigSep_univ_sum]
  refine congrArg₂ _ (bigSep_congr fun b _ => ?_) (bigSep_congr fun b _ => ?_)
  · simp only [halvesG, Sum.elim_inl]; rw [← blkG_set]; rfl
  · simp only [halvesG, Sum.elim_inr]; rw [← blkV_set]; rfl

theorem arrayA_eq (X : Buf (Elt F) (hbmA.view.loc (c : Thread nD τ))) :
    (((c : Thread nD τ).loc main_arg2) ↦{fullShare} X : sProp 𝕄) = iprop(bigSep Finset.univ (homeA c X) ∗ bigSep Finset.univ (homeB c X)) := by
  rw [Ring.pointsTo_blocks (ℓ := (c : Thread nD τ).loc main_arg2) halvesA halvesA_disjoint halvesA_cover, bigSep_univ_sum]
  refine congrArg₂ _ (bigSep_congr fun b _ => ?_) (bigSep_congr fun b _ => ?_)
  · simp only [halvesA, Sum.elim_inl]; rw [← blkA_set]; rfl
  · simp only [halvesA, Sum.elim_inr]; rw [← blkB_set]; rfl

theorem arrayO_split (X : Buf (Elt F) (hbmO.view.loc (c : Thread nD τ))) :
    (((c : Thread nD τ).loc main_v3) ↦{fullShare} X : sProp 𝕄) = bigSep Finset.univ (homeO c X) := by
  rw [Ring.pointsTo_blocks (ℓ := (c : Thread nD τ).loc main_v3) blkSetO blkSetO_disjoint blkSetO_cover]
  exact bigSep_congr fun b _ => by rw [← blkO_set]; rfl

omit [FloatOps F] in
theorem heldH_eq (s : Fin 2) (f) : heldH (F := F) c s f = (((c : Thread nD τ).loc cc0_scoped0) ↦[slotSet_S2x1024x2048 s]{fullShare} f : sProp 𝕄) :=
  congrArg (fun S => (_ ↦[S]{fullShare} f : sProp 𝕄)) (slotH_set s)
omit [FloatOps F] in
theorem bufH_split :
    iprop(∃ f : Buf (Elt F) ((c : Thread nD τ).loc cc0_scoped0), ((c : Thread nD τ).loc cc0_scoped0) ↦{fullShare} f)
      ⊢ (iprop((∃ f, heldH c 0 f) ∗ ∃ f, heldH c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) slotSet_S2x1024x2048 slotSet_S2x1024x2048_disjoint slotSet_S2x1024x2048_cover f).trans (bigSep_fin2 _))) $$ H
  icases H2 with ⟨H0, H1⟩
  isplitl [H0]
  · iexists f; iapply (entails_of_eq (heldH_eq c 0 f).symm); iexact H0
  · iexists f; iapply (entails_of_eq (heldH_eq c 1 f).symm); iexact H1
omit [FloatOps F] in
theorem bufH_join :
    iprop((∃ f, heldH c 0 f) ∗ ∃ f, heldH c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) slotSet_S2x1024x2048 slotSet_S2x1024x2048_disjoint slotSet_S2x1024x2048_cover f0)
  irw [bigSep_fin2]
  isplitl [H0]
  · iexists f0; iapply (entails_of_eq (heldH_eq c 0 f0)); iexact H0
  · iexists f1; iapply (entails_of_eq (heldH_eq c 1 f1)); iexact H1

omit [FloatOps F] in
theorem heldG_eq (s : Fin 2) (f) : heldG (F := F) c s f = (((c : Thread nD τ).loc cc0_scoped2) ↦[slotSet_S2x2048x512 s]{fullShare} f : sProp 𝕄) :=
  congrArg (fun S => (_ ↦[S]{fullShare} f : sProp 𝕄)) (slotG_set s)
omit [FloatOps F] in
theorem bufG_split :
    iprop(∃ f : Buf (Elt F) ((c : Thread nD τ).loc cc0_scoped2), ((c : Thread nD τ).loc cc0_scoped2) ↦{fullShare} f)
      ⊢ (iprop((∃ f, heldG c 0 f) ∗ ∃ f, heldG c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) slotSet_S2x2048x512 slotSet_S2x2048x512_disjoint slotSet_S2x2048x512_cover f).trans (bigSep_fin2 _))) $$ H
  icases H2 with ⟨H0, H1⟩
  isplitl [H0]
  · iexists f; iapply (entails_of_eq (heldG_eq c 0 f).symm); iexact H0
  · iexists f; iapply (entails_of_eq (heldG_eq c 1 f).symm); iexact H1
omit [FloatOps F] in
theorem bufG_join :
    iprop((∃ f, heldG c 0 f) ∗ ∃ f, heldG c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) slotSet_S2x2048x512 slotSet_S2x2048x512_disjoint slotSet_S2x2048x512_cover f0)
  irw [bigSep_fin2]
  isplitl [H0]
  · iexists f0; iapply (entails_of_eq (heldG_eq c 0 f0)); iexact H0
  · iexists f1; iapply (entails_of_eq (heldG_eq c 1 f1)); iexact H1

omit [FloatOps F] in
theorem heldV_eq (s : Fin 2) (f) : heldV (F := F) c s f = (((c : Thread nD τ).loc cc0_scoped4) ↦[slotSet_S2x2048x512 s]{fullShare} f : sProp 𝕄) :=
  congrArg (fun S => (_ ↦[S]{fullShare} f : sProp 𝕄)) (slotV_set s)
omit [FloatOps F] in
theorem bufV_split :
    iprop(∃ f : Buf (Elt F) ((c : Thread nD τ).loc cc0_scoped4), ((c : Thread nD τ).loc cc0_scoped4) ↦{fullShare} f)
      ⊢ (iprop((∃ f, heldV c 0 f) ∗ ∃ f, heldV c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped4) slotSet_S2x2048x512 slotSet_S2x2048x512_disjoint slotSet_S2x2048x512_cover f).trans (bigSep_fin2 _))) $$ H
  icases H2 with ⟨H0, H1⟩
  isplitl [H0]
  · iexists f; iapply (entails_of_eq (heldV_eq c 0 f).symm); iexact H0
  · iexists f; iapply (entails_of_eq (heldV_eq c 1 f).symm); iexact H1
omit [FloatOps F] in
theorem bufV_join :
    iprop((∃ f, heldV c 0 f) ∗ ∃ f, heldV c 1 f)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) slotSet_S2x2048x512 slotSet_S2x2048x512_disjoint slotSet_S2x2048x512_cover f0)
  irw [bigSep_fin2]
  isplitl [H0]
  · iexists f0; iapply (entails_of_eq (heldV_eq c 0 f0)); iexact H0
  · iexists f1; iapply (entails_of_eq (heldV_eq c 1 f1)); iexact H1

omit [FloatOps F] in
theorem heldA_eq (s : Fin 2) (f) : heldA (F := F) c s f = (((c : Thread nD τ).loc cc0_scoped6) ↦[slotSet_S2x3x512 s]{fullShare} f : sProp 𝕄) :=
  congrArg (fun S => (_ ↦[S]{fullShare} f : sProp 𝕄)) (slotA_set s)
omit [FloatOps F] in
theorem bufA_split :
    iprop(∃ f : Buf (Elt F) ((c : Thread nD τ).loc cc0_scoped6), ((c : Thread nD τ).loc cc0_scoped6) ↦{fullShare} f)
      ⊢ (iprop((∃ f, heldA c 0 f) ∗ ∃ f, heldA c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped6) slotSet_S2x3x512 slotSet_S2x3x512_disjoint slotSet_S2x3x512_cover f).trans (bigSep_fin2 _))) $$ H
  icases H2 with ⟨H0, H1⟩
  isplitl [H0]
  · iexists f; iapply (entails_of_eq (heldA_eq c 0 f).symm); iexact H0
  · iexists f; iapply (entails_of_eq (heldA_eq c 1 f).symm); iexact H1
omit [FloatOps F] in
theorem bufA_join :
    iprop((∃ f, heldA c 0 f) ∗ ∃ f, heldA c 1 f)
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) slotSet_S2x3x512 slotSet_S2x3x512_disjoint slotSet_S2x3x512_cover f0)
  irw [bigSep_fin2]
  isplitl [H0]
  · iexists f0; iapply (entails_of_eq (heldA_eq c 0 f0)); iexact H0
  · iexists f1; iapply (entails_of_eq (heldA_eq c 1 f1)); iexact H1

omit [FloatOps F] in
theorem heldB_eq (s : Fin 2) (f) : heldB (F := F) c s f = (((c : Thread nD τ).loc cc0_scoped8) ↦[slotSet_S2x3x512 s]{fullShare} f : sProp 𝕄) :=
  congrArg (fun S => (_ ↦[S]{fullShare} f : sProp 𝕄)) (slotB_set s)
omit [FloatOps F] in
theorem bufB_split :
    iprop(∃ f : Buf (Elt F) ((c : Thread nD τ).loc cc0_scoped8), ((c : Thread nD τ).loc cc0_scoped8) ↦{fullShare} f)
      ⊢ (iprop((∃ f, heldB c 0 f) ∗ ∃ f, heldB c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped8) slotSet_S2x3x512 slotSet_S2x3x512_disjoint slotSet_S2x3x512_cover f).trans (bigSep_fin2 _))) $$ H
  icases H2 with ⟨H0, H1⟩
  isplitl [H0]
  · iexists f; iapply (entails_of_eq (heldB_eq c 0 f).symm); iexact H0
  · iexists f; iapply (entails_of_eq (heldB_eq c 1 f).symm); iexact H1
omit [FloatOps F] in
theorem bufB_join :
    iprop((∃ f, heldB c 0 f) ∗ ∃ f, heldB c 1 f)
      ⊢ (iprop(∃ f : Buf (Elt F) ((c : Thread nD τ).loc cc0_scoped8), ((c : Thread nD τ).loc cc0_scoped8) ↦{fullShare} f) : sProp 𝕄) := by
  iintro ⟨⟨%f0, H0⟩, ⟨%f1, H1⟩⟩
  iapply (Ring.pointsTo_blocks_join_exists (ℓ := (c : Thread nD τ).loc cc0_scoped8) slotSet_S2x3x512 slotSet_S2x3x512_disjoint slotSet_S2x3x512_cover f0)
  irw [bigSep_fin2]
  isplitl [H0]
  · iexists f0; iapply (entails_of_eq (heldB_eq c 0 f0)); iexact H0
  · iexists f1; iapply (entails_of_eq (heldB_eq c 1 f1)); iexact H1

omit [FloatOps F] in
theorem heldD_eq (s : Fin 2) (f) : heldD (F := F) c s f = (((c : Thread nD τ).loc cc0_scoped10) ↦[slotSet_S2x512x2048 s]{fullShare} f : sProp 𝕄) :=
  congrArg (fun S => (_ ↦[S]{fullShare} f : sProp 𝕄)) (slotD_set s)
omit [FloatOps F] in
theorem bufD_split :
    iprop(∃ f : Buf (Elt F) ((c : Thread nD τ).loc cc0_scoped10), ((c : Thread nD τ).loc cc0_scoped10) ↦{fullShare} f)
      ⊢ (iprop((∃ f, heldD c 0 f) ∗ ∃ f, heldD c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped10) slotSet_S2x512x2048 slotSet_S2x512x2048_disjoint slotSet_S2x512x2048_cover f).trans (bigSep_fin2 _))) $$ H
  icases H2 with ⟨H0, H1⟩
  isplitl [H0]
  · iexists f; iapply (entails_of_eq (heldD_eq c 0 f).symm); iexact H0
  · iexists f; iapply (entails_of_eq (heldD_eq c 1 f).symm); iexact H1
omit [FloatOps F] in
theorem bufD_join :
    iprop((∃ f, heldD c 0 f) ∗ ∃ f, heldD c 1 f)
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) slotSet_S2x512x2048 slotSet_S2x512x2048_disjoint slotSet_S2x512x2048_cover f0)
  irw [bigSep_fin2]
  isplitl [H0]
  · iexists f0; iapply (entails_of_eq (heldD_eq c 0 f0)); iexact H0
  · iexists f1; iapply (entails_of_eq (heldD_eq c 1 f1)); iexact H1

omit [FloatOps F] in
theorem heldO_eq (s : Fin 2) (f) : heldO (F := F) c s f = (((c : Thread nD τ).loc cc0_scoped12) ↦[slotSet_S2x1024x2048 s]{fullShare} f : sProp 𝕄) :=
  congrArg (fun S => (_ ↦[S]{fullShare} f : sProp 𝕄)) (slotO_set s)
omit [FloatOps F] in
theorem bufO_split :
    iprop(∃ f : Buf (Elt F) ((c : Thread nD τ).loc cc0_scoped12), ((c : Thread nD τ).loc cc0_scoped12) ↦{fullShare} f)
      ⊢ (iprop((∃ f, heldO c 0 f) ∗ ∃ f, heldO c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped12) slotSet_S2x1024x2048 slotSet_S2x1024x2048_disjoint slotSet_S2x1024x2048_cover f).trans (bigSep_fin2 _))) $$ H
  icases H2 with ⟨H0, H1⟩
  isplitl [H0]
  · iexists f; iapply (entails_of_eq (heldO_eq c 0 f).symm); iexact H0
  · iexists f; iapply (entails_of_eq (heldO_eq c 1 f).symm); iexact H1
omit [FloatOps F] in
theorem bufO_join :
    iprop((∃ f, heldO c 0 f) ∗ ∃ f, heldO c 1 f)
      ⊢ (iprop(∃ f : Buf (Elt F) ((c : Thread nD τ).loc cc0_scoped12), ((c : Thread nD τ).loc cc0_scoped12) ↦{fullShare} f) : sProp 𝕄) := by
  iintro ⟨⟨%f0, H0⟩, ⟨%f1, H1⟩⟩
  iapply (Ring.pointsTo_blocks_join_exists (ℓ := (c : Thread nD τ).loc cc0_scoped12) slotSet_S2x1024x2048 slotSet_S2x1024x2048_disjoint slotSet_S2x1024x2048_cover f0)
  irw [bigSep_fin2]
  isplitl [H0]
  · iexists f0; iapply (entails_of_eq (heldO_eq c 0 f0)); iexact H0
  · iexists f1; iapply (entails_of_eq (heldO_eq c 1 f1)); iexact H1

omit [FloatOps F] in
theorem sm_eq (f) : smP (F := F) c f = (((c : Thread nD τ).loc cc0_scratch0) ↦{fullShare} f : sProp 𝕄) := congrArg (fun S => (_ ↦[S]{fullShare} f : sProp 𝕄)) (View.set_whole _)
omit [FloatOps F] in
theorem car_eq (f) : carP (F := F) c f = (((c : Thread nD τ).loc cc0_scratch1) ↦{fullShare} f : sProp 𝕄) := congrArg (fun S => (_ ↦[S]{fullShare} f : sProp 𝕄)) (View.set_whole _)
omit [FloatOps F] in
theorem pre_eq (f) : preP (F := F) c f = (((c : Thread nD τ).loc cc0_scratch2) ↦{fullShare} f : sProp 𝕄) := congrArg (fun S => (_ ↦[S]{fullShare} f : sProp 𝕄)) (View.set_whole _)
omit [FloatOps F] in
theorem act_eq (f) : actP (F := F) c f = (((c : Thread nD τ).loc cc0_scratch3) ↦{fullShare} f : sProp 𝕄) := congrArg (fun S => (_ ↦[S]{fullShare} f : sProp 𝕄)) (View.set_whole _)

/-! ## The kernel's own semaphores: two cells for each ring -/

abbrev osem : Fin 14 → SemLoc sig := ![.dma (semH 0).sem, .dma (semH 1).sem, .dma (semG 0).sem, .dma (semG 1).sem, .dma (semV 0).sem, .dma (semV 1).sem, .dma (semA 0).sem, .dma (semA 1).sem, .dma (semB 0).sem, .dma (semB 1).sem, .dma (semD 0).sem, .dma (semD 1).sem, .dma (semO 0).sem, .dma (semO 1).sem]
theorem ownSemFacts : Pipeline.OwnSemFacts cfg0.spec osem := by decide +kernel

omit [FloatOps F] in
theorem ownSems0_eq : (Pipeline.ownSems0 (Ix := Unit) (Name := ℕ) (U := UU nD τ) (Lvl := ℕ) (Val := Elt F) (τ := τ) osem c : sProp 𝕄)
    = iprop(cellH (F := F) c 0 ∗ cellH (F := F) c 1 ∗ cellG (F := F) c 0 ∗ cellG (F := F) c 1 ∗ cellV (F := F) c 0 ∗ cellV (F := F) c 1 ∗ cellA (F := F) c 0 ∗ cellA (F := F) c 1 ∗ cellB (F := F) c 0 ∗ cellB (F := F) c 1 ∗ cellD (F := F) c 0 ∗ cellD (F := F) c 1 ∗ cellO (F := F) c 0 ∗ cellO (F := F) c 1) :=
  bigSep_univ_eq_bigSepL [(0 : Fin 14), 1, 2, 3, 4, 5, 6, 7, 8, 9, 10, 11, 12, 13] (by decide) (by decide) _

end Split

/-! ## The pipeline's proof data -/

section Launch
variable (m : (ℓ : Loc nD τ sig) → Buf (Elt F) ℓ) (ρ : Dev nD → PrngReg)

/-- What is claimed of the values, on every core. -/
abbrev Claims : Type := (c : Dev nD) → Claim F c (V m c main_v0) (V m c main_v1) (V m c main_arg2) (V m c main_v2)
variable (P : Claims (F := F) m)

/-- The region's invariant: `PRE` before its one point, `POST` after it. -/
def Φ (c : Dev nD) (n : ℕ) : sProp 𝕄 :=
  if n = 0 then PRE c (V m c main_v0) (V m c main_v1) (V m c main_arg2) (V m c main_v2) (P c) else POST c (V m c main_v0) (V m c main_v1) (V m c main_arg2) (V m c main_v2) (P c)

def dats (_ : Fin 1) (c : Dev nD) : Dat τ (Elt F) Unit ℕ (UU nD τ) ℕ cfg0 c where
  A w := w.elim0
  after w := w.elim0
  Φ t := Φ m P c t.val
  q _ := fullShare
  owed _ := 0

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

set_option backward.isDefEq.respectTransparency.types false in
theorem body_obligation (c : Dev nD) : BodyObligation (dats m P 0 c) (defs₀ (F := F)) 𝒱₀ () Set.univ := fun t => by
  have ht : t = t0_0 := fin_N0 t
  subst ht
  rw [show (dats m P 0 c).Φ (t0_0 : Fin cfg0.N).castSucc = PRE c (V m c main_v0) (V m c main_v1) (V m c main_arg2) (V m c main_v2) (P c) from rfl,
    show (dats m P 0 c).Φ (t0_0 : Fin cfg0.N).succ = POST c (V m c main_v0) (V m c main_v1) (V m c main_arg2) (V m c main_v2) (P c) from rfl]
  unfold Dat.owesAt Pipeline.owesWithin
  rw [show (dats m P 0 c).owed (t0_0 : Fin cfg0.N).castSucc = 0 from rfl, show (dats m P 0 c).owed (t0_0 : Fin cfg0.N).succ = 0 from rfl]
  iintro ⟨HΦ, ⟨%W, -, HW⟩, -⟩
  sl_rw [prog_eq t0_0]
  iapply (bodyRun c (V m c main_v0) (V m c main_v1) (V m c main_arg2) (V m c main_v2) (P c))
  isplitl [HΦ HW]
  · isplitl [HΦ]; · iexact HΦ
    iexists W; iexact HW
  iintro ⟨HΦ, ⟨%W', HW⟩⟩
  isplitl [HΦ]; · iexact HΦ
  isplitl [HW]
  · iexists W'; isplitr; · ipureintro; exact fun _ _ => Or.inl trivial
    iexact HW
  iapply (show (BI.emp : sProp 𝕄) ⊢ bigSep (Finset.univ : Finset (Fin 0)) _ from by rw [Finset.univ_eq_empty, bigSep_empty])
  iempintro

/-! ## The run -/

def intoΦ (c : Dev nD) : sProp 𝕄 :=
  iprop((((c : Thread nD τ).loc main_arg2) ↦{fullShare} V m c main_arg2) ∗ (((c : Thread nD τ).loc main_v0) ↦{fullShare} V m c main_v0) ∗ (((c : Thread nD τ).loc main_v1) ↦{fullShare} V m c main_v1)
    ∗ (((c : Thread nD τ).loc main_v2) ↦{fullShare} V m c main_v2) ∗ (((c : Thread nD τ).loc main_v3) ↦{fullShare} V m c main_v3) ∗ Pipeline.ownSems0 osem c)
def outOfΦ (c : Dev nD) : sProp 𝕄 :=
  iprop((((c : Thread nD τ).loc main_arg2) ↦{fullShare} V m c main_arg2) ∗ bigSep Finset.univ (oblk c (V m c main_v0) (V m c main_v1) (V m c main_arg2) (V m c main_v2) (P c) 8))
/-- What the region does not touch. -/
def asideΦ (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg3) ↦{fullShare} V m c main_arg3))
def u₀ : UU nD τ := (initOf (Pipeline.cells cfgs Cert.KernelIdeal.Gen.cellOf_inj) (Pipeline.launchToks cfgs Cert.KernelIdeal.Gen.cellOf_inj), 1)
/-- The final memory: the arguments as launched, every block of the result as claimed. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ ∀ b : Fin 8, (P c).Res b ((blkO b).view.read (Elt F) (s.mem ((c : Thread nD τ).loc main_v3)))

theorem oblks_eq (c : Dev nD) : bigSep Finset.univ (oblk c (V m c main_v0) (V m c main_v1) (V m c main_arg2) (V m c main_v2) (P c) 8)
    = iprop(oblk c (V m c main_v0) (V m c main_v1) (V m c main_arg2) (V m c main_v2) (P c) 8 0 ∗ oblk c (V m c main_v0) (V m c main_v1) (V m c main_arg2) (V m c main_v2) (P c) 8 1 ∗ oblk c (V m c main_v0) (V m c main_v1) (V m c main_arg2) (V m c main_v2) (P c) 8 2 ∗ oblk c (V m c main_v0) (V m c main_v1) (V m c main_arg2) (V m c main_v2) (P c) 8 3 ∗ oblk c (V m c main_v0) (V m c main_v1) (V m c main_arg2) (V m c main_v2) (P c) 8 4 ∗ oblk c (V m c main_v0) (V m c main_v1) (V m c main_arg2) (V m c main_v2) (P c) 8 5 ∗ oblk c (V m c main_v0) (V m c main_v1) (V m c main_arg2) (V m c main_v2) (P c) 8 6 ∗ oblk c (V m c main_v0) (V m c main_v1) (V m c main_arg2) (V m c main_v2) (P c) 8 7) :=
  bigSep_univ_eq_bigSepL [(0 : Fin 8), 1, 2, 3, 4, 5, 6, 7] (by decide) (by decide) _

theorem oblk_start (c : Dev nD) (b : Fin 8) : homeO c (V m c main_v3) b ⊢ oblk c (V m c main_v0) (V m c main_v1) (V m c main_arg2) (V m c main_v2) (P c) 0 b := by
  unfold oblk
  iintro H
  iexists _; isplitr
  on_goal 2 => iexact H
  ipureintro; exact fun h => absurd h (Nat.not_lt_zero _)
/-- Before the first trip nothing is claimed of the result's blocks. -/
theorem oblks_start (c : Dev nD) : bigSep Finset.univ (homeO c (V m c main_v3)) ⊢ bigSep Finset.univ (oblk c (V m c main_v0) (V m c main_v1) (V m c main_arg2) (V m c main_v2) (P c) 0) :=
  bigSep_mono fun b _ => oblk_start m P c b

set_option maxHeartbeats 4000000 in
theorem pre_of (c : Dev nD) :
    iprop(intoΦ m c ∗ Pipeline.scopedRest (cfg0.spec) c) ⊢ PRE c (V m c main_v0) (V m c main_v1) (V m c main_arg2) (V m c main_v2) (P c) := by
  rw [scopedRest0_eq]
  unfold intoΦ PRE
  rw [ownSems0_eq, arrayH_eq c, arrayG_eq c, arrayA_eq c, arrayD_eq c, arrayO_split c]
  simp only [restH, restG, restV, restA, restB, restD, ringDone, accO, sm_eq, car_eq, pre_eq, act_eq, show (0 : ℕ) + 1 = 1 from rfl, sl0, sl1]
  iintro ⟨⟨⟨HA, HB⟩, HH, ⟨HG, HV⟩, HD, HO, HcH, HcH', HcG, HcG', HcV, HcV', HcA, HcA', HcB, HcB', HcD, HcD', HcO, HcO'⟩, ⟨HC, HP, HX, HsH, HsG, HsV, HsA, HsB, HsD, HsO, HS⟩⟩

  ihave Hq := (bufH_split c) $$ HsH
  icases Hq with ⟨HsH, HsH'⟩
  ihave Hq := (bufG_split c) $$ HsG
  icases Hq with ⟨HsG, HsG'⟩
  ihave Hq := (bufV_split c) $$ HsV
  icases Hq with ⟨HsV, HsV'⟩
  ihave Hq := (bufA_split c) $$ HsA
  icases Hq with ⟨HsA, HsA'⟩
  ihave Hq := (bufB_split c) $$ HsB
  icases Hq with ⟨HsB, HsB'⟩
  ihave Hq := (bufD_split c) $$ HsD
  icases Hq with ⟨HsD, HsD'⟩
  ihave Hq := (bufO_split c) $$ HsO
  icases Hq with ⟨HsO, HsO'⟩
  isplitl [HS HC HP HX]
  · isplitl [HS]; · iexact HS
    isplitl [HC]; · iexact HC
    isplitl [HP]; · iexact HP
    iexact HX
  isplitl [HcH HsH HcH' HsH' HH]
  · isplitl [HcH]; · iexact HcH
    isplitl [HsH]; · iexact HsH
    isplitl [HcH']; · iexact HcH'
    isplitl [HsH']; · iexact HsH'
    iexact HH
  isplitl [HcG HsG HcG' HsG' HG]
  · isplitl [HcG]; · iexact HcG
    isplitl [HsG]; · iexact HsG
    isplitl [HcG']; · iexact HcG'
    isplitl [HsG']; · iexact HsG'
    iexact HG
  isplitl [HcV HsV HcV' HsV' HV]
  · isplitl [HcV]; · iexact HcV
    isplitl [HsV]; · iexact HsV
    isplitl [HcV']; · iexact HcV'
    isplitl [HsV']; · iexact HsV'
    iexact HV
  isplitl [HcA HsA HcA' HsA' HA]
  · isplitl [HcA]; · iexact HcA
    isplitl [HsA]; · iexact HsA
    isplitl [HcA']; · iexact HcA'
    isplitl [HsA']; · iexact HsA'
    iexact HA
  isplitl [HcB HsB HcB' HsB' HB]
  · isplitl [HcB]; · iexact HcB
    isplitl [HsB]; · iexact HsB
    isplitl [HcB']; · iexact HcB'
    isplitl [HsB']; · iexact HsB'
    iexact HB
  isplitl [HcD HsD HcD' HsD' HD]
  · isplitl [HcD]; · iexact HcD
    isplitl [HsD]; · iexact HsD
    isplitl [HcD']; · iexact HcD'
    isplitl [HsD']; · iexact HsD'
    iexact HD
  isplitl [HcO]; · iexact HcO
  isplitl [HsO]
  · icases HsO with ⟨%g, HsO⟩
    iexists g; isplitr; · ipureintro; exact fun h => absurd rfl h
    iexact HsO
  isplitl [HcO']; · iexact HcO'
  isplitl [HsO']; · iexact HsO'
  iapply (oblks_start m P c)
  iexact HO

set_option maxHeartbeats 4000000 in
theorem of_post (c : Dev nD) :
    POST c (V m c main_v0) (V m c main_v1) (V m c main_arg2) (V m c main_v2) (P c) ⊢ iprop(outOfΦ m P c ∗ Pipeline.ownSems0 osem c ∗ Pipeline.scopedRest (cfg0.spec) c) := by
  rw [scopedRest0_eq]
  unfold outOfΦ POST
  rw [ownSems0_eq, arrayA_eq c]
  simp only [restH, restG, restV, restA, restB, restD, ringDone, endO, sm_eq, car_eq, pre_eq, act_eq, show (8 : ℕ) + 1 = 9 from rfl, show (88 : ℕ) + 1 = 89 from rfl, sl8, show Ring.sl 2 9 = 1 from Fin.ext rfl,
    show Ring.sl 2 88 = 0 from Fin.ext rfl, show Ring.sl 2 89 = 1 from Fin.ext rfl]
  iintro ⟨⟨HS, HC, HP, HX⟩, ⟨HcH, HsH, HcH', HsH', HH⟩, ⟨HcG, HsG, HcG', HsG', HG⟩, ⟨HcV, HsV, HcV', HsV', HV⟩, ⟨HcA, HsA, HcA', HsA', HA⟩, ⟨HcB, HsB, HcB', HsB', HB⟩, ⟨HcD, HsD, HcD', HsD', HD⟩, ⟨HcO, HsO, HcO', HsO', HO⟩⟩
  isplitl [HA HB HO]
  · isplitr [HO]
    · isplitl [HA]; · iexact HA
      iexact HB
    iexact HO
  isplitl [HcH HcH' HcG HcG' HcV HcV' HcA HcA' HcB HcB' HcD HcD' HcO HcO']
  · isplitl [HcH]; · iexact HcH
    isplitl [HcH']; · iexact HcH'
    isplitl [HcG]; · iexact HcG
    isplitl [HcG']; · iexact HcG'
    isplitl [HcV]; · iexact HcV
    isplitl [HcV']; · iexact HcV'
    isplitl [HcA]; · iexact HcA
    isplitl [HcA']; · iexact HcA'
    isplitl [HcB]; · iexact HcB
    isplitl [HcB']; · iexact HcB'
    isplitl [HcD]; · iexact HcD
    isplitl [HcD']; · iexact HcD'
    isplitl [HcO]; · iexact HcO
    iexact HcO'
  isplitl [HC]; · iexact HC
  isplitl [HP]; · iexact HP
  isplitl [HX]; · iexact HX
  isplitl [HsH HsH']
  · iapply (bufH_join c)
    isplitl [HsH]; · iexact HsH
    iexact HsH'
  isplitl [HsG HsG']
  · iapply (bufG_join c)
    isplitl [HsG]; · iexact HsG
    iexact HsG'
  isplitl [HsV HsV']
  · iapply (bufV_join c)
    isplitl [HsV]; · iexact HsV
    iexact HsV'
  isplitl [HsA HsA']
  · iapply (bufA_join c)
    isplitl [HsA]; · iexact HsA
    iexact HsA'
  isplitl [HsB HsB']
  · iapply (bufB_join c)
    isplitl [HsB]; · iexact HsB
    iexact HsB'
  isplitl [HsD HsD']
  · iapply (bufD_join c)
    isplitl [HsD]; · iexact HsD
    iexact HsD'
  isplitl [HsO HsO']
  · iapply (bufO_join c)
    isplitl [HsO]; · iexact HsO
    iexact HsO'
  iexact HS

set_option backward.isDefEq.respectTransparency.types false in
set_option maxHeartbeats 1000000 in
/-- For any float values, from any memory with zero counters: every weakly fair execution of @main on the TensorCores
    terminates, and every final state has the arguments as launched, every block of the result as claimed, every
    semaphore counter at zero. -/
theorem run_main : θ_run defs (onTc (τ := τ) (main (F := F))) (s₀ m ρ) (fun r => (∀ c, QY m P c r.2) ∧ r.2.sem = fun _ => 0) :=
  Pipeline.θ_run_region_kit_quiescent cfgs (dats m P) () (0 : Fin 1) launch0 ownSemFacts EP defs₀ 𝒱₀ m ρ main
    (hbody := fun c => (body_obligation m P c).loose) (hshare := fun c => (dats m P 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoΦ m) (Y := outOfΦ m P) (Z := asideΦ m)
    (hX := fun c => by
      rw [unscopedRest0_eq]
      unfold intoΦ asideΦ
      iintro ⟨⟨H0, H1, H2, H3, H4, H5, H6, H7⟩, HS, -, -, -⟩; imodintro
      isplitl [H2 H4 H5 H6 H7 HS]
      · isplitl [H2]; · iexact H2
        isplitl [H4]; · iexact H4
        isplitl [H5]; · iexact H5
        isplitl [H6]; · iexact H6
        isplitl [H7]; · iexact H7
        iexact HS
      isplitl [H0]; · iexact H0
      isplitl [H1]; · iexact H1
      iexact H3)
    (hin := fun c => pre_of m P c)
    (hout := fun c => of_post m P c)
    (QY := QY m P)
    (hY := fun c s' => by
      unfold outOfΦ asideΦ
      rw [oblks_eq]
      unfold oblk
      iintro ⟨⟨H2, ⟨%X0, %h0, HO0⟩, ⟨%X1, %h1, HO1⟩, ⟨%X2, %h2, HO2⟩, ⟨%X3, %h3, HO3⟩, ⟨%X4, %h4, HO4⟩, ⟨%X5, %h5, HO5⟩, ⟨%X6, %h6, HO6⟩, ⟨%X7, %h7, HO7⟩⟩, ⟨H0, H1, H3⟩, HSI⟩
      icombine HSI H0 gives %e0
      icombine HSI H1 gives %e1
      icombine HSI H2 gives %e2
      icombine HSI H3 gives %e3
      icombine HSI HO0 gives %q0
      icombine HSI HO1 gives %q1
      icombine HSI HO2 gives %q2
      icombine HSI HO3 gives %q3
      icombine HSI HO4 gives %q4
      icombine HSI HO5 gives %q5
      icombine HSI HO6 gives %q6
      icombine HSI HO7 gives %q7
      imodintro
      isplitr
      · ipureintro
        refine ⟨⟨(Buf.eq_of_forall_mem_univ e0).trans (V_main_arg0 m c), (Buf.eq_of_forall_mem_univ e1).trans (V_main_arg1 m c), (Buf.eq_of_forall_mem_univ e2).trans (V_main_arg2 m c), (Buf.eq_of_forall_mem_univ e3).trans (V_main_arg3 m c)⟩, ?_⟩
        intro b
        fin_cases b
        · exact (View.read_congr (v := (blkO 0).view) q0).symm ▸ h0 (by decide)
        · exact (View.read_congr (v := (blkO 1).view) q1).symm ▸ h1 (by decide)
        · exact (View.read_congr (v := (blkO 2).view) q2).symm ▸ h2 (by decide)
        · exact (View.read_congr (v := (blkO 3).view) q3).symm ▸ h3 (by decide)
        · exact (View.read_congr (v := (blkO 4).view) q4).symm ▸ h4 (by decide)
        · exact (View.read_congr (v := (blkO 5).view) q5).symm ▸ h5 (by decide)
        · exact (View.read_congr (v := (blkO 6).view) q6).symm ▸ h6 (by decide)
        · exact (View.read_congr (v := (blkO 7).view) q7).symm ▸ h7 (by decide)
      iexact HSI)
    (hQ := fun _ hh hz => ⟨fun c => (hh c).2, hz⟩)

end Launch

end Cert.Proof.Ffn

end
-- ==== Proof.Pay.lean ====
/-
  The trip's vector expressions at the ideal instance, read one element at a time.
-/
module

public import proofs.«01_k».proof.Proof.State
public import Idealize.ShloMosaic.Lib.Pointwise

@[expose] public section

set_option maxRecDepth 16384

noncomputable section

namespace Cert.Proof.Ffn

open Cert.KernelIdeal Cert.KernelIdeal.Gen
open Idealize.ShloMosaic

/-- Three rows of the pre-activation weighted by the three taps. -/
def tap3 (w0 w1 w2 x0 x1 x2 : EReal) : EReal := w0 * x0 + w1 * x1 + w2 * x2
/-- The gated activation of the two halves. -/
def gate (x y : EReal) : EReal := x * Ideal.logistic x * y

/-! ## The pre-activations -/

theorem pay6_at (h : Vec Ideal S1x1024x2048 .bf16) (w : Vec Ideal S2048x256 .bf16) (j : S1x1x1024x256.Idx) :
    k0_pay6 (F := Ideal) (k0_pay5 h w) j = ∑ k : Fin 2048, k0_pay3 (F := Ideal) h (ix2 (j 2) k) * w (ix2 k (j 3)) := by
  pointwise [k0_pay6, k0_pay5, k0_pay3]
  done
theorem pay9_at (h : FVec Ideal S1024x2048 .bf16) (w : Vec Ideal S2048x256 .bf16) (j : S1x1x1024x256.Idx) :
    k0_pay9 (F := Ideal) h w j = ∑ k : Fin 2048, h (ix2 (j 2) k) * w (ix2 k (j 3)) := by
  pointwise [k0_pay9]
  done
theorem pay13_at (h : FVec Ideal S1024x2048 .bf16) (w : Vec Ideal S2048x256 .bf16) (j : S1x1x1024x256.Idx) :
    k0_pay13 (F := Ideal) h w j = ∑ k : Fin 2048, h (ix2 (j 2) k) * w (ix2 k (j 3)) := by
  pointwise [k0_pay13]
  done
theorem pay17_at (h : FVec Ideal S1024x2048 .bf16) (w : Vec Ideal S2048x256 .bf16) (j : S1x1x1024x256.Idx) :
    k0_pay17 (F := Ideal) h w j = ∑ k : Fin 2048, h (ix2 (j 2) k) * w (ix2 k (j 3)) := by
  pointwise [k0_pay17]
  done

/-! ## The carried rows pass unchanged -/

theorem pay4_at (x : Vec Ideal S1x1x8x256 .f32) (j : S1x1x8x256.Idx) : k0_pay4 (F := Ideal) x j = x j := by
  pointwise [k0_pay4]
  done
theorem pay7_at (x : Vec Ideal S1x1x8x256 .f32) (j : S1x1x8x256.Idx) : k0_pay7 (F := Ideal) x j = x j := by
  pointwise [k0_pay7]
  done
theorem pay8_at (x : Vec Ideal S1x1x8x256 .f32) (j : S1x1x8x256.Idx) : k0_pay8 (F := Ideal) x j = x j := by
  pointwise [k0_pay8]
  done
theorem pay11_at (x : Vec Ideal S1x1x8x256 .f32) (j : S1x1x8x256.Idx) : k0_pay11 (F := Ideal) (k0_pay10 x) j = x j := by
  pointwise [k0_pay11, k0_pay10]
  done
theorem pay12_at (x : Vec Ideal S1x1x8x256 .f32) (j : S1x1x8x256.Idx) : k0_pay12 (F := Ideal) x j = x j := by
  pointwise [k0_pay12]
  done
theorem pay14_at (x : Vec Ideal S1x1x8x256 .f32) (j : S1x1x8x256.Idx) : k0_pay14 (F := Ideal) x j = x j := by
  pointwise [k0_pay14]
  done
theorem pay16_at (x : Vec Ideal S1x1x8x256 .f32) (j : S1x1x8x256.Idx) : k0_pay16 (F := Ideal) (k0_pay15 x) j = x j := by
  pointwise [k0_pay16, k0_pay15]
  done
theorem pay18_at (x : Vec Ideal S1x1x8x256 .f32) (j : S1x1x8x256.Idx) : k0_pay18 (F := Ideal) x j = x j := by
  pointwise [k0_pay18]
  done

/-! ## The activations -/

theorem pay26_at (w : Vec Ideal S3x256 .f32) (a6 a7 a8 : Vec Ideal S1x1x1024x256 .f32) (w' : Vec Ideal S3x256 .f32) (b6 b7 b8 : Vec Ideal S1x1x1024x256 .f32) (j : S1x1024x256.Idx) :
    k0_pay26 (F := Ideal) (k0_pay23 w a6 a7 a8) w' (k0_pay24 w' b6) (k0_pay25 w') b7 b8 j
      = gate (tap3 (w (ix2 0 (j 2))) (w (ix2 1 (j 2))) (w (ix2 2 (j 2))) (a6 (ix4 0 0 (j 1) (j 2))) (a7 (ix4 0 0 (j 1) (j 2))) (a8 (ix4 0 0 (j 1) (j 2))))
          (tap3 (w' (ix2 0 (j 2))) (w' (ix2 1 (j 2))) (w' (ix2 2 (j 2))) (b6 (ix4 0 0 (j 1) (j 2))) (b7 (ix4 0 0 (j 1) (j 2))) (b8 (ix4 0 0 (j 1) (j 2)))) := by
  unfold gate tap3
  pointwise [k0_pay26, k0_pay23, k0_pay24, k0_pay25]
  done
theorem pay22_at (w : Vec Ideal S3x256 .f32) (a6 a7 a8 : Vec Ideal S1x1x1024x256 .f32) (w' : Vec Ideal S3x256 .f32) (b6 b7 b8 : Vec Ideal S1x1x1024x256 .f32) (j : S1x1024x256.Idx) :
    k0_pay22 (F := Ideal) (k0_pay21 w (k0_pay19 w a6) (k0_pay20 w) a7 a8 w' b6 b7 b8) j
      = gate (tap3 (w (ix2 0 (j 2))) (w (ix2 1 (j 2))) (w (ix2 2 (j 2))) (a6 (ix4 0 0 (j 1) (j 2))) (a7 (ix4 0 0 (j 1) (j 2))) (a8 (ix4 0 0 (j 1) (j 2))))
          (tap3 (w' (ix2 0 (j 2))) (w' (ix2 1 (j 2))) (w' (ix2 2 (j 2))) (b6 (ix4 0 0 (j 1) (j 2))) (b7 (ix4 0 0 (j 1) (j 2))) (b8 (ix4 0 0 (j 1) (j 2)))) := by
  unfold gate tap3
  pointwise [k0_pay22, k0_pay21, k0_pay19, k0_pay20]
  done

/-! ## One accumulation -/

theorem pay27_at (o : Vec Ideal S1024x256 .f32) (x : Vec Ideal S1x1024x256 .bf16) (d : Vec Ideal S256x256 .bf16) (j : S1024x256.Idx) :
    k0_pay27 (F := Ideal) o x d j = o j + ∑ k : Fin 256, x (ix3 0 (j 0) k) * d (ix2 k (j 1)) := by
  pointwise [k0_pay27]
  done
theorem pay28_at (o : Vec Ideal S1024x256 .f32) (x : Vec Ideal S1x1024x256 .bf16) (d : Vec Ideal S256x256 .bf16) (j : S1024x256.Idx) :
    k0_pay28 (F := Ideal) o x d j = o j + ∑ k : Fin 256, x (ix3 0 (j 0) k) * d (ix2 k (j 1)) := by
  pointwise [k0_pay28]
  done
theorem pay29_at (o : Vec Ideal S1024x256 .f32) (x : Vec Ideal S1x1024x256 .bf16) (d : Vec Ideal S256x256 .bf16) (j : S1024x256.Idx) :
    k0_pay29 (F := Ideal) o x d j = o j + ∑ k : Fin 256, x (ix3 0 (j 0) k) * d (ix2 k (j 1)) := by
  pointwise [k0_pay29]
  done
theorem pay30_at (o : Vec Ideal S1024x256 .f32) (x : Vec Ideal S1x1024x256 .bf16) (d : Vec Ideal S256x256 .bf16) (j : S1024x256.Idx) :
    k0_pay30 (F := Ideal) o x d j = o j + ∑ k : Fin 256, x (ix3 0 (j 0) k) * d (ix2 k (j 1)) := by
  pointwise [k0_pay30]
  done
theorem pay31_at (o : Vec Ideal S1024x256 .f32) (x : Vec Ideal S1x1024x256 .bf16) (d : Vec Ideal S256x256 .bf16) (j : S1024x256.Idx) :
    k0_pay31 (F := Ideal) o x d j = o j + ∑ k : Fin 256, x (ix3 0 (j 0) k) * d (ix2 k (j 1)) := by
  pointwise [k0_pay31]
  done
theorem pay32_at (o : Vec Ideal S1024x256 .f32) (x : Vec Ideal S1x1024x256 .bf16) (d : Vec Ideal S256x256 .bf16) (j : S1024x256.Idx) :
    k0_pay32 (F := Ideal) o x d j = o j + ∑ k : Fin 256, x (ix3 0 (j 0) k) * d (ix2 k (j 1)) := by
  pointwise [k0_pay32]
  done
theorem pay36_at (o : Vec Ideal S1024x256 .f32) (x : Vec Ideal S1x1024x256 .bf16) (d : Vec Ideal S256x256 .bf16) (j : S1024x256.Idx) :
    k0_pay36 (F := Ideal) (k0_pay33 o) (k0_pay34 x) (k0_pay35 d) (constant S1024x256 FTy.f32 0#32) j = o j + ∑ k : Fin 256, x (ix3 0 (j 0) k) * d (ix2 k (j 1)) := by
  pointwise [k0_pay36, k0_pay33, k0_pay34, k0_pay35]
  done
theorem pay37_at (o : Vec Ideal S1024x256 .f32) (x : Vec Ideal S1x1024x256 .bf16) (d : Vec Ideal S256x256 .bf16) (j : S1024x256.Idx) :
    k0_pay37 (F := Ideal) o x d j = o j + ∑ k : Fin 256, x (ix3 0 (j 0) k) * d (ix2 k (j 1)) := by
  pointwise [k0_pay37]
  done
theorem pay40_at (o : Vec Ideal S1024x256 .f32) (x : Vec Ideal S1x1024x256 .bf16) (d : Vec Ideal S256x256 .bf16) (j : S1024x256.Idx) :
    k0_pay40 (F := Ideal) (k0_pay38 o) (k0_pay39 x) d j = o j + ∑ k : Fin 256, x (ix3 0 (j 0) k) * d (ix2 k (j 1)) := by
  pointwise [k0_pay40, k0_pay38, k0_pay39]
  done
theorem pay41_at (o : Vec Ideal S1024x256 .f32) (x : Vec Ideal S1x1024x256 .bf16) (d : Vec Ideal S256x256 .bf16) (j : S1024x256.Idx) :
    k0_pay41 (F := Ideal) o x d j = o j + ∑ k : Fin 256, x (ix3 0 (j 0) k) * d (ix2 k (j 1)) := by
  pointwise [k0_pay41]
  done
theorem pay44_at (o : Vec Ideal S1024x256 .f32) (x : Vec Ideal S1x1024x256 .bf16) (d : Vec Ideal S256x256 .bf16) (j : S1024x256.Idx) :
    k0_pay44 (F := Ideal) (k0_pay42 o) (k0_pay43 x) d j = o j + ∑ k : Fin 256, x (ix3 0 (j 0) k) * d (ix2 k (j 1)) := by
  pointwise [k0_pay44, k0_pay42, k0_pay43]
  done
theorem pay45_at (o : Vec Ideal S1024x256 .f32) (x : Vec Ideal S1x1024x256 .bf16) (d : Vec Ideal S256x256 .bf16) (j : S1024x256.Idx) :
    k0_pay45 (F := Ideal) o x d j = o j + ∑ k : Fin 256, x (ix3 0 (j 0) k) * d (ix2 k (j 1)) := by
  pointwise [k0_pay45]
  done
theorem pay47_at (o : Vec Ideal S1024x256 .f32) (x : Vec Ideal S1x1024x256 .bf16) (d : Vec Ideal S256x256 .bf16) (j : S1024x256.Idx) :
    k0_pay47 (F := Ideal) (k0_pay46 o) x d j = o j + ∑ k : Fin 256, x (ix3 0 (j 0) k) * d (ix2 k (j 1)) := by
  pointwise [k0_pay47, k0_pay46]
  done
theorem pay48_at (o : Vec Ideal S1024x256 .f32) (x : Vec Ideal S1x1024x256 .bf16) (d : Vec Ideal S256x256 .bf16) (j : S1024x256.Idx) :
    k0_pay48 (F := Ideal) o x d j = o j + ∑ k : Fin 256, x (ix3 0 (j 0) k) * d (ix2 k (j 1)) := by
  pointwise [k0_pay48]
  done
theorem pay49_at (o : Vec Ideal S1024x256 .f32) (x : Vec Ideal S1x1024x256 .bf16) (d : Vec Ideal S256x256 .bf16) (j : S1024x256.Idx) :
    k0_pay49 (F := Ideal) o x d j = o j + ∑ k : Fin 256, x (ix3 0 (j 0) k) * d (ix2 k (j 1)) := by
  pointwise [k0_pay49]
  done
theorem pay50_at (o : Vec Ideal S1024x256 .f32) (x : Vec Ideal S1x1024x256 .bf16) (d : Vec Ideal S256x256 .bf16) (j : S1024x256.Idx) :
    k0_pay50 (F := Ideal) o x d j = o j + ∑ k : Fin 256, x (ix3 0 (j 0) k) * d (ix2 k (j 1)) := by
  pointwise [k0_pay50]
  done

/-! ## The zero fills -/

theorem pay1_at (j : S1x2x8x512.Idx) : k0_pay1 (F := Ideal) j = (0 : EReal) := by
  pointwise [k0_pay1]
  done
theorem pay2_at (j : S1x1024x2048.Idx) : k0_pay2 (F := Ideal) j = (0 : EReal) := by
  pointwise [k0_pay2]
  done

end Cert.Proof.Ffn

end
-- ==== Proof.ReadPre.lean ====
/-
  One trip at the ideal instance, first half: the carried rows loaded, the pre-activations, the rows carried on.
-/
module

public import proofs.«01_k».proof.Proof.Pay

@[expose] public section

set_option maxRecDepth 16384

noncomputable section

namespace Cert.Proof.Ffn

open Cert.KernelIdeal Cert.KernelIdeal.Gen
open Idealize.ShloMosaic
open Idealize.ShloMosaic.TcCoe

/-! ## Arrays read at natural numbers -/

/-- Entry `(i, j)` of a matrix, zero outside it. -/
def at2 {m n : ℕ} (X : (⟨2, ![m, n]⟩ : Shape).Idx → EReal) (i j : ℕ) : EReal :=
  if h : i < m ∧ j < n then X (ix2 ⟨i, h.1⟩ ⟨j, h.2⟩) else 0
/-- Entry `(f, b, e, l)` of an array of rank four, zero outside it. -/
def at4 {m n p q : ℕ} (X : (⟨4, ![m, n, p, q]⟩ : Shape).Idx → EReal) (f b e l : ℕ) : EReal :=
  if h : (f < m ∧ b < n) ∧ e < p ∧ l < q then X (ix4 ⟨f, h.1.1⟩ ⟨b, h.1.2⟩ ⟨e, h.2.1⟩ ⟨l, h.2.2⟩) else 0

theorem at2_eq {m n : ℕ} (X : (⟨2, ![m, n]⟩ : Shape).Idx → EReal) (y : (⟨2, ![m, n]⟩ : Shape).Idx) {i j : ℕ}
    (hi : (y 0).val = i) (hj : (y 1).val = j) : X y = at2 X i j := by
  subst hi hj
  unfold at2
  rw [dif_pos ⟨(y 0).isLt, (y 1).isLt⟩]
  exact congrArg X (eq_ix2 y)
theorem at4_eq {m n p q : ℕ} (X : (⟨4, ![m, n, p, q]⟩ : Shape).Idx → EReal) (y : (⟨4, ![m, n, p, q]⟩ : Shape).Idx) {f b e l : ℕ}
    (hf : (y 0).val = f) (hb : (y 1).val = b) (he : (y 2).val = e) (hl : (y 3).val = l) : X y = at4 X f b e l := by
  subst hf hb he hl
  unfold at4
  rw [dif_pos ⟨⟨(y 0).isLt, (y 1).isLt⟩, (y 2).isLt, (y 3).isLt⟩]
  exact congrArg X (eq_ix4 y)

/-- A coordinate of an index inside a box of stride one. -/
theorem unit_coord {s : Shape} {off off' size : Fin s.rank → ℕ} {inb : ∀ a, off a + size a ≤ s.size a} (e : off = off')
    (x : (Rect.unit off size inb).shape.Idx) (a : Fin s.rank) : ((Rect.unit off size inb).emb x a).val = off' a + (x a).val := by
  subst e
  rw [Rect.emb_apply]
  show off a + 1 * (x a).val = _
  rw [Nat.one_mul]

/-- A matrix read inside a box of stride one. -/
theorem box2 {m n : ℕ} (X : (⟨2, ![m, n]⟩ : Shape).Idx → EReal) {off size : Fin 2 → ℕ} (inb : ∀ a, off a + size a ≤ (⟨2, ![m, n]⟩ : Shape).size a) {o0 o1 : ℕ}
    (e : off = ![o0, o1]) (x : (Rect.unit (s := ⟨2, ![m, n]⟩) off size inb).shape.Idx) {i j : ℕ} (hi : o0 + (x (0 : Fin 2)).val = i) (hj : o1 + (x (1 : Fin 2)).val = j) :
    X ((Rect.unit (s := ⟨2, ![m, n]⟩) off size inb).emb x) = at2 X i j :=
  at2_eq X _ ((unit_coord e x (0 : Fin 2)).trans hi) ((unit_coord e x (1 : Fin 2)).trans hj)
/-- An array of rank four read inside a box of stride one. -/
theorem box4 {m n p q : ℕ} (X : (⟨4, ![m, n, p, q]⟩ : Shape).Idx → EReal) {off size : Fin 4 → ℕ} (inb : ∀ a, off a + size a ≤ (⟨4, ![m, n, p, q]⟩ : Shape).size a)
    {o0 o1 o2 o3 : ℕ} (e : off = ![o0, o1, o2, o3]) (x : (Rect.unit (s := ⟨4, ![m, n, p, q]⟩) off size inb).shape.Idx) {f b r l : ℕ}
    (h0 : o0 + (x (0 : Fin 4)).val = f) (h1 : o1 + (x (1 : Fin 4)).val = b) (h2 : o2 + (x (2 : Fin 4)).val = r) (h3 : o3 + (x (3 : Fin 4)).val = l) :
    X ((Rect.unit (s := ⟨4, ![m, n, p, q]⟩) off size inb).emb x) = at4 X f b r l :=
  at4_eq X _ ((unit_coord e x (0 : Fin 4)).trans h0) ((unit_coord e x (1 : Fin 4)).trans h1) ((unit_coord e x (2 : Fin 4)).trans h2) ((unit_coord e x (3 : Fin 4)).trans h3)

/-! ## What a trip computes -/

/-- Row `e` of the extended pre-activation of half `b`: eight carried rows, then the product. -/
def preT (C : ℕ → ℕ → ℕ → EReal) (H : ℕ → ℕ → EReal) (W : ℕ → ℕ → ℕ → EReal) (b e l : ℕ) : EReal :=
  if e < 8 then C b e l else ∑ k : Fin 2048, H (e - 8) k.val * W b k.val l

section Trip
variable (c : Dev nD) (k : Trip)
    (gH : SBufH (F := Ideal) c (Ring.sl 2 (k.val / 11))) (gG : SBufG (F := Ideal) c (Ring.sl 2 k.val)) (gV : SBufV (F := Ideal) c (Ring.sl 2 k.val))
    (gC : Buf (Elt Ideal) (bufC.view.loc (c : Thread nD τ)))

/-- The staged row block of `h`. -/
def rdH : ℕ → ℕ → EReal := at2 (m := 1024) (n := 2048) ((slotH (Ring.sl 2 (k.val / 11))).view.read (Elt Ideal) gH)
/-- The staged column blocks of the two halves of the up-projection. -/
def rdW (b : ℕ) : ℕ → ℕ → EReal :=
  if b = 0 then at2 (m := 2048) (n := 512) ((slotG (Ring.sl 2 k.val)).view.read (Elt Ideal) gG)
  else at2 (m := 2048) (n := 512) ((slotV (Ring.sl 2 k.val)).view.read (Elt Ideal) gV)
/-- The carry as the trip finds it: zeroed for the column block in the first row of blocks. -/
def carBase : Buf (Elt Ideal) (bufC.view.loc (c : Thread nD τ)) :=
  if hc : k0_cond14 (wK k.val) = 1#1 then
    bufC.view.writes (Elt Ideal) gC [⟨Rect.unit (s := S11x2x8x512) (k0_off42 (wK k.val)) S1x2x8x512.size (k0_off42_inb (wI k.val) (wK k.val) (chk2_ok k) hc), k0_pay1 (F := Ideal)⟩]
  else gC
/-- The carried rows of the trip's column block. -/
def rdC (b e l : ℕ) : EReal := at4 (m := 11) (n := 2) (p := 8) (q := 512) (bufC.view.read (Elt Ideal) (carBase c k gC)) (k.val % 11) b e l
/-- The trip's extended pre-activations. -/
def preR : ℕ → ℕ → ℕ → EReal := preT (rdC c k gC) (rdH c k gH) (rdW c k gG gV)

theorem v318_at (x : S1x1x8x256.Idx) : compRun.sl.v318_r0 c k gC x = rdC c k gC 0 (x 2).val (x 3).val := by
  have h0 : (x 0).val < 1 := (x 0).isLt
  have h1 : (x 1).val < 1 := (x 1).isLt
  exact box4 (m := 11) (n := 2) (p := 8) (q := 512) (bufC.view.read (Elt Ideal) (carBase c k gC)) _ (off45_eq k) x (by omega) (by omega) (by omega) (by omega)
theorem v338_at (x : S1x1x8x256.Idx) : compRun.sl.v338_r0 c k gC x = rdC c k gC 1 (x 2).val (x 3).val := by
  have h0 : (x 0).val < 1 := (x 0).isLt
  have h1 : (x 1).val < 1 := (x 1).isLt
  exact box4 (m := 11) (n := 2) (p := 8) (q := 512) (bufC.view.read (Elt Ideal) (carBase c k gC)) _ (off47_eq k) x (by omega) (by omega) (by omega) (by omega)
theorem v358_at (x : S1x1x8x256.Idx) : compRun.sl.v358_r0 c k gC x = rdC c k gC 0 (x 2).val (256 + (x 3).val) := by
  have h0 : (x 0).val < 1 := (x 0).isLt
  have h1 : (x 1).val < 1 := (x 1).isLt
  exact box4 (m := 11) (n := 2) (p := 8) (q := 512) (bufC.view.read (Elt Ideal) (carBase c k gC)) _ (off49_eq k) x (by omega) (by omega) (by omega) (by omega)
theorem v378_at (x : S1x1x8x256.Idx) : compRun.sl.v378_r0 c k gC x = rdC c k gC 1 (x 2).val (256 + (x 3).val) := by
  have h0 : (x 0).val < 1 := (x 0).isLt
  have h1 : (x 1).val < 1 := (x 1).isLt
  exact box4 (m := 11) (n := 2) (p := 8) (q := 512) (bufC.view.read (Elt Ideal) (carBase c k gC)) _ (off50_eq k) x (by omega) (by omega) (by omega) (by omega)

/-- The staged row block as the trip reads it. -/
theorem r_eq : compRun.sl.r c k gH = (slotH (Ring.sl 2 (k.val / 11))).view.read (Elt Ideal) gH := by
  have gen : ∀ (off : Fin 3 → ℕ) (hh : ∀ a, off a + S1x1024x2048.size a ≤ S2x1024x2048.size a), off = slotOff (Ring.sl 2 (k.val / 11)) →
      shapeCast S1024x2048 (View.readAt (Elt Ideal) bufH.view (Rect.unit (s := S2x1024x2048) off S1x1024x2048.size hh).toLoadRect gH) shapeCasts_S1x1024x2048_S1024x2048
        = (slotH (Ring.sl 2 (k.val / 11))).view.read (Elt Ideal) gH := by
    intro off hh e
    subst e
    rfl
  exact gen _ _ (off44_eq k)

/-- The two loads of a half of the up-projection, each half of the staged columns. -/
theorem loadG0 (i : Fin 2048) (x : Fin 256) : View.readAt (Elt Ideal) (slotG (Ring.sl 2 k.val)).view (Rect.unit (s := S2048x512) ![0, 0] S2048x256.size inb_S2048x512_S2048x256_0_0).toLoadRect gG (ix2 i x)
    = rdW c k gG gV 0 i.val x.val := by
  unfold rdW; rw [if_pos rfl]
  exact box2 (m := 2048) (n := 512) ((slotG (Ring.sl 2 k.val)).view.read (Elt Ideal) gG) _ rfl (ix2 i x) (Nat.zero_add _) (Nat.zero_add _)
theorem loadG1 (i : Fin 2048) (x : Fin 256) : View.readAt (Elt Ideal) (slotG (Ring.sl 2 k.val)).view (Rect.unit (s := S2048x512) ![0, 256] S2048x256.size inb_S2048x512_S2048x256_0_256).toLoadRect gG (ix2 i x)
    = rdW c k gG gV 0 i.val (256 + x.val) := by
  unfold rdW; rw [if_pos rfl]
  exact box2 (m := 2048) (n := 512) ((slotG (Ring.sl 2 k.val)).view.read (Elt Ideal) gG) _ rfl (ix2 i x) (Nat.zero_add _) rfl
theorem loadV0 (i : Fin 2048) (x : Fin 256) : View.readAt (Elt Ideal) (slotV (Ring.sl 2 k.val)).view (Rect.unit (s := S2048x512) ![0, 0] S2048x256.size inb_S2048x512_S2048x256_0_0).toLoadRect gV (ix2 i x)
    = rdW c k gG gV 1 i.val x.val := by
  unfold rdW; rw [if_neg (by decide)]
  exact box2 (m := 2048) (n := 512) ((slotV (Ring.sl 2 k.val)).view.read (Elt Ideal) gV) _ rfl (ix2 i x) (Nat.zero_add _) (Nat.zero_add _)
theorem loadV1 (i : Fin 2048) (x : Fin 256) : View.readAt (Elt Ideal) (slotV (Ring.sl 2 k.val)).view (Rect.unit (s := S2048x512) ![0, 256] S2048x256.size inb_S2048x512_S2048x256_0_256).toLoadRect gV (ix2 i x)
    = rdW c k gG gV 1 i.val (256 + x.val) := by
  unfold rdW; rw [if_neg (by decide)]
  exact box2 (m := 2048) (n := 512) ((slotV (Ring.sl 2 k.val)).view.read (Elt Ideal) gV) _ rfl (ix2 i x) (Nat.zero_add _) rfl

/-- A product row is a row of the extended pre-activation past the carried ones. -/
theorem pre_mm (h : FVec Ideal S1024x2048 .bf16) (hh : h = (slotH (Ring.sl 2 (k.val / 11))).view.read (Elt Ideal) gH)
    (w : Vec Ideal S2048x256 .bf16) (b l0 : ℕ) (hw : ∀ (i : Fin 2048) (x : Fin 256), w (ix2 i x) = rdW c k gG gV b i.val (l0 + x.val)) (r : Fin 1024) (l : Fin 256) :
    (∑ i : Fin 2048, h (ix2 r i) * w (ix2 i l)) = preR c k gH gG gV gC b (8 + r.val) (l0 + l.val) := by
  unfold preR preT
  rw [if_neg (by omega), Nat.add_sub_cancel_left]
  refine Finset.sum_congr rfl fun i _ => ?_
  rw [hw, hh]
  exact congrArg (· * _) (at2_eq (m := 1024) (n := 2048) ((slotH (Ring.sl 2 (k.val / 11))).view.read (Elt Ideal) gH) (ix2 r i) rfl rfl)

/-- A carried row is a row of the extended pre-activation. -/
theorem pre_car (b : ℕ) (e : Fin 8) (l : ℕ) : rdC c k gC b e.val l = preR c k gH gG gV gC b e.val l := by
  unfold preR preT
  rw [if_pos e.isLt]

/-! ## The buffer of extended pre-activations -/

/-- What that buffer holds. -/
def preG (y : S2x2x1032x256.Idx) : EReal := preR c k gH gG gV gC (y 0).val (y 2).val (256 * (y 1).val + (y 3).val)

/-- A piece of that buffer holds what it should. -/
abbrev OkP (p : View.Piece (Elt Ideal) S2x2x1032x256 .f32) : Prop := ∀ x : p.1.shape.Idx, p.2 x = preG c k gH gG gV gC (p.1.emb x)

theorem preG_emb {off size : Fin 4 → ℕ} (inb : ∀ a, off a + size a ≤ S2x2x1032x256.size a) {b a e0 : ℕ} (e : off = ![b, a, e0, 0])
    (x : (Rect.unit (s := S2x2x1032x256) off size inb).shape.Idx) (h0 : (x (0 : Fin 4)).val < 1) (h1 : (x (1 : Fin 4)).val < 1) :
    preG c k gH gG gV gC ((Rect.unit (s := S2x2x1032x256) off size inb).emb x) = preR c k gH gG gV gC b (e0 + (x (2 : Fin 4)).val) (256 * a + (x (3 : Fin 4)).val) := by
  have e0' := unit_coord e x (0 : Fin 4)
  have e1' := unit_coord e x (1 : Fin 4)
  have e2' := unit_coord e x (2 : Fin 4)
  have e3' := unit_coord e x (3 : Fin 4)
  have f0 : ((Rect.unit (s := S2x2x1032x256) off size inb).emb x (0 : Fin 4)).val = b := e0'.trans (by show b + _ = b; omega)
  have f1 : ((Rect.unit (s := S2x2x1032x256) off size inb).emb x (1 : Fin 4)).val = a := e1'.trans (by show a + _ = a; omega)
  have f2 : ((Rect.unit (s := S2x2x1032x256) off size inb).emb x (2 : Fin 4)).val = e0 + (x (2 : Fin 4)).val := e2'
  have f3 : ((Rect.unit (s := S2x2x1032x256) off size inb).emb x (3 : Fin 4)).val = (x (3 : Fin 4)).val := e3'.trans (Nat.zero_add _)
  unfold preG
  rw [f0, f1, f2, f3]

/-- A piece of product rows. -/
theorem okMM (pay : FVec Ideal S1x1x1024x256 .f32) (h : FVec Ideal S1024x2048 .bf16) (hh : h = (slotH (Ring.sl 2 (k.val / 11))).view.read (Elt Ideal) gH)
    (w : Vec Ideal S2048x256 .bf16) (b a : ℕ) (hw : ∀ (i : Fin 2048) (x : Fin 256), w (ix2 i x) = rdW c k gG gV b i.val (256 * a + x.val))
    (hpay : ∀ j : S1x1x1024x256.Idx, pay j = ∑ i : Fin 2048, h (ix2 (j 2) i) * w (ix2 i (j 3)))
    {off : Fin 4 → ℕ} (inb : ∀ x, off x + S1x1x1024x256.size x ≤ S2x2x1032x256.size x) (e : off = ![b, a, 8, 0]) :
    OkP c k gH gG gV gC ⟨Rect.unit (s := S2x2x1032x256) off S1x1x1024x256.size inb, pay⟩ := by
  intro x
  refine (hpay x).trans (Eq.trans ?_ (preG_emb c k gH gG gV gC inb e x (x (0 : Fin 4)).isLt (x (1 : Fin 4)).isLt).symm)
  exact pre_mm c k gH gG gV gC h hh w b (256 * a) hw (x 2) (x 3)
/-- A piece of carried rows. -/
theorem okCar (pay v : FVec Ideal S1x1x8x256 .f32) (b a : ℕ) (hv : ∀ x : S1x1x8x256.Idx, v x = rdC c k gC b (x 2).val (256 * a + (x 3).val)) (hpay : ∀ j, pay j = v j)
    {off : Fin 4 → ℕ} (inb : ∀ x, off x + S1x1x8x256.size x ≤ S2x2x1032x256.size x) (e : off = ![b, a, 0, 0]) :
    OkP c k gH gG gV gC ⟨Rect.unit (s := S2x2x1032x256) off S1x1x8x256.size inb, pay⟩ := by
  intro x
  refine (hpay x).trans ((hv x).trans (Eq.trans ?_ (preG_emb c k gH gG gV gC inb e x (x (0 : Fin 4)).isLt (x (1 : Fin 4)).isLt).symm))
  rw [Nat.zero_add]
  exact pre_car c k gH gG gV gC b (x 2) _

theorem okHP2 : ∀ p ∈ compRun.sl.HP_2 c k gH gG gC, OkP c k gH gG gV gC p := by
  unfold compRun.sl.HP_2
  refine List.forall_mem_cons.2 ⟨?_, List.forall_mem_cons.2 ⟨?_, fun p hp => absurd hp List.not_mem_nil⟩⟩
  · exact okMM c k gH gG gV gC _ _ (r_eq c k gH) _ 0 0 (fun i x => (loadG0 c k gG gV i x).trans (by rw [Nat.mul_zero, Nat.zero_add])) (fun j => pay6_at _ _ j) _ rfl
  · exact okCar c k gH gG gV gC _ _ 0 0 (fun x => (v318_at c k gC x).trans (by rw [Nat.mul_zero, Nat.zero_add])) (fun j => pay4_at _ j) _ rfl
theorem okHP4 : ∀ p ∈ compRun.sl.HP_4 c k gH gG gV gC, OkP c k gH gG gV gC p := by
  unfold compRun.sl.HP_4
  refine List.forall_mem_cons.2 ⟨?_, List.forall_mem_cons.2 ⟨?_, okHP2 c k gH gG gV gC⟩⟩
  · exact okMM c k gH gG gV gC _ _ (r_eq c k gH) _ 1 0 (fun i x => (loadV0 c k gG gV i x).trans (by rw [Nat.mul_zero, Nat.zero_add])) (fun j => pay9_at _ _ j) _ rfl
  · exact okCar c k gH gG gV gC _ _ 1 0 (fun x => (v338_at c k gC x).trans (by rw [Nat.mul_zero, Nat.zero_add])) (fun j => pay8_at _ j) _ rfl
theorem okHP6 : ∀ p ∈ compRun.sl.HP_6 c k gH gG gV gC, OkP c k gH gG gV gC p := by
  unfold compRun.sl.HP_6
  refine List.forall_mem_cons.2 ⟨?_, List.forall_mem_cons.2 ⟨?_, okHP4 c k gH gG gV gC⟩⟩
  · exact okMM c k gH gG gV gC _ _ (r_eq c k gH) _ 0 1 (fun i x => (loadG1 c k gG gV i x).trans (by rw [Nat.mul_one])) (fun j => pay13_at _ _ j) _ rfl
  · exact okCar c k gH gG gV gC _ _ 0 1 (fun x => (v358_at c k gC x).trans (by rw [Nat.mul_one])) (fun j => pay12_at _ j) _ rfl
theorem okHP8 : ∀ p ∈ compRun.sl.HP_8 c k gH gG gV gC, OkP c k gH gG gV gC p := by
  unfold compRun.sl.HP_8
  refine List.forall_mem_cons.2 ⟨?_, List.forall_mem_cons.2 ⟨?_, okHP6 c k gH gG gV gC⟩⟩
  · exact okMM c k gH gG gV gC _ _ (r_eq c k gH) _ 1 1 (fun i x => (loadV1 c k gG gV i x).trans (by rw [Nat.mul_one])) (fun j => pay17_at _ _ j) _ rfl
  · exact okCar c k gH gG gV gC _ _ 1 1 (fun x => (v378_at c k gC x).trans (by rw [Nat.mul_one])) (fun j => pay16_at _ j) _ rfl

end Trip

end Cert.Proof.Ffn

end
-- ==== Proof.ReadCar.lean ====
/-
  One trip at the ideal instance: the extended pre-activations as loaded, and the rows it carries on.
-/
module

public import proofs.«01_k».proof.Proof.ReadPre
public import Idealize.ShloMosaic.Lib.WritesUnit

@[expose] public section

set_option maxRecDepth 16384

noncomputable section

namespace Cert.Proof.Ffn

open Cert.KernelIdeal Cert.KernelIdeal.Gen
open Idealize.ShloMosaic
open Idealize.ShloMosaic.TcCoe

section Trip
variable (c : Dev nD) (k : Trip)
    (gH : SBufH (F := Ideal) c (Ring.sl 2 (k.val / 11))) (gG : SBufG (F := Ideal) c (Ring.sl 2 k.val)) (gV : SBufV (F := Ideal) c (Ring.sl 2 k.val))
    (gC : Buf (Elt Ideal) (bufC.view.loc (c : Thread nD τ)))

/-! ## Which piece an element lies in -/

theorem mem_box4 {m n p q : ℕ} {off size : Fin 4 → ℕ} (inb : ∀ a, off a + size a ≤ (⟨4, ![m, n, p, q]⟩ : Shape).size a) {o0 o1 o2 o3 s0 s1 s2 s3 : ℕ}
    (e : off = ![o0, o1, o2, o3]) (es : size = ![s0, s1, s2, s3]) (y : (⟨4, ![m, n, p, q]⟩ : Shape).Idx)
    (h0 : o0 ≤ (y (0 : Fin 4)).val ∧ (y (0 : Fin 4)).val < o0 + s0) (h1 : o1 ≤ (y (1 : Fin 4)).val ∧ (y (1 : Fin 4)).val < o1 + s1)
    (h2 : o2 ≤ (y (2 : Fin 4)).val ∧ (y (2 : Fin 4)).val < o2 + s2) (h3 : o3 ≤ (y (3 : Fin 4)).val ∧ (y (3 : Fin 4)).val < o3 + s3) :
    y ∈ (Rect.unit (s := ⟨4, ![m, n, p, q]⟩) off size inb).set := by
  subst e es
  exact Rect.mem_set_unit.2 (Fin.forall_fin_succ.2 ⟨h0, Fin.forall_fin_succ.2 ⟨h1, Fin.forall_fin_succ.2 ⟨h2, Fin.forall_fin_succ.2 ⟨h3, fun i => i.elim0⟩⟩⟩⟩)

theorem mem_big {off : Fin 4 → ℕ} (inb : ∀ x, off x + S1x1x1024x256.size x ≤ S2x2x1032x256.size x) {b a : ℕ} (e : off = ![b, a, 8, 0]) (y : S2x2x1032x256.Idx)
    (hb : (y (0 : Fin 4)).val = b) (ha : (y (1 : Fin 4)).val = a) (h : 8 ≤ (y (2 : Fin 4)).val) : y ∈ (Rect.unit (s := S2x2x1032x256) off S1x1x1024x256.size inb).set := by
  have h2 : (y (2 : Fin 4)).val < 1032 := (y (2 : Fin 4)).isLt
  have h3 : (y (3 : Fin 4)).val < 256 := (y (3 : Fin 4)).isLt
  exact mem_box4 inb e rfl y (by omega) (by omega) (by omega) (by omega)
theorem mem_small {off : Fin 4 → ℕ} (inb : ∀ x, off x + S1x1x8x256.size x ≤ S2x2x1032x256.size x) {b a : ℕ} (e : off = ![b, a, 0, 0]) (y : S2x2x1032x256.Idx)
    (hb : (y (0 : Fin 4)).val = b) (ha : (y (1 : Fin 4)).val = a) (h : (y (2 : Fin 4)).val < 8) : y ∈ (Rect.unit (s := S2x2x1032x256) off S1x1x8x256.size inb).set := by
  have h3 : (y (3 : Fin 4)).val < 256 := (y (3 : Fin 4)).isLt
  exact mem_box4 inb e rfl y (by omega) (by omega) (by omega) (by omega)

/-- The eight pieces fill the buffer. -/
theorem cov8 (y : S2x2x1032x256.Idx) : ∃ p ∈ compRun.sl.HP_8 c k gH gG gV gC, y ∈ p.1.set := by
  unfold compRun.sl.HP_8 compRun.sl.HP_6 compRun.sl.HP_4 compRun.sl.HP_2
  have hb : (y (0 : Fin 4)).val < 2 := (y (0 : Fin 4)).isLt
  have ha : (y (1 : Fin 4)).val < 2 := (y (1 : Fin 4)).isLt
  rcases (show (y (0 : Fin 4)).val = 0 ∨ (y (0 : Fin 4)).val = 1 by omega) with hb | hb
  · rcases (show (y (1 : Fin 4)).val = 0 ∨ (y (1 : Fin 4)).val = 1 by omega) with ha | ha
    · rcases Nat.lt_or_ge (y (2 : Fin 4)).val 8 with h | h
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_small inb_S2x2x1032x256_S1x1x8x256_0_0_0_0 rfl y hb ha h⟩
      · exact ⟨_, List.mem_cons_of_mem _ (List.mem_cons_of_mem _ (List.mem_cons_of_mem _ (List.mem_cons_of_mem _ (List.mem_cons_of_mem _ (List.mem_cons_of_mem _ List.mem_cons_self))))), mem_big inb_S2x2x1032x256_S1x1x1024x256_0_0_8_0 rfl y hb ha h⟩
    · rcases Nat.lt_or_ge (y (2 : Fin 4)).val 8 with h | h
      · exact ⟨_, List.mem_cons_of_mem _ (List.mem_cons_of_mem _ (List.mem_cons_of_mem _ List.mem_cons_self)), mem_small inb_S2x2x1032x256_S1x1x8x256_0_1_0_0 rfl y hb ha h⟩
      · exact ⟨_, List.mem_cons_of_mem _ (List.mem_cons_of_mem _ List.mem_cons_self), mem_big inb_S2x2x1032x256_S1x1x1024x256_0_1_8_0 rfl y hb ha h⟩
  · rcases (show (y (1 : Fin 4)).val = 0 ∨ (y (1 : Fin 4)).val = 1 by omega) with ha | ha
    · rcases Nat.lt_or_ge (y (2 : Fin 4)).val 8 with h | h
      · exact ⟨_, List.mem_cons_of_mem _ (List.mem_cons_of_mem _ (List.mem_cons_of_mem _ (List.mem_cons_of_mem _ (List.mem_cons_of_mem _ List.mem_cons_self)))), mem_small inb_S2x2x1032x256_S1x1x8x256_1_0_0_0 rfl y hb ha h⟩
      · exact ⟨_, List.mem_cons_of_mem _ (List.mem_cons_of_mem _ (List.mem_cons_of_mem _ (List.mem_cons_of_mem _ List.mem_cons_self))), mem_big inb_S2x2x1032x256_S1x1x1024x256_1_0_8_0 rfl y hb ha h⟩
    · rcases Nat.lt_or_ge (y (2 : Fin 4)).val 8 with h | h
      · exact ⟨_, List.mem_cons_of_mem _ List.mem_cons_self, mem_small inb_S2x2x1032x256_S1x1x8x256_1_1_0_0 rfl y hb ha h⟩
      · exact ⟨_, List.mem_cons_self, mem_big inb_S2x2x1032x256_S1x1x1024x256_1_1_8_0 rfl y hb ha h⟩

/-- A load of a covered box reads the pre-activations. -/
theorem readHP (L : List (View.Piece (Elt Ideal) S2x2x1032x256 .f32)) (hL : ∀ p ∈ L, OkP c k gH gG gV gC p)
    {off size : Fin 4 → ℕ} (inb : ∀ a, off a + size a ≤ S2x2x1032x256.size a) (x : (Rect.unit (s := S2x2x1032x256) off size inb).shape.Idx)
    (hcov : ∃ p ∈ L, (Rect.unit (s := S2x2x1032x256) off size inb).emb x ∈ p.1.set) :
    bufP.view.readCov L (Rect.unit (s := S2x2x1032x256) off size inb).toLoadRect x = preG c k gH gG gV gC ((Rect.unit (s := S2x2x1032x256) off size inb).emb x) :=
  View.read_writes_apply_of_pieces (Val := Elt Ideal) (s := S2x2x1032x256) (e := .f32) bufP.view (bufP.view.junk (Val := Elt Ideal)) (preG c k gH gG gV gC) L hL ((Rect.unit (s := S2x2x1032x256) off size inb).emb x) hcov

theorem v331_at (x : S1x1x8x256.Idx) : compRun.sl.v331_r0 c k gH gG gC x = preR c k gH gG gV gC 0 (1024 + (x 2).val) (256 * 0 + (x 3).val) := by
  refine (readHP c k gH gG gV gC (compRun.sl.HP_2 c k gH gG gC) (okHP2 c k gH gG gV gC) _ x ?_).trans (preG_emb c k gH gG gV gC _ rfl x (x (0 : Fin 4)).isLt (x (1 : Fin 4)).isLt)
  unfold compRun.sl.HP_2
  refine ⟨_, List.mem_cons_self, mem_big inb_S2x2x1032x256_S1x1x1024x256_0_0_8_0 rfl _ ?_ ?_ ?_⟩
  · have h : (x (0 : Fin 4)).val < 1 := (x (0 : Fin 4)).isLt
    refine (unit_coord (s := S2x2x1032x256) rfl x (0 : Fin 4)).trans ?_
    show 0 + (x (0 : Fin 4)).val = 0; omega
  · have h : (x (1 : Fin 4)).val < 1 := (x (1 : Fin 4)).isLt
    refine (unit_coord (s := S2x2x1032x256) rfl x (1 : Fin 4)).trans ?_
    show 0 + (x (1 : Fin 4)).val = 0; omega
  · refine le_of_le_of_eq ?_ (unit_coord (s := S2x2x1032x256) rfl x (2 : Fin 4)).symm
    show 8 ≤ 1024 + (x (2 : Fin 4)).val; omega
theorem v351_at (x : S1x1x8x256.Idx) : compRun.sl.v351_r0 c k gH gG gV gC x = preR c k gH gG gV gC 1 (1024 + (x 2).val) (256 * 0 + (x 3).val) := by
  refine (readHP c k gH gG gV gC (compRun.sl.HP_4 c k gH gG gV gC) (okHP4 c k gH gG gV gC) _ x ?_).trans (preG_emb c k gH gG gV gC _ rfl x (x (0 : Fin 4)).isLt (x (1 : Fin 4)).isLt)
  unfold compRun.sl.HP_4
  refine ⟨_, List.mem_cons_self, mem_big inb_S2x2x1032x256_S1x1x1024x256_1_0_8_0 rfl _ ?_ ?_ ?_⟩
  · have h : (x (0 : Fin 4)).val < 1 := (x (0 : Fin 4)).isLt
    refine (unit_coord (s := S2x2x1032x256) rfl x (0 : Fin 4)).trans ?_
    show 1 + (x (0 : Fin 4)).val = 1; omega
  · have h : (x (1 : Fin 4)).val < 1 := (x (1 : Fin 4)).isLt
    refine (unit_coord (s := S2x2x1032x256) rfl x (1 : Fin 4)).trans ?_
    show 0 + (x (1 : Fin 4)).val = 0; omega
  · refine le_of_le_of_eq ?_ (unit_coord (s := S2x2x1032x256) rfl x (2 : Fin 4)).symm
    show 8 ≤ 1024 + (x (2 : Fin 4)).val; omega
theorem v371_at (x : S1x1x8x256.Idx) : compRun.sl.v371_r0 c k gH gG gV gC x = preR c k gH gG gV gC 0 (1024 + (x 2).val) (256 * 1 + (x 3).val) := by
  refine (readHP c k gH gG gV gC (compRun.sl.HP_6 c k gH gG gV gC) (okHP6 c k gH gG gV gC) _ x ?_).trans (preG_emb c k gH gG gV gC _ rfl x (x (0 : Fin 4)).isLt (x (1 : Fin 4)).isLt)
  unfold compRun.sl.HP_6
  refine ⟨_, List.mem_cons_self, mem_big inb_S2x2x1032x256_S1x1x1024x256_0_1_8_0 rfl _ ?_ ?_ ?_⟩
  · have h : (x (0 : Fin 4)).val < 1 := (x (0 : Fin 4)).isLt
    refine (unit_coord (s := S2x2x1032x256) rfl x (0 : Fin 4)).trans ?_
    show 0 + (x (0 : Fin 4)).val = 0; omega
  · have h : (x (1 : Fin 4)).val < 1 := (x (1 : Fin 4)).isLt
    refine (unit_coord (s := S2x2x1032x256) rfl x (1 : Fin 4)).trans ?_
    show 1 + (x (1 : Fin 4)).val = 1; omega
  · refine le_of_le_of_eq ?_ (unit_coord (s := S2x2x1032x256) rfl x (2 : Fin 4)).symm
    show 8 ≤ 1024 + (x (2 : Fin 4)).val; omega
theorem v391_at (x : S1x1x8x256.Idx) : compRun.sl.v391_r0 c k gH gG gV gC x = preR c k gH gG gV gC 1 (1024 + (x 2).val) (256 * 1 + (x 3).val) := by
  refine (readHP c k gH gG gV gC (compRun.sl.HP_8 c k gH gG gV gC) (okHP8 c k gH gG gV gC) _ x ?_).trans (preG_emb c k gH gG gV gC _ rfl x (x (0 : Fin 4)).isLt (x (1 : Fin 4)).isLt)
  unfold compRun.sl.HP_8
  refine ⟨_, List.mem_cons_self, mem_big inb_S2x2x1032x256_S1x1x1024x256_1_1_8_0 rfl _ ?_ ?_ ?_⟩
  · have h : (x (0 : Fin 4)).val < 1 := (x (0 : Fin 4)).isLt
    refine (unit_coord (s := S2x2x1032x256) rfl x (0 : Fin 4)).trans ?_
    show 1 + (x (0 : Fin 4)).val = 1; omega
  · have h : (x (1 : Fin 4)).val < 1 := (x (1 : Fin 4)).isLt
    refine (unit_coord (s := S2x2x1032x256) rfl x (1 : Fin 4)).trans ?_
    show 1 + (x (1 : Fin 4)).val = 1; omega
  · refine le_of_le_of_eq ?_ (unit_coord (s := S2x2x1032x256) rfl x (2 : Fin 4)).symm
    show 8 ≤ 1024 + (x (2 : Fin 4)).val; omega
theorem v401_at (x : S1x1x1024x256.Idx) : compRun.sl.v401_r0 c k gH gG gV gC x = preR c k gH gG gV gC 0 (6 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v406_at (x : S1x1x1024x256.Idx) : compRun.sl.v406_r0 c k gH gG gV gC x = preR c k gH gG gV gC 0 (7 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v412_at (x : S1x1x1024x256.Idx) : compRun.sl.v412_r0 c k gH gG gV gC x = preR c k gH gG gV gC 0 (8 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v421_at (x : S1x1x1024x256.Idx) : compRun.sl.v421_r0 c k gH gG gV gC x = preR c k gH gG gV gC 1 (6 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v426_at (x : S1x1x1024x256.Idx) : compRun.sl.v426_r0 c k gH gG gV gC x = preR c k gH gG gV gC 1 (7 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v432_at (x : S1x1x1024x256.Idx) : compRun.sl.v432_r0 c k gH gG gV gC x = preR c k gH gG gV gC 1 (8 + (x 2).val) (256 * 0 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v448_at (x : S1x1x1024x256.Idx) : compRun.sl.v448_r0 c k gH gG gV gC x = preR c k gH gG gV gC 0 (6 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v453_at (x : S1x1x1024x256.Idx) : compRun.sl.v453_r0 c k gH gG gV gC x = preR c k gH gG gV gC 0 (7 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v459_at (x : S1x1x1024x256.Idx) : compRun.sl.v459_r0 c k gH gG gV gC x = preR c k gH gG gV gC 0 (8 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v468_at (x : S1x1x1024x256.Idx) : compRun.sl.v468_r0 c k gH gG gV gC x = preR c k gH gG gV gC 1 (6 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v473_at (x : S1x1x1024x256.Idx) : compRun.sl.v473_r0 c k gH gG gV gC x = preR c k gH gG gV gC 1 (7 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)
theorem v479_at (x : S1x1x1024x256.Idx) : compRun.sl.v479_r0 c k gH gG gV gC x = preR c k gH gG gV gC 1 (8 + (x 2).val) (256 * 1 + (x 3).val) :=
  (readHP c k gH gG gV gC (compRun.sl.HP_8 c k gH gG gV gC) (okHP8 c k gH gG gV gC) _ x (cov8 c k gH gG gV gC _)).trans (preG_emb c k gH gG gV gC _ rfl x (x (0 : Fin 4)).isLt (x (1 : Fin 4)).isLt)

/-! ## The rows carried on -/

/-- What the trip leaves in the carry at its column block: the last eight rows. -/
def newC (y : S11x2x8x512.Idx) : EReal := preR c k gH gG gV gC (y 1).val (1024 + (y 2).val) (y 3).val

theorem okNew (pay v : FVec Ideal S1x1x8x256 .f32) (b a : ℕ) (hv : ∀ x : S1x1x8x256.Idx, v x = preR c k gH gG gV gC b (1024 + (x 2).val) (256 * a + (x 3).val)) (hpay : ∀ j, pay j = v j)
    {off : Fin 4 → ℕ} (inb : ∀ x, off x + S1x1x8x256.size x ≤ S11x2x8x512.size x) (e : off = carryOff (k.val % 11) b (256 * a)) :
    ∀ x, (⟨Rect.unit (s := S11x2x8x512) off S1x1x8x256.size inb, pay⟩ : View.Piece (Elt Ideal) S11x2x8x512 .f32).2 x = newC c k gH gG gV gC ((Rect.unit (s := S11x2x8x512) off S1x1x8x256.size inb).emb x) := by
  intro x
  refine (hpay x).trans ((hv x).trans ?_)
  have h1 : (x (1 : Fin 4)).val < 1 := (x (1 : Fin 4)).isLt
  have f1 : ((Rect.unit (s := S11x2x8x512) off S1x1x8x256.size inb).emb x (1 : Fin 4)).val = b := (unit_coord e x (1 : Fin 4)).trans (by show b + _ = b; omega)
  have f2 : ((Rect.unit (s := S11x2x8x512) off S1x1x8x256.size inb).emb x (2 : Fin 4)).val = (x (2 : Fin 4)).val := (unit_coord e x (2 : Fin 4)).trans (Nat.zero_add _)
  have f3 : ((Rect.unit (s := S11x2x8x512) off S1x1x8x256.size inb).emb x (3 : Fin 4)).val = 256 * a + (x (3 : Fin 4)).val := unit_coord e x (3 : Fin 4)
  unfold newC
  rw [f1, f2, f3]

section Carry
variable (gA : SBufA (F := Ideal) c (Ring.sl 2 k.val)) (gB : SBufB (F := Ideal) c (Ring.sl 2 k.val)) (gD : SBufD (F := Ideal) c (Ring.sl 2 k.val))
    (gO : SBufO (F := Ideal) c (Ring.sl 2 (k.val / 11))) (gP : Buf (Elt Ideal) (bufP.view.loc (c : Thread nD τ))) (gX : Buf (Elt Ideal) (bufX.view.loc (c : Thread nD τ)))

/-- The four pieces the trip leaves in the carry. -/
def carL : List (View.Piece (Elt Ideal) S11x2x8x512 .f32) :=
  [⟨Rect.unit (s := S11x2x8x512) (k0_off50 (wK k.val)) S1x1x8x256.size (k0_off50_inb (wI k.val) (wK k.val) (chk2_ok k)), k0_pay18 (compRun.sl.v391_r0 c k gH gG gV gC)⟩,
    ⟨Rect.unit (s := S11x2x8x512) (k0_off49 (wK k.val)) S1x1x8x256.size (k0_off49_inb (wI k.val) (wK k.val) (chk2_ok k)), k0_pay14 (compRun.sl.v371_r0 c k gH gG gV gC)⟩,
    ⟨Rect.unit (s := S11x2x8x512) (k0_off47 (wK k.val)) S1x1x8x256.size (k0_off47_inb (wI k.val) (wK k.val) (chk2_ok k)), k0_pay11 (compRun.sl.r_2 c k gH gG gV gC)⟩,
    ⟨Rect.unit (s := S11x2x8x512) (k0_off45 (wK k.val)) S1x1x8x256.size (k0_off45_inb (wI k.val) (wK k.val) (chk2_ok k)), k0_pay7 (compRun.sl.v331_r0 c k gH gG gC)⟩]

theorem compRun_car : (compRun c k gH gG gV gA gB gD gO gC gP gX).1.1 = bufC.view.writes (Elt Ideal) (carBase c k gC) (carL c k gH gG gV gC) := by
  unfold compRun
  dsimp only
  unfold carBase carL
  congr 1

theorem ok_carL : ∀ p ∈ carL c k gH gG gV gC, ∀ x, p.2 x = newC c k gH gG gV gC (p.1.emb x) := by
  unfold carL
  refine List.forall_mem_cons.2 ⟨okNew c k gH gG gV gC _ _ 1 1 (fun x => v391_at c k gH gG gV gC x) (fun j => pay18_at _ j) _ (off50_eq k), ?_⟩
  refine List.forall_mem_cons.2 ⟨okNew c k gH gG gV gC _ _ 0 1 (fun x => v371_at c k gH gG gV gC x) (fun j => pay14_at _ j) _ (off49_eq k), ?_⟩
  refine List.forall_mem_cons.2 ⟨okNew c k gH gG gV gC _ _ 1 0 (fun x => v351_at c k gH gG gV gC x) (fun j => pay11_at _ j) _ (off47_eq k), ?_⟩
  refine List.forall_mem_cons.2 ⟨okNew c k gH gG gV gC _ _ 0 0 (fun x => v331_at c k gH gG gV gC x) (fun j => pay7_at _ j) _ (off45_eq k), ?_⟩
  exact fun p hp => absurd hp List.not_mem_nil

/-- At the trip's column block the carry holds the last eight rows. -/
theorem car_same (b e l : ℕ) (hb : b < 2) (he : e < 8) (hl : l < 512) :
    at4 (m := 11) (n := 2) (p := 8) (q := 512) (bufC.view.read (Elt Ideal) (compRun c k gH gG gV gA gB gD gO gC gP gX).1.1) (k.val % 11) b e l
      = preR c k gH gG gV gC b (1024 + e) l := by
  have hf : k.val % 11 < 11 := Nat.mod_lt _ (by decide)
  rw [compRun_car]
  refine (at4_eq (m := 11) (n := 2) (p := 8) (q := 512) _ (ix4 ⟨k.val % 11, hf⟩ ⟨b, hb⟩ ⟨e, he⟩ ⟨l, hl⟩) rfl rfl rfl rfl).symm.trans ?_
  refine View.read_writes_apply_of_pieces (Val := Elt Ideal) (s := S11x2x8x512) (e := .f32) bufC.view _ (newC c k gH gG gV gC) (carL c k gH gG gV gC) (ok_carL c k gH gG gV gC) _ ?_
  unfold carL
  rcases (show b = 0 ∨ b = 1 by omega) with rfl | rfl
  · rcases Nat.lt_or_ge l 256 with h | h
    · exact ⟨_, List.mem_cons_of_mem _ (List.mem_cons_of_mem _ (List.mem_cons_of_mem _ List.mem_cons_self)), mem_box4 (m := 11) (n := 2) (p := 8) (q := 512) (k0_off45_inb (wI k.val) (wK k.val) (chk2_ok k)) (off45_eq k) rfl _ ⟨le_refl _, Nat.lt_succ_self _⟩ ⟨le_refl _, Nat.lt_succ_self _⟩ ⟨Nat.zero_le _, by show e < 0 + 8; omega⟩ ⟨Nat.zero_le _, by show l < 0 + 256; omega⟩⟩
    · exact ⟨_, List.mem_cons_of_mem _ List.mem_cons_self, mem_box4 (m := 11) (n := 2) (p := 8) (q := 512) (k0_off49_inb (wI k.val) (wK k.val) (chk2_ok k)) (off49_eq k) rfl _ ⟨le_refl _, Nat.lt_succ_self _⟩ ⟨le_refl _, Nat.lt_succ_self _⟩ ⟨Nat.zero_le _, by show e < 0 + 8; omega⟩ ⟨h, by show l < 256 + 256; omega⟩⟩
  · rcases Nat.lt_or_ge l 256 with h | h
    · exact ⟨_, List.mem_cons_of_mem _ (List.mem_cons_of_mem _ List.mem_cons_self), mem_box4 (m := 11) (n := 2) (p := 8) (q := 512) (k0_off47_inb (wI k.val) (wK k.val) (chk2_ok k)) (off47_eq k) rfl _ ⟨le_refl _, Nat.lt_succ_self _⟩ ⟨le_refl _, Nat.lt_succ_self _⟩ ⟨Nat.zero_le _, by show e < 0 + 8; omega⟩ ⟨Nat.zero_le _, by show l < 0 + 256; omega⟩⟩
    · exact ⟨_, List.mem_cons_self, mem_box4 (m := 11) (n := 2) (p := 8) (q := 512) (k0_off50_inb (wI k.val) (wK k.val) (chk2_ok k)) (off50_eq k) rfl _ ⟨le_refl _, Nat.lt_succ_self _⟩ ⟨le_refl _, Nat.lt_succ_self _⟩ ⟨Nat.zero_le _, by show e < 0 + 8; omega⟩ ⟨h, by show l < 256 + 256; omega⟩⟩

/-- One write into the carry at another column block leaves an element as it was. -/
theorem car_miss {off size : Fin 4 → ℕ} (inb : ∀ a, off a + size a ≤ S11x2x8x512.size a) (w : (Rect.unit (s := S11x2x8x512) off size inb).shape.Idx → EReal)
    (L : List (View.Piece (Elt Ideal) S11x2x8x512 .f32)) (g : Buf (Elt Ideal) (bufC.view.loc (c : Thread nD τ))) (y : S11x2x8x512.Idx) {f b l : ℕ} (e : off = carryOff f b l) (hs : size (0 : Fin 4) = 1)
    (hy : (y (0 : Fin 4)).val ≠ f) :
    bufC.view.read (Elt Ideal) (bufC.view.writes (Elt Ideal) g (⟨Rect.unit (s := S11x2x8x512) off size inb, w⟩ :: L)) y = bufC.view.read (Elt Ideal) (bufC.view.writes (Elt Ideal) g L) y :=
  View.read_writes_cons_unit_of_not_mem bufC.view g inb w L y e (0 : Fin 4) (by rw [hs]; show (y (0 : Fin 4)).val < f ∨ f + 1 ≤ _; omega)

/-- At every other column block the carry is as it was. -/
theorem car_other (f b e l : ℕ) (hf : f < 11) (hb : b < 2) (he : e < 8) (hl : l < 512) (hne : f ≠ k.val % 11) :
    at4 (m := 11) (n := 2) (p := 8) (q := 512) (bufC.view.read (Elt Ideal) (compRun c k gH gG gV gA gB gD gO gC gP gX).1.1) f b e l
      = at4 (m := 11) (n := 2) (p := 8) (q := 512) (bufC.view.read (Elt Ideal) gC) f b e l := by
  rw [compRun_car]
  refine (at4_eq (m := 11) (n := 2) (p := 8) (q := 512) _ (ix4 ⟨f, hf⟩ ⟨b, hb⟩ ⟨e, he⟩ ⟨l, hl⟩) rfl rfl rfl rfl).symm.trans (Eq.trans ?_ (at4_eq (m := 11) (n := 2) (p := 8) (q := 512) (bufC.view.read (Elt Ideal) gC) (ix4 ⟨f, hf⟩ ⟨b, hb⟩ ⟨e, he⟩ ⟨l, hl⟩) rfl rfl rfl rfl))
  unfold carL
  refine (car_miss c _ _ _ _ _ (off50_eq k) rfl hne).trans ((car_miss c _ _ _ _ _ (off49_eq k) rfl hne).trans ((car_miss c _ _ _ _ _ (off47_eq k) rfl hne).trans ((car_miss c _ _ _ _ _ (off45_eq k) rfl hne).trans ?_)))
  show bufC.view.read (Elt Ideal) (carBase c k gC) _ = _
  unfold carBase
  split
  · exact car_miss c _ _ _ _ _ (off42_eq k) rfl hne
  · rfl

/-- The carried rows the trip reads: zero in the first row of blocks. -/
theorem rdC_eq (b e l : ℕ) (hb : b < 2) (he : e < 8) (hl : l < 512) :
    rdC c k gC b e l = if k.val < 11 then 0 else at4 (m := 11) (n := 2) (p := 8) (q := 512) (bufC.view.read (Elt Ideal) gC) (k.val % 11) b e l := by
  have hf : k.val % 11 < 11 := Nat.mod_lt _ (by decide)
  unfold rdC
  by_cases h : k.val < 11
  · rw [if_pos h]
    refine (at4_eq (m := 11) (n := 2) (p := 8) (q := 512) _ (ix4 ⟨k.val % 11, hf⟩ ⟨b, hb⟩ ⟨e, he⟩ ⟨l, hl⟩) rfl rfl rfl rfl).symm.trans ?_
    unfold carBase
    rw [dif_pos ((cond14_iff k).2 h)]
    have ok : ∀ p ∈ ([⟨Rect.unit (s := S11x2x8x512) (k0_off42 (wK k.val)) S1x2x8x512.size (k0_off42_inb (wI k.val) (wK k.val) (chk2_ok k) ((cond14_iff k).2 h)), k0_pay1 (F := Ideal)⟩] :
        List (View.Piece (Elt Ideal) S11x2x8x512 .f32)), ∀ x, p.2 x = (fun _ => (0 : EReal) : S11x2x8x512.Idx → Elt Ideal .f32) (p.1.emb x) :=
      List.forall_mem_cons.2 ⟨fun x => pay1_at x, fun p hp => absurd hp List.not_mem_nil⟩
    refine View.read_writes_apply_of_pieces (Val := Elt Ideal) (s := S11x2x8x512) (e := .f32) bufC.view _ (fun _ => (0 : EReal)) [⟨Rect.unit (s := S11x2x8x512) (k0_off42 (wK k.val)) S1x2x8x512.size (k0_off42_inb (wI k.val) (wK k.val) (chk2_ok k) ((cond14_iff k).2 h)), k0_pay1 (F := Ideal)⟩] ok _ ⟨_, List.mem_cons_self, ?_⟩
    exact mem_box4 (m := 11) (n := 2) (p := 8) (q := 512) (k0_off42_inb (wI k.val) (wK k.val) (chk2_ok k) ((cond14_iff k).2 h)) (off42_eq k) rfl _ ⟨le_refl _, Nat.lt_succ_self _⟩ ⟨Nat.zero_le _, by show b < 0 + 2; omega⟩ ⟨Nat.zero_le _, by show e < 0 + 8; omega⟩ ⟨Nat.zero_le _, by show l < 0 + 512; omega⟩
  · rw [if_neg h]
    unfold carBase
    rw [dif_neg (fun hc => h ((cond14_iff k).1 hc))]

end Carry

end Trip

end Cert.Proof.Ffn

end
-- ==== Proof.ReadAct.lean ====
/-
  One trip at the ideal instance: the gated activations.
-/
module

public import proofs.«01_k».proof.Proof.ReadCar

@[expose] public section

set_option maxRecDepth 16384

noncomputable section

namespace Cert.Proof.Ffn

open Cert.KernelIdeal Cert.KernelIdeal.Gen
open Idealize.ShloMosaic
open Idealize.ShloMosaic.TcCoe

theorem tap_congr {w0 w1 w2 x0 x1 x2 w0' w1' w2' x0' x1' x2' : EReal} (a0 : w0 = w0') (a1 : w1 = w1') (a2 : w2 = w2') (b0 : x0 = x0') (b1 : x1 = x1') (b2 : x2 = x2') :
    tap3 w0 w1 w2 x0 x1 x2 = tap3 w0' w1' w2' x0' x1' x2' := by
  subst a0 a1 a2 b0 b1 b2
  rfl

/-- Row `r` of the activations, from the extended pre-activations `P` and the taps `A`, `B` of the two halves. -/
def actT (P : ℕ → ℕ → ℕ → EReal) (A B : ℕ → ℕ → EReal) (r l : ℕ) : EReal :=
  gate (tap3 (A 0 l) (A 1 l) (A 2 l) (P 0 (6 + r) l) (P 0 (7 + r) l) (P 0 (8 + r) l))
    (tap3 (B 0 l) (B 1 l) (B 2 l) (P 1 (6 + r) l) (P 1 (7 + r) l) (P 1 (8 + r) l))

/-- Membership in a box of a rank-three array. -/
theorem mem_box3 {m n p : ℕ} {off size : Fin 3 → ℕ} (inb : ∀ a, off a + size a ≤ (⟨3, ![m, n, p]⟩ : Shape).size a) {o0 o1 o2 s0 s1 s2 : ℕ}
    (e : off = ![o0, o1, o2]) (es : size = ![s0, s1, s2]) (y : (⟨3, ![m, n, p]⟩ : Shape).Idx)
    (h0 : o0 ≤ (y (0 : Fin 3)).val ∧ (y (0 : Fin 3)).val < o0 + s0) (h1 : o1 ≤ (y (1 : Fin 3)).val ∧ (y (1 : Fin 3)).val < o1 + s1)
    (h2 : o2 ≤ (y (2 : Fin 3)).val ∧ (y (2 : Fin 3)).val < o2 + s2) :
    y ∈ (Rect.unit (s := ⟨3, ![m, n, p]⟩) off size inb).set := by
  subst e es
  exact Rect.mem_set_unit.2 (Fin.forall_fin_succ.2 ⟨h0, Fin.forall_fin_succ.2 ⟨h1, Fin.forall_fin_succ.2 ⟨h2, fun i => i.elim0⟩⟩⟩)

section Trip
variable (c : Dev nD) (k : Trip)
    (gH : SBufH (F := Ideal) c (Ring.sl 2 (k.val / 11))) (gG : SBufG (F := Ideal) c (Ring.sl 2 k.val)) (gV : SBufV (F := Ideal) c (Ring.sl 2 k.val))
    (gA : SBufA (F := Ideal) c (Ring.sl 2 k.val)) (gB : SBufB (F := Ideal) c (Ring.sl 2 k.val))
    (gC : Buf (Elt Ideal) (bufC.view.loc (c : Thread nD τ)))

/-- The staged taps of the two halves. -/
def rdA : ℕ → ℕ → EReal := at2 (m := 3) (n := 512) ((slotA (Ring.sl 2 k.val)).view.read (Elt Ideal) gA)
def rdB : ℕ → ℕ → EReal := at2 (m := 3) (n := 512) ((slotB (Ring.sl 2 k.val)).view.read (Elt Ideal) gB)

theorem loadA0 (i : Fin 3) (x : Fin 256) : View.readAt (Elt Ideal) (slotA (Ring.sl 2 k.val)).view (Rect.unit (s := S3x512) ![0, 0] S3x256.size inb_S3x512_S3x256_0_0).toLoadRect gA (ix2 i x)
    = rdA c k gA i.val (256 * 0 + x.val) :=
  box2 (m := 3) (n := 512) ((slotA (Ring.sl 2 k.val)).view.read (Elt Ideal) gA) _ rfl (ix2 i x) (Nat.zero_add _) rfl
theorem loadA1 (i : Fin 3) (x : Fin 256) : View.readAt (Elt Ideal) (slotA (Ring.sl 2 k.val)).view (Rect.unit (s := S3x512) ![0, 256] S3x256.size inb_S3x512_S3x256_0_256).toLoadRect gA (ix2 i x)
    = rdA c k gA i.val (256 * 1 + x.val) :=
  box2 (m := 3) (n := 512) ((slotA (Ring.sl 2 k.val)).view.read (Elt Ideal) gA) _ rfl (ix2 i x) (Nat.zero_add _) rfl
theorem loadB0 (i : Fin 3) (x : Fin 256) : View.readAt (Elt Ideal) (slotB (Ring.sl 2 k.val)).view (Rect.unit (s := S3x512) ![0, 0] S3x256.size inb_S3x512_S3x256_0_0).toLoadRect gB (ix2 i x)
    = rdB c k gB i.val (256 * 0 + x.val) :=
  box2 (m := 3) (n := 512) ((slotB (Ring.sl 2 k.val)).view.read (Elt Ideal) gB) _ rfl (ix2 i x) (Nat.zero_add _) rfl
theorem loadB1 (i : Fin 3) (x : Fin 256) : View.readAt (Elt Ideal) (slotB (Ring.sl 2 k.val)).view (Rect.unit (s := S3x512) ![0, 256] S3x256.size inb_S3x512_S3x256_0_256).toLoadRect gB (ix2 i x)
    = rdB c k gB i.val (256 * 1 + x.val) :=
  box2 (m := 3) (n := 512) ((slotB (Ring.sl 2 k.val)).view.read (Elt Ideal) gB) _ rfl (ix2 i x) (Nat.zero_add _) rfl

/-- The trip's activations. -/
def actR : ℕ → ℕ → EReal := actT (preR c k gH gG gV gC) (rdA c k gA) (rdB c k gB)
/-- What the buffer of activations holds. -/
def actG (y : S2x1024x256.Idx) : EReal := actR c k gH gG gV gA gB gC (y 1).val (256 * (y 0).val + (y 2).val)

theorem actG_emb {off size : Fin 3 → ℕ} (inb : ∀ a, off a + size a ≤ S2x1024x256.size a) {a : ℕ} (e : off = ![a, 0, 0])
    (x : (Rect.unit (s := S2x1024x256) off size inb).shape.Idx) (h0 : (x (0 : Fin 3)).val < 1) :
    actG c k gH gG gV gA gB gC ((Rect.unit (s := S2x1024x256) off size inb).emb x) = actR c k gH gG gV gA gB gC (x (1 : Fin 3)).val (256 * a + (x (2 : Fin 3)).val) := by
  have e0' := unit_coord e x (0 : Fin 3)
  have e1' := unit_coord e x (1 : Fin 3)
  have e2' := unit_coord e x (2 : Fin 3)
  have f0 : ((Rect.unit (s := S2x1024x256) off size inb).emb x (0 : Fin 3)).val = a := e0'.trans (by show a + _ = a; omega)
  have f1 : ((Rect.unit (s := S2x1024x256) off size inb).emb x (1 : Fin 3)).val = (x (1 : Fin 3)).val := e1'.trans (Nat.zero_add _)
  have f2 : ((Rect.unit (s := S2x1024x256) off size inb).emb x (2 : Fin 3)).val = (x (2 : Fin 3)).val := e2'.trans (Nat.zero_add _)
  unfold actG
  rw [f0, f1, f2]

/-- The two payloads at an element. -/
theorem actPay0 (x : S1x1024x256.Idx) : k0_pay22 (F := Ideal) (compRun.sl.r_7 c k gH gG gV gA gB gC) x = actR c k gH gG gV gA gB gC (x 1).val (256 * 0 + (x 2).val) := by
  refine (pay22_at _ _ _ _ _ _ _ _ x).trans ?_
  unfold actR actT
  refine congrArg₂ gate (tap_congr (loadA0 c k gA 0 (x 2)) (loadA0 c k gA 1 (x 2)) (loadA0 c k gA 2 (x 2)) ?_ ?_ ?_) (tap_congr (loadB0 c k gB 0 (x 2)) (loadB0 c k gB 1 (x 2)) (loadB0 c k gB 2 (x 2)) ?_ ?_ ?_)
  · exact v401_at c k gH gG gV gC (ix4 0 0 (x 1) (x 2))
  · exact v406_at c k gH gG gV gC (ix4 0 0 (x 1) (x 2))
  · exact v412_at c k gH gG gV gC (ix4 0 0 (x 1) (x 2))
  · exact v421_at c k gH gG gV gC (ix4 0 0 (x 1) (x 2))
  · exact v426_at c k gH gG gV gC (ix4 0 0 (x 1) (x 2))
  · exact v432_at c k gH gG gV gC (ix4 0 0 (x 1) (x 2))
theorem actPay1 (x : S1x1024x256.Idx) : k0_pay26 (F := Ideal) (compRun.sl.r_9 c k gH gG gV gA gC) (compRun.sl.r_10 c k gB) (compRun.sl.r_11 c k gH gG gV gB gC) (compRun.sl.r_12 c k gB) (compRun.sl.v473_r0 c k gH gG gV gC) (compRun.sl.v479_r0 c k gH gG gV gC) x = actR c k gH gG gV gA gB gC (x 1).val (256 * 1 + (x 2).val) := by
  refine (pay26_at _ _ _ _ _ _ _ _ x).trans ?_
  unfold actR actT
  refine congrArg₂ gate (tap_congr (loadA1 c k gA 0 (x 2)) (loadA1 c k gA 1 (x 2)) (loadA1 c k gA 2 (x 2)) ?_ ?_ ?_) (tap_congr (loadB1 c k gB 0 (x 2)) (loadB1 c k gB 1 (x 2)) (loadB1 c k gB 2 (x 2)) ?_ ?_ ?_)
  · exact v448_at c k gH gG gV gC (ix4 0 0 (x 1) (x 2))
  · exact v453_at c k gH gG gV gC (ix4 0 0 (x 1) (x 2))
  · exact v459_at c k gH gG gV gC (ix4 0 0 (x 1) (x 2))
  · exact v468_at c k gH gG gV gC (ix4 0 0 (x 1) (x 2))
  · exact v473_at c k gH gG gV gC (ix4 0 0 (x 1) (x 2))
  · exact v479_at c k gH gG gV gC (ix4 0 0 (x 1) (x 2))

theorem okAct (pay : FVec Ideal S1x1024x256 .bf16) (a : ℕ) (hp : ∀ x : S1x1024x256.Idx, pay x = actR c k gH gG gV gA gB gC (x 1).val (256 * a + (x 2).val))
    {off : Fin 3 → ℕ} (inb : ∀ x, off x + S1x1024x256.size x ≤ S2x1024x256.size x) (e : off = ![a, 0, 0]) :
    ∀ x, (⟨Rect.unit (s := S2x1024x256) off S1x1024x256.size inb, pay⟩ : View.Piece (Elt Ideal) S2x1024x256 .bf16).2 x = actG c k gH gG gV gA gB gC ((Rect.unit (s := S2x1024x256) off S1x1024x256.size inb).emb x) :=
  fun x => (hp x).trans (actG_emb c k gH gG gV gA gB gC inb e x (x (0 : Fin 3)).isLt).symm

theorem okHX : ∀ p ∈ compRun.sl.HX_2 c k gH gG gV gA gB gC, ∀ x, p.2 x = actG c k gH gG gV gA gB gC (p.1.emb x) := by
  unfold compRun.sl.HX_2
  refine List.forall_mem_cons.2 ⟨okAct c k gH gG gV gA gB gC _ 1 (fun x => actPay1 c k gH gG gV gA gB gC x) _ rfl, ?_⟩
  refine List.forall_mem_cons.2 ⟨okAct c k gH gG gV gA gB gC _ 0 (fun x => actPay0 c k gH gG gV gA gB gC x) _ rfl, ?_⟩
  exact fun p hp => absurd hp List.not_mem_nil

theorem covHX (y : S2x1024x256.Idx) : ∃ p ∈ compRun.sl.HX_2 c k gH gG gV gA gB gC, y ∈ p.1.set := by
  unfold compRun.sl.HX_2
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  rcases (show (y (0 : Fin 3)).val = 0 ∨ (y (0 : Fin 3)).val = 1 by omega) with h | h
  · exact ⟨_, List.mem_cons_of_mem _ List.mem_cons_self, mem_box3 (m := 2) (n := 1024) (p := 256) inb_S2x1024x256_S1x1024x256_0_0_0 rfl rfl y (by omega) (by omega) (by omega)⟩
  · exact ⟨_, List.mem_cons_self, mem_box3 (m := 2) (n := 1024) (p := 256) inb_S2x1024x256_S1x1024x256_1_0_0 rfl rfl y (by omega) (by omega) (by omega)⟩

theorem readHX {off size : Fin 3 → ℕ} (inb : ∀ a, off a + size a ≤ S2x1024x256.size a) (x : (Rect.unit (s := S2x1024x256) off size inb).shape.Idx) :
    bufX.view.readCov (compRun.sl.HX_2 c k gH gG gV gA gB gC) (Rect.unit (s := S2x1024x256) off size inb).toLoadRect x
      = actG c k gH gG gV gA gB gC ((Rect.unit (s := S2x1024x256) off size inb).emb x) :=
  View.read_writes_apply_of_pieces (Val := Elt Ideal) (s := S2x1024x256) (e := .bf16) bufX.view (bufX.view.junk (Val := Elt Ideal)) (actG c k gH gG gV gA gB gC)
    (compRun.sl.HX_2 c k gH gG gV gA gB gC) (okHX c k gH gG gV gA gB gC) ((Rect.unit (s := S2x1024x256) off size inb).emb x) (covHX c k gH gG gV gA gB gC _)

/-- The activations as loaded, column half by column half. -/
theorem v495_at (x : S1x1024x256.Idx) : compRun.sl.v495_r0 c k gH gG gV gA gB gC x = actR c k gH gG gV gA gB gC (x 1).val (256 * 0 + (x 2).val) :=
  (readHX c k gH gG gV gA gB gC _ x).trans (actG_emb c k gH gG gV gA gB gC _ rfl x (x (0 : Fin 3)).isLt)
theorem v615_at (x : S1x1024x256.Idx) : compRun.sl.v615_r0 c k gH gG gV gA gB gC x = actR c k gH gG gV gA gB gC (x 1).val (256 * 1 + (x 2).val) :=
  (readHX c k gH gG gV gA gB gC _ x).trans (actG_emb c k gH gG gV gA gB gC _ rfl x (x (0 : Fin 3)).isLt)

end Trip

end Cert.Proof.Ffn

end
-- ==== Proof.ReadAcc.lean ====
/-
  One trip at the ideal instance: the accumulator, over the 512 columns of the trip's activations.
-/
module

public import proofs.«01_k».proof.Proof.ReadAct

@[expose] public section

set_option maxRecDepth 16384

noncomputable section

namespace Cert.Proof.Ffn

open Cert.KernelIdeal Cert.KernelIdeal.Gen
open Idealize.ShloMosaic
open Idealize.ShloMosaic.TcCoe

/-- Membership in a box of a matrix. -/
theorem mem_box2 {m n : ℕ} {off size : Fin 2 → ℕ} (inb : ∀ a, off a + size a ≤ (⟨2, ![m, n]⟩ : Shape).size a) {o0 o1 s0 s1 : ℕ}
    (e : off = ![o0, o1]) (es : size = ![s0, s1]) (y : (⟨2, ![m, n]⟩ : Shape).Idx)
    (h0 : o0 ≤ (y (0 : Fin 2)).val ∧ (y (0 : Fin 2)).val < o0 + s0) (h1 : o1 ≤ (y (1 : Fin 2)).val ∧ (y (1 : Fin 2)).val < o1 + s1) :
    y ∈ (Rect.unit (s := ⟨2, ![m, n]⟩) off size inb).set := by
  subst e es
  exact Rect.mem_set_unit.2 (Fin.forall_fin_succ.2 ⟨h0, Fin.forall_fin_succ.2 ⟨h1, fun i => i.elim0⟩⟩)

/-- A slot of the result's staging buffer read, and loaded after it is stored whole. -/
theorem slotO_read (c : Dev nD) (s : Fin 2) (g : SBufO (F := Ideal) c s) : (slotO s).view.read (Elt Ideal) g =
    shapeCast S1024x2048 (View.readAt (Elt Ideal) bufO.view (Rect.unit (s := S2x1024x2048) (slotOff s) S1x1024x2048.size (slotOff_inbO s)).toLoadRect g) shapeCasts_S1x1024x2048_S1024x2048 := rfl
theorem slotO_load (c : Dev nD) (s : Fin 2) (g : SBufO (F := Ideal) c s) (w : FVec Ideal S1x1024x2048 .f32) :
    View.readAt (Elt Ideal) bufO.view (Rect.unit (s := S2x1024x2048) (slotOff s) S1x1024x2048.size (slotOff_inbO s)).toLoadRect
      (View.write (Elt Ideal) (bufO.access (Rect.unit (s := S2x1024x2048) (slotOff s) S1x1024x2048.size (slotOff_inbO s))) g w Finset.univ) = w := by
  funext x
  exact congrFun (View.read_write_univ (v := bufO.access (Rect.unit (s := S2x1024x2048) (slotOff s) S1x1024x2048.size (slotOff_inbO s))) g w) x

section Trip
variable (c : Dev nD) (k : Trip)
    (gH : SBufH (F := Ideal) c (Ring.sl 2 (k.val / 11))) (gG : SBufG (F := Ideal) c (Ring.sl 2 k.val)) (gV : SBufV (F := Ideal) c (Ring.sl 2 k.val))
    (gA : SBufA (F := Ideal) c (Ring.sl 2 k.val)) (gB : SBufB (F := Ideal) c (Ring.sl 2 k.val)) (gD : SBufD (F := Ideal) c (Ring.sl 2 k.val))
    (gO : SBufO (F := Ideal) c (Ring.sl 2 (k.val / 11)))
    (gC : Buf (Elt Ideal) (bufC.view.loc (c : Thread nD τ)))

/-- The accumulator's slot. -/
abbrev vO : View sig .tc .vmem S1024x2048 .f32 := (slotO (Ring.sl 2 (k.val / 11))).view
/-- The accumulator as the trip finds it: zeroed at the start of a row of blocks. -/
def accBase : SBufO (F := Ideal) c (Ring.sl 2 (k.val / 11)) :=
  if hc : k0_cond15 (wK k.val) = 1#1 then compRun.sl.HO_w1 c k gO hc else gO
theorem accBase_pos (hc : k0_cond15 (wK k.val) = 1#1) : accBase c k gO = compRun.sl.HO_w1 c k gO hc := by
  unfold accBase
  exact dif_pos hc
theorem accBase_neg (hc : ¬ k0_cond15 (wK k.val) = 1#1) : accBase c k gO = gO := by
  unfold accBase
  exact dif_neg hc
/-- The same, read. -/
def rdO : ℕ → ℕ → EReal := at2 (m := 1024) (n := 2048) ((slotO (Ring.sl 2 (k.val / 11))).view.read (Elt Ideal) (accBase c k gO))
/-- The staged row block of the down-projection. -/
def rdD : ℕ → ℕ → EReal := at2 (m := 512) (n := 2048) ((slotD (Ring.sl 2 k.val)).view.read (Elt Ideal) gD)

theorem rdO_eq (r n : ℕ) (hr : r < 1024) (hn : n < 2048) :
    rdO c k gO r n = if k.val % 11 = 0 then 0 else at2 (m := 1024) (n := 2048) ((slotO (Ring.sl 2 (k.val / 11))).view.read (Elt Ideal) gO) r n := by
  unfold rdO
  by_cases h : k.val % 11 = 0
  · rw [if_pos h, accBase_pos c k gO ((cond15_iff k).2 h)]
    refine (at2_eq (m := 1024) (n := 2048) _ (ix2 ⟨r, hr⟩ ⟨n, hn⟩) rfl rfl).symm.trans ?_
    have gen : ∀ (off : Fin 3 → ℕ) (hh : ∀ a, off a + S1x1024x2048.size a ≤ S2x1024x2048.size a), off = slotOff (Ring.sl 2 (k.val / 11)) →
        (slotO (Ring.sl 2 (k.val / 11))).view.read (Elt Ideal) (View.write (Elt Ideal) (bufO.access (Rect.unit (s := S2x1024x2048) off S1x1024x2048.size hh)) gO (k0_pay2 (F := Ideal)) Finset.univ)
          = shapeCast S1024x2048 (k0_pay2 (F := Ideal)) shapeCasts_S1x1024x2048_S1024x2048 := by
      intro off hh e
      subst e
      exact (slotO_read c _ _).trans (congrArg (fun w => shapeCast S1024x2048 w shapeCasts_S1x1024x2048_S1024x2048) (slotO_load c _ gO (k0_pay2 (F := Ideal))))
    exact (congrFun (gen _ _ (off43_eq k)) _).trans (pay2_at _)
  · rw [if_neg h, accBase_neg c k gO (fun hc => h ((cond15_iff k).1 hc))]

theorem loadD0_0 (i : Fin 256) (x : Fin 256) : View.readAt (Elt Ideal) (slotD (Ring.sl 2 k.val)).view (Rect.unit (s := S512x2048) ![0, 0] S256x256.size inb_S512x2048_S256x256_0_0).toLoadRect gD (ix2 i x)
    = rdD c k gD (256 * 0 + i.val) (0 + x.val) :=
  box2 (m := 512) (n := 2048) ((slotD (Ring.sl 2 k.val)).view.read (Elt Ideal) gD) _ rfl (ix2 i x) rfl rfl
theorem loadD0_1 (i : Fin 256) (x : Fin 256) : View.readAt (Elt Ideal) (slotD (Ring.sl 2 k.val)).view (Rect.unit (s := S512x2048) ![0, 256] S256x256.size inb_S512x2048_S256x256_0_256).toLoadRect gD (ix2 i x)
    = rdD c k gD (256 * 0 + i.val) (256 + x.val) :=
  box2 (m := 512) (n := 2048) ((slotD (Ring.sl 2 k.val)).view.read (Elt Ideal) gD) _ rfl (ix2 i x) rfl rfl
theorem loadD0_2 (i : Fin 256) (x : Fin 256) : View.readAt (Elt Ideal) (slotD (Ring.sl 2 k.val)).view (Rect.unit (s := S512x2048) ![0, 512] S256x256.size inb_S512x2048_S256x256_0_512).toLoadRect gD (ix2 i x)
    = rdD c k gD (256 * 0 + i.val) (512 + x.val) :=
  box2 (m := 512) (n := 2048) ((slotD (Ring.sl 2 k.val)).view.read (Elt Ideal) gD) _ rfl (ix2 i x) rfl rfl
theorem loadD0_3 (i : Fin 256) (x : Fin 256) : View.readAt (Elt Ideal) (slotD (Ring.sl 2 k.val)).view (Rect.unit (s := S512x2048) ![0, 768] S256x256.size inb_S512x2048_S256x256_0_768).toLoadRect gD (ix2 i x)
    = rdD c k gD (256 * 0 + i.val) (768 + x.val) :=
  box2 (m := 512) (n := 2048) ((slotD (Ring.sl 2 k.val)).view.read (Elt Ideal) gD) _ rfl (ix2 i x) rfl rfl
theorem loadD0_4 (i : Fin 256) (x : Fin 256) : View.readAt (Elt Ideal) (slotD (Ring.sl 2 k.val)).view (Rect.unit (s := S512x2048) ![0, 1024] S256x256.size inb_S512x2048_S256x256_0_1024).toLoadRect gD (ix2 i x)
    = rdD c k gD (256 * 0 + i.val) (1024 + x.val) :=
  box2 (m := 512) (n := 2048) ((slotD (Ring.sl 2 k.val)).view.read (Elt Ideal) gD) _ rfl (ix2 i x) rfl rfl
theorem loadD0_5 (i : Fin 256) (x : Fin 256) : View.readAt (Elt Ideal) (slotD (Ring.sl 2 k.val)).view (Rect.unit (s := S512x2048) ![0, 1280] S256x256.size inb_S512x2048_S256x256_0_1280).toLoadRect gD (ix2 i x)
    = rdD c k gD (256 * 0 + i.val) (1280 + x.val) :=
  box2 (m := 512) (n := 2048) ((slotD (Ring.sl 2 k.val)).view.read (Elt Ideal) gD) _ rfl (ix2 i x) rfl rfl
theorem loadD0_6 (i : Fin 256) (x : Fin 256) : View.readAt (Elt Ideal) (slotD (Ring.sl 2 k.val)).view (Rect.unit (s := S512x2048) ![0, 1536] S256x256.size inb_S512x2048_S256x256_0_1536).toLoadRect gD (ix2 i x)
    = rdD c k gD (256 * 0 + i.val) (1536 + x.val) :=
  box2 (m := 512) (n := 2048) ((slotD (Ring.sl 2 k.val)).view.read (Elt Ideal) gD) _ rfl (ix2 i x) rfl rfl
theorem loadD0_7 (i : Fin 256) (x : Fin 256) : View.readAt (Elt Ideal) (slotD (Ring.sl 2 k.val)).view (Rect.unit (s := S512x2048) ![0, 1792] S256x256.size inb_S512x2048_S256x256_0_1792).toLoadRect gD (ix2 i x)
    = rdD c k gD (256 * 0 + i.val) (1792 + x.val) :=
  box2 (m := 512) (n := 2048) ((slotD (Ring.sl 2 k.val)).view.read (Elt Ideal) gD) _ rfl (ix2 i x) rfl rfl
theorem loadD1_0 (i : Fin 256) (x : Fin 256) : View.readAt (Elt Ideal) (slotD (Ring.sl 2 k.val)).view (Rect.unit (s := S512x2048) ![256, 0] S256x256.size inb_S512x2048_S256x256_256_0).toLoadRect gD (ix2 i x)
    = rdD c k gD (256 * 1 + i.val) (0 + x.val) :=
  box2 (m := 512) (n := 2048) ((slotD (Ring.sl 2 k.val)).view.read (Elt Ideal) gD) _ rfl (ix2 i x) rfl rfl
theorem loadD1_1 (i : Fin 256) (x : Fin 256) : View.readAt (Elt Ideal) (slotD (Ring.sl 2 k.val)).view (Rect.unit (s := S512x2048) ![256, 256] S256x256.size inb_S512x2048_S256x256_256_256).toLoadRect gD (ix2 i x)
    = rdD c k gD (256 * 1 + i.val) (256 + x.val) :=
  box2 (m := 512) (n := 2048) ((slotD (Ring.sl 2 k.val)).view.read (Elt Ideal) gD) _ rfl (ix2 i x) rfl rfl
theorem loadD1_2 (i : Fin 256) (x : Fin 256) : View.readAt (Elt Ideal) (slotD (Ring.sl 2 k.val)).view (Rect.unit (s := S512x2048) ![256, 512] S256x256.size inb_S512x2048_S256x256_256_512).toLoadRect gD (ix2 i x)
    = rdD c k gD (256 * 1 + i.val) (512 + x.val) :=
  box2 (m := 512) (n := 2048) ((slotD (Ring.sl 2 k.val)).view.read (Elt Ideal) gD) _ rfl (ix2 i x) rfl rfl
theorem loadD1_3 (i : Fin 256) (x : Fin 256) : View.readAt (Elt Ideal) (slotD (Ring.sl 2 k.val)).view (Rect.unit (s := S512x2048) ![256, 768] S256x256.size inb_S512x2048_S256x256_256_768).toLoadRect gD (ix2 i x)
    = rdD c k gD (256 * 1 + i.val) (768 + x.val) :=
  box2 (m := 512) (n := 2048) ((slotD (Ring.sl 2 k.val)).view.read (Elt Ideal) gD) _ rfl (ix2 i x) rfl rfl
theorem loadD1_4 (i : Fin 256) (x : Fin 256) : View.readAt (Elt Ideal) (slotD (Ring.sl 2 k.val)).view (Rect.unit (s := S512x2048) ![256, 1024] S256x256.size inb_S512x2048_S256x256_256_1024).toLoadRect gD (ix2 i x)
    = rdD c k gD (256 * 1 + i.val) (1024 + x.val) :=
  box2 (m := 512) (n := 2048) ((slotD (Ring.sl 2 k.val)).view.read (Elt Ideal) gD) _ rfl (ix2 i x) rfl rfl
theorem loadD1_5 (i : Fin 256) (x : Fin 256) : View.readAt (Elt Ideal) (slotD (Ring.sl 2 k.val)).view (Rect.unit (s := S512x2048) ![256, 1280] S256x256.size inb_S512x2048_S256x256_256_1280).toLoadRect gD (ix2 i x)
    = rdD c k gD (256 * 1 + i.val) (1280 + x.val) :=
  box2 (m := 512) (n := 2048) ((slotD (Ring.sl 2 k.val)).view.read (Elt Ideal) gD) _ rfl (ix2 i x) rfl rfl
theorem loadD1_6 (i : Fin 256) (x : Fin 256) : View.readAt (Elt Ideal) (slotD (Ring.sl 2 k.val)).view (Rect.unit (s := S512x2048) ![256, 1536] S256x256.size inb_S512x2048_S256x256_256_1536).toLoadRect gD (ix2 i x)
    = rdD c k gD (256 * 1 + i.val) (1536 + x.val) :=
  box2 (m := 512) (n := 2048) ((slotD (Ring.sl 2 k.val)).view.read (Elt Ideal) gD) _ rfl (ix2 i x) rfl rfl
theorem loadD1_7 (i : Fin 256) (x : Fin 256) : View.readAt (Elt Ideal) (slotD (Ring.sl 2 k.val)).view (Rect.unit (s := S512x2048) ![256, 1792] S256x256.size inb_S512x2048_S256x256_256_1792).toLoadRect gD (ix2 i x)
    = rdD c k gD (256 * 1 + i.val) (1792 + x.val) :=
  box2 (m := 512) (n := 2048) ((slotD (Ring.sl 2 k.val)).view.read (Elt Ideal) gD) _ rfl (ix2 i x) rfl rfl
theorem v493_at (x : S1024x256.Idx) : compRun.sl.v493_r0 c k gO x = rdO c k gO (x 0).val (0 + (x 1).val) :=
  box2 (m := 1024) (n := 2048) ((slotO (Ring.sl 2 (k.val / 11))).view.read (Elt Ideal) (accBase c k gO)) _ rfl x (Nat.zero_add _) rfl
theorem v508_at (x : S1024x256.Idx) : compRun.sl.v508_r0 c k gO x = rdO c k gO (x 0).val (256 + (x 1).val) :=
  box2 (m := 1024) (n := 2048) ((slotO (Ring.sl 2 (k.val / 11))).view.read (Elt Ideal) (accBase c k gO)) _ rfl x (Nat.zero_add _) rfl
theorem v523_at (x : S1024x256.Idx) : compRun.sl.v523_r0 c k gO x = rdO c k gO (x 0).val (512 + (x 1).val) :=
  box2 (m := 1024) (n := 2048) ((slotO (Ring.sl 2 (k.val / 11))).view.read (Elt Ideal) (accBase c k gO)) _ rfl x (Nat.zero_add _) rfl
theorem v538_at (x : S1024x256.Idx) : compRun.sl.v538_r0 c k gO x = rdO c k gO (x 0).val (768 + (x 1).val) :=
  box2 (m := 1024) (n := 2048) ((slotO (Ring.sl 2 (k.val / 11))).view.read (Elt Ideal) (accBase c k gO)) _ rfl x (Nat.zero_add _) rfl
theorem v553_at (x : S1024x256.Idx) : compRun.sl.v553_r0 c k gO x = rdO c k gO (x 0).val (1024 + (x 1).val) :=
  box2 (m := 1024) (n := 2048) ((slotO (Ring.sl 2 (k.val / 11))).view.read (Elt Ideal) (accBase c k gO)) _ rfl x (Nat.zero_add _) rfl
theorem v568_at (x : S1024x256.Idx) : compRun.sl.v568_r0 c k gO x = rdO c k gO (x 0).val (1280 + (x 1).val) :=
  box2 (m := 1024) (n := 2048) ((slotO (Ring.sl 2 (k.val / 11))).view.read (Elt Ideal) (accBase c k gO)) _ rfl x (Nat.zero_add _) rfl
theorem v583_at (x : S1024x256.Idx) : compRun.sl.v583_r0 c k gO x = rdO c k gO (x 0).val (1536 + (x 1).val) :=
  box2 (m := 1024) (n := 2048) ((slotO (Ring.sl 2 (k.val / 11))).view.read (Elt Ideal) (accBase c k gO)) _ rfl x (Nat.zero_add _) rfl
theorem v598_at (x : S1024x256.Idx) : compRun.sl.v598_r0 c k gO x = rdO c k gO (x 0).val (1792 + (x 1).val) :=
  box2 (m := 1024) (n := 2048) ((slotO (Ring.sl 2 (k.val / 11))).view.read (Elt Ideal) (accBase c k gO)) _ rfl x (Nat.zero_add _) rfl

/-- The accumulator after the first half of the columns, and after both. -/
def acc0 (r n : ℕ) : EReal := rdO c k gO r n + ∑ j : Fin 256, actR c k gH gG gV gA gB gC r (256 * 0 + j.val) * rdD c k gD (256 * 0 + j.val) n
def acc1 (r n : ℕ) : EReal := acc0 c k gH gG gV gA gB gD gO gC r n + ∑ j : Fin 256, actR c k gH gG gV gA gB gC r (256 * 1 + j.val) * rdD c k gD (256 * 1 + j.val) n

/-- A piece holds an array. -/
abbrev OkO (G : ℕ → ℕ → EReal) (p : View.Piece (Elt Ideal) S1024x2048 .f32) : Prop := ∀ x : p.1.shape.Idx, p.2 x = G (p.1.emb x (0 : Fin 2)).val (p.1.emb x (1 : Fin 2)).val

/-- One accumulation's piece: what was there plus the product of a half of the activations. -/
theorem okO (G G' : ℕ → ℕ → EReal) (a n : ℕ) (hG : ∀ r l, G' r l = G r l + ∑ j : Fin 256, actR c k gH gG gV gA gB gC r (256 * a + j.val) * rdD c k gD (256 * a + j.val) l)
    (pay o : FVec Ideal S1024x256 .f32) (v : FVec Ideal S1x1024x256 .bf16) (d : FVec Ideal S256x256 .bf16)
    (hpay : ∀ j : S1024x256.Idx, pay j = o j + ∑ i : Fin 256, v (ix3 0 (j 0) i) * d (ix2 i (j 1)))
    (ho : ∀ x : S1024x256.Idx, o x = G (x 0).val (n + (x 1).val))
    (hv : ∀ x : S1x1024x256.Idx, v x = actR c k gH gG gV gA gB gC (x 1).val (256 * a + (x 2).val))
    (hd : ∀ i l : Fin 256, d (ix2 i l) = rdD c k gD (256 * a + i.val) (n + l.val))
    {off : Fin 2 → ℕ} (inb : ∀ x, off x + S1024x256.size x ≤ S1024x2048.size x) (e : off = ![0, n]) :
    OkO G' ⟨Rect.unit (s := S1024x2048) off S1024x256.size inb, pay⟩ := by
  intro x
  refine (hpay x).trans ?_
  have f0 : ((Rect.unit (s := S1024x2048) off S1024x256.size inb).emb x (0 : Fin 2)).val = (x (0 : Fin 2)).val := (unit_coord e x (0 : Fin 2)).trans (Nat.zero_add _)
  have f1 : ((Rect.unit (s := S1024x2048) off S1024x256.size inb).emb x (1 : Fin 2)).val = n + (x (1 : Fin 2)).val := unit_coord e x (1 : Fin 2)
  show _ = G' ((Rect.unit (s := S1024x2048) off S1024x256.size inb).emb x (0 : Fin 2)).val ((Rect.unit (s := S1024x2048) off S1024x256.size inb).emb x (1 : Fin 2)).val
  rw [f0, f1, hG, ho x]
  refine congrArg (_ + ·) (Finset.sum_congr rfl fun i _ => ?_)
  exact congrArg₂ (· * ·) (hv (ix3 0 (x 0) i)) (hd i (x 1))

theorem okHO8 : ∀ p ∈ compRun.sl.HO_8 c k gH gG gV gA gB gD gO gC, OkO (acc0 c k gH gG gV gA gB gD gO gC) p := by
  unfold compRun.sl.HO_8
  refine List.forall_mem_cons.2 ⟨okO c k gH gG gV gA gB gD gC (rdO c k gO) (acc0 c k gH gG gV gA gB gD gO gC) 0 1792 (fun _ _ => rfl) _ _ _ _ (fun j => pay37_at _ _ _ j) (fun x => v598_at c k gO x) (fun x => v495_at c k gH gG gV gA gB gC x) (fun i l => loadD0_7 c k gD i l) _ rfl, ?_⟩
  refine List.forall_mem_cons.2 ⟨okO c k gH gG gV gA gB gD gC (rdO c k gO) (acc0 c k gH gG gV gA gB gD gO gC) 0 1536 (fun _ _ => rfl) _ _ _ _ (fun j => pay36_at _ _ _ j) (fun x => v583_at c k gO x) (fun x => v495_at c k gH gG gV gA gB gC x) (fun i l => loadD0_6 c k gD i l) _ rfl, ?_⟩
  refine List.forall_mem_cons.2 ⟨okO c k gH gG gV gA gB gD gC (rdO c k gO) (acc0 c k gH gG gV gA gB gD gO gC) 0 1280 (fun _ _ => rfl) _ _ _ _ (fun j => pay32_at _ _ _ j) (fun x => v568_at c k gO x) (fun x => v495_at c k gH gG gV gA gB gC x) (fun i l => loadD0_5 c k gD i l) _ rfl, ?_⟩
  refine List.forall_mem_cons.2 ⟨okO c k gH gG gV gA gB gD gC (rdO c k gO) (acc0 c k gH gG gV gA gB gD gO gC) 0 1024 (fun _ _ => rfl) _ _ _ _ (fun j => pay31_at _ _ _ j) (fun x => v553_at c k gO x) (fun x => v495_at c k gH gG gV gA gB gC x) (fun i l => loadD0_4 c k gD i l) _ rfl, ?_⟩
  refine List.forall_mem_cons.2 ⟨okO c k gH gG gV gA gB gD gC (rdO c k gO) (acc0 c k gH gG gV gA gB gD gO gC) 0 768 (fun _ _ => rfl) _ _ _ _ (fun j => pay30_at _ _ _ j) (fun x => v538_at c k gO x) (fun x => v495_at c k gH gG gV gA gB gC x) (fun i l => loadD0_3 c k gD i l) _ rfl, ?_⟩
  refine List.forall_mem_cons.2 ⟨okO c k gH gG gV gA gB gD gC (rdO c k gO) (acc0 c k gH gG gV gA gB gD gO gC) 0 512 (fun _ _ => rfl) _ _ _ _ (fun j => pay29_at _ _ _ j) (fun x => v523_at c k gO x) (fun x => v495_at c k gH gG gV gA gB gC x) (fun i l => loadD0_2 c k gD i l) _ rfl, ?_⟩
  refine List.forall_mem_cons.2 ⟨okO c k gH gG gV gA gB gD gC (rdO c k gO) (acc0 c k gH gG gV gA gB gD gO gC) 0 256 (fun _ _ => rfl) _ _ _ _ (fun j => pay28_at _ _ _ j) (fun x => v508_at c k gO x) (fun x => v495_at c k gH gG gV gA gB gC x) (fun i l => loadD0_1 c k gD i l) _ rfl, ?_⟩
  refine List.forall_mem_cons.2 ⟨okO c k gH gG gV gA gB gD gC (rdO c k gO) (acc0 c k gH gG gV gA gB gD gO gC) 0 0 (fun _ _ => rfl) _ _ _ _ (fun j => pay27_at _ _ _ j) (fun x => v493_at c k gO x) (fun x => v495_at c k gH gG gV gA gB gC x) (fun i l => loadD0_0 c k gD i l) _ rfl, ?_⟩
  exact fun p hp => absurd hp List.not_mem_nil

theorem covHO8 (y : S1024x2048.Idx) : ∃ p ∈ compRun.sl.HO_8 c k gH gG gV gA gB gD gO gC, y ∈ p.1.set := by
  unfold compRun.sl.HO_8
  have h0 : (y (0 : Fin 2)).val < 1024 := (y (0 : Fin 2)).isLt
  have h1 : (y (1 : Fin 2)).val < 2048 := (y (1 : Fin 2)).isLt
  rcases Nat.lt_or_ge (y (1 : Fin 2)).val 1792 with h | h
  swap
  · exact ⟨_, List.mem_cons_self, mem_box2 (m := 1024) (n := 2048) inb_S1024x2048_S1024x256_0_1792 rfl rfl y (by omega) (by omega)⟩
  rcases Nat.lt_or_ge (y (1 : Fin 2)).val 1536 with h | h
  swap
  · exact ⟨_, (List.mem_cons_of_mem _ List.mem_cons_self), mem_box2 (m := 1024) (n := 2048) inb_S1024x2048_S1024x256_0_1536 rfl rfl y (by omega) (by omega)⟩
  rcases Nat.lt_or_ge (y (1 : Fin 2)).val 1280 with h | h
  swap
  · exact ⟨_, (List.mem_cons_of_mem _ (List.mem_cons_of_mem _ List.mem_cons_self)), mem_box2 (m := 1024) (n := 2048) inb_S1024x2048_S1024x256_0_1280 rfl rfl y (by omega) (by omega)⟩
  rcases Nat.lt_or_ge (y (1 : Fin 2)).val 1024 with h | h
  swap
  · exact ⟨_, (List.mem_cons_of_mem _ (List.mem_cons_of_mem _ (List.mem_cons_of_mem _ List.mem_cons_self))), mem_box2 (m := 1024) (n := 2048) inb_S1024x2048_S1024x256_0_1024 rfl rfl y (by omega) (by omega)⟩
  rcases Nat.lt_or_ge (y (1 : Fin 2)).val 768 with h | h
  swap
  · exact ⟨_, (List.mem_cons_of_mem _ (List.mem_cons_of_mem _ (List.mem_cons_of_mem _ (List.mem_cons_of_mem _ List.mem_cons_self)))), mem_box2 (m := 1024) (n := 2048) inb_S1024x2048_S1024x256_0_768 rfl rfl y (by omega) (by omega)⟩
  rcases Nat.lt_or_ge (y (1 : Fin 2)).val 512 with h | h
  swap
  · exact ⟨_, (List.mem_cons_of_mem _ (List.mem_cons_of_mem _ (List.mem_cons_of_mem _ (List.mem_cons_of_mem _ (List.mem_cons_of_mem _ List.mem_cons_self))))), mem_box2 (m := 1024) (n := 2048) inb_S1024x2048_S1024x256_0_512 rfl rfl y (by omega) (by omega)⟩
  rcases Nat.lt_or_ge (y (1 : Fin 2)).val 256 with h | h
  swap
  · exact ⟨_, (List.mem_cons_of_mem _ (List.mem_cons_of_mem _ (List.mem_cons_of_mem _ (List.mem_cons_of_mem _ (List.mem_cons_of_mem _ (List.mem_cons_of_mem _ List.mem_cons_self)))))), mem_box2 (m := 1024) (n := 2048) inb_S1024x2048_S1024x256_0_256 rfl rfl y (by omega) (by omega)⟩
  exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_box2 (m := 1024) (n := 2048) inb_S1024x2048_S1024x256_0_0 rfl rfl y (by omega) (by omega)⟩

/-- After the first half the accumulator holds `acc0`. -/
theorem readHO8 (f : SBufO (F := Ideal) c (Ring.sl 2 (k.val / 11))) (y : S1024x2048.Idx) :
    (slotO (Ring.sl 2 (k.val / 11))).view.read (Elt Ideal) ((slotO (Ring.sl 2 (k.val / 11))).view.writes (Elt Ideal) f (compRun.sl.HO_8 c k gH gG gV gA gB gD gO gC)) y
      = acc0 c k gH gG gV gA gB gD gO gC (y 0).val (y 1).val :=
  View.read_writes_apply_of_pieces (Val := Elt Ideal) (s := S1024x2048) (e := .f32) (slotO (Ring.sl 2 (k.val / 11))).view f (fun y => acc0 c k gH gG gV gA gB gD gO gC (y 0).val (y 1).val)
    (compRun.sl.HO_8 c k gH gG gV gA gB gD gO gC) (okHO8 c k gH gG gV gA gB gD gO gC) y (covHO8 c k gH gG gV gA gB gD gO gC y)

/-! Past the column blocks already finished it still holds `acc0` during the second half. -/
theorem readHO9 (f : SBufO (F := Ideal) c (Ring.sl 2 (k.val / 11))) (y : S1024x2048.Idx) (hy : 256 ≤ (y (1 : Fin 2)).val) :
    (slotO (Ring.sl 2 (k.val / 11))).view.read (Elt Ideal) ((slotO (Ring.sl 2 (k.val / 11))).view.writes (Elt Ideal) f (compRun.sl.HO_9 c k gH gG gV gA gB gD gO gC)) y
      = acc0 c k gH gG gV gA gB gD gO gC (y 0).val (y 1).val := by
  unfold compRun.sl.HO_9
  refine (View.read_writes_cons_unit_of_not_mem (Val := Elt Ideal) (s := S1024x2048) (e := .f32) (slotO (Ring.sl 2 (k.val / 11))).view f inb_S1024x2048_S1024x256_0_0 _
    (compRun.sl.HO_8 c k gH gG gV gA gB gD gO gC) y rfl (1 : Fin 2) (Or.inr ?_)).trans (readHO8 c k gH gG gV gA gB gD gO gC f y)
  exact hy
theorem readHO10 (f : SBufO (F := Ideal) c (Ring.sl 2 (k.val / 11))) (y : S1024x2048.Idx) (hy : 512 ≤ (y (1 : Fin 2)).val) :
    (slotO (Ring.sl 2 (k.val / 11))).view.read (Elt Ideal) ((slotO (Ring.sl 2 (k.val / 11))).view.writes (Elt Ideal) f (compRun.sl.HO_10 c k gH gG gV gA gB gD gO gC)) y
      = acc0 c k gH gG gV gA gB gD gO gC (y 0).val (y 1).val := by
  unfold compRun.sl.HO_10
  refine (View.read_writes_cons_unit_of_not_mem (Val := Elt Ideal) (s := S1024x2048) (e := .f32) (slotO (Ring.sl 2 (k.val / 11))).view f inb_S1024x2048_S1024x256_0_256 _
    (compRun.sl.HO_9 c k gH gG gV gA gB gD gO gC) y rfl (1 : Fin 2) (Or.inr ?_)).trans (readHO9 c k gH gG gV gA gB gD gO gC f y (by omega))
  exact hy
theorem readHO11 (f : SBufO (F := Ideal) c (Ring.sl 2 (k.val / 11))) (y : S1024x2048.Idx) (hy : 768 ≤ (y (1 : Fin 2)).val) :
    (slotO (Ring.sl 2 (k.val / 11))).view.read (Elt Ideal) ((slotO (Ring.sl 2 (k.val / 11))).view.writes (Elt Ideal) f (compRun.sl.HO_11 c k gH gG gV gA gB gD gO gC)) y
      = acc0 c k gH gG gV gA gB gD gO gC (y 0).val (y 1).val := by
  unfold compRun.sl.HO_11
  refine (View.read_writes_cons_unit_of_not_mem (Val := Elt Ideal) (s := S1024x2048) (e := .f32) (slotO (Ring.sl 2 (k.val / 11))).view f inb_S1024x2048_S1024x256_0_512 _
    (compRun.sl.HO_10 c k gH gG gV gA gB gD gO gC) y rfl (1 : Fin 2) (Or.inr ?_)).trans (readHO10 c k gH gG gV gA gB gD gO gC f y (by omega))
  exact hy
theorem readHO12 (f : SBufO (F := Ideal) c (Ring.sl 2 (k.val / 11))) (y : S1024x2048.Idx) (hy : 1024 ≤ (y (1 : Fin 2)).val) :
    (slotO (Ring.sl 2 (k.val / 11))).view.read (Elt Ideal) ((slotO (Ring.sl 2 (k.val / 11))).view.writes (Elt Ideal) f (compRun.sl.HO_12 c k gH gG gV gA gB gD gO gC)) y
      = acc0 c k gH gG gV gA gB gD gO gC (y 0).val (y 1).val := by
  unfold compRun.sl.HO_12
  refine (View.read_writes_cons_unit_of_not_mem (Val := Elt Ideal) (s := S1024x2048) (e := .f32) (slotO (Ring.sl 2 (k.val / 11))).view f inb_S1024x2048_S1024x256_0_768 _
    (compRun.sl.HO_11 c k gH gG gV gA gB gD gO gC) y rfl (1 : Fin 2) (Or.inr ?_)).trans (readHO11 c k gH gG gV gA gB gD gO gC f y (by omega))
  exact hy
theorem readHO13 (f : SBufO (F := Ideal) c (Ring.sl 2 (k.val / 11))) (y : S1024x2048.Idx) (hy : 1280 ≤ (y (1 : Fin 2)).val) :
    (slotO (Ring.sl 2 (k.val / 11))).view.read (Elt Ideal) ((slotO (Ring.sl 2 (k.val / 11))).view.writes (Elt Ideal) f (compRun.sl.HO_13 c k gH gG gV gA gB gD gO gC)) y
      = acc0 c k gH gG gV gA gB gD gO gC (y 0).val (y 1).val := by
  unfold compRun.sl.HO_13
  refine (View.read_writes_cons_unit_of_not_mem (Val := Elt Ideal) (s := S1024x2048) (e := .f32) (slotO (Ring.sl 2 (k.val / 11))).view f inb_S1024x2048_S1024x256_0_1024 _
    (compRun.sl.HO_12 c k gH gG gV gA gB gD gO gC) y rfl (1 : Fin 2) (Or.inr ?_)).trans (readHO12 c k gH gG gV gA gB gD gO gC f y (by omega))
  exact hy
theorem readHO14 (f : SBufO (F := Ideal) c (Ring.sl 2 (k.val / 11))) (y : S1024x2048.Idx) (hy : 1536 ≤ (y (1 : Fin 2)).val) :
    (slotO (Ring.sl 2 (k.val / 11))).view.read (Elt Ideal) ((slotO (Ring.sl 2 (k.val / 11))).view.writes (Elt Ideal) f (compRun.sl.HO_14 c k gH gG gV gA gB gD gO gC)) y
      = acc0 c k gH gG gV gA gB gD gO gC (y 0).val (y 1).val := by
  unfold compRun.sl.HO_14
  refine (View.read_writes_cons_unit_of_not_mem (Val := Elt Ideal) (s := S1024x2048) (e := .f32) (slotO (Ring.sl 2 (k.val / 11))).view f inb_S1024x2048_S1024x256_0_1280 _
    (compRun.sl.HO_13 c k gH gG gV gA gB gD gO gC) y rfl (1 : Fin 2) (Or.inr ?_)).trans (readHO13 c k gH gG gV gA gB gD gO gC f y (by omega))
  exact hy
theorem readHO15 (f : SBufO (F := Ideal) c (Ring.sl 2 (k.val / 11))) (y : S1024x2048.Idx) (hy : 1792 ≤ (y (1 : Fin 2)).val) :
    (slotO (Ring.sl 2 (k.val / 11))).view.read (Elt Ideal) ((slotO (Ring.sl 2 (k.val / 11))).view.writes (Elt Ideal) f (compRun.sl.HO_15 c k gH gG gV gA gB gD gO gC)) y
      = acc0 c k gH gG gV gA gB gD gO gC (y 0).val (y 1).val := by
  unfold compRun.sl.HO_15
  refine (View.read_writes_cons_unit_of_not_mem (Val := Elt Ideal) (s := S1024x2048) (e := .f32) (slotO (Ring.sl 2 (k.val / 11))).view f inb_S1024x2048_S1024x256_0_1536 _
    (compRun.sl.HO_14 c k gH gG gV gA gB gD gO gC) y rfl (1 : Fin 2) (Or.inr ?_)).trans (readHO14 c k gH gG gV gA gB gD gO gC f y (by omega))
  exact hy

/-- A load of the accumulator past the finished blocks. -/
theorem accLoad (L : List (View.Piece (Elt Ideal) S1024x2048 .f32)) (n : ℕ)
    (hL : ∀ (f : SBufO (F := Ideal) c (Ring.sl 2 (k.val / 11))) (y : S1024x2048.Idx), n ≤ (y (1 : Fin 2)).val →
      (slotO (Ring.sl 2 (k.val / 11))).view.read (Elt Ideal) ((slotO (Ring.sl 2 (k.val / 11))).view.writes (Elt Ideal) f L) y = acc0 c k gH gG gV gA gB gD gO gC (y 0).val (y 1).val)
    {off : Fin 2 → ℕ} (inb : ∀ x, off x + S1024x256.size x ≤ S1024x2048.size x) (e : off = ![0, n]) (x : (Rect.unit (s := S1024x2048) off S1024x256.size inb).shape.Idx) :
    (slotO (Ring.sl 2 (k.val / 11))).view.readCov (Val := Elt Ideal) L (Rect.unit (s := S1024x2048) off S1024x256.size inb).toLoadRect x
      = acc0 c k gH gG gV gA gB gD gO gC (x (0 : Fin 2)).val (n + (x (1 : Fin 2)).val) := by
  have f0 : ((Rect.unit (s := S1024x2048) off S1024x256.size inb).emb x (0 : Fin 2)).val = (x (0 : Fin 2)).val := (unit_coord e x (0 : Fin 2)).trans (Nat.zero_add _)
  have f1 : ((Rect.unit (s := S1024x2048) off S1024x256.size inb).emb x (1 : Fin 2)).val = n + (x (1 : Fin 2)).val := unit_coord e x (1 : Fin 2)
  refine (hL ((slotO (Ring.sl 2 (k.val / 11))).view.junk (Val := Elt Ideal)) ((Rect.unit (s := S1024x2048) off S1024x256.size inb).emb x) (by rw [f1]; exact Nat.le_add_right _ _)).trans ?_
  rw [f0, f1]
theorem v613_at (x : S1024x256.Idx) : compRun.sl.v613_r0 c k gH gG gV gA gB gD gO gC x = acc0 c k gH gG gV gA gB gD gO gC (x 0).val (0 + (x 1).val) :=
  accLoad c k gH gG gV gA gB gD gO gC (compRun.sl.HO_8 c k gH gG gV gA gB gD gO gC) 0 (fun f y hy => readHO8 c k gH gG gV gA gB gD gO gC f y) inb_S1024x2048_S1024x256_0_0 rfl x
theorem v628_at (x : S1024x256.Idx) : compRun.sl.v628_r0 c k gH gG gV gA gB gD gO gC x = acc0 c k gH gG gV gA gB gD gO gC (x 0).val (256 + (x 1).val) :=
  accLoad c k gH gG gV gA gB gD gO gC (compRun.sl.HO_9 c k gH gG gV gA gB gD gO gC) 256 (fun f y hy => readHO9 c k gH gG gV gA gB gD gO gC f y hy) inb_S1024x2048_S1024x256_0_256 rfl x
theorem v643_at (x : S1024x256.Idx) : compRun.sl.v643_r0 c k gH gG gV gA gB gD gO gC x = acc0 c k gH gG gV gA gB gD gO gC (x 0).val (512 + (x 1).val) :=
  accLoad c k gH gG gV gA gB gD gO gC (compRun.sl.HO_10 c k gH gG gV gA gB gD gO gC) 512 (fun f y hy => readHO10 c k gH gG gV gA gB gD gO gC f y hy) inb_S1024x2048_S1024x256_0_512 rfl x
theorem v658_at (x : S1024x256.Idx) : compRun.sl.v658_r0 c k gH gG gV gA gB gD gO gC x = acc0 c k gH gG gV gA gB gD gO gC (x 0).val (768 + (x 1).val) :=
  accLoad c k gH gG gV gA gB gD gO gC (compRun.sl.HO_11 c k gH gG gV gA gB gD gO gC) 768 (fun f y hy => readHO11 c k gH gG gV gA gB gD gO gC f y hy) inb_S1024x2048_S1024x256_0_768 rfl x
theorem v673_at (x : S1024x256.Idx) : compRun.sl.v673_r0 c k gH gG gV gA gB gD gO gC x = acc0 c k gH gG gV gA gB gD gO gC (x 0).val (1024 + (x 1).val) :=
  accLoad c k gH gG gV gA gB gD gO gC (compRun.sl.HO_12 c k gH gG gV gA gB gD gO gC) 1024 (fun f y hy => readHO12 c k gH gG gV gA gB gD gO gC f y hy) inb_S1024x2048_S1024x256_0_1024 rfl x
theorem v688_at (x : S1024x256.Idx) : compRun.sl.v688_r0 c k gH gG gV gA gB gD gO gC x = acc0 c k gH gG gV gA gB gD gO gC (x 0).val (1280 + (x 1).val) :=
  accLoad c k gH gG gV gA gB gD gO gC (compRun.sl.HO_13 c k gH gG gV gA gB gD gO gC) 1280 (fun f y hy => readHO13 c k gH gG gV gA gB gD gO gC f y hy) inb_S1024x2048_S1024x256_0_1280 rfl x
theorem v703_at (x : S1024x256.Idx) : compRun.sl.v703_r0 c k gH gG gV gA gB gD gO gC x = acc0 c k gH gG gV gA gB gD gO gC (x 0).val (1536 + (x 1).val) :=
  accLoad c k gH gG gV gA gB gD gO gC (compRun.sl.HO_14 c k gH gG gV gA gB gD gO gC) 1536 (fun f y hy => readHO14 c k gH gG gV gA gB gD gO gC f y hy) inb_S1024x2048_S1024x256_0_1536 rfl x
theorem v718_at (x : S1024x256.Idx) : compRun.sl.v718_r0 c k gH gG gV gA gB gD gO gC x = acc0 c k gH gG gV gA gB gD gO gC (x 0).val (1792 + (x 1).val) :=
  accLoad c k gH gG gV gA gB gD gO gC (compRun.sl.HO_15 c k gH gG gV gA gB gD gO gC) 1792 (fun f y hy => readHO15 c k gH gG gV gA gB gD gO gC f y hy) inb_S1024x2048_S1024x256_0_1792 rfl x

/-- The eight pieces of the second half. -/
def accL : List (View.Piece (Elt Ideal) S1024x2048 .f32) :=
  [⟨Rect.unit (s := S1024x2048) ![0, 1792] S1024x256.size inb_S1024x2048_S1024x256_0_1792, k0_pay50 (compRun.sl.v718_r0 c k gH gG gV gA gB gD gO gC) (compRun.sl.v615_r0 c k gH gG gV gA gB gC)
      (View.readAt (Elt Ideal) (slotD (Ring.sl 2 k.val)).view (Rect.unit (s := S512x2048) ![256, 1792] S256x256.size inb_S512x2048_S256x256_256_1792).toLoadRect gD)⟩,
    ⟨Rect.unit (s := S1024x2048) ![0, 1536] S1024x256.size inb_S1024x2048_S1024x256_0_1536, k0_pay49 (compRun.sl.v703_r0 c k gH gG gV gA gB gD gO gC) (compRun.sl.v615_r0 c k gH gG gV gA gB gC)
      (View.readAt (Elt Ideal) (slotD (Ring.sl 2 k.val)).view (Rect.unit (s := S512x2048) ![256, 1536] S256x256.size inb_S512x2048_S256x256_256_1536).toLoadRect gD)⟩,
    ⟨Rect.unit (s := S1024x2048) ![0, 1280] S1024x256.size inb_S1024x2048_S1024x256_0_1280, k0_pay48 (compRun.sl.v688_r0 c k gH gG gV gA gB gD gO gC) (compRun.sl.v615_r0 c k gH gG gV gA gB gC)
      (View.readAt (Elt Ideal) (slotD (Ring.sl 2 k.val)).view (Rect.unit (s := S512x2048) ![256, 1280] S256x256.size inb_S512x2048_S256x256_256_1280).toLoadRect gD)⟩,
    ⟨Rect.unit (s := S1024x2048) ![0, 1024] S1024x256.size inb_S1024x2048_S1024x256_0_1024, k0_pay47 (compRun.sl.r_22 c k gH gG gV gA gB gD gO gC) (compRun.sl.v615_r0 c k gH gG gV gA gB gC)
      (View.readAt (Elt Ideal) (slotD (Ring.sl 2 k.val)).view (Rect.unit (s := S512x2048) ![256, 1024] S256x256.size inb_S512x2048_S256x256_256_1024).toLoadRect gD)⟩,
    ⟨Rect.unit (s := S1024x2048) ![0, 768] S1024x256.size inb_S1024x2048_S1024x256_0_768, k0_pay45 (compRun.sl.v658_r0 c k gH gG gV gA gB gD gO gC) (compRun.sl.v615_r0 c k gH gG gV gA gB gC)
      (View.readAt (Elt Ideal) (slotD (Ring.sl 2 k.val)).view (Rect.unit (s := S512x2048) ![256, 768] S256x256.size inb_S512x2048_S256x256_256_768).toLoadRect gD)⟩,
    ⟨Rect.unit (s := S1024x2048) ![0, 512] S1024x256.size inb_S1024x2048_S1024x256_0_512, k0_pay44 (compRun.sl.r_20 c k gH gG gV gA gB gD gO gC) (compRun.sl.r_21 c k gH gG gV gA gB gC)
      (View.readAt (Elt Ideal) (slotD (Ring.sl 2 k.val)).view (Rect.unit (s := S512x2048) ![256, 512] S256x256.size inb_S512x2048_S256x256_256_512).toLoadRect gD)⟩,
    ⟨Rect.unit (s := S1024x2048) ![0, 256] S1024x256.size inb_S1024x2048_S1024x256_0_256, k0_pay41 (compRun.sl.v628_r0 c k gH gG gV gA gB gD gO gC) (compRun.sl.v615_r0 c k gH gG gV gA gB gC)
      (View.readAt (Elt Ideal) (slotD (Ring.sl 2 k.val)).view (Rect.unit (s := S512x2048) ![256, 256] S256x256.size inb_S512x2048_S256x256_256_256).toLoadRect gD)⟩,
    ⟨Rect.unit (s := S1024x2048) ![0, 0] S1024x256.size inb_S1024x2048_S1024x256_0_0, k0_pay40 (compRun.sl.r_18 c k gH gG gV gA gB gD gO gC) (compRun.sl.r_19 c k gH gG gV gA gB gC)
      (View.readAt (Elt Ideal) (slotD (Ring.sl 2 k.val)).view (Rect.unit (s := S512x2048) ![256, 0] S256x256.size inb_S512x2048_S256x256_256_0).toLoadRect gD)⟩]

theorem okAccL : ∀ p ∈ accL c k gH gG gV gA gB gD gO gC, OkO (acc1 c k gH gG gV gA gB gD gO gC) p := by
  unfold accL
  refine List.forall_mem_cons.2 ⟨okO c k gH gG gV gA gB gD gC (acc0 c k gH gG gV gA gB gD gO gC) (acc1 c k gH gG gV gA gB gD gO gC) 1 1792 (fun _ _ => rfl) _ _ _ _ (fun j => pay50_at _ _ _ j) (fun x => v718_at c k gH gG gV gA gB gD gO gC x) (fun x => v615_at c k gH gG gV gA gB gC x) (fun i l => loadD1_7 c k gD i l) _ rfl, ?_⟩
  refine List.forall_mem_cons.2 ⟨okO c k gH gG gV gA gB gD gC (acc0 c k gH gG gV gA gB gD gO gC) (acc1 c k gH gG gV gA gB gD gO gC) 1 1536 (fun _ _ => rfl) _ _ _ _ (fun j => pay49_at _ _ _ j) (fun x => v703_at c k gH gG gV gA gB gD gO gC x) (fun x => v615_at c k gH gG gV gA gB gC x) (fun i l => loadD1_6 c k gD i l) _ rfl, ?_⟩
  refine List.forall_mem_cons.2 ⟨okO c k gH gG gV gA gB gD gC (acc0 c k gH gG gV gA gB gD gO gC) (acc1 c k gH gG gV gA gB gD gO gC) 1 1280 (fun _ _ => rfl) _ _ _ _ (fun j => pay48_at _ _ _ j) (fun x => v688_at c k gH gG gV gA gB gD gO gC x) (fun x => v615_at c k gH gG gV gA gB gC x) (fun i l => loadD1_5 c k gD i l) _ rfl, ?_⟩
  refine List.forall_mem_cons.2 ⟨okO c k gH gG gV gA gB gD gC (acc0 c k gH gG gV gA gB gD gO gC) (acc1 c k gH gG gV gA gB gD gO gC) 1 1024 (fun _ _ => rfl) _ _ _ _ (fun j => pay47_at _ _ _ j) (fun x => v673_at c k gH gG gV gA gB gD gO gC x) (fun x => v615_at c k gH gG gV gA gB gC x) (fun i l => loadD1_4 c k gD i l) _ rfl, ?_⟩
  refine List.forall_mem_cons.2 ⟨okO c k gH gG gV gA gB gD gC (acc0 c k gH gG gV gA gB gD gO gC) (acc1 c k gH gG gV gA gB gD gO gC) 1 768 (fun _ _ => rfl) _ _ _ _ (fun j => pay45_at _ _ _ j) (fun x => v658_at c k gH gG gV gA gB gD gO gC x) (fun x => v615_at c k gH gG gV gA gB gC x) (fun i l => loadD1_3 c k gD i l) _ rfl, ?_⟩
  refine List.forall_mem_cons.2 ⟨okO c k gH gG gV gA gB gD gC (acc0 c k gH gG gV gA gB gD gO gC) (acc1 c k gH gG gV gA gB gD gO gC) 1 512 (fun _ _ => rfl) _ _ _ _ (fun j => pay44_at _ _ _ j) (fun x => v643_at c k gH gG gV gA gB gD gO gC x) (fun x => v615_at c k gH gG gV gA gB gC x) (fun i l => loadD1_2 c k gD i l) _ rfl, ?_⟩
  refine List.forall_mem_cons.2 ⟨okO c k gH gG gV gA gB gD gC (acc0 c k gH gG gV gA gB gD gO gC) (acc1 c k gH gG gV gA gB gD gO gC) 1 256 (fun _ _ => rfl) _ _ _ _ (fun j => pay41_at _ _ _ j) (fun x => v628_at c k gH gG gV gA gB gD gO gC x) (fun x => v615_at c k gH gG gV gA gB gC x) (fun i l => loadD1_1 c k gD i l) _ rfl, ?_⟩
  refine List.forall_mem_cons.2 ⟨okO c k gH gG gV gA gB gD gC (acc0 c k gH gG gV gA gB gD gO gC) (acc1 c k gH gG gV gA gB gD gO gC) 1 0 (fun _ _ => rfl) _ _ _ _ (fun j => pay40_at _ _ _ j) (fun x => v613_at c k gH gG gV gA gB gD gO gC x) (fun x => v615_at c k gH gG gV gA gB gC x) (fun i l => loadD1_0 c k gD i l) _ rfl, ?_⟩
  exact fun p hp => absurd hp List.not_mem_nil

theorem covAccL (y : S1024x2048.Idx) : ∃ p ∈ accL c k gH gG gV gA gB gD gO gC, y ∈ p.1.set := by
  unfold accL
  have h0 : (y (0 : Fin 2)).val < 1024 := (y (0 : Fin 2)).isLt
  have h1 : (y (1 : Fin 2)).val < 2048 := (y (1 : Fin 2)).isLt
  rcases Nat.lt_or_ge (y (1 : Fin 2)).val 1792 with h | h
  swap
  · exact ⟨_, List.mem_cons_self, mem_box2 (m := 1024) (n := 2048) inb_S1024x2048_S1024x256_0_1792 rfl rfl y (by omega) (by omega)⟩
  rcases Nat.lt_or_ge (y (1 : Fin 2)).val 1536 with h | h
  swap
  · exact ⟨_, (List.mem_cons_of_mem _ List.mem_cons_self), mem_box2 (m := 1024) (n := 2048) inb_S1024x2048_S1024x256_0_1536 rfl rfl y (by omega) (by omega)⟩
  rcases Nat.lt_or_ge (y (1 : Fin 2)).val 1280 with h | h
  swap
  · exact ⟨_, (List.mem_cons_of_mem _ (List.mem_cons_of_mem _ List.mem_cons_self)), mem_box2 (m := 1024) (n := 2048) inb_S1024x2048_S1024x256_0_1280 rfl rfl y (by omega) (by omega)⟩
  rcases Nat.lt_or_ge (y (1 : Fin 2)).val 1024 with h | h
  swap
  · exact ⟨_, (List.mem_cons_of_mem _ (List.mem_cons_of_mem _ (List.mem_cons_of_mem _ List.mem_cons_self))), mem_box2 (m := 1024) (n := 2048) inb_S1024x2048_S1024x256_0_1024 rfl rfl y (by omega) (by omega)⟩
  rcases Nat.lt_or_ge (y (1 : Fin 2)).val 768 with h | h
  swap
  · exact ⟨_, (List.mem_cons_of_mem _ (List.mem_cons_of_mem _ (List.mem_cons_of_mem _ (List.mem_cons_of_mem _ List.mem_cons_self)))), mem_box2 (m := 1024) (n := 2048) inb_S1024x2048_S1024x256_0_768 rfl rfl y (by omega) (by omega)⟩
  rcases Nat.lt_or_ge (y (1 : Fin 2)).val 512 with h | h
  swap
  · exact ⟨_, (List.mem_cons_of_mem _ (List.mem_cons_of_mem _ (List.mem_cons_of_mem _ (List.mem_cons_of_mem _ (List.mem_cons_of_mem _ List.mem_cons_self))))), mem_box2 (m := 1024) (n := 2048) inb_S1024x2048_S1024x256_0_512 rfl rfl y (by omega) (by omega)⟩
  rcases Nat.lt_or_ge (y (1 : Fin 2)).val 256 with h | h
  swap
  · exact ⟨_, (List.mem_cons_of_mem _ (List.mem_cons_of_mem _ (List.mem_cons_of_mem _ (List.mem_cons_of_mem _ (List.mem_cons_of_mem _ (List.mem_cons_of_mem _ List.mem_cons_self)))))), mem_box2 (m := 1024) (n := 2048) inb_S1024x2048_S1024x256_0_256 rfl rfl y (by omega) (by omega)⟩
  exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_box2 (m := 1024) (n := 2048) inb_S1024x2048_S1024x256_0_0 rfl rfl y (by omega) (by omega)⟩

section Whole
variable (gP : Buf (Elt Ideal) (bufP.view.loc (c : Thread nD τ))) (gX : Buf (Elt Ideal) (bufX.view.loc (c : Thread nD τ)))

theorem compRun_acc : (compRun c k gH gG gV gA gB gD gO gC gP gX).1.2
    = (slotO (Ring.sl 2 (k.val / 11))).view.writes (Elt Ideal) ((slotO (Ring.sl 2 (k.val / 11))).view.writes (Elt Ideal) (accBase c k gO) (compRun.sl.HO_8 c k gH gG gV gA gB gD gO gC)) (accL c k gH gG gV gA gB gD gO gC) := by
  rw [← View.writes_append]
  unfold compRun
  dsimp only
  unfold accL accBase
  congr 1

/-- What the trip leaves in the accumulator: what it found plus the products of the trip's 512 activations. -/
theorem acc_eq (r n : ℕ) (hr : r < 1024) (hn : n < 2048) :
    at2 (m := 1024) (n := 2048) ((slotO (Ring.sl 2 (k.val / 11))).view.read (Elt Ideal) (compRun c k gH gG gV gA gB gD gO gC gP gX).1.2) r n
      = rdO c k gO r n + ∑ j : Fin 512, actR c k gH gG gV gA gB gC r j.val * rdD c k gD j.val n := by
  rw [compRun_acc]
  refine (at2_eq (m := 1024) (n := 2048) _ (ix2 ⟨r, hr⟩ ⟨n, hn⟩) rfl rfl).symm.trans ?_
  refine (View.read_writes_apply_of_pieces (Val := Elt Ideal) (s := S1024x2048) (e := .f32) (slotO (Ring.sl 2 (k.val / 11))).view _ (fun y => acc1 c k gH gG gV gA gB gD gO gC (y 0).val (y 1).val)
    (accL c k gH gG gV gA gB gD gO gC) (okAccL c k gH gG gV gA gB gD gO gC) _ (covAccL c k gH gG gV gA gB gD gO gC _)).trans ?_
  show acc1 c k gH gG gV gA gB gD gO gC r n = _
  unfold acc1 acc0
  rw [Fin.sum_univ_two_halves 256 256 rfl, add_assoc]
  refine congrArg (_ + ·) (congrArg₂ (· + ·) (Finset.sum_congr rfl fun j _ => ?_) (Finset.sum_congr rfl fun j _ => ?_))
  · rw [Nat.mul_zero, Nat.zero_add]
  · rfl

end Whole

end Trip

end Cert.Proof.Ffn

end
-- ==== Proof.Spec.lean ====
/-
  The whole call at the ideal instance: what every trip leaves, in terms of the whole arrays.
-/
module

public import proofs.«01_k».proof.Proof.ReadAcc
public import proofs.«01_k».proof.Proof.State

@[expose] public section

set_option maxRecDepth 16384

noncomputable section

namespace Cert.Proof.Ffn

open Cert.KernelIdeal Cert.KernelIdeal.Gen
open Idealize.ShloMosaic
open Idealize.ShloMosaic.TcCoe

/-! ## The mathematics on whole arrays -/

/-- Entry `(s, n)` of the up-projection. -/
def upT (H U : ℕ → ℕ → EReal) (s n : ℕ) : EReal := ∑ i : Fin 2048, H s i.val * U i.val n
/-- The same with eight zero rows ahead. -/
def padT (H U : ℕ → ℕ → EReal) (q n : ℕ) : EReal := if q < 8 then 0 else upT H U (q - 8) n
/-- Entry `(s, n)` of the gated activation, after the taps `C` over three rows. -/
def gateT (H U C : ℕ → ℕ → EReal) (s n : ℕ) : EReal :=
  gate (tap3 (C 0 n) (C 1 n) (C 2 n) (padT H U (6 + s) n) (padT H U (7 + s) n) (padT H U (8 + s) n))
    (tap3 (C 0 (5632 + n)) (C 1 (5632 + n)) (C 2 (5632 + n)) (padT H U (6 + s) (5632 + n)) (padT H U (7 + s) (5632 + n)) (padT H U (8 + s) (5632 + n)))
/-- Entry `(s, n)` of the down-projection over the first `w` hidden columns. -/
def downT (H U C D : ℕ → ℕ → EReal) (w s n : ℕ) : EReal := ∑ j ∈ Finset.range w, gateT H U C s j * D j n

section Whole
variable (c : Dev nD)
    (XH : Buf (Elt Ideal) (hbmH.view.loc (c : Thread nD τ))) (XU : Buf (Elt Ideal) (hbmG.view.loc (c : Thread nD τ)))
    (XC : Buf (Elt Ideal) (hbmA.view.loc (c : Thread nD τ))) (XD : Buf (Elt Ideal) (hbmD.view.loc (c : Thread nD τ)))

/-- The four arrays as functions of their coordinates. -/
def aH : ℕ → ℕ → EReal := at2 (m := 8192) (n := 2048) (hbmH.view.read (Elt Ideal) XH)
def aU : ℕ → ℕ → EReal := at2 (m := 2048) (n := 11264) (hbmG.view.read (Elt Ideal) XU)
def aC : ℕ → ℕ → EReal := at2 (m := 3) (n := 11264) (hbmA.view.read (Elt Ideal) XC)
def aD : ℕ → ℕ → EReal := at2 (m := 5632) (n := 2048) (hbmD.view.read (Elt Ideal) XD)

/-! ## A staged block is a block of the array -/

theorem landH_at (s : Fin 2) (b : Fin 8) (f : SBufH (F := Ideal) c s) (r n : ℕ) (hr : r < 1024) (hn : n < 2048) :
    at2 (m := 1024) (n := 2048) ((slotH s).view.read (Elt Ideal) (landH c XH s b f)) r n = aH c XH (1024 * b.val + r) (0 + n) := by
  refine (at2_eq (m := 1024) (n := 2048) _ (ix2 ⟨r, hr⟩ ⟨n, hn⟩) rfl rfl).symm.trans ?_
  refine (congrFun (View.read_writes_whole (Val := Elt Ideal) (slotH s).view f ((blkH b).view.read (Elt Ideal) XH)) _).trans ?_
  exact box2 (m := 8192) (n := 2048) (hbmH.view.read (Elt Ideal) XH) (offH_inb b) rfl (ix2 ⟨r, hr⟩ ⟨n, hn⟩) rfl rfl
theorem landG_at (s : Fin 2) (b : Fin 11) (f : SBufG (F := Ideal) c s) (r n : ℕ) (hr : r < 2048) (hn : n < 512) :
    at2 (m := 2048) (n := 512) ((slotG s).view.read (Elt Ideal) (landG c XU s b f)) r n = aU c XU (0 + r) (512 * b.val + n) := by
  refine (at2_eq (m := 2048) (n := 512) _ (ix2 ⟨r, hr⟩ ⟨n, hn⟩) rfl rfl).symm.trans ?_
  refine (congrFun (View.read_writes_whole (Val := Elt Ideal) (slotG s).view f ((blkG b).view.read (Elt Ideal) XU)) _).trans ?_
  exact box2 (m := 2048) (n := 11264) (hbmG.view.read (Elt Ideal) XU) (offG_inb b) rfl (ix2 ⟨r, hr⟩ ⟨n, hn⟩) rfl rfl
theorem landV_at (s : Fin 2) (b : Fin 11) (f : SBufV (F := Ideal) c s) (r n : ℕ) (hr : r < 2048) (hn : n < 512) :
    at2 (m := 2048) (n := 512) ((slotV s).view.read (Elt Ideal) (landV c XU s b f)) r n = aU c XU (0 + r) (512 * b.val + 5632 + n) := by
  refine (at2_eq (m := 2048) (n := 512) _ (ix2 ⟨r, hr⟩ ⟨n, hn⟩) rfl rfl).symm.trans ?_
  refine (congrFun (View.read_writes_whole (Val := Elt Ideal) (slotV s).view f ((blkV b).view.read (Elt Ideal) XU)) _).trans ?_
  exact box2 (m := 2048) (n := 11264) (hbmV.view.read (Elt Ideal) XU) (offV_inb b) rfl (ix2 ⟨r, hr⟩ ⟨n, hn⟩) rfl rfl
theorem landA_at (s : Fin 2) (b : Fin 11) (f : SBufA (F := Ideal) c s) (r n : ℕ) (hr : r < 3) (hn : n < 512) :
    at2 (m := 3) (n := 512) ((slotA s).view.read (Elt Ideal) (landA c XC s b f)) r n = aC c XC (0 + r) (512 * b.val + n) := by
  refine (at2_eq (m := 3) (n := 512) _ (ix2 ⟨r, hr⟩ ⟨n, hn⟩) rfl rfl).symm.trans ?_
  refine (congrFun (View.read_writes_whole (Val := Elt Ideal) (slotA s).view f ((blkA b).view.read (Elt Ideal) XC)) _).trans ?_
  exact box2 (m := 3) (n := 11264) (hbmA.view.read (Elt Ideal) XC) (offA_inb b) rfl (ix2 ⟨r, hr⟩ ⟨n, hn⟩) rfl rfl
theorem landB_at (s : Fin 2) (b : Fin 11) (f : SBufB (F := Ideal) c s) (r n : ℕ) (hr : r < 3) (hn : n < 512) :
    at2 (m := 3) (n := 512) ((slotB s).view.read (Elt Ideal) (landB c XC s b f)) r n = aC c XC (0 + r) (512 * b.val + 5632 + n) := by
  refine (at2_eq (m := 3) (n := 512) _ (ix2 ⟨r, hr⟩ ⟨n, hn⟩) rfl rfl).symm.trans ?_
  refine (congrFun (View.read_writes_whole (Val := Elt Ideal) (slotB s).view f ((blkB b).view.read (Elt Ideal) XC)) _).trans ?_
  exact box2 (m := 3) (n := 11264) (hbmB.view.read (Elt Ideal) XC) (offB_inb b) rfl (ix2 ⟨r, hr⟩ ⟨n, hn⟩) rfl rfl
theorem landD_at (s : Fin 2) (b : Fin 11) (f : SBufD (F := Ideal) c s) (r n : ℕ) (hr : r < 512) (hn : n < 2048) :
    at2 (m := 512) (n := 2048) ((slotD s).view.read (Elt Ideal) (landD c XD s b f)) r n = aD c XD (512 * b.val + r) (0 + n) := by
  refine (at2_eq (m := 512) (n := 2048) _ (ix2 ⟨r, hr⟩ ⟨n, hn⟩) rfl rfl).symm.trans ?_
  refine (congrFun (View.read_writes_whole (Val := Elt Ideal) (slotD s).view f ((blkD b).view.read (Elt Ideal) XD)) _).trans ?_
  exact box2 (m := 5632) (n := 2048) (hbmD.view.read (Elt Ideal) XD) (offD_inb b) rfl (ix2 ⟨r, hr⟩ ⟨n, hn⟩) rfl rfl

/-! ## What is kept about the values -/

/-- How many rows of blocks the carry has seen at column block `f` before trip `n`. -/
def seen (n f : ℕ) : ℕ := if f < n % 11 then n / 11 + 1 else n / 11

/-- Before trip `n` the carry holds, at every column block it has seen, the eight rows that precede the next row block. -/
def CarP (n : ℕ) (g : Buf (Elt Ideal) (bufC.view.loc (c : Thread nD τ))) : Prop :=
  ∀ f b e l, f < 11 → b < 2 → e < 8 → l < 512 → 0 < seen n f →
    at4 (m := 11) (n := 2) (p := 8) (q := 512) (bufC.view.read (Elt Ideal) g) f b e l = padT (aH c XH) (aU c XU) (1024 * seen n f + e) (5632 * b + (512 * f + l))
/-- After `n` trips the accumulating slot holds the down-projection over the hidden columns seen in this row of blocks. -/
def AccP (n : ℕ) (s : Fin 2) (g : SBufO (F := Ideal) c s) : Prop :=
  ∀ r m, r < 1024 → m < 2048 →
    at2 (m := 1024) (n := 2048) ((slotO s).view.read (Elt Ideal) g) r m
      = downT (aH c XH) (aU c XU) (aC c XC) (aD c XD) (512 * ((n - 1) % 11 + 1)) (1024 * ((n - 1) / 11) + r) m
/-- A finished block of the result is a row block of the whole down-projection. -/
def ResP (b : Fin 8) (X : S1024x2048.Idx → EReal) : Prop :=
  ∀ r m, r < 1024 → m < 2048 → at2 (m := 1024) (n := 2048) X r m = downT (aH c XH) (aU c XU) (aC c XC) (aD c XD) 5632 (1024 * b.val + r) m

section Step
variable (k : Trip) (gC : Buf (Elt Ideal) (bufC.view.loc (c : Thread nD τ)))
    (fH : SBufH (F := Ideal) c (Ring.sl 2 (k.val / 11))) (fG : SBufG (F := Ideal) c (Ring.sl 2 k.val)) (fV : SBufV (F := Ideal) c (Ring.sl 2 k.val))
    (fA : SBufA (F := Ideal) c (Ring.sl 2 k.val)) (fB : SBufB (F := Ideal) c (Ring.sl 2 k.val)) (fD : SBufD (F := Ideal) c (Ring.sl 2 k.val))
    (gO : SBufO (F := Ideal) c (Ring.sl 2 (k.val / 11)))
    (gP : Buf (Elt Ideal) (bufP.view.loc (c : Thread nD τ))) (gX : Buf (Elt Ideal) (bufX.view.loc (c : Thread nD τ)))

theorem bkH_val : (Ring.bk 8 (k.val / 11)).val = k.val / 11 := Ring.bk_val (by have := trip_lt k; omega)
theorem bkF_val : (Ring.bk 11 k.val).val = k.val % 11 := rfl

/-- The trip's inputs as entries of the whole arrays. -/
theorem rdH_land (r i : ℕ) (hr : r < 1024) (hi : i < 2048) : rdH c k (landH c XH (Ring.sl 2 (k.val / 11)) (Ring.bk 8 (k.val / 11)) fH) r i = aH c XH (1024 * (k.val / 11) + r) i := by
  unfold rdH
  rw [landH_at c XH _ _ _ r i hr hi, bkH_val, Nat.zero_add]
theorem rdW_land (b i l : ℕ) (hb : b < 2) (hi : i < 2048) (hl : l < 512) : rdW c k (landG c XU (Ring.sl 2 k.val) (Ring.bk 11 k.val) fG) (landV c XU (Ring.sl 2 k.val) (Ring.bk 11 k.val) fV) b i l = aU c XU i (5632 * b + (512 * (k.val % 11) + l)) := by
  unfold rdW
  rcases (show b = 0 ∨ b = 1 by omega) with rfl | rfl
  · rw [if_pos rfl, landG_at c XU _ _ _ i l hi hl, bkF_val, Nat.zero_add, Nat.mul_zero, Nat.zero_add]
  · rw [if_neg (by decide), landV_at c XU _ _ _ i l hi hl, bkF_val, Nat.zero_add]
    exact congrArg _ (by omega)
theorem rdA_land (t l : ℕ) (ht : t < 3) (hl : l < 512) : rdA c k (landA c XC (Ring.sl 2 k.val) (Ring.bk 11 k.val) fA) t l = aC c XC t (512 * (k.val % 11) + l) := by
  unfold rdA
  rw [landA_at c XC _ _ _ t l ht hl, bkF_val, Nat.zero_add]
theorem rdB_land (t l : ℕ) (ht : t < 3) (hl : l < 512) : rdB c k (landB c XC (Ring.sl 2 k.val) (Ring.bk 11 k.val) fB) t l = aC c XC t (5632 + (512 * (k.val % 11) + l)) := by
  unfold rdB
  rw [landB_at c XC _ _ _ t l ht hl, bkF_val, Nat.zero_add]
  exact congrArg _ (by omega)
theorem rdD_land (j n : ℕ) (hj : j < 512) (hn : n < 2048) : rdD c k (landD c XD (Ring.sl 2 k.val) (Ring.bk 11 k.val) fD) j n = aD c XD (512 * (k.val % 11) + j) n := by
  unfold rdD
  rw [landD_at c XD _ _ _ j n hj hn, bkF_val, Nat.zero_add]

/-- The carried rows the trip reads are the eight rows before its row block. -/
theorem rdC_land (hC : CarP c XH XU k.val gC) (b e l : ℕ) (hb : b < 2) (he : e < 8) (hl : l < 512) :
    rdC c k gC b e l = padT (aH c XH) (aU c XU) (1024 * (k.val / 11) + e) (5632 * b + (512 * (k.val % 11) + l)) := by
  rw [rdC_eq c k gC b e l hb he hl]
  have hs : seen k.val (k.val % 11) = k.val / 11 := if_neg (lt_irrefl _)
  by_cases h : k.val < 11
  · rw [if_pos h, show k.val / 11 = 0 by omega]
    unfold padT
    rw [if_pos (by omega)]
  · rw [if_neg h]
    have := hC (k.val % 11) b e l (Nat.mod_lt _ (by decide)) hb he hl (by rw [hs]; omega)
    rw [hs] at this
    exact this

/-- The extended pre-activations are rows of the padded up-projection. -/
theorem preR_land (hC : CarP c XH XU k.val gC) (b e l : ℕ) (hb : b < 2) (he : e < 1032) (hl : l < 512) :
    preR c k (landH c XH (Ring.sl 2 (k.val / 11)) (Ring.bk 8 (k.val / 11)) fH) (landG c XU (Ring.sl 2 k.val) (Ring.bk 11 k.val) fG) (landV c XU (Ring.sl 2 k.val) (Ring.bk 11 k.val) fV) gC b e l = padT (aH c XH) (aU c XU) (1024 * (k.val / 11) + e) (5632 * b + (512 * (k.val % 11) + l)) := by
  unfold preR preT
  by_cases h : e < 8
  · rw [if_pos h]
    exact rdC_land c XH XU k gC hC b e l hb h hl
  · rw [if_neg h]
    unfold padT upT
    rw [if_neg (by omega)]
    refine Finset.sum_congr rfl fun i _ => ?_
    rw [rdH_land c XH k fH (e - 8) i.val (by omega) i.isLt, rdW_land c XU k fG fV b i.val l hb i.isLt hl]
    exact congrArg (fun q => aH c XH q i.val * _) (by omega)

/-- The trip's activations are a block of the gated activations. -/
theorem actR_land (hC : CarP c XH XU k.val gC) (r l : ℕ) (hr : r < 1024) (hl : l < 512) :
    actR c k (landH c XH (Ring.sl 2 (k.val / 11)) (Ring.bk 8 (k.val / 11)) fH) (landG c XU (Ring.sl 2 k.val) (Ring.bk 11 k.val) fG) (landV c XU (Ring.sl 2 k.val) (Ring.bk 11 k.val) fV) (landA c XC (Ring.sl 2 k.val) (Ring.bk 11 k.val) fA) (landB c XC (Ring.sl 2 k.val) (Ring.bk 11 k.val) fB) gC r l = gateT (aH c XH) (aU c XU) (aC c XC) (1024 * (k.val / 11) + r) (512 * (k.val % 11) + l) := by
  unfold actR actT gateT
  have e (t b : ℕ) (hb : b < 2) (ht : t + r < 1032) :
      preR c k (landH c XH (Ring.sl 2 (k.val / 11)) (Ring.bk 8 (k.val / 11)) fH) (landG c XU (Ring.sl 2 k.val) (Ring.bk 11 k.val) fG) (landV c XU (Ring.sl 2 k.val) (Ring.bk 11 k.val) fV) gC b (t + r) l = padT (aH c XH) (aU c XU) (t + (1024 * (k.val / 11) + r)) (5632 * b + (512 * (k.val % 11) + l)) := by
    rw [preR_land c XH XU k gC fH fG fV hC b (t + r) l hb ht hl]
    exact congrArg (fun q => padT _ _ q _) (by omega)
  have e0 (t : ℕ) (ht : t + r < 1032) :
      preR c k (landH c XH (Ring.sl 2 (k.val / 11)) (Ring.bk 8 (k.val / 11)) fH) (landG c XU (Ring.sl 2 k.val) (Ring.bk 11 k.val) fG) (landV c XU (Ring.sl 2 k.val) (Ring.bk 11 k.val) fV) gC 0 (t + r) l = padT (aH c XH) (aU c XU) (t + (1024 * (k.val / 11) + r)) (512 * (k.val % 11) + l) :=
    (e t 0 (by decide) ht).trans (congrArg (padT _ _ _) (by omega))
  have e1 (t : ℕ) (ht : t + r < 1032) :
      preR c k (landH c XH (Ring.sl 2 (k.val / 11)) (Ring.bk 8 (k.val / 11)) fH) (landG c XU (Ring.sl 2 k.val) (Ring.bk 11 k.val) fG) (landV c XU (Ring.sl 2 k.val) (Ring.bk 11 k.val) fV) gC 1 (t + r) l = padT (aH c XH) (aU c XU) (t + (1024 * (k.val / 11) + r)) (5632 + (512 * (k.val % 11) + l)) :=
    (e t 1 (by decide) ht).trans (congrArg (padT _ _ _) (by omega))
  exact congrArg₂ gate
    (tap_congr (rdA_land c XC k fA 0 l (by decide) hl) (rdA_land c XC k fA 1 l (by decide) hl) (rdA_land c XC k fA 2 l (by decide) hl) (e0 6 (by omega)) (e0 7 (by omega)) (e0 8 (by omega)))
    (tap_congr (rdB_land c XC k fB 0 l (by decide) hl) (rdB_land c XC k fB 1 l (by decide) hl) (rdB_land c XC k fB 2 l (by decide) hl) (e1 6 (by omega)) (e1 7 (by omega)) (e1 8 (by omega)))

/-- The carry after the trip. -/
theorem step_car (hC : CarP c XH XU k.val gC) : CarP c XH XU (k.val + 1) (compRun c k (landH c XH (Ring.sl 2 (k.val / 11)) (Ring.bk 8 (k.val / 11)) fH) (landG c XU (Ring.sl 2 k.val) (Ring.bk 11 k.val) fG) (landV c XU (Ring.sl 2 k.val) (Ring.bk 11 k.val) fV) (landA c XC (Ring.sl 2 k.val) (Ring.bk 11 k.val) fA) (landB c XC (Ring.sl 2 k.val) (Ring.bk 11 k.val) fB) (landD c XD (Ring.sl 2 k.val) (Ring.bk 11 k.val) fD) gO gC gP gX).1.1 := by
  intro f b e l hf hb he hl hs
  by_cases h : f = k.val % 11
  · subst h
    have hs' : seen (k.val + 1) (k.val % 11) = k.val / 11 + 1 := by
      unfold seen
      split <;> omega
    rw [car_same c k _ _ _ gC _ _ _ gO gP gX b e l hb he hl, preR_land c XH XU k gC fH fG fV hC b (1024 + e) l hb (by omega) hl, hs']
    exact congrArg (fun q => padT _ _ q _) (by omega)
  · have hs' : seen (k.val + 1) f = seen k.val f := by
      unfold seen
      split <;> split <;> omega
    rw [car_other c k _ _ _ gC _ _ _ gO gP gX f b e l hf hb he hl h, hs']
    rw [hs'] at hs
    exact hC f b e l hf hb he hl hs

/-- The accumulator after the trip. -/
theorem step_acc (hC : CarP c XH XU k.val gC) (hA : k.val % 11 ≠ 0 → AccP c XH XU XC XD k.val (Ring.sl 2 (k.val / 11)) gO) :
    AccP c XH XU XC XD (k.val + 1) (Ring.sl 2 (k.val / 11)) (compRun c k (landH c XH (Ring.sl 2 (k.val / 11)) (Ring.bk 8 (k.val / 11)) fH) (landG c XU (Ring.sl 2 k.val) (Ring.bk 11 k.val) fG) (landV c XU (Ring.sl 2 k.val) (Ring.bk 11 k.val) fV) (landA c XC (Ring.sl 2 k.val) (Ring.bk 11 k.val) fA) (landB c XC (Ring.sl 2 k.val) (Ring.bk 11 k.val) fB) (landD c XD (Ring.sl 2 k.val) (Ring.bk 11 k.val) fD) gO gC gP gX).1.2 := by
  intro r m hr hm
  rw [acc_eq c k _ _ _ _ _ _ gO gC gP gX r m hr hm, rdO_eq c k gO r m hr hm, Nat.add_sub_cancel]
  have e0 : (if k.val % 11 = 0 then (0 : EReal) else at2 (m := 1024) (n := 2048) ((slotO (Ring.sl 2 (k.val / 11))).view.read (Elt Ideal) gO) r m)
      = downT (aH c XH) (aU c XU) (aC c XC) (aD c XD) (512 * (k.val % 11)) (1024 * (k.val / 11) + r) m := by
    by_cases h : k.val % 11 = 0
    · rw [if_pos h, h]
      rfl
    · rw [if_neg h, hA h r m hr hm, show (k.val - 1) % 11 + 1 = k.val % 11 by omega, show (k.val - 1) / 11 = k.val / 11 by omega]
  rw [e0, show 512 * (k.val % 11 + 1) = 512 * (k.val % 11) + 512 by omega]
  unfold downT
  rw [Finset.sum_range_add]
  refine congrArg (_ + ·) ?_
  rw [Finset.sum_range]
  refine Finset.sum_congr rfl fun j _ => ?_
  rw [actR_land c XH XU XC k gC fH fG fV fA fB hC r j.val hr j.isLt, rdD_land c XD k fD j.val m j.isLt hm]

end Step

/-- What is kept about the values, at the ideal instance. -/
def claimV : Claim Ideal c XH XU XC XD where
  Car := CarP c XH XU
  Acc := AccP c XH XU XC XD
  Res := ResP c XH XU XC XD
  start := fun g f b e l hf hb he hl hs => absurd hs (by unfold seen; simp)
  step := fun k gC fH fG fV fA fB fD gO gP gX hC hA =>
    ⟨step_car c XH XU XC XD k gC fH fG fV fA fB fD gO gP gX hC, step_acc c XH XU XC XD k gC fH fG fV fA fB fD gO gP gX hC hA⟩
  done := fun k gO hk hA r m hr hm => by
    rw [hA r m hr hm, Nat.add_sub_cancel, hk, bkH_val]

end Whole

end Cert.Proof.Ffn

end
-- ==== Proof.Alg.lean ====
/-
  The kernel's whole result at the ideal instance.
-/
module

public import proofs.«01_k».proof.Proof.Spec
public import proofs.«01_k».proof.Proof.Launch

@[expose] public section

set_option maxRecDepth 16384

noncomputable section

namespace Cert.Proof.Ffn

open Cert.KernelIdeal Cert.KernelIdeal.Gen
open Idealize.ShloMosaic
open Idealize.ShloMosaic.TcCoe

section Result
variable (m : (ℓ : Loc nD τ sig) → Buf (Elt Ideal) ℓ) (c : Dev nD)

/-- The rounded activations are the first argument. -/
theorem V_main_v0 : (V m c main_v0 : S8192x2048.Idx → EReal) = m ((c : Thread nD τ).loc main_arg0) := by
  unfold V
  simp only [hostOps0, List.flatten_cons, List.flatten_nil, List.append_nil]
  after_results_simp <;> rfl
/-- The rounded up-projection is the second argument. -/
theorem V_main_v1 : (V m c main_v1 : S2048x11264.Idx → EReal) = m ((c : Thread nD τ).loc main_arg1) := by
  unfold V
  simp only [hostOps0, List.flatten_cons, List.flatten_nil, List.append_nil]
  after_results_simp <;> rfl
/-- The rounded down-projection is the fourth argument. -/
theorem V_main_v2 : (V m c main_v2 : S5632x2048.Idx → EReal) = m ((c : Thread nD τ).loc main_arg3) := by
  unfold V
  simp only [hostOps0, List.flatten_cons, List.flatten_nil, List.append_nil]
  after_results_simp <;> rfl

/-- The claims of the value, for every core. -/
def claims : Claims (F := Ideal) m := fun c => claimV c _ _ _ _

/-- Entry by entry, the result the kernel leaves is the down-projection of the gated activations. -/
theorem result_at (X : S8192x2048.Idx → EReal)
    (h : ∀ b : Fin 8, (claims m c).Res b ((blkO b).view.read (Elt Ideal) X)) (y : S8192x2048.Idx) :
    X y = downT (at2 (m := 8192) (n := 2048) (m ((c : Thread nD τ).loc main_arg0))) (at2 (m := 2048) (n := 11264) (m ((c : Thread nD τ).loc main_arg1)))
          (at2 (m := 3) (n := 11264) (m ((c : Thread nD τ).loc main_arg2))) (at2 (m := 5632) (n := 2048) (m ((c : Thread nD τ).loc main_arg3))) 5632 (y 0).val (y 1).val := by
  have h0 : (y 0).val < 8192 := (y 0).isLt
  have h1 : (y 1).val < 2048 := (y 1).isLt
  have hb := h ⟨(y 0).val / 1024, by omega⟩ ((y 0).val % 1024) (y 1).val (Nat.mod_lt _ (by decide)) h1
  have hx := at2_eq (m := 1024) (n := 2048) ((blkO ⟨(y 0).val / 1024, by omega⟩).view.read (Elt Ideal) X)
    (ix2 ⟨(y 0).val % 1024, Nat.mod_lt _ (by decide)⟩ ⟨(y 1).val, h1⟩) rfl rfl
  have hy := box2 (m := 8192) (n := 2048) X (offO_inb ⟨(y 0).val / 1024, by omega⟩) rfl
    (ix2 ⟨(y 0).val % 1024, Nat.mod_lt _ (by decide)⟩ ⟨(y 1).val, h1⟩) (i := (y 0).val) (j := (y 1).val) (Nat.div_add_mod _ _) (Nat.zero_add _)
  refine (at2_eq (m := 8192) (n := 2048) X y rfl rfl).trans (hy.symm.trans (hx.trans (hb.trans ?_)))
  rw [Nat.div_add_mod]
  have e0 : aH c (V m c main_v0) = at2 (m := 8192) (n := 2048) (m ((c : Thread nD τ).loc main_arg0)) := congrArg (at2 (m := 8192) (n := 2048)) (V_main_v0 m c)
  have e1 : aU c (V m c main_v1) = at2 (m := 2048) (n := 11264) (m ((c : Thread nD τ).loc main_arg1)) := congrArg (at2 (m := 2048) (n := 11264)) (V_main_v1 m c)
  have e2 : aC c (V m c main_arg2) = at2 (m := 3) (n := 11264) (m ((c : Thread nD τ).loc main_arg2)) := congrArg (at2 (m := 3) (n := 11264)) (V_main_arg2 m c)
  have e3 : aD c (V m c main_v2) = at2 (m := 5632) (n := 2048) (m ((c : Thread nD τ).loc main_arg3)) := congrArg (at2 (m := 5632) (n := 2048)) (V_main_v2 m c)
  rw [e0, e1, e2, e3]
end Result

end Cert.Proof.Ffn

end
-- ==== Proof.Ref.lean ====
/-
  The reference at the ideal instance, entry by entry, in the terms of the kernel's result.
-/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof.Ffn

open Cert.ReferenceIdeal Cert.ReferenceIdeal.Gen
open Idealize.ShloMosaic
open Idealize.ShloMosaic.TcCoe

section Rows
variable (H : (⟨2, ![8192, 2048]⟩ : Shape).Idx → EReal) (U : (⟨2, ![2048, 11264]⟩ : Shape).Idx → EReal)

/-- A contraction of a row with a column is an entry of the up-projection. -/
theorem ref_up (s : Fin 8192) (n : Fin 11264) : (∑ i : Fin 2048, H (ix2 s i) * U (ix2 i n)) = upT (at2 H) (at2 U) s.val n.val :=
  Finset.sum_congr rfl fun i _ => congrArg₂ (· * ·) (at2_eq H (ix2 s i) rfl rfl) (at2_eq U (ix2 i n) rfl rfl)

/-- A row that isn't shifted is a row of the padded up-projection. -/
theorem ref_row {s n : ℕ} (a : Fin 8192) (b : Fin 11264) (ha : a.val = s) (hb : b.val = n) :
    (∑ i : Fin 2048, H (ix2 a i) * U (ix2 i b)) = padT (at2 H) (at2 U) (8 + s) n := by
  subst ha hb
  unfold padT
  rw [if_neg (by omega), Nat.add_sub_cancel_left]
  exact ref_up H U a b

/-- A row of the up-projection shifted by two rows of zeros is a row of the padded up-projection. -/
theorem ref_pad {t n q : ℕ} (ht : ¬ t < 2 → t - 2 < 8192) (b : Fin 11264) (hb : b.val = n) (hq : 6 + t = q) :
    (if h : t < 2 then (0 : EReal) else ∑ i : Fin 2048, H (ix2 ⟨t - 2, ht h⟩ i) * U (ix2 i b)) = padT (at2 H) (at2 U) q n := by
  subst hb hq
  unfold padT
  by_cases h : t < 2
  · rw [dif_pos h, if_pos (by omega)]
  · rw [dif_neg h, if_neg (by omega), ref_up]
    exact congrArg (fun r => upT (at2 H) (at2 U) r b.val) (show t - 2 = 6 + t - 8 by omega)
end Rows

/-- The reference's result is the down-projection of the gated activations. -/
theorem ref_at (m : (ℓ : Loc nD τ sig) → Buf (Elt Ideal) ℓ) (c : Dev nD) (y : S8192x2048.Idx) :
    (Cert.ReferenceIdeal.Value.res_main_v21 (F := Ideal) m c : S8192x2048.Idx → EReal) y
      = downT (at2 (m := 8192) (n := 2048) (m ((c : Thread nD τ).loc main_arg0))) (at2 (m := 2048) (n := 11264) (m ((c : Thread nD τ).loc main_arg1)))
          (at2 (m := 3) (n := 11264) (m ((c : Thread nD τ).loc main_arg2))) (at2 (m := 5632) (n := 2048) (m ((c : Thread nD τ).loc main_arg3))) 5632 (y 0).val (y 1).val := by
  generalize hz : downT _ _ _ _ 5632 (y 0).val (y 1).val = z
  unfold Cert.ReferenceIdeal.Value.res_main_v21
  pointwise
  subst hz
  unfold downT
  rw [Finset.sum_range]
  show @Eq EReal _ _
  have h0 : (y 0).val < 8192 := (y 0).isLt
  refine Finset.sum_congr rfl fun x _ => congrArg₂ (· * ·) (congrArg₂ gate ?_ ?_) (at2_eq (m := 5632) (n := 2048) _ _ rfl rfl)
  · exact tap_congr (at2_eq (m := 3) (n := 11264) (m ((c : Thread nD τ).loc main_arg2)) (ix2 0 ⟨x.val, by omega⟩) rfl rfl)
      (at2_eq (m := 3) (n := 11264) (m ((c : Thread nD τ).loc main_arg2)) (ix2 1 ⟨x.val, by omega⟩) rfl rfl)
      (at2_eq (m := 3) (n := 11264) (m ((c : Thread nD τ).loc main_arg2)) (ix2 2 ⟨x.val, by omega⟩) rfl rfl)
      (ref_pad (m ((c : Thread nD τ).loc main_arg0)) (m ((c : Thread nD τ).loc main_arg1)) (t := (y 0).val) (n := x.val) (fun _ => by omega) ⟨x.val, by omega⟩ rfl rfl)
      (ref_pad (m ((c : Thread nD τ).loc main_arg0)) (m ((c : Thread nD τ).loc main_arg1)) (t := 1 + (y 0).val) (n := x.val) (fun _ => by omega) ⟨x.val, by omega⟩ rfl (by omega))
      (ref_row (m ((c : Thread nD τ).loc main_arg0)) (m ((c : Thread nD τ).loc main_arg1)) (y 0) ⟨x.val, by omega⟩ rfl rfl)
  · exact tap_congr (at2_eq (m := 3) (n := 11264) (m ((c : Thread nD τ).loc main_arg2)) (ix2 0 ⟨5632 + x.val, by omega⟩) rfl rfl)
      (at2_eq (m := 3) (n := 11264) (m ((c : Thread nD τ).loc main_arg2)) (ix2 1 ⟨5632 + x.val, by omega⟩) rfl rfl)
      (at2_eq (m := 3) (n := 11264) (m ((c : Thread nD τ).loc main_arg2)) (ix2 2 ⟨5632 + x.val, by omega⟩) rfl rfl)
      (ref_pad (m ((c : Thread nD τ).loc main_arg0)) (m ((c : Thread nD τ).loc main_arg1)) (t := (y 0).val) (n := 5632 + x.val) (fun _ => by omega) ⟨5632 + x.val, by omega⟩ rfl rfl)
      (ref_pad (m ((c : Thread nD τ).loc main_arg0)) (m ((c : Thread nD τ).loc main_arg1)) (t := 1 + (y 0).val) (n := 5632 + x.val) (fun _ => by omega) ⟨5632 + x.val, by omega⟩ rfl (by omega))
      (ref_row (m ((c : Thread nD τ).loc main_arg0)) (m ((c : Thread nD τ).loc main_arg1)) (y 0) ⟨5632 + x.val, by omega⟩ rfl rfl)

end Cert.Proof.Ffn

end
-- ==== Proof.Row.lean ====
/-
  The row mathematics of the merge and of the per-layer embedding gate, over the extended reals.
-/
module

public import proofs.«01_k».proof.Proof.ReadPre

@[expose] public section

noncomputable section

namespace Cert.Proof.Row

open Idealize.ShloMosaic
open Cert.Proof.Ffn (at2)

/-- Entry `i` of the row `v` over the root of its mean square, times the gain `g`: the mean over 2048 entries, the small
    constant added below the root. -/
def rms (v : Fin 2048 → EReal) (g : EReal) (i : Fin 2048) : EReal :=
  v i * Ideal.rsqrt (Ideal.div (∑ j, v j * v j) (Ideal.ofBits FTy.f32 0x45000000#32) + Ideal.ofBits FTy.f32 0x358637BD#32) * g

/-- Entry `l` of a row after the embedding gate: the row `x + y`, plus the gated and normalised embedding. -/
def gated (x y : Fin 2048 → EReal) (p : Fin 256 → EReal) (wp : Fin 256 → Fin 2048 → EReal) (gp gg : Fin 2048 → EReal)
    (wg : Fin 2048 → Fin 2048 → EReal) (bg : Fin 2048 → EReal) (l : Fin 2048) : EReal :=
  x l + y l + Ideal.logistic ((∑ i, rms (fun j => x j + y j) (gg i) i * wg i l) + bg l) * rms (fun j => ∑ k, p k * wp k j) (gp l) l

/-- Entry `l` of the merged branches: each branch projected, times its gate on the normalised row. -/
def merged (x g : Fin 2048 → EReal) (ya yc : Fin 1024 → EReal) (wga wgc : Fin 2048 → Fin 2048 → EReal) (ba bc : Fin 2048 → EReal)
    (wa wc : Fin 1024 → Fin 2048 → EReal) (l : Fin 2048) : EReal :=
  Ideal.logistic ((∑ i, rms x (g i) i * wga i l) + ba l) * (∑ k, ya k * wa k l)
    + Ideal.logistic ((∑ i, rms x (g i) i * wgc i l) + bc l) * ∑ k, yc k * wc k l

/-- Entry `l` of the row after the mixing half of the layer. -/
def mixed (x g : Fin 2048 → EReal) (ya yc : Fin 1024 → EReal) (wga wgc : Fin 2048 → Fin 2048 → EReal) (ba bc : Fin 2048 → EReal)
    (wa wc : Fin 1024 → Fin 2048 → EReal) (wo : Fin 2048 → Fin 2048 → EReal) (l : Fin 2048) : EReal :=
  x l + ∑ j, merged x g ya yc wga wgc ba bc wa wc j * wo j l

/-- Row `s` of a matrix. -/
def row {m n : ℕ} (A : (⟨2, ![m, n]⟩ : Shape).Idx → EReal) (s : ℕ) : Fin n → EReal := fun i => at2 A s i.val
/-- A matrix by its rows. -/
def rows {m n : ℕ} (A : (⟨2, ![m, n]⟩ : Shape).Idx → EReal) : Fin m → Fin n → EReal := fun k i => A (ix2 k i)
/-- A vector by its entries. -/
def entries {n : ℕ} (A : (⟨1, ![n]⟩ : Shape).Idx → EReal) : Fin n → EReal := fun i => A (ix1 i)

/-- A row of a matrix, entry by entry. -/
theorem row_eq {m n : ℕ} (A : (⟨2, ![m, n]⟩ : Shape).Idx → EReal) (s : Fin m) : (fun i => A (ix2 s i)) = row A s.val :=
  funext fun i => Cert.Proof.Ffn.at2_eq A (ix2 s i) rfl rfl

/-- The 2048 columns of a matrix from column `o` on, by its rows. -/
def colsFrom {m n : ℕ} (A : (⟨2, ![m, n]⟩ : Shape).Idx → EReal) (o : ℕ) (ho : o + 2048 ≤ n) : Fin m → Fin 2048 → EReal :=
  fun k i => A (ix2 k ⟨o + i.val, by omega⟩)

/-- The columns from 8192 on, counted as the second 2048 of those from 6144 on. -/
theorem colsFrom_second {m : ℕ} (A : (⟨2, ![m, 10240]⟩ : Shape).Idx → EReal) :
    colsFrom A 8192 (by omega) = fun k (i : Fin 2048) => A (ix2 k ⟨6144 + (2048 + i.val), by omega⟩) :=
  funext fun k => funext fun i => congrArg (fun j => A (ix2 k j)) (Fin.ext (show 8192 + i.val = 6144 + (2048 + i.val) by omega))

/-- The residual stream after the merge, as a function of the arguments. -/
def mixOut (x : (⟨2, ![8192, 2048]⟩ : Shape).Idx → EReal) (g : (⟨1, ![2048]⟩ : Shape).Idx → EReal) (ya yc : (⟨2, ![8192, 1024]⟩ : Shape).Idx → EReal)
    (wi : (⟨2, ![2048, 10240]⟩ : Shape).Idx → EReal) (b : (⟨2, ![2, 2048]⟩ : Shape).Idx → EReal) (wa wc : (⟨2, ![1024, 2048]⟩ : Shape).Idx → EReal)
    (wo : (⟨2, ![2048, 2048]⟩ : Shape).Idx → EReal) (z : (⟨2, ![8192, 2048]⟩ : Shape).Idx) : EReal :=
  mixed (row x (z 0).val) (entries g) (row ya (z 0).val) (row yc (z 0).val) (colsFrom wi 6144 (by omega)) (colsFrom wi 8192 (by omega))
    (fun l => b (ix2 0 l)) (fun l => b (ix2 1 l)) (rows wa) (rows wc) (rows wo) (z 1)

/-- That array at row `s`, column `l`. -/
theorem mixOut_at (x : (⟨2, ![8192, 2048]⟩ : Shape).Idx → EReal) (g : (⟨1, ![2048]⟩ : Shape).Idx → EReal) (ya yc : (⟨2, ![8192, 1024]⟩ : Shape).Idx → EReal)
    (wi : (⟨2, ![2048, 10240]⟩ : Shape).Idx → EReal) (b : (⟨2, ![2, 2048]⟩ : Shape).Idx → EReal) (wa wc : (⟨2, ![1024, 2048]⟩ : Shape).Idx → EReal)
    (wo : (⟨2, ![2048, 2048]⟩ : Shape).Idx → EReal) (s : Fin 8192) (l : Fin 2048) :
    mixOut x g ya yc wi b wa wc wo (ix2 s l)
      = mixed (fun i => x (ix2 s i)) (entries g) (fun i => ya (ix2 s i)) (fun i => yc (ix2 s i)) (colsFrom wi 6144 (by omega)) (colsFrom wi 8192 (by omega))
          (fun l => b (ix2 0 l)) (fun l => b (ix2 1 l)) (rows wa) (rows wc) (rows wo) l := by
  rw [row_eq x s, row_eq ya s, row_eq yc s]
  rfl

/-- The normalised residual stream, as a function of the stream and the gain. -/
def normOut (x1 : (⟨2, ![8192, 2048]⟩ : Shape).Idx → EReal) (g : (⟨1, ![2048]⟩ : Shape).Idx → EReal) (z : (⟨2, ![8192, 2048]⟩ : Shape).Idx) : EReal :=
  rms (row x1 (z 0).val) (entries g (z 1)) (z 1)

/-- That array at row `s`, column `l`. -/
theorem normOut_at (x1 : (⟨2, ![8192, 2048]⟩ : Shape).Idx → EReal) (g : (⟨1, ![2048]⟩ : Shape).Idx → EReal) (s : Fin 8192) (l : Fin 2048) :
    normOut x1 g (ix2 s l) = rms (fun i => x1 (ix2 s i)) (g (ix1 l)) l := by
  rw [row_eq x1 s]
  rfl

/-- The array the embedding gate leaves, as a function of its arguments. -/
def gateOut (x y : (⟨2, ![8192, 2048]⟩ : Shape).Idx → EReal) (p : (⟨2, ![8192, 256]⟩ : Shape).Idx → EReal) (wp : (⟨2, ![256, 2048]⟩ : Shape).Idx → EReal)
    (gp gg : (⟨1, ![2048]⟩ : Shape).Idx → EReal) (wg : (⟨2, ![2048, 2048]⟩ : Shape).Idx → EReal) (bg : (⟨1, ![2048]⟩ : Shape).Idx → EReal)
    (z : (⟨2, ![8192, 2048]⟩ : Shape).Idx) : EReal :=
  gated (row x (z 0).val) (row y (z 0).val) (row p (z 0).val) (rows wp) (entries gp) (entries gg) (rows wg) (entries bg) (z 1)

/-- That array at row `s`, column `l`. -/
theorem gateOut_at (x y : (⟨2, ![8192, 2048]⟩ : Shape).Idx → EReal) (p : (⟨2, ![8192, 256]⟩ : Shape).Idx → EReal) (wp : (⟨2, ![256, 2048]⟩ : Shape).Idx → EReal)
    (gp gg : (⟨1, ![2048]⟩ : Shape).Idx → EReal) (wg : (⟨2, ![2048, 2048]⟩ : Shape).Idx → EReal) (bg : (⟨1, ![2048]⟩ : Shape).Idx → EReal) (s : Fin 8192) (l : Fin 2048) :
    gateOut x y p wp gp gg wg bg (ix2 s l)
      = gated (fun i => x (ix2 s i)) (fun i => y (ix2 s i)) (fun i => p (ix2 s i)) (rows wp) (entries gp) (entries gg) (rows wg) (entries bg) l := by
  rw [row_eq x s, row_eq y s, row_eq p s]
  rfl

end Cert.Proof.Row

end
-- ==== Proof.Ple.lean ====
/-
  The embedding gate: what its run leaves, and what its reference computes, row by row.
-/
module

public import proofs.«01_k».proof.Defs
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Row
public import Idealize.ShloMosaic.Lib.Pointwise
public import Idealize.ShloMosaic.Lib.Pipeline.Value

@[expose] public section

set_option maxRecDepth 16384

noncomputable section

namespace Cert.Proof.Ple

open Cert.Kernel2Ideal Cert.Kernel2Ideal.Gen
open Idealize.ShloMosaic Idealize.ShloMosaic.TcCoe Idealize.SL.Sem
open Cert.Proof.Row
open Cert.Proof.Ffn (at2 at2_eq box2)

/-- The pair of zero offsets, as the constant function. -/
theorem zeros : (![0, 0] : Fin 2 → Nat) = fun _ => 0 := funext fun a => by fin_cases a <;> rfl

/-- What a point leaves in the result's block, row by row of its input blocks. -/
theorem out_at (x0 : Vec Ideal S512x2048 .f32) (x1 : Vec Ideal S512x2048 .f32) (x2 : Vec Ideal S512x256 .f32) (x3 : Vec Ideal S256x2048 .bf16) (x4 : Vec Ideal S1x2048 .f32)
    (x5 : Vec Ideal S1x2048 .f32) (x6 : Vec Ideal S2048x2048 .bf16) (x7 : Vec Ideal S1x2048 .f32) (r : Fin 512) (l : Fin 2048) :
    out0_8 x0 x1 x2 x3 x4 x5 x6 x7 (ix2 r l)
      = gated (fun i => x0 (ix2 r i)) (fun i => x1 (ix2 r i)) (fun k => x2 (ix2 r k)) (rows (m := 256) (n := 2048) x3) (fun i => x4 (ix2 0 i)) (fun i => x5 (ix2 0 i))
          (rows (m := 2048) (n := 2048) x6) (fun i => x7 (ix2 0 i)) l := by
  generalize hz : gated _ _ _ _ _ _ _ _ l = z
  unfold out0_8
  rw [View.canon_unit_zero zeros]
  rw [View.ld_unit_zero (S := S512x2048) zeros, View.ld_unit_zero (S := S512x2048) zeros, View.ld_unit_zero (S := S512x256) zeros, View.ld_unit_zero (S := S256x2048) zeros,
    View.ld_unit_zero (S := S1x2048) zeros, View.ld_unit_zero (S := S1x2048) zeros, View.ld_unit_zero (S := S1x2048) zeros, View.ld_unit_zero (S := S2048x2048) zeros]
  pointwise [k0_pay1, k0_pay2, k0_pay3, k0_pay4]
  exact hz

section Region
variable (m : (ℓ : Loc nD τ sig) → Buf (Elt Ideal) ℓ) (c : Dev nD)

/-! ## The arrays the region finds -/

/-- The embedding's projection weights that the call reads, as the argument they are a cast of. -/
theorem V_main_v0 : (V m c main_v0 : S256x2048.Idx → EReal) = m ((c : Thread nD τ).loc main_arg3) := by
  unfold V
  after_results_simp <;> rfl
/-- The gate's weights that the call reads, as the argument they are a cast of. -/
theorem V_main_v3 : (V m c main_v3 : S2048x2048.Idx → EReal) = m ((c : Thread nD τ).loc main_arg6) := by
  unfold V
  after_results_simp <;> rfl
/-- The embedding norm's gain as a row, entry by entry. -/
theorem V_main_v1 (l : Fin 2048) : (V m c main_v1 : S1x2048.Idx → EReal) (ix2 0 l) = (m ((c : Thread nD τ).loc main_arg4) : S2048.Idx → EReal) (ix1 l) := by
  unfold V
  after_results_simp
  pointwise
/-- The gate norm's gain as a row, entry by entry. -/
theorem V_main_v2 (l : Fin 2048) : (V m c main_v2 : S1x2048.Idx → EReal) (ix2 0 l) = (m ((c : Thread nD τ).loc main_arg5) : S2048.Idx → EReal) (ix1 l) := by
  unfold V
  after_results_simp
  pointwise
/-- The gate's bias as a row, entry by entry. -/
theorem V_main_v4 (l : Fin 2048) : (V m c main_v4 : S1x2048.Idx → EReal) (ix2 0 l) = (m ((c : Thread nD τ).loc main_arg7) : S2048.Idx → EReal) (ix1 l) := by
  unfold V
  after_results_simp
  pointwise

/-! ## The blocks -/

/-- Where each window's block lies: the row windows at the point's row block, the others at the array's start. -/
theorem offs : ∀ t : Fin cfg0.N,
    (fun a => win0_0.index t a * win0_0.size a) = ![512 * t.val, 0] ∧ (fun a => win0_1.index t a * win0_1.size a) = ![512 * t.val, 0]
    ∧ (fun a => win0_2.index t a * win0_2.size a) = ![512 * t.val, 0] ∧ (fun a => win0_3.index t a * win0_3.size a) = ![0, 0]
    ∧ (fun a => win0_4.index t a * win0_4.size a) = ![0, 0] ∧ (fun a => win0_5.index t a * win0_5.size a) = ![0, 0]
    ∧ (fun a => win0_6.index t a * win0_6.size a) = ![0, 0] ∧ (fun a => win0_7.index t a * win0_7.size a) = ![0, 0]
    ∧ (fun a => win0_8.index t a * win0_8.size a) = ![512 * t.val, 0] :=
  (by decide +kernel : ∀ t : Fin grid0.N, _)

variable (t : Fin cfg0.N)

/-- A point's row block of the residual stream. -/
theorem blk0 (r : Fin 512) : (fun i => (iblk m c 0 t : S512x2048.Idx → EReal) (ix2 r i)) = row (m := 8192) (n := 2048) (m ((c : Thread nD τ).loc main_arg0)) (512 * t.val + r.val) :=
  funext fun i => (box2 (m := 8192) (n := 2048) (V m c main_arg0) _ (offs t).1 (ix2 r i) rfl (Nat.zero_add _)).trans
    (congrArg (fun A => at2 (m := 8192) (n := 2048) A (512 * t.val + r.val) i.val) (V_main_arg0 m c))
/-- A point's row block of the feed-forward output. -/
theorem blk1 (r : Fin 512) : (fun i => (iblk m c 1 t : S512x2048.Idx → EReal) (ix2 r i)) = row (m := 8192) (n := 2048) (m ((c : Thread nD τ).loc main_arg1)) (512 * t.val + r.val) :=
  funext fun i => (box2 (m := 8192) (n := 2048) (V m c main_arg1) _ (offs t).2.1 (ix2 r i) rfl (Nat.zero_add _)).trans
    (congrArg (fun A => at2 (m := 8192) (n := 2048) A (512 * t.val + r.val) i.val) (V_main_arg1 m c))
/-- A point's row block of the embeddings. -/
theorem blk2 (r : Fin 512) : (fun i => (iblk m c 2 t : S512x256.Idx → EReal) (ix2 r i)) = row (m := 8192) (n := 256) (m ((c : Thread nD τ).loc main_arg2)) (512 * t.val + r.val) :=
  funext fun i => (box2 (m := 8192) (n := 256) (V m c main_arg2) _ (offs t).2.2.1 (ix2 r i) rfl (Nat.zero_add _)).trans
    (congrArg (fun A => at2 (m := 8192) (n := 256) A (512 * t.val + r.val) i.val) (V_main_arg2 m c))
/-- The whole of the embedding projection at every point. -/
theorem blk3 : rows (m := 256) (n := 2048) (iblk m c 3 t) = rows (m := 256) (n := 2048) (m ((c : Thread nD τ).loc main_arg3)) :=
  funext fun k => funext fun i => (box2 (m := 256) (n := 2048) (V m c main_v0) _ (offs t).2.2.2.1 (ix2 k i) (Nat.zero_add _) (Nat.zero_add _)).trans
    ((congrArg (fun A => at2 (m := 256) (n := 2048) A k.val i.val) (V_main_v0 m c)).trans (at2_eq (m := 256) (n := 2048) (m ((c : Thread nD τ).loc main_arg3)) (ix2 k i) rfl rfl).symm)
/-- The embedding's gain at every point. -/
theorem blk4 : (fun i => (iblk m c 4 t : S1x2048.Idx → EReal) (ix2 0 i)) = entries (n := 2048) (m ((c : Thread nD τ).loc main_arg4)) :=
  funext fun i => (box2 (m := 1) (n := 2048) (V m c main_v1) _ (offs t).2.2.2.2.1 (ix2 0 i) (Nat.zero_add _) (Nat.zero_add _)).trans
    ((at2_eq (m := 1) (n := 2048) (V m c main_v1) (ix2 0 i) rfl rfl).symm.trans (V_main_v1 m c i))
/-- The gate's gain at every point. -/
theorem blk5 : (fun i => (iblk m c 5 t : S1x2048.Idx → EReal) (ix2 0 i)) = entries (n := 2048) (m ((c : Thread nD τ).loc main_arg5)) :=
  funext fun i => (box2 (m := 1) (n := 2048) (V m c main_v2) _ (offs t).2.2.2.2.2.1 (ix2 0 i) (Nat.zero_add _) (Nat.zero_add _)).trans
    ((at2_eq (m := 1) (n := 2048) (V m c main_v2) (ix2 0 i) rfl rfl).symm.trans (V_main_v2 m c i))
/-- The whole of the gate's projection at every point. -/
theorem blk6 : rows (m := 2048) (n := 2048) (iblk m c 6 t) = rows (m := 2048) (n := 2048) (m ((c : Thread nD τ).loc main_arg6)) :=
  funext fun k => funext fun i => (box2 (m := 2048) (n := 2048) (V m c main_v3) _ (offs t).2.2.2.2.2.2.1 (ix2 k i) (Nat.zero_add _) (Nat.zero_add _)).trans
    ((congrArg (fun A => at2 (m := 2048) (n := 2048) A k.val i.val) (V_main_v3 m c)).trans (at2_eq (m := 2048) (n := 2048) (m ((c : Thread nD τ).loc main_arg6)) (ix2 k i) rfl rfl).symm)
/-- The gate's bias at every point. -/
theorem blk7 : (fun i => (iblk m c 7 t : S1x2048.Idx → EReal) (ix2 0 i)) = entries (n := 2048) (m ((c : Thread nD τ).loc main_arg7)) :=
  funext fun i => (box2 (m := 1) (n := 2048) (V m c main_v4) _ (offs t).2.2.2.2.2.2.2.1 (ix2 0 i) (Nat.zero_add _) (Nat.zero_add _)).trans
    ((at2_eq (m := 1) (n := 2048) (V m c main_v4) (ix2 0 i) rfl rfl).symm.trans (V_main_v4 m c i))

/-! ## The result -/

/-- Row `r` of the block a point writes back. -/
theorem flushed_at (r : Fin 512) (l : Fin 2048) :
    ((dats m 0 c).flushed 8 t : S512x2048.Idx → EReal) (ix2 r l)
      = gated (row (m := 8192) (n := 2048) (m ((c : Thread nD τ).loc main_arg0)) (512 * t.val + r.val)) (row (m := 8192) (n := 2048) (m ((c : Thread nD τ).loc main_arg1)) (512 * t.val + r.val))
          (row (m := 8192) (n := 256) (m ((c : Thread nD τ).loc main_arg2)) (512 * t.val + r.val)) (rows (m := 256) (n := 2048) (m ((c : Thread nD τ).loc main_arg3)))
          (entries (n := 2048) (m ((c : Thread nD τ).loc main_arg4))) (entries (n := 2048) (m ((c : Thread nD τ).loc main_arg5)))
          (rows (m := 2048) (n := 2048) (m ((c : Thread nD τ).loc main_arg6))) (entries (n := 2048) (m ((c : Thread nD τ).loc main_arg7))) l := by
  rw [← blk0 m c t r, ← blk1 m c t r, ← blk2 m c t r, ← blk3 m c t, ← blk4 m c t, ← blk5 m c t, ← blk6 m c t, ← blk7 m c t]
  exact (congrFun (Value.flushed8 m c t) (ix2 r l)).trans (out_at (iblk m c 0 t) (iblk m c 1 t) (iblk m c 2 t) (iblk m c 3 t) (iblk m c 4 t) (iblk m c 5 t) (iblk m c 6 t) (iblk m c 7 t) r l)

/-- A row of the array the run leaves is a row of the block that holds it. -/
theorem read_at (r : Fin 512) (l : Fin 2048) {i : ℕ} (hi : 512 * t.val + r.val = i) :
    at2 (m := 8192) (n := 2048) ((dats m 0 c).arrAt 8 cfg0.N) i l.val = ((dats m 0 c).flushed 8 t : S512x2048.Idx → EReal) (ix2 r l) :=
  have hy : (((cfg0.win 8).blk t).view.read (Elt Ideal) ((dats m 0 c).arrAt 8 cfg0.N) : S512x2048.Idx → EReal) (ix2 r l)
      = at2 (m := 8192) (n := 2048) ((dats m 0 c).arrAt 8 cfg0.N) i l.val :=
    box2 (m := 8192) (n := 2048) ((dats m 0 c).arrAt 8 cfg0.N) _ (offs t).2.2.2.2.2.2.2.2 (ix2 r l) hi (Nat.zero_add _)
  hy.symm.trans (congrFun (Value.blocks8 m c t (flush0_8 t)) (ix2 r l))

/-- The array the run leaves, as a function of its arguments. -/
theorem result : ((dats m 0 c).arrAt 8 cfg0.N : S8192x2048.Idx → EReal)
    = gateOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  funext y
  have h0 : (y 0).val < 8192 := (y 0).isLt
  have h1 : (y 1).val < 2048 := (y 1).isLt
  have hN : (y 0).val / 512 < cfg0.N := by have := N_0; show _ < grid0.N; omega
  have hy := read_at m c ⟨(y 0).val / 512, hN⟩ ⟨(y 0).val % 512, Nat.mod_lt _ (by decide)⟩ ⟨(y 1).val, h1⟩ (Nat.div_add_mod _ _)
  refine (at2_eq (m := 8192) (n := 2048) _ y rfl rfl).trans (hy.trans ((flushed_at m c ⟨(y 0).val / 512, hN⟩ _ _).trans ?_))
  unfold gateOut
  show gated (row _ (512 * ((y 0).val / 512) + (y 0).val % 512)) _ _ _ _ _ _ _ _ = _
  rw [Nat.div_add_mod]
  rfl

end Region

end Cert.Proof.Ple

namespace Cert.Proof.Ple.Ref

open Cert.Reference2Ideal Cert.Reference2Ideal.Gen
open Idealize.ShloMosaic Idealize.ShloMosaic.TcCoe Idealize.SL.Sem
open Cert.Proof.Row
open Cert.Proof.Ffn (at2_eq)

/-- The reference's run leaves the same function of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = (gateOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) : S8192x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Cert.Reference2Ideal.Value.run (F := Ideal) m ρ)
  funext (y : S8192x2048.Idx)
  obtain ⟨s, l, rfl⟩ : ∃ (s : Fin 8192) (l : Fin 2048), y = ix2 s l := ⟨y 0, y 1, eq_ix2 y⟩
  refine Eq.trans ?_ (gateOut_at _ _ _ _ _ _ _ _ s l).symm
  generalize hz : gated _ _ _ _ _ _ _ _ _ = z
  pointwise
  exact hz

end Cert.Proof.Ple.Ref

end
-- ==== Proof.Merge.lean ====
/-
  The merge of the two branches: what its run leaves, and what its reference computes, row by row.
-/
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Row
public import Idealize.ShloMosaic.Lib.Pointwise
public import Idealize.ShloMosaic.Lib.Pipeline.Value

@[expose] public section

set_option maxRecDepth 16384

noncomputable section

namespace Cert.Proof.Merge

open Cert.Kernel3Ideal Cert.Kernel3Ideal.Gen
open Idealize.ShloMosaic Idealize.ShloMosaic.TcCoe Idealize.SL.Sem
open Cert.Proof.Row
open Cert.Proof.Ffn (at2 at2_eq box2)

/-- The pair of zero offsets, as the constant function. -/
theorem zeros : (![0, 0] : Fin 2 → Nat) = fun _ => 0 := funext fun a => by fin_cases a <;> rfl

/-- A point's row block after the merge, row by row of its input blocks. -/
theorem mix_at (x0 : Vec Ideal S256x2048 .f32) (x1 : Vec Ideal S1x2048 .f32) (x2 : Vec Ideal S256x1024 .bf16) (x3 : Vec Ideal S256x1024 .bf16) (x4 : Vec Ideal S2048x2048 .bf16) (x5 : Vec Ideal S2048x2048 .bf16)
    (x6 : Vec Ideal S2x2048 .f32) (x7 : Vec Ideal S1024x2048 .bf16) (x8 : Vec Ideal S1024x2048 .bf16) (x9 : Vec Ideal S2048x2048 .bf16) (r : Fin 256) (l : Fin 2048) :
    k0_pay1 x0 (k0_pay4 x0 x1 x6 x4 x2 x7) (k0_pay5 x0 x1 x6 x5) x3 x8 x9 (ix2 r l)
      = mixed (fun i => x0 (ix2 r i)) (fun i => x1 (ix2 0 i)) (fun k => x2 (ix2 r k)) (fun k => x3 (ix2 r k)) (rows (m := 2048) (n := 2048) x4) (rows (m := 2048) (n := 2048) x5)
          (fun i => x6 (ix2 0 i)) (fun i => x6 (ix2 1 i)) (rows (m := 1024) (n := 2048) x7) (rows (m := 1024) (n := 2048) x8) (rows (m := 2048) (n := 2048) x9) l := by
  generalize hz : mixed _ _ _ _ _ _ _ _ _ _ _ l = z
  pointwise [k0_pay1, k0_pay3, k0_pay4, k0_pay5]
  exact hz

/-- What a point leaves in the first result's block. -/
theorem out11_at (x0 : Vec Ideal S256x2048 .f32) (x1 : Vec Ideal S1x2048 .f32) (x2 : Vec Ideal S256x1024 .bf16) (x3 : Vec Ideal S256x1024 .bf16) (x4 : Vec Ideal S2048x2048 .bf16) (x5 : Vec Ideal S2048x2048 .bf16)
    (x6 : Vec Ideal S2x2048 .f32) (x7 : Vec Ideal S1024x2048 .bf16) (x8 : Vec Ideal S1024x2048 .bf16) (x9 : Vec Ideal S2048x2048 .bf16) (x10 : Vec Ideal S1x2048 .f32) (r : Fin 256) (l : Fin 2048) :
    out0_11 x0 x1 x2 x3 x4 x5 x6 x7 x8 x9 x10 (ix2 r l)
      = mixed (fun i => x0 (ix2 r i)) (fun i => x1 (ix2 0 i)) (fun k => x2 (ix2 r k)) (fun k => x3 (ix2 r k)) (rows (m := 2048) (n := 2048) x4) (rows (m := 2048) (n := 2048) x5)
          (fun i => x6 (ix2 0 i)) (fun i => x6 (ix2 1 i)) (rows (m := 1024) (n := 2048) x7) (rows (m := 1024) (n := 2048) x8) (rows (m := 2048) (n := 2048) x9) l := by
  refine Eq.trans ?_ (mix_at x0 x1 x2 x3 x4 x5 x6 x7 x8 x9 r l)
  unfold_out out0_11
  rw [View.canon_unit_zero zeros]
  repeat rw [View.ld_unit_zero zeros]

/-- What a point leaves in the second result's block. -/
theorem out12_at (x0 : Vec Ideal S256x2048 .f32) (x1 : Vec Ideal S1x2048 .f32) (x2 : Vec Ideal S256x1024 .bf16) (x3 : Vec Ideal S256x1024 .bf16) (x4 : Vec Ideal S2048x2048 .bf16) (x5 : Vec Ideal S2048x2048 .bf16)
    (x6 : Vec Ideal S2x2048 .f32) (x7 : Vec Ideal S1024x2048 .bf16) (x8 : Vec Ideal S1024x2048 .bf16) (x9 : Vec Ideal S2048x2048 .bf16) (x10 : Vec Ideal S1x2048 .f32) (r : Fin 256) (l : Fin 2048) :
    out0_12 x0 x1 x2 x3 x4 x5 x6 x7 x8 x9 x10 (ix2 r l)
      = rms (mixed (fun i => x0 (ix2 r i)) (fun i => x1 (ix2 0 i)) (fun k => x2 (ix2 r k)) (fun k => x3 (ix2 r k)) (rows (m := 2048) (n := 2048) x4) (rows (m := 2048) (n := 2048) x5)
          (fun i => x6 (ix2 0 i)) (fun i => x6 (ix2 1 i)) (rows (m := 1024) (n := 2048) x7) (rows (m := 1024) (n := 2048) x8) (rows (m := 2048) (n := 2048) x9)) (x10 (ix2 0 l)) l := by
  rw [← funext fun j => mix_at x0 x1 x2 x3 x4 x5 x6 x7 x8 x9 r j]
  unfold_out out0_12
  rw [View.canon_unit_zero zeros]
  repeat rw [View.ld_unit_zero zeros]
  generalize hz : rms _ _ l = z
  pointwise [k0_pay2]
  exact hz

section Region
variable (m : (ℓ : Loc nD τ sig) → Buf (Elt Ideal) ℓ) (c : Dev nD)

/-! ## The arrays the region finds -/

/-- The rounded attention branch is the argument. -/
theorem V_main_v5 : (V m c main_v5 : S8192x1024.Idx → EReal) = m ((c : Thread nD τ).loc main_arg2) := by
  unfold V
  after_results_simp <;> rfl

/-- The rounded convolution branch is the argument. -/
theorem V_main_v6 : (V m c main_v6 : S8192x1024.Idx → EReal) = m ((c : Thread nD τ).loc main_arg3) := by
  unfold V
  after_results_simp <;> rfl

/-- The rounded attention projection is the argument. -/
theorem V_main_v7 : (V m c main_v7 : S1024x2048.Idx → EReal) = m ((c : Thread nD τ).loc main_arg6) := by
  unfold V
  after_results_simp <;> rfl

/-- The rounded convolution projection is the argument. -/
theorem V_main_v8 : (V m c main_v8 : S1024x2048.Idx → EReal) = m ((c : Thread nD τ).loc main_arg7) := by
  unfold V
  after_results_simp <;> rfl

/-- The rounded output projection is the argument. -/
theorem V_main_v9 : (V m c main_v9 : S2048x2048.Idx → EReal) = m ((c : Thread nD τ).loc main_arg8) := by
  unfold V
  after_results_simp <;> rfl

/-- The mixing half's gain as a row is the argument. -/
theorem V_main_v4 (l : Fin 2048) : (V m c main_v4 : S1x2048.Idx → EReal) (ix2 0 l) = (m ((c : Thread nD τ).loc main_arg1) : S2048.Idx → EReal) (ix1 l) := by
  unfold V
  after_results_simp
  pointwise

/-- The feed-forward half's gain as a row is the argument. -/
theorem V_main_v10 (l : Fin 2048) : (V m c main_v10 : S1x2048.Idx → EReal) (ix2 0 l) = (m ((c : Thread nD τ).loc main_arg9) : S2048.Idx → EReal) (ix1 l) := by
  unfold V
  after_results_simp
  pointwise

/-- The attention gate's columns are columns of the argument. -/
theorem V_main_v1 (k i : Fin 2048) : (V m c main_v1 : S2048x2048.Idx → EReal) (ix2 k i) = colsFrom (m := 2048) (n := 10240) (m ((c : Thread nD τ).loc main_arg4)) 6144 (by omega) k i := by
  generalize hz : colsFrom _ _ _ k i = z
  unfold V
  after_results_simp
  pointwise
  exact hz

/-- The convolution gate's columns are columns of the argument. -/
theorem V_main_v3 (k i : Fin 2048) : (V m c main_v3 : S2048x2048.Idx → EReal) (ix2 k i) = colsFrom (m := 2048) (n := 10240) (m ((c : Thread nD τ).loc main_arg4)) 8192 (by omega) k i := by
  generalize hz : colsFrom _ _ _ k i = z
  unfold V
  after_results_simp
  pointwise
  exact hz

/-! ## The blocks -/

/-- Where each window's block lies: the row windows at the point's row block, the others at the array's start. -/
theorem offs : ∀ t : Fin cfg0.N,
    (fun a => win0_0.index t a * win0_0.size a) = ![256 * t.val, 0]
    ∧ (fun a => win0_1.index t a * win0_1.size a) = ![0, 0]
    ∧ (fun a => win0_2.index t a * win0_2.size a) = ![256 * t.val, 0]
    ∧ (fun a => win0_3.index t a * win0_3.size a) = ![256 * t.val, 0]
    ∧ (fun a => win0_4.index t a * win0_4.size a) = ![0, 0]
    ∧ (fun a => win0_5.index t a * win0_5.size a) = ![0, 0]
    ∧ (fun a => win0_6.index t a * win0_6.size a) = ![0, 0]
    ∧ (fun a => win0_7.index t a * win0_7.size a) = ![0, 0]
    ∧ (fun a => win0_8.index t a * win0_8.size a) = ![0, 0]
    ∧ (fun a => win0_9.index t a * win0_9.size a) = ![0, 0]
    ∧ (fun a => win0_10.index t a * win0_10.size a) = ![0, 0]
    ∧ (fun a => win0_11.index t a * win0_11.size a) = ![256 * t.val, 0]
    ∧ (fun a => win0_12.index t a * win0_12.size a) = ![256 * t.val, 0] :=
  (by decide +kernel : ∀ t : Fin grid0.N, _)

variable (t : Fin cfg0.N)

/-- A point's row block of the residual stream. -/
theorem blk0 (r : Fin 256) : (fun i => (iblk m c 0 t : S256x2048.Idx → EReal) (ix2 r i)) = row (m := 8192) (n := 2048) (m ((c : Thread nD τ).loc main_arg0)) (256 * t.val + r.val) :=
  funext fun i => (box2 (m := 8192) (n := 2048) (V m c main_arg0) _ (offs t).1 (ix2 r i) rfl (Nat.zero_add _)).trans
    (congrArg (fun A => at2 (m := 8192) (n := 2048) A (256 * t.val + r.val) i.val) (V_main_arg0 m c))

/-- A point's row block of the attention branch. -/
theorem blk2 (r : Fin 256) : (fun i => (iblk m c 2 t : S256x1024.Idx → EReal) (ix2 r i)) = row (m := 8192) (n := 1024) (m ((c : Thread nD τ).loc main_arg2)) (256 * t.val + r.val) :=
  funext fun i => (box2 (m := 8192) (n := 1024) (V m c main_v5) _ (offs t).2.2.1 (ix2 r i) rfl (Nat.zero_add _)).trans
    (congrArg (fun A => at2 (m := 8192) (n := 1024) A (256 * t.val + r.val) i.val) (V_main_v5 m c))

/-- A point's row block of the convolution branch. -/
theorem blk3 (r : Fin 256) : (fun i => (iblk m c 3 t : S256x1024.Idx → EReal) (ix2 r i)) = row (m := 8192) (n := 1024) (m ((c : Thread nD τ).loc main_arg3)) (256 * t.val + r.val) :=
  funext fun i => (box2 (m := 8192) (n := 1024) (V m c main_v6) _ (offs t).2.2.2.1 (ix2 r i) rfl (Nat.zero_add _)).trans
    (congrArg (fun A => at2 (m := 8192) (n := 1024) A (256 * t.val + r.val) i.val) (V_main_v6 m c))

/-- The mixing half's gain at every point. -/
theorem blk1 : (fun i => (iblk m c 1 t : S1x2048.Idx → EReal) (ix2 0 i)) = entries (n := 2048) (m ((c : Thread nD τ).loc main_arg1)) :=
  funext fun i => (box2 (m := 1) (n := 2048) (V m c main_v4) _ (offs t).2.1 (ix2 0 i) (Nat.zero_add _) (Nat.zero_add _)).trans
    ((at2_eq (m := 1) (n := 2048) (V m c main_v4) (ix2 0 i) rfl rfl).symm.trans (V_main_v4 m c i))

/-- The feed-forward half's gain at every point. -/
theorem blk10 : (fun i => (iblk m c 10 t : S1x2048.Idx → EReal) (ix2 0 i)) = entries (n := 2048) (m ((c : Thread nD τ).loc main_arg9)) :=
  funext fun i => (box2 (m := 1) (n := 2048) (V m c main_v10) _ (offs t).2.2.2.2.2.2.2.2.2.2.1 (ix2 0 i) (Nat.zero_add _) (Nat.zero_add _)).trans
    ((at2_eq (m := 1) (n := 2048) (V m c main_v10) (ix2 0 i) rfl rfl).symm.trans (V_main_v10 m c i))

/-- The attention gate's columns at every point. -/
theorem blk4 : rows (m := 2048) (n := 2048) (iblk m c 4 t) = colsFrom (m := 2048) (n := 10240) (m ((c : Thread nD τ).loc main_arg4)) 6144 (by omega) :=
  funext fun k => funext fun i => (box2 (m := 2048) (n := 2048) (V m c main_v1) _ (offs t).2.2.2.2.1 (ix2 k i) (Nat.zero_add _) (Nat.zero_add _)).trans
    ((at2_eq (m := 2048) (n := 2048) (V m c main_v1) (ix2 k i) rfl rfl).symm.trans (V_main_v1 m c k i))

/-- The convolution gate's columns at every point. -/
theorem blk5 : rows (m := 2048) (n := 2048) (iblk m c 5 t) = colsFrom (m := 2048) (n := 10240) (m ((c : Thread nD τ).loc main_arg4)) 8192 (by omega) :=
  funext fun k => funext fun i => (box2 (m := 2048) (n := 2048) (V m c main_v3) _ (offs t).2.2.2.2.2.1 (ix2 k i) (Nat.zero_add _) (Nat.zero_add _)).trans
    ((at2_eq (m := 2048) (n := 2048) (V m c main_v3) (ix2 k i) rfl rfl).symm.trans (V_main_v3 m c k i))

/-- The gates' biases at every point. -/
theorem blk6 (j : Fin 2) : (fun i => (iblk m c 6 t : S2x2048.Idx → EReal) (ix2 j i)) = fun i => (m ((c : Thread nD τ).loc main_arg5) : S2x2048.Idx → EReal) (ix2 j i) :=
  funext fun i => (box2 (m := 2) (n := 2048) (V m c main_arg5) _ (offs t).2.2.2.2.2.2.1 (ix2 j i) (Nat.zero_add _) (Nat.zero_add _)).trans
    ((congrArg (fun A => at2 (m := 2) (n := 2048) A j.val i.val) (V_main_arg5 m c)).trans (at2_eq (m := 2) (n := 2048) (m ((c : Thread nD τ).loc main_arg5)) (ix2 j i) rfl rfl).symm)

/-- The whole of the attention projection at every point. -/
theorem blk7 : rows (m := 1024) (n := 2048) (iblk m c 7 t) = rows (m := 1024) (n := 2048) (m ((c : Thread nD τ).loc main_arg6)) :=
  funext fun k => funext fun i => (box2 (m := 1024) (n := 2048) (V m c main_v7) _ (offs t).2.2.2.2.2.2.2.1 (ix2 k i) (Nat.zero_add _) (Nat.zero_add _)).trans
    ((congrArg (fun A => at2 (m := 1024) (n := 2048) A k.val i.val) (V_main_v7 m c)).trans (at2_eq (m := 1024) (n := 2048) (m ((c : Thread nD τ).loc main_arg6)) (ix2 k i) rfl rfl).symm)

/-- The whole of the convolution projection at every point. -/
theorem blk8 : rows (m := 1024) (n := 2048) (iblk m c 8 t) = rows (m := 1024) (n := 2048) (m ((c : Thread nD τ).loc main_arg7)) :=
  funext fun k => funext fun i => (box2 (m := 1024) (n := 2048) (V m c main_v8) _ (offs t).2.2.2.2.2.2.2.2.1 (ix2 k i) (Nat.zero_add _) (Nat.zero_add _)).trans
    ((congrArg (fun A => at2 (m := 1024) (n := 2048) A k.val i.val) (V_main_v8 m c)).trans (at2_eq (m := 1024) (n := 2048) (m ((c : Thread nD τ).loc main_arg7)) (ix2 k i) rfl rfl).symm)

/-- The whole of the output projection at every point. -/
theorem blk9 : rows (m := 2048) (n := 2048) (iblk m c 9 t) = rows (m := 2048) (n := 2048) (m ((c : Thread nD τ).loc main_arg8)) :=
  funext fun k => funext fun i => (box2 (m := 2048) (n := 2048) (V m c main_v9) _ (offs t).2.2.2.2.2.2.2.2.2.1 (ix2 k i) (Nat.zero_add _) (Nat.zero_add _)).trans
    ((congrArg (fun A => at2 (m := 2048) (n := 2048) A k.val i.val) (V_main_v9 m c)).trans (at2_eq (m := 2048) (n := 2048) (m ((c : Thread nD τ).loc main_arg8)) (ix2 k i) rfl rfl).symm)

/-! ## The results -/

/-- Row `r` of the first block a point writes back. -/
theorem flushed11_at (r : Fin 256) (l : Fin 2048) :
    ((dats m 0 c).flushed 11 t : S256x2048.Idx → EReal) (ix2 r l)
      = mixed (row (m := 8192) (n := 2048) (m ((c : Thread nD τ).loc main_arg0)) (256 * t.val + r.val)) (entries (n := 2048) (m ((c : Thread nD τ).loc main_arg1)))
          (row (m := 8192) (n := 1024) (m ((c : Thread nD τ).loc main_arg2)) (256 * t.val + r.val)) (row (m := 8192) (n := 1024) (m ((c : Thread nD τ).loc main_arg3)) (256 * t.val + r.val))
          (colsFrom (m := 2048) (n := 10240) (m ((c : Thread nD τ).loc main_arg4)) 6144 (by omega)) (colsFrom (m := 2048) (n := 10240) (m ((c : Thread nD τ).loc main_arg4)) 8192 (by omega))
          (fun i => (m ((c : Thread nD τ).loc main_arg5) : S2x2048.Idx → EReal) (ix2 0 i)) (fun i => (m ((c : Thread nD τ).loc main_arg5) : S2x2048.Idx → EReal) (ix2 1 i))
          (rows (m := 1024) (n := 2048) (m ((c : Thread nD τ).loc main_arg6))) (rows (m := 1024) (n := 2048) (m ((c : Thread nD τ).loc main_arg7))) (rows (m := 2048) (n := 2048) (m ((c : Thread nD τ).loc main_arg8))) l := by
  rw [← blk0 m c t r, ← blk1 m c t, ← blk2 m c t r, ← blk3 m c t r, ← blk4 m c t, ← blk5 m c t, ← blk6 m c t 0, ← blk6 m c t 1, ← blk7 m c t, ← blk8 m c t, ← blk9 m c t]
  exact (congrFun (Value.flushed11 m c t) (ix2 r l)).trans (out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) r l)

/-- Row `r` of the second block a point writes back. -/
theorem flushed12_at (r : Fin 256) (l : Fin 2048) :
    ((dats m 0 c).flushed 12 t : S256x2048.Idx → EReal) (ix2 r l)
      = rms (mixed (row (m := 8192) (n := 2048) (m ((c : Thread nD τ).loc main_arg0)) (256 * t.val + r.val)) (entries (n := 2048) (m ((c : Thread nD τ).loc main_arg1)))
          (row (m := 8192) (n := 1024) (m ((c : Thread nD τ).loc main_arg2)) (256 * t.val + r.val)) (row (m := 8192) (n := 1024) (m ((c : Thread nD τ).loc main_arg3)) (256 * t.val + r.val))
          (colsFrom (m := 2048) (n := 10240) (m ((c : Thread nD τ).loc main_arg4)) 6144 (by omega)) (colsFrom (m := 2048) (n := 10240) (m ((c : Thread nD τ).loc main_arg4)) 8192 (by omega))
          (fun i => (m ((c : Thread nD τ).loc main_arg5) : S2x2048.Idx → EReal) (ix2 0 i)) (fun i => (m ((c : Thread nD τ).loc main_arg5) : S2x2048.Idx → EReal) (ix2 1 i))
          (rows (m := 1024) (n := 2048) (m ((c : Thread nD τ).loc main_arg6))) (rows (m := 1024) (n := 2048) (m ((c : Thread nD τ).loc main_arg7))) (rows (m := 2048) (n := 2048) (m ((c : Thread nD τ).loc main_arg8)))) (entries (n := 2048) (m ((c : Thread nD τ).loc main_arg9)) l) l := by
  rw [← blk0 m c t r, ← blk1 m c t, ← blk2 m c t r, ← blk3 m c t r, ← blk4 m c t, ← blk5 m c t, ← blk6 m c t 0, ← blk6 m c t 1, ← blk7 m c t, ← blk8 m c t, ← blk9 m c t, ← blk10 m c t]
  exact (congrFun (Value.flushed12 m c t) (ix2 r l)).trans (out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) r l)

/-- A row of the first array the run leaves is a row of the block that holds it. -/
theorem read11_at (r : Fin 256) (l : Fin 2048) {i : ℕ} (hi : 256 * t.val + r.val = i) :
    at2 (m := 8192) (n := 2048) ((dats m 0 c).arrAt 11 cfg0.N) i l.val = ((dats m 0 c).flushed 11 t : S256x2048.Idx → EReal) (ix2 r l) :=
  have hy : (((cfg0.win 11).blk t).view.read (Elt Ideal) ((dats m 0 c).arrAt 11 cfg0.N) : S256x2048.Idx → EReal) (ix2 r l)
      = at2 (m := 8192) (n := 2048) ((dats m 0 c).arrAt 11 cfg0.N) i l.val :=
    box2 (m := 8192) (n := 2048) ((dats m 0 c).arrAt 11 cfg0.N) _ (offs t).2.2.2.2.2.2.2.2.2.2.2.1 (ix2 r l) hi (Nat.zero_add _)
  hy.symm.trans (congrFun (Value.blocks11 m c t (flush0_11 t)) (ix2 r l))

/-- A row of the second array the run leaves is a row of the block that holds it. -/
theorem read12_at (r : Fin 256) (l : Fin 2048) {i : ℕ} (hi : 256 * t.val + r.val = i) :
    at2 (m := 8192) (n := 2048) ((dats m 0 c).arrAt 12 cfg0.N) i l.val = ((dats m 0 c).flushed 12 t : S256x2048.Idx → EReal) (ix2 r l) :=
  have hy : (((cfg0.win 12).blk t).view.read (Elt Ideal) ((dats m 0 c).arrAt 12 cfg0.N) : S256x2048.Idx → EReal) (ix2 r l)
      = at2 (m := 8192) (n := 2048) ((dats m 0 c).arrAt 12 cfg0.N) i l.val :=
    box2 (m := 8192) (n := 2048) ((dats m 0 c).arrAt 12 cfg0.N) _ (offs t).2.2.2.2.2.2.2.2.2.2.2.2 (ix2 r l) hi (Nat.zero_add _)
  hy.symm.trans (congrFun (Value.blocks12 m c t (flush0_12 t)) (ix2 r l))

/-- The first array the run leaves, as a function of its arguments. -/
theorem result11 : ((dats m 0 c).arrAt 11 cfg0.N : S8192x2048.Idx → EReal)
    = mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  have h0 : (y 0).val < 8192 := (y 0).isLt
  have h1 : (y 1).val < 2048 := (y 1).isLt
  have hN : (y 0).val / 256 < cfg0.N := by have := N_0; show _ < grid0.N; omega
  have hy := read11_at m c ⟨(y 0).val / 256, hN⟩ ⟨(y 0).val % 256, Nat.mod_lt _ (by decide)⟩ ⟨(y 1).val, h1⟩ (Nat.div_add_mod _ _)
  refine (at2_eq (m := 8192) (n := 2048) _ y rfl rfl).trans (hy.trans ((flushed11_at m c ⟨(y 0).val / 256, hN⟩ _ _).trans ?_))
  unfold mixOut
  show mixed (row _ (256 * ((y 0).val / 256) + (y 0).val % 256)) _ (row _ (256 * ((y 0).val / 256) + (y 0).val % 256)) (row _ (256 * ((y 0).val / 256) + (y 0).val % 256)) _ _ _ _ _ _ _ _ = _
  rw [Nat.div_add_mod]
  rfl

/-- The second array the run leaves, as a function of its arguments. -/
theorem result12 : ((dats m 0 c).arrAt 12 cfg0.N : S8192x2048.Idx → EReal)
    = normOut (mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (m ((c : Thread nD τ).loc main_arg9)) := by
  funext y
  have h0 : (y 0).val < 8192 := (y 0).isLt
  have h1 : (y 1).val < 2048 := (y 1).isLt
  have hN : (y 0).val / 256 < cfg0.N := by have := N_0; show _ < grid0.N; omega
  have hy := read12_at m c ⟨(y 0).val / 256, hN⟩ ⟨(y 0).val % 256, Nat.mod_lt _ (by decide)⟩ ⟨(y 1).val, h1⟩ (Nat.div_add_mod _ _)
  refine (at2_eq (m := 8192) (n := 2048) _ y rfl rfl).trans (hy.trans ((flushed12_at m c ⟨(y 0).val / 256, hN⟩ _ _).trans ?_))
  unfold normOut
  show rms (mixed (row _ (256 * ((y 0).val / 256) + (y 0).val % 256)) _ (row _ (256 * ((y 0).val / 256) + (y 0).val % 256)) (row _ (256 * ((y 0).val / 256) + (y 0).val % 256)) _ _ _ _ _ _ _) _ _ = _
  rw [Nat.div_add_mod]
  refine congrArg (fun v => rms v (entries (n := 2048) (m ((c : Thread nD τ).loc main_arg9)) ⟨(y 1).val, h1⟩) ⟨(y 1).val, h1⟩) (funext fun j => ?_)
  exact at2_eq (m := 8192) (n := 2048) (mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨(y 0).val, h0⟩ j) rfl rfl

end Region

end Cert.Proof.Merge

namespace Cert.Proof.Merge.Ref

open Cert.Reference3Ideal Cert.Reference3Ideal.Gen
open Idealize.ShloMosaic Idealize.ShloMosaic.TcCoe Idealize.SL.Sem
open Cert.Proof.Row

/-- The reference's root-mean-square step at row `s`, column `l`. -/
theorem norm_at (X : FVec Ideal S8192x2048 .f32) (g : FVec Ideal S2048 .f32) (s : Fin 8192) (l : Fin 2048) :
    (truncf .bf16 (mulf (mulf X (broadcastInDim S8192x2048 ![0, 1] bcast_S8192x1_S8192x2048_0_1 (Host.rsqrt (addf (Host.divf (broadcastInDim S8192x1 ![0] bcast_S8192_S8192x1_0
        (Host.reduceAdd (mulf X X) (constant S_ .f32 0x00000000#32) reducesTo_S8192x2048_S8192_d1 h_S_)) (broadcastInDim S8192x1 ![] bcast_S_S8192x1 (constant S_ .f32 0x45000000#32)))
        (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g)))
        bitsLt_bf16_f32 : FVec Ideal S8192x2048 .bf16) (ix2 s l)
      = rms (fun j => X (ix2 s j)) (g (ix1 l)) l := by
  generalize hz : rms _ _ l = z
  pointwise
  exact hz

/-- The reference's run leaves the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = (mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S8192x2048.Idx → EReal)
      ∧ r.2.mem ((c.tc : Thread nD τ).loc main_v59) = (normOut (mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) : S8192x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2.1.trans ?_, (h c).2.2⟩) (Cert.Reference3Ideal.Value.run (F := Ideal) m ρ)
  · funext (y : S8192x2048.Idx)
    obtain ⟨s, l, rfl⟩ : ∃ (s : Fin 8192) (l : Fin 2048), y = ix2 s l := ⟨y 0, y 1, eq_ix2 y⟩
    refine Eq.trans ?_ (mixOut_at _ _ _ _ _ _ _ _ _ s l).symm
    rw [colsFrom_second]
    generalize hz : mixed _ _ _ _ _ _ _ _ _ _ _ _ = z
    pointwise
    exact hz
  · funext (y : S8192x2048.Idx)
    obtain ⟨s, l, rfl⟩ : ∃ (s : Fin 8192) (l : Fin 2048), y = ix2 s l := ⟨y 0, y 1, eq_ix2 y⟩
    unfold Cert.Reference3Ideal.Value.res_main_v59
    refine (norm_at _ _ s l).trans (Eq.trans ?_ (normOut_at _ _ s l).symm)
    refine congrArg (fun v => rms v ((m ((c : Thread nD τ).loc main_arg9) : S2048.Idx → EReal) (ix1 l)) l) (funext fun j => ?_)
    refine Eq.trans ?_ (mixOut_at _ _ _ _ _ _ _ _ _ s j).symm
    rw [colsFrom_second]
    generalize hz : mixed _ _ _ _ _ _ _ _ _ _ _ _ = z
    pointwise
    exact hz

end Cert.Proof.Merge.Ref

end
-- ==== Proof.AttSum.lean ====
/-
  The row mathematics of the differential attention, over the extended reals: the sums over the keys a query sees, and how they
  are gathered from masked tiles.
-/
module

public import proofs.«01_k».proof.Proof.ReadPre
public import Idealize.ShloMosaic.Lib.WordCmp

@[expose] public section

noncomputable section

namespace Cert.Proof.Att

open Idealize.ShloMosaic
open Cert.Proof.Ffn (at2)

/-! ## The function -/

/-- The score of query `s` and key `t` in the component whose 128 columns begin at `o`. -/
def score (q k : (⟨2, ![8192, 2048]⟩ : Shape).Idx → EReal) (o s t : ℕ) : EReal := ∑ d : Fin 128, at2 q s (o + d.val) * at2 k t (o + d.val)

/-- Column `l` of the values of the keys up to query `s`, weighed by the exponentials of their scores. -/
def num (q k : (⟨2, ![8192, 2048]⟩ : Shape).Idx → EReal) (v : (⟨2, ![8192, 1024]⟩ : Shape).Idx → EReal) (o l s : ℕ) : EReal :=
  ∑ t ∈ Finset.range (s + 1), Ideal.exp (score q k o s t) * at2 v t l

/-- The sum of those weights. -/
def den (q k : (⟨2, ![8192, 2048]⟩ : Shape).Idx → EReal) (o s : ℕ) : EReal := ∑ t ∈ Finset.range (s + 1), Ideal.exp (score q k o s t)

/-- The weight of the second component, from the four vectors that give it. -/
def lam (a b c d : (⟨1, ![64]⟩ : Shape).Idx → EReal) : EReal :=
  Ideal.exp (∑ x : Fin 64, a (ix1 x) * b (ix1 x)) - Ideal.exp (∑ x : Fin 64, c (ix1 x) * d (ix1 x)) + Ideal.ofBits FTy.f32 0x3E4CCCCD#32

/-- Head `h`'s first attention less `w` times its second, at column `l` of the values, for query `s`. -/
def diff (q k : (⟨2, ![8192, 2048]⟩ : Shape).Idx → EReal) (v : (⟨2, ![8192, 1024]⟩ : Shape).Idx → EReal) (w : EReal) (h s l : ℕ) : EReal :=
  Ideal.div (num q k v (256 * h) l s) (den q k (256 * h) s) - w * Ideal.div (num q k v (256 * h + 128) l s) (den q k (256 * h + 128) s)

/-- Entry `e` of a head of 128 entries `x`, normalised by the root of its mean square and scaled by the gain `g` and by 0.8. -/
def headNorm (x : ℕ → EReal) (g : EReal) (e : ℕ) : EReal :=
  x e * Ideal.rsqrt (Ideal.div (∑ j : Fin 128, x j.val * x j.val) (Ideal.ofBits FTy.f32 0x43000000#32) + Ideal.ofBits FTy.f32 0x358637BD#32) * g
    * Ideal.ofBits FTy.f32 0x3F4CCCCD#32

/-- The array the attention leaves, as a function of its arguments. -/
def attOut (a b c d : (⟨1, ![64]⟩ : Shape).Idx → EReal) (g : (⟨1, ![128]⟩ : Shape).Idx → EReal) (q k : (⟨2, ![8192, 2048]⟩ : Shape).Idx → EReal)
    (v : (⟨2, ![8192, 1024]⟩ : Shape).Idx → EReal) (z : (⟨2, ![8192, 1024]⟩ : Shape).Idx) : EReal :=
  headNorm (fun e => diff q k v (lam a b c d) ((z 1).val / 128) (z 0).val (128 * ((z 1).val / 128) + e)) (g (ix1 ⟨(z 1).val % 128, Nat.mod_lt _ (by decide)⟩)) ((z 1).val % 128)

/-! ## Sums over the keys -/

/-- A sum over a finite type of indices, as one over a range. -/
theorem sum_fin {n : ℕ} {g : Fin n → EReal} (f : ℕ → EReal) (h : ∀ x : Fin n, g x = f x.val) : ∑ x, g x = ∑ x ∈ Finset.range n, f x := by
  rw [Finset.sum_range]
  exact Finset.sum_congr rfl fun x _ => h x

/-- A sum over a range in two parts. -/
theorem sum_join (f : ℕ → EReal) (n m : ℕ) : ∑ x ∈ Finset.range n, f x + ∑ x ∈ Finset.range m, f (n + x) = ∑ x ∈ Finset.range (n + m), f x :=
  (Finset.sum_range_add f n m).symm

/-- The comparison of two small positions. -/
theorem sle_small {a b : ℕ} (ha : a < 2 ^ 31) (hb : b < 2 ^ 31) : IntOp.cmpi .sle (BitVec.ofNat 32 a) (BitVec.ofNat 32 b) = BitVec.ofBool (decide (a ≤ b)) := by
  have e : ∀ {c : ℕ}, c < 2 ^ 31 → (BitVec.ofNat 32 c).toNat = c := fun hc => by rw [BitVec.toNat_ofNat]; exact Nat.mod_eq_of_lt (by omega)
  rw [WordCmp.cmpi_sle_of_lt (by rw [e ha]; exact ha) (by rw [e hb]; exact hb), e ha, e hb]

/-- A masked score's weighted value: the value weighed where the key is seen, nothing elsewhere. -/
theorem masked_term {a b : ℕ} (ha : a < 2 ^ 31) (hb : b < 2 ^ 31) (s w : EReal) :
    Ideal.exp (Scalar.select (IntOp.cmpi .sle (BitVec.ofNat 32 a) (BitVec.ofNat 32 b)) s ⊥) * w = if a ≤ b then Ideal.exp s * w else 0 := by
  rw [sle_small ha hb]
  by_cases h : a ≤ b
  · simp [h, Scalar.select]
  · simp [h, Scalar.select]

/-- A sum of terms that vanish beyond `r`, over the terms up to `r`. -/
theorem sum_upto {n r : ℕ} (hr : r < n) (f : ℕ → EReal) : ∑ x ∈ Finset.range n, (if x ≤ r then f x else 0) = ∑ x ∈ Finset.range (r + 1), f x := by
  rw [← Finset.sum_filter]
  refine Finset.sum_congr (Finset.ext fun x => ?_) fun _ _ => rfl
  simp only [Finset.mem_filter, Finset.mem_range]
  omega

/-- A masked sum over a tile of keys, over the keys up to the query's place in it. -/
theorem masked {n r : ℕ} (hr : r < n) (hn : n < 2 ^ 31) {s w : Fin n → EReal} (f : ℕ → EReal) (h : ∀ x : Fin n, Ideal.exp (s x) * w x = f x.val) :
    ∑ x : Fin n, Ideal.exp (Scalar.select (IntOp.cmpi .sle (BitVec.ofNat 32 x.val) (BitVec.ofNat 32 r)) (s x) ⊥) * w x = ∑ x ∈ Finset.range (r + 1), f x :=
  (sum_fin (fun x => if x ≤ r then f x else 0) fun x => (masked_term (lt_trans x.isLt hn) (lt_trans hr hn) (s x) (w x)).trans (by rw [h x])).trans (sum_upto hr f)

/-- A sum over `n` keys all seen and a masked tile behind them. -/
theorem seen_masked {n m r : ℕ} (hr : r < m) (hm : m < 2 ^ 31) {s w : Fin n → EReal} {s' w' : Fin m → EReal} (f : ℕ → EReal)
    (h : ∀ x : Fin n, Ideal.exp (s x) * w x = f x.val) (h' : ∀ x : Fin m, Ideal.exp (s' x) * w' x = f (n + x.val)) :
    ∑ x : Fin n, Ideal.exp (s x) * w x + ∑ x : Fin m, Ideal.exp (Scalar.select (IntOp.cmpi .sle (BitVec.ofNat 32 x.val) (BitVec.ofNat 32 r)) (s' x) ⊥) * w' x
      = ∑ x ∈ Finset.range (n + r + 1), f x :=
  (congrArg₂ (· + ·) (sum_fin f h) (masked hr hm (fun x => f (n + x)) h')).trans (sum_join f n (r + 1))

/-- The same comparison written from the query's side. -/
theorem masked_ge {n r : ℕ} (hr : r < n) (hn : n < 2 ^ 31) {s w : Fin n → EReal} (f : ℕ → EReal) (h : ∀ x : Fin n, Ideal.exp (s x) * w x = f x.val) :
    ∑ x : Fin n, Ideal.exp (Scalar.select (IntOp.cmpi .sge (BitVec.ofNat 32 r) (BitVec.ofNat 32 x.val)) (s x) ⊥) * w x = ∑ x ∈ Finset.range (r + 1), f x :=
  masked hr hn f h

/-- The masked weights alone. -/
theorem masked_ge_one {n r : ℕ} (hr : r < n) (hn : n < 2 ^ 31) {s : Fin n → EReal} (f : ℕ → EReal) (h : ∀ x : Fin n, Ideal.exp (s x) = f x.val) :
    ∑ x : Fin n, Ideal.exp (Scalar.select (IntOp.cmpi .sge (BitVec.ofNat 32 r) (BitVec.ofNat 32 x.val)) (s x) ⊥) = ∑ x ∈ Finset.range (r + 1), f x :=
  (Finset.sum_congr rfl fun x _ => (mul_one _).symm).trans (masked_ge (w := fun _ => 1) hr hn f fun x => (mul_one _).trans (h x))

/-! ## A tile's terms -/

/-- Key `x`'s exponentiated score with query `r`, times column `e` of its values. -/
def term (q k v : ℕ → ℕ → EReal) (r e x : ℕ) : EReal := Ideal.exp (∑ d : Fin 128, q r d.val * k x d.val) * v x e

/-- That term from the arrays' entries. -/
theorem term_of (Q K V : ℕ → ℕ → EReal) (r e x : ℕ) {q k : Fin 128 → EReal} {v : EReal} (hq : ∀ d, q d = Q r d.val) (hk : ∀ d, k d = K x d.val) (hv : v = V x e) :
    Ideal.exp (∑ d : Fin 128, q d * k d) * v = term Q K V r e x := by
  unfold term
  rw [hv]
  exact congrArg (fun z => Ideal.exp z * V x e) (Finset.sum_congr rfl fun d _ => congrArg₂ (· * ·) (hq d) (hk d))

end Cert.Proof.Att

end
-- ==== Proof.AttPay.lean ====
/-
  What the attention's payloads hold: a tile of queries against the keys before and in the tile, as sums over the keys seen.
-/
module

public import proofs.«01_k».proof.Proof.AttSum
public import proofs.«01_k».proof.Proof.Gen.Kernel4Ideal.Skeleton
public import Idealize.ShloMosaic.Lib.Pointwise

@[expose] public section

set_option maxRecDepth 16384

noncomputable section

namespace Cert.Proof.Att

open Cert.Kernel4Ideal Cert.Kernel4Ideal.Gen
open Idealize.ShloMosaic Idealize.ShloMosaic.TcCoe Idealize.SL.Sem

/-- The mask's constant is the bottom element. -/
theorem mask_eq : (Named.named (F := Ideal) Cert.Kernel4Ideal.κ "mask" (φ := .f32) 0xF149F2CA#32 : EReal) = ⊥ := rfl

/-- The first half of a tile's queries, with 0 keys before the tile. -/
theorem pay3_at (q : FVec Ideal S1024x128 .bf16) (k : Vec Ideal S512x128 .bf16) (v : Vec Ideal S512x256 .bf16) (Q K V : ℕ → ℕ → EReal)
    (hq : ∀ (a : Fin 1024) (d : Fin 128), q (ix2 a d) = Q a.val d.val) (hk : ∀ (a : Fin 512) (d : Fin 128), k (ix2 a d) = K a.val d.val)
    (hv : ∀ (a : Fin 512) (d : Fin 256), v (ix2 a d) = V a.val d.val) (ρ : Fin 512) (e : Fin 256) :
    k0_pay3 (F := Ideal) q k v (ix3 0 ρ e) = ∑ x ∈ Finset.range (0 + ρ.val + 1), term Q K V ρ.val e.val x := by
  generalize hz : (∑ x ∈ Finset.range (0 + ρ.val + 1), term Q K V ρ.val e.val x) = z
  pointwise [k0_pay3, k0_pay2]
  rw [← hz, mask_eq]
  refine (masked ρ.isLt (by decide) (term Q K V ρ.val e.val) fun x => term_of Q K V ρ.val e.val x.val (fun d => hq _ d) (fun d => hk x d) (hv x e)).trans ?_
  rw [Nat.zero_add]

/-- The second half of a tile's queries, with 0 keys before the tile. -/
theorem pay4_at (q : FVec Ideal S1024x128 .bf16) (k : Vec Ideal S1024x128 .bf16) (v : Vec Ideal S1024x256 .bf16) (Q K V : ℕ → ℕ → EReal)
    (hq : ∀ (a : Fin 1024) (d : Fin 128), q (ix2 a d) = Q a.val d.val) (hk : ∀ (a : Fin 1024) (d : Fin 128), k (ix2 a d) = K a.val d.val)
    (hv : ∀ (a : Fin 1024) (d : Fin 256), v (ix2 a d) = V a.val d.val) (ρ : Fin 512) (e : Fin 256) :
    k0_pay4 (F := Ideal) q k v (ix3 0 ρ e) = ∑ x ∈ Finset.range (512 + ρ.val + 1), term Q K V (512 + ρ.val) e.val x := by
  generalize hz : (∑ x ∈ Finset.range (512 + ρ.val + 1), term Q K V (512 + ρ.val) e.val x) = z
  pointwise [k0_pay4, k0_pay2]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (512 + x.val) (fun d => hq _ d) (fun d => hk _ d) (hv _ e)

/-- The first half of a tile's queries, with 0 keys before the tile. -/
theorem pay25_at (q : Vec Ideal S1024x128 .bf16) (k : Vec Ideal S512x128 .bf16) (v : Vec Ideal S512x256 .bf16) (Q K V : ℕ → ℕ → EReal)
    (hq : ∀ (a : Fin 1024) (d : Fin 128), q (ix2 a d) = Q a.val d.val) (hk : ∀ (a : Fin 512) (d : Fin 128), k (ix2 a d) = K a.val d.val)
    (hv : ∀ (a : Fin 512) (d : Fin 256), v (ix2 a d) = V a.val d.val) (ρ : Fin 512) (e : Fin 256) :
    k0_pay25 (F := Ideal) q k0_pay2 k v (ix3 0 ρ e) = ∑ x ∈ Finset.range (0 + ρ.val + 1), term Q K V ρ.val e.val x := by
  generalize hz : (∑ x ∈ Finset.range (0 + ρ.val + 1), term Q K V ρ.val e.val x) = z
  pointwise [k0_pay25, k0_pay24, k0_pay2]
  rw [← hz, mask_eq]
  refine (masked ρ.isLt (by decide) (term Q K V ρ.val e.val) fun x => term_of Q K V ρ.val e.val x.val (fun d => hq _ d) (fun d => hk x d) (hv x e)).trans ?_
  rw [Nat.zero_add]

/-- The second half of a tile's queries, with 0 keys before the tile. -/
theorem pay26_at (q : Vec Ideal S1024x128 .bf16) (k : Vec Ideal S1024x128 .bf16) (v : Vec Ideal S1024x256 .bf16) (Q K V : ℕ → ℕ → EReal)
    (hq : ∀ (a : Fin 1024) (d : Fin 128), q (ix2 a d) = Q a.val d.val) (hk : ∀ (a : Fin 1024) (d : Fin 128), k (ix2 a d) = K a.val d.val)
    (hv : ∀ (a : Fin 1024) (d : Fin 256), v (ix2 a d) = V a.val d.val) (ρ : Fin 512) (e : Fin 256) :
    k0_pay26 (F := Ideal) q k0_pay2 k v (ix3 0 ρ e) = ∑ x ∈ Finset.range (512 + ρ.val + 1), term Q K V (512 + ρ.val) e.val x := by
  generalize hz : (∑ x ∈ Finset.range (512 + ρ.val + 1), term Q K V (512 + ρ.val) e.val x) = z
  pointwise [k0_pay26, k0_pay24, k0_pay2]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (512 + x.val) (fun d => hq _ d) (fun d => hk _ d) (hv _ e)

/-- The first half of a tile's queries, with 1024 keys before the tile. -/
theorem pay6_at (q : FVec Ideal S1024x128 .bf16) (k : Vec Ideal S1536x128 .bf16) (v : Vec Ideal S1536x256 .bf16) (Q K V : ℕ → ℕ → EReal)
    (hq : ∀ (a : Fin 1024) (d : Fin 128), q (ix2 a d) = Q a.val d.val) (hk : ∀ (a : Fin 1536) (d : Fin 128), k (ix2 a d) = K a.val d.val)
    (hv : ∀ (a : Fin 1536) (d : Fin 256), v (ix2 a d) = V a.val d.val) (ρ : Fin 512) (e : Fin 256) :
    k0_pay6 (F := Ideal) q k v (ix3 0 ρ e) = ∑ x ∈ Finset.range (1024 + ρ.val + 1), term Q K V ρ.val e.val x := by
  generalize hz : (∑ x ∈ Finset.range (1024 + ρ.val + 1), term Q K V ρ.val e.val x) = z
  pointwise [k0_pay6, k0_pay5]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (1024 + x.val) (fun d => hq _ d) (fun d => hk _ d) (hv _ e)

/-- The second half of a tile's queries, with 1024 keys before the tile. -/
theorem pay8_at (q : FVec Ideal S1024x128 .bf16) (k : Vec Ideal S2048x128 .bf16) (v : Vec Ideal S2048x256 .bf16) (Q K V : ℕ → ℕ → EReal)
    (hq : ∀ (a : Fin 1024) (d : Fin 128), q (ix2 a d) = Q a.val d.val) (hk : ∀ (a : Fin 2048) (d : Fin 128), k (ix2 a d) = K a.val d.val)
    (hv : ∀ (a : Fin 2048) (d : Fin 256), v (ix2 a d) = V a.val d.val) (ρ : Fin 512) (e : Fin 256) :
    k0_pay8 (F := Ideal) (k0_pay7 (F := Ideal) q k v) (ix3 0 ρ e) = ∑ x ∈ Finset.range (1536 + ρ.val + 1), term Q K V (512 + ρ.val) e.val x := by
  generalize hz : (∑ x ∈ Finset.range (1536 + ρ.val + 1), term Q K V (512 + ρ.val) e.val x) = z
  pointwise [k0_pay8, k0_pay7, k0_pay5]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (1536 + x.val) (fun d => hq _ d) (fun d => hk _ d) (hv _ e)

/-- The first half of a tile's queries, with 1024 keys before the tile. -/
theorem pay9_at (q : FVec Ideal S1024x128 .bf16) (k : Vec Ideal S1536x128 .bf16) (v : Vec Ideal S1536x256 .bf16) (Q K V : ℕ → ℕ → EReal)
    (hq : ∀ (a : Fin 1024) (d : Fin 128), q (ix2 a d) = Q a.val d.val) (hk : ∀ (a : Fin 1536) (d : Fin 128), k (ix2 a d) = K a.val d.val)
    (hv : ∀ (a : Fin 1536) (d : Fin 256), v (ix2 a d) = V a.val d.val) (ρ : Fin 512) (e : Fin 256) :
    k0_pay9 (F := Ideal) q k0_pay5 k v (ix3 0 ρ e) = ∑ x ∈ Finset.range (1024 + ρ.val + 1), term Q K V ρ.val e.val x := by
  generalize hz : (∑ x ∈ Finset.range (1024 + ρ.val + 1), term Q K V ρ.val e.val x) = z
  pointwise [k0_pay9, k0_pay5]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (1024 + x.val) (fun d => hq _ d) (fun d => hk _ d) (hv _ e)

/-- The second half of a tile's queries, with 1024 keys before the tile. -/
theorem pay10_at (q : FVec Ideal S1024x128 .bf16) (k : Vec Ideal S2048x128 .bf16) (v : Vec Ideal S2048x256 .bf16) (Q K V : ℕ → ℕ → EReal)
    (hq : ∀ (a : Fin 1024) (d : Fin 128), q (ix2 a d) = Q a.val d.val) (hk : ∀ (a : Fin 2048) (d : Fin 128), k (ix2 a d) = K a.val d.val)
    (hv : ∀ (a : Fin 2048) (d : Fin 256), v (ix2 a d) = V a.val d.val) (ρ : Fin 512) (e : Fin 256) :
    k0_pay10 (F := Ideal) q k0_pay5 k v (ix3 0 ρ e) = ∑ x ∈ Finset.range (1536 + ρ.val + 1), term Q K V (512 + ρ.val) e.val x := by
  generalize hz : (∑ x ∈ Finset.range (1536 + ρ.val + 1), term Q K V (512 + ρ.val) e.val x) = z
  pointwise [k0_pay10, k0_pay5]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (1536 + x.val) (fun d => hq _ d) (fun d => hk _ d) (hv _ e)

/-- The first half of a tile's queries, with 2048 keys before the tile. -/
theorem pay12_at (q : FVec Ideal S1024x128 .bf16) (k : Vec Ideal S2560x128 .bf16) (v : Vec Ideal S2560x256 .bf16) (Q K V : ℕ → ℕ → EReal)
    (hq : ∀ (a : Fin 1024) (d : Fin 128), q (ix2 a d) = Q a.val d.val) (hk : ∀ (a : Fin 2560) (d : Fin 128), k (ix2 a d) = K a.val d.val)
    (hv : ∀ (a : Fin 2560) (d : Fin 256), v (ix2 a d) = V a.val d.val) (ρ : Fin 512) (e : Fin 256) :
    k0_pay12 (F := Ideal) q k v (ix3 0 ρ e) = ∑ x ∈ Finset.range (2048 + ρ.val + 1), term Q K V ρ.val e.val x := by
  generalize hz : (∑ x ∈ Finset.range (2048 + ρ.val + 1), term Q K V ρ.val e.val x) = z
  pointwise [k0_pay12, k0_pay11]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (2048 + x.val) (fun d => hq _ d) (fun d => hk _ d) (hv _ e)

/-- The second half of a tile's queries, with 2048 keys before the tile. -/
theorem pay14_at (q : FVec Ideal S1024x128 .bf16) (k : Vec Ideal S3072x128 .bf16) (v : Vec Ideal S3072x256 .bf16) (Q K V : ℕ → ℕ → EReal)
    (hq : ∀ (a : Fin 1024) (d : Fin 128), q (ix2 a d) = Q a.val d.val) (hk : ∀ (a : Fin 3072) (d : Fin 128), k (ix2 a d) = K a.val d.val)
    (hv : ∀ (a : Fin 3072) (d : Fin 256), v (ix2 a d) = V a.val d.val) (ρ : Fin 512) (e : Fin 256) :
    k0_pay14 (F := Ideal) (k0_pay13 (F := Ideal) q k v) (ix3 0 ρ e) = ∑ x ∈ Finset.range (2560 + ρ.val + 1), term Q K V (512 + ρ.val) e.val x := by
  generalize hz : (∑ x ∈ Finset.range (2560 + ρ.val + 1), term Q K V (512 + ρ.val) e.val x) = z
  pointwise [k0_pay14, k0_pay13, k0_pay11]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (2560 + x.val) (fun d => hq _ d) (fun d => hk _ d) (hv _ e)

/-- The first half of a tile's queries, with 2048 keys before the tile. -/
theorem pay15_at (q : FVec Ideal S1024x128 .bf16) (k : Vec Ideal S2560x128 .bf16) (v : Vec Ideal S2560x256 .bf16) (Q K V : ℕ → ℕ → EReal)
    (hq : ∀ (a : Fin 1024) (d : Fin 128), q (ix2 a d) = Q a.val d.val) (hk : ∀ (a : Fin 2560) (d : Fin 128), k (ix2 a d) = K a.val d.val)
    (hv : ∀ (a : Fin 2560) (d : Fin 256), v (ix2 a d) = V a.val d.val) (ρ : Fin 512) (e : Fin 256) :
    k0_pay15 (F := Ideal) q k0_pay11 k v (ix3 0 ρ e) = ∑ x ∈ Finset.range (2048 + ρ.val + 1), term Q K V ρ.val e.val x := by
  generalize hz : (∑ x ∈ Finset.range (2048 + ρ.val + 1), term Q K V ρ.val e.val x) = z
  pointwise [k0_pay15, k0_pay11]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (2048 + x.val) (fun d => hq _ d) (fun d => hk _ d) (hv _ e)

/-- The second half of a tile's queries, with 2048 keys before the tile. -/
theorem pay16_at (q : FVec Ideal S1024x128 .bf16) (k : Vec Ideal S3072x128 .bf16) (v : Vec Ideal S3072x256 .bf16) (Q K V : ℕ → ℕ → EReal)
    (hq : ∀ (a : Fin 1024) (d : Fin 128), q (ix2 a d) = Q a.val d.val) (hk : ∀ (a : Fin 3072) (d : Fin 128), k (ix2 a d) = K a.val d.val)
    (hv : ∀ (a : Fin 3072) (d : Fin 256), v (ix2 a d) = V a.val d.val) (ρ : Fin 512) (e : Fin 256) :
    k0_pay16 (F := Ideal) q k0_pay11 k v (ix3 0 ρ e) = ∑ x ∈ Finset.range (2560 + ρ.val + 1), term Q K V (512 + ρ.val) e.val x := by
  generalize hz : (∑ x ∈ Finset.range (2560 + ρ.val + 1), term Q K V (512 + ρ.val) e.val x) = z
  pointwise [k0_pay16, k0_pay11]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (2560 + x.val) (fun d => hq _ d) (fun d => hk _ d) (hv _ e)

/-- The first half of a tile's queries, with 3072 keys before the tile. -/
theorem pay18_at (q : FVec Ideal S1024x128 .bf16) (k : Vec Ideal S3584x128 .bf16) (v : Vec Ideal S3584x256 .bf16) (Q K V : ℕ → ℕ → EReal)
    (hq : ∀ (a : Fin 1024) (d : Fin 128), q (ix2 a d) = Q a.val d.val) (hk : ∀ (a : Fin 3584) (d : Fin 128), k (ix2 a d) = K a.val d.val)
    (hv : ∀ (a : Fin 3584) (d : Fin 256), v (ix2 a d) = V a.val d.val) (ρ : Fin 512) (e : Fin 256) :
    k0_pay18 (F := Ideal) q k v (ix3 0 ρ e) = ∑ x ∈ Finset.range (3072 + ρ.val + 1), term Q K V ρ.val e.val x := by
  generalize hz : (∑ x ∈ Finset.range (3072 + ρ.val + 1), term Q K V ρ.val e.val x) = z
  pointwise [k0_pay18, k0_pay17]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (3072 + x.val) (fun d => hq _ d) (fun d => hk _ d) (hv _ e)

/-- The second half of a tile's queries, with 3072 keys before the tile. -/
theorem pay20_at (q : FVec Ideal S1024x128 .bf16) (k : Vec Ideal S4096x128 .bf16) (v : Vec Ideal S4096x256 .bf16) (Q K V : ℕ → ℕ → EReal)
    (hq : ∀ (a : Fin 1024) (d : Fin 128), q (ix2 a d) = Q a.val d.val) (hk : ∀ (a : Fin 4096) (d : Fin 128), k (ix2 a d) = K a.val d.val)
    (hv : ∀ (a : Fin 4096) (d : Fin 256), v (ix2 a d) = V a.val d.val) (ρ : Fin 512) (e : Fin 256) :
    k0_pay20 (F := Ideal) (k0_pay19 (F := Ideal) q k v) (ix3 0 ρ e) = ∑ x ∈ Finset.range (3584 + ρ.val + 1), term Q K V (512 + ρ.val) e.val x := by
  generalize hz : (∑ x ∈ Finset.range (3584 + ρ.val + 1), term Q K V (512 + ρ.val) e.val x) = z
  pointwise [k0_pay20, k0_pay19, k0_pay17]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (3584 + x.val) (fun d => hq _ d) (fun d => hk _ d) (hv _ e)

/-- The first half of a tile's queries, with 3072 keys before the tile. -/
theorem pay21_at (q : FVec Ideal S1024x128 .bf16) (k : Vec Ideal S3584x128 .bf16) (v : Vec Ideal S3584x256 .bf16) (Q K V : ℕ → ℕ → EReal)
    (hq : ∀ (a : Fin 1024) (d : Fin 128), q (ix2 a d) = Q a.val d.val) (hk : ∀ (a : Fin 3584) (d : Fin 128), k (ix2 a d) = K a.val d.val)
    (hv : ∀ (a : Fin 3584) (d : Fin 256), v (ix2 a d) = V a.val d.val) (ρ : Fin 512) (e : Fin 256) :
    k0_pay21 (F := Ideal) q k0_pay17 k v (ix3 0 ρ e) = ∑ x ∈ Finset.range (3072 + ρ.val + 1), term Q K V ρ.val e.val x := by
  generalize hz : (∑ x ∈ Finset.range (3072 + ρ.val + 1), term Q K V ρ.val e.val x) = z
  pointwise [k0_pay21, k0_pay17]
  rw [← hz, mask_eq]
  exact seen_masked ρ.isLt (by decide) (term Q K V ρ.val e.val) (fun x => term_of Q K V ρ.val e.val x.val (fun d => hq _ d) (fun d => hk _ d) (hv _ e))
    fun x => term_of Q K V ρ.val e.val (3072 + x.val) (fun d => hq _ d) (fun d => hk _ d) (hv _ e)

/-- The second half of a tile's queries, with 3072 keys before the tile. -/
theorem pay22_at (q : FVec Ideal S1024x128 .bf16) (k : Vec Ideal S4096x128 .bf16) (v : Vec Ideal S4096x256 .bf16) (Q K V : ℕ → ℕ → EReal)
    (hq : ∀ (a : Fin 1024) (d : Fin 128), q (ix2 a d) = Q a.val d.val) (hk : ∀ (a : Fin 4096) (d : Fin 128), k (ix2 a d) = K a.val d.val)
    (hv : ∀ (a : Fin 4096) (d : Fin 256), v (ix2 a d) = V a.val d.val) (ρ : Fin 512) (e : Fin 256) :
    k0_pay22 (F := Ideal) q k0_pay17 k v (ix3 0 ρ e) = ∑ x ∈ Finset.range (3584 + ρ.val + 1), term Q K V (512 + ρ.val) e.val x := by
  generalize hz : (∑ x ∈ Finset.range (3584 + ρ.val + 1), term Q K V (512 + ρ.val) e.val x) = z
  pointwise [k0_pay22, k0_pay17]
  rw [← hz, mask_eq]
  exact seen_masked ρ.isLt (by decide) (term Q K V (512 + ρ.val) e.val) (fun x => term_of Q K V (512 + ρ.val) e.val x.val (fun d => hq _ d) (fun d => hk _ d) (hv _ e))
    fun x => term_of Q K V (512 + ρ.val) e.val (3584 + x.val) (fun d => hq _ d) (fun d => hk _ d) (hv _ e)

/-- A trip over 4096 keys: what the accumulator held, and their terms. -/
theorem pay28_at (q : FVec Ideal S1024x128 .bf16) (k : Vec Ideal S4096x128 .bf16) (v : Vec Ideal S4096x256 .bf16) (a : Vec Ideal S1x1024x256 .f32) (Q K V : ℕ → ℕ → EReal)
    (hq : ∀ (a : Fin 1024) (d : Fin 128), q (ix2 a d) = Q a.val d.val) (hk : ∀ (a : Fin 4096) (d : Fin 128), k (ix2 a d) = K a.val d.val)
    (hv : ∀ (a : Fin 4096) (d : Fin 256), v (ix2 a d) = V a.val d.val) (ρ : Fin 1024) (e : Fin 256) :
    k0_pay28 (F := Ideal) q v k a (ix3 0 ρ e) = a (ix3 0 ρ e) + ∑ x ∈ Finset.range 4096, term Q K V ρ.val e.val x := by
  generalize hz : a (ix3 0 ρ e) + (∑ x ∈ Finset.range 4096, term Q K V ρ.val e.val x) = z
  pointwise [k0_pay28, k0_pay27]
  rw [← hz]
  exact congrArg (a (ix3 0 ρ e) + ·) (sum_fin (term Q K V ρ.val e.val) fun x => term_of Q K V ρ.val e.val x.val (fun d => hq _ d) (fun d => hk x d) (hv x e))

/-- A trip over 4096 keys: what the accumulator held, and their terms. -/
theorem pay29_at (q : FVec Ideal S1024x128 .bf16) (k : Vec Ideal S4096x128 .bf16) (v : Vec Ideal S4096x256 .bf16) (a : Vec Ideal S1x1024x256 .f32) (Q K V : ℕ → ℕ → EReal)
    (hq : ∀ (a : Fin 1024) (d : Fin 128), q (ix2 a d) = Q a.val d.val) (hk : ∀ (a : Fin 4096) (d : Fin 128), k (ix2 a d) = K a.val d.val)
    (hv : ∀ (a : Fin 4096) (d : Fin 256), v (ix2 a d) = V a.val d.val) (ρ : Fin 1024) (e : Fin 256) :
    k0_pay29 (F := Ideal) q v k a (ix3 0 ρ e) = a (ix3 0 ρ e) + ∑ x ∈ Finset.range 4096, term Q K V ρ.val e.val x := by
  generalize hz : a (ix3 0 ρ e) + (∑ x ∈ Finset.range 4096, term Q K V ρ.val e.val x) = z
  pointwise [k0_pay29, k0_pay27]
  rw [← hz]
  exact congrArg (a (ix3 0 ρ e) + ·) (sum_fin (term Q K V ρ.val e.val) fun x => term_of Q K V ρ.val e.val x.val (fun d => hq _ d) (fun d => hk x d) (hv x e))

/-- The weight of the second component, from its rows. -/
theorem pay33_at (v : Vec Ideal S4x64 .f32) :
    k0_pay33 (F := Ideal) v (ix2 0 0) = Ideal.exp (∑ x : Fin 64, v (ix2 0 x) * v (ix2 1 x)) - Ideal.exp (∑ x : Fin 64, v (ix2 2 x) * v (ix2 3 x)) + Ideal.ofBits FTy.f32 0x3E4CCCCD#32 := by
  pointwise [k0_pay33]

/-- The first 128 columns over the last 128. -/
theorem pay34_at (v : Vec Ideal S1x1024x256 .f32) (ρ : Fin 1024) (e : Fin 128) :
    k0_pay34 (F := Ideal) v (ix2 ρ e) = Ideal.div (v (ix3 0 ρ ⟨e.val, by omega⟩)) (v (ix3 0 ρ ⟨128 + e.val, by omega⟩)) := by
  pointwise [k0_pay34]

/-- The first 128 columns over the last 128. -/
theorem pay35_at (v : Vec Ideal S1x1024x256 .f32) (ρ : Fin 1024) (e : Fin 128) :
    k0_pay35 (F := Ideal) v (ix2 ρ e) = Ideal.div (v (ix3 0 ρ ⟨e.val, by omega⟩)) (v (ix3 0 ρ ⟨128 + e.val, by omega⟩)) := by
  pointwise [k0_pay35]

/-- The difference of the two attentions, normalised and scaled. -/
theorem pay1_at (y : FVec Ideal S1x1 .f32) (a b : FVec Ideal S1024x128 .f32) (g : Vec Ideal S1x128 .f32) (x : ℕ → EReal) (ρ : Fin 1024)
    (hx : ∀ e : Fin 128, a (ix2 ρ e) - y (ix2 0 0) * b (ix2 ρ e) = x e.val) (e : Fin 128) :
    k0_pay1 (F := Ideal) y a b g (ix2 ρ e) = headNorm x (g (ix2 0 e)) e.val := by
  unfold headNorm
  generalize hz : x e.val * _ * _ * _ = z
  pointwise [k0_pay1]
  rw [← hz, ← hx e]
  simp only [← hx]

end Cert.Proof.Att

end
-- ==== Proof.AttAcc.lean ====
/-
  The attention's accumulator: what the tile's stores, and the loop over the keys before it, leave there.
-/
module

public import proofs.«01_k».proof.Proof.AttPay
public import proofs.«01_k».proof.Proof.Gen.Kernel4Ideal.Value
public import Idealize.ShloMosaic.Lib.Pointwise

@[expose] public section

set_option maxRecDepth 16384

noncomputable section

namespace Cert.Proof.Att

open Cert.Kernel4Ideal Cert.Kernel4Ideal.Gen
open Idealize.ShloMosaic Idealize.ShloMosaic.TcCoe Idealize.SL.Sem
open Cert.Proof.Ffn (at2 at2_eq box2 unit_coord)

/-! ## The accumulator's function -/

/-- Per component, query and column: the terms of the first `n` keys and of those up to the query's place in the tile. -/
def tileG (Q K : ℕ → ℕ → ℕ → EReal) (V : ℕ → ℕ → EReal) (n : ℕ) (y : S2x1024x256.Idx) : EReal :=
  ∑ x ∈ Finset.range (n + (y (1 : Fin 3)).val + 1), term (Q (y (0 : Fin 3)).val) (K (y (0 : Fin 3)).val) V (y (1 : Fin 3)).val (y (2 : Fin 3)).val x

/-- That function inside a box of one component. -/
theorem tile_emb (Q K : ℕ → ℕ → ℕ → EReal) (V : ℕ → ℕ → EReal) (n : ℕ) {off size : Fin 3 → ℕ} (inb : ∀ a, off a + size a ≤ S2x1024x256.size a) {b r : ℕ} (e : off = ![b, r, 0])
    (x : (Rect.unit (s := S2x1024x256) off size inb).shape.Idx) (h0 : (x (0 : Fin 3)).val = 0) :
    tileG Q K V n ((Rect.unit (s := S2x1024x256) off size inb).emb x)
      = ∑ t ∈ Finset.range (n + (r + (x (1 : Fin 3)).val) + 1), term (Q b) (K b) V (r + (x (1 : Fin 3)).val) (x (2 : Fin 3)).val t := by
  have f0 : ((Rect.unit (s := S2x1024x256) off size inb).emb x (0 : Fin 3)).val = b := (unit_coord e x (0 : Fin 3)).trans (by show b + _ = b; omega)
  have f1 : ((Rect.unit (s := S2x1024x256) off size inb).emb x (1 : Fin 3)).val = r + (x (1 : Fin 3)).val := unit_coord e x (1 : Fin 3)
  have f2 : ((Rect.unit (s := S2x1024x256) off size inb).emb x (2 : Fin 3)).val = (x (2 : Fin 3)).val := (unit_coord e x (2 : Fin 3)).trans (Nat.zero_add _)
  unfold tileG
  rw [f0, f1, f2]

/-- Membership in a box. -/
theorem mem_box3 {off size : Fin 3 → ℕ} (inb : ∀ a, off a + size a ≤ S2x1024x256.size a) {o0 o1 o2 s0 s1 s2 : ℕ} (e : off = ![o0, o1, o2]) (es : size = ![s0, s1, s2]) (y : S2x1024x256.Idx)
    (h0 : o0 ≤ (y (0 : Fin 3)).val ∧ (y (0 : Fin 3)).val < o0 + s0) (h1 : o1 ≤ (y (1 : Fin 3)).val ∧ (y (1 : Fin 3)).val < o1 + s1)
    (h2 : o2 ≤ (y (2 : Fin 3)).val ∧ (y (2 : Fin 3)).val < o2 + s2) : y ∈ (Rect.unit (s := S2x1024x256) off size inb).set := by
  subst e es
  exact Rect.mem_set_unit.2 (Fin.forall_fin_succ.2 ⟨h0, Fin.forall_fin_succ.2 ⟨h1, Fin.forall_fin_succ.2 ⟨h2, fun i => i.elim0⟩⟩⟩)

/-- A store of the first half of the queries agrees with the function. -/
theorem ok_lo (Q K : ℕ → ℕ → ℕ → EReal) (V : ℕ → ℕ → EReal) (n b : ℕ) (inb : ∀ a, (![b, 0, 0] : Fin 3 → ℕ) a + S1x512x256.size a ≤ S2x1024x256.size a) (w : S1x512x256.Idx → EReal)
    (hw : ∀ (ρ : Fin 512) (e : Fin 256), w (ix3 0 ρ e) = ∑ x ∈ Finset.range (n + ρ.val + 1), term (Q b) (K b) V ρ.val e.val x) (x : S1x512x256.Idx) :
    w x = tileG Q K V n ((Rect.unit (s := S2x1024x256) ![b, 0, 0] S1x512x256.size inb).emb x) := by
  obtain ⟨ρ, e, rfl⟩ : ∃ (ρ : Fin 512) (e : Fin 256), x = ix3 0 ρ e := ⟨x 1, x 2, (eq_ix3 x).trans (congrArg (fun z => ix3 z (x 1) (x 2)) (Subsingleton.elim (α := Fin 1) _ _))⟩
  refine (hw ρ e).trans (Eq.trans ?_ (tile_emb Q K V n inb rfl (ix3 0 ρ e) rfl).symm)
  show _ = ∑ t ∈ Finset.range (n + (0 + ρ.val) + 1), term (Q b) (K b) V (0 + ρ.val) e.val t
  rw [Nat.zero_add]

/-- A store of the second half of the queries agrees with the function. -/
theorem ok_hi (Q K : ℕ → ℕ → ℕ → EReal) (V : ℕ → ℕ → EReal) (n b : ℕ) (inb : ∀ a, (![b, 512, 0] : Fin 3 → ℕ) a + S1x512x256.size a ≤ S2x1024x256.size a) (w : S1x512x256.Idx → EReal)
    (hw : ∀ (ρ : Fin 512) (e : Fin 256), w (ix3 0 ρ e) = ∑ x ∈ Finset.range (n + 512 + ρ.val + 1), term (Q b) (K b) V (512 + ρ.val) e.val x) (x : S1x512x256.Idx) :
    w x = tileG Q K V n ((Rect.unit (s := S2x1024x256) ![b, 512, 0] S1x512x256.size inb).emb x) := by
  obtain ⟨ρ, e, rfl⟩ : ∃ (ρ : Fin 512) (e : Fin 256), x = ix3 0 ρ e := ⟨x 1, x 2, (eq_ix3 x).trans (congrArg (fun z => ix3 z (x 1) (x 2)) (Subsingleton.elim (α := Fin 1) _ _))⟩
  refine (hw ρ e).trans (Eq.trans ?_ (tile_emb Q K V n inb rfl (ix3 0 ρ e) rfl).symm)
  show _ = ∑ t ∈ Finset.range (n + (512 + ρ.val) + 1), term (Q b) (K b) V (512 + ρ.val) e.val t
  rw [Nat.add_assoc n 512]

/-! ## The loads -/

/-- A load of a box of whole rows from a buffer that holds an array. -/
theorem load_at {m n : ℕ} (arg : Memref sig .tc .vmem ⟨2, ![m, n]⟩ .bf16) (harg : arg.IsWhole) (x : Vec Ideal ⟨2, ![m, n]⟩ .bf16) {off size : Fin 2 → ℕ}
    (inb : ∀ a, off a + size a ≤ (⟨2, ![m, n]⟩ : Shape).size a) {o : ℕ} (e : off = ![o, 0]) (j : (Rect.unit (s := ⟨2, ![m, n]⟩) off size inb).shape.Idx) :
    View.readAt (Elt Ideal) arg.view (Rect.unit (s := ⟨2, ![m, n]⟩) off size inb).toLoadRect (harg.unread x) j = at2 (m := m) (n := n) x (o + (j (0 : Fin 2)).val) (j (1 : Fin 2)).val := by
  refine (box2 (m := m) (n := n) (arg.view.read (Elt Ideal) (harg.unread x)) inb e j rfl (Nat.zero_add _)).trans ?_
  rw [harg.read_unread]

/-- The first component's queries as they are loaded. -/
theorem pay23_at (v : Vec Ideal S1024x128 .bf16) (a : Fin 1024) (d : Fin 128) : k0_pay23 (F := Ideal) v (ix2 a d) = v (ix2 a d) := by
  pointwise [k0_pay23]
/-- The second component's queries as they are loaded. -/
theorem pay24_at (v : Vec Ideal S1024x128 .bf16) (a : Fin 1024) (d : Fin 128) : k0_pay24 (F := Ideal) v (ix2 a d) = v (ix2 a d) := by
  pointwise [k0_pay24]

section Tile
variable (i : grid0.Coords) (c : Dev nD) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x256 .bf16) (harg8 : arg8.IsWhole) (arg9 : Memref sig .tc .vmem S1024x128 .bf16) (harg9 : arg9.IsWhole) (arg10 : Memref sig .tc .vmem S2x1024x256 .f32) (harg10 : arg10.IsWhole)
variable (x2 : Vec Ideal S1024x128 .bf16) (x3 : Vec Ideal S1024x128 .bf16) (x4 : Vec Ideal S8192x128 .bf16) (x5 : Vec Ideal S8192x128 .bf16) (x6 : Vec Ideal S8192x256 .bf16)

/-- The queries' blocks, per component. -/
def Qs : ℕ → ℕ → ℕ → EReal := fun b a d => if b = 0 then at2 (m := 1024) (n := 128) x2 a d else at2 (m := 1024) (n := 128) x3 a d
/-- The keys' blocks from row `o` on, per component. -/
def Ks (o : ℕ) : ℕ → ℕ → ℕ → EReal := fun b a d => if b = 0 then at2 (m := 8192) (n := 128) x4 (o + a) d else at2 (m := 8192) (n := 128) x5 (o + a) d
/-- The values' block from row `o` on. -/
def Vs (o : ℕ) : ℕ → ℕ → EReal := fun a e => at2 (m := 8192) (n := 256) x6 (o + a) e

/-- The first component's queries, loaded. -/
theorem q0_at (a : Fin 1024) (d : Fin 128) :
    View.readAt (Elt Ideal) arg4.view (Rect.unit (s := S1024x128) ![0, 0] S1024x128.size inb_S1024x128_S1024x128_0_0).toLoadRect (harg4.unread x2) (ix2 a d) = Qs x2 x3 0 a.val d.val :=
  (load_at (m := 1024) (n := 128) arg4 harg4 x2 _ rfl (ix2 a d)).trans (by show at2 (m := 1024) (n := 128) x2 (0 + a.val) d.val = _; rw [Nat.zero_add]; rfl)
/-- The second component's queries, loaded. -/
theorem q1_at (a : Fin 1024) (d : Fin 128) :
    View.readAt (Elt Ideal) arg5.view (Rect.unit (s := S1024x128) ![0, 0] S1024x128.size inb_S1024x128_S1024x128_0_0).toLoadRect (harg5.unread x3) (ix2 a d) = Qs x2 x3 1 a.val d.val :=
  (load_at (m := 1024) (n := 128) arg5 harg5 x3 _ rfl (ix2 a d)).trans (by show at2 (m := 1024) (n := 128) x3 (0 + a.val) d.val = _; rw [Nat.zero_add]; rfl)

/-- What the tile's stores leave in the accumulator, 0 keys of the tile's group before it. -/
theorem hs_A (hc0 : cond0_0 i) (o : ℕ) (e1 : k0_off1 i = ![o, 0]) (e2 : k0_off2 i = ![o, 0]) (e3 : k0_off3 i = ![o, 0]) (e4 : k0_off4 i = ![o, 0]) (y : S2x1024x256.Idx) :
    arg10.view.read (Elt Ideal) (arg10.view.writes (Elt Ideal) arg10.view.junk (kernelRun0_A.sl.HS0_4 (F := Ideal) c i arg4 harg4 arg5 harg5 arg6 harg6 arg7 harg7 arg8 harg8 hc0 x2 x3 x4 x5 x6)) y
      = tileG (Qs x2 x3) (Ks x4 x5 o) (Vs x6 o) 0 y := by
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  unfold kernelRun0_A.sl.HS0_4 kernelRun0_A.sl.r
  refine View.read_writes_apply_of_pieces (Val := Elt Ideal) (s := S2x1024x256) (e := .f32) arg10.view _ (tileG (Qs x2 x3) (Ks x4 x5 o) (Vs x6 o) 0) _ ?_ _ ?_
  · exact List.forall_mem_cons.2 ⟨ok_hi (Qs x2 x3) (Ks x4 x5 o) (Vs x6 o) 0 1 inb_S2x1024x256_S1x512x256_1_512_0 _ (fun ρ e => pay26_at _ _ _ (Qs x2 x3 1) (Ks x4 x5 o 1) (Vs x6 o) (fun a d => q1_at arg5 harg5 x2 x3 a d) (fun a d => load_at (m := 8192) (n := 128) arg7 harg7 x5 _ e3 (ix2 a d)) (fun a d => load_at (m := 8192) (n := 256) arg8 harg8 x6 _ e4 (ix2 a d)) ρ e),
      List.forall_mem_cons.2 ⟨ok_lo (Qs x2 x3) (Ks x4 x5 o) (Vs x6 o) 0 1 inb_S2x1024x256_S1x512x256_1_0_0 _ (fun ρ e => pay25_at _ _ _ (Qs x2 x3 1) (Ks x4 x5 o 1) (Vs x6 o) (fun a d => q1_at arg5 harg5 x2 x3 a d) (fun a d => load_at (m := 8192) (n := 128) arg7 harg7 x5 _ e1 (ix2 a d)) (fun a d => load_at (m := 8192) (n := 256) arg8 harg8 x6 _ e2 (ix2 a d)) ρ e),
      List.forall_mem_cons.2 ⟨ok_hi (Qs x2 x3) (Ks x4 x5 o) (Vs x6 o) 0 0 inb_S2x1024x256_S1x512x256_0_512_0 _ (fun ρ e => pay4_at _ _ _ (Qs x2 x3 0) (Ks x4 x5 o 0) (Vs x6 o) (fun a d => (pay23_at _ a d).trans (q0_at arg4 harg4 x2 x3 a d)) (fun a d => load_at (m := 8192) (n := 128) arg6 harg6 x4 _ e3 (ix2 a d)) (fun a d => load_at (m := 8192) (n := 256) arg8 harg8 x6 _ e4 (ix2 a d)) ρ e),
      List.forall_mem_cons.2 ⟨ok_lo (Qs x2 x3) (Ks x4 x5 o) (Vs x6 o) 0 0 inb_S2x1024x256_S1x512x256_0_0_0 _ (fun ρ e => pay3_at _ _ _ (Qs x2 x3 0) (Ks x4 x5 o 0) (Vs x6 o) (fun a d => (pay23_at _ a d).trans (q0_at arg4 harg4 x2 x3 a d)) (fun a d => load_at (m := 8192) (n := 128) arg6 harg6 x4 _ e1 (ix2 a d)) (fun a d => load_at (m := 8192) (n := 256) arg8 harg8 x6 _ e2 (ix2 a d)) ρ e),
        fun p hp => absurd hp List.not_mem_nil⟩⟩⟩⟩
  · rcases (show (y (0 : Fin 3)).val = 0 ∨ (y (0 : Fin 3)).val = 1 by omega) with hb | hb <;> rcases Nat.lt_or_ge (y (1 : Fin 3)).val 512 with h | h
    · exact ⟨_, List.mem_cons_of_mem _ (List.mem_cons_of_mem _ (List.mem_cons_of_mem _ List.mem_cons_self)), mem_box3 inb_S2x1024x256_S1x512x256_0_0_0 rfl rfl y (by omega) (by omega) (by omega)⟩
    · exact ⟨_, List.mem_cons_of_mem _ (List.mem_cons_of_mem _ List.mem_cons_self), mem_box3 inb_S2x1024x256_S1x512x256_0_512_0 rfl rfl y (by omega) (by omega) (by omega)⟩
    · exact ⟨_, List.mem_cons_of_mem _ List.mem_cons_self, mem_box3 inb_S2x1024x256_S1x512x256_1_0_0 rfl rfl y (by omega) (by omega) (by omega)⟩
    · exact ⟨_, List.mem_cons_self, mem_box3 inb_S2x1024x256_S1x512x256_1_512_0 rfl rfl y (by omega) (by omega) (by omega)⟩

/-- What the tile's stores leave in the accumulator, 1024 keys of the tile's group before it. -/
theorem hs_B (hc1 : cond0_1 i) (o : ℕ) (e5 : k0_off5 i = ![o, 0]) (e6 : k0_off6 i = ![o, 0]) (e7 : k0_off7 i = ![o, 0]) (e8 : k0_off8 i = ![o, 0]) (y : S2x1024x256.Idx) :
    arg10.view.read (Elt Ideal) (arg10.view.writes (Elt Ideal) arg10.view.junk (kernelRun0_B.sl.HS0_4 (F := Ideal) c i arg4 harg4 arg5 harg5 arg6 harg6 arg7 harg7 arg8 harg8 hc1 x2 x3 x4 x5 x6)) y
      = tileG (Qs x2 x3) (Ks x4 x5 o) (Vs x6 o) 1024 y := by
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  unfold kernelRun0_B.sl.HS0_4 kernelRun0_B.sl.r
  refine View.read_writes_apply_of_pieces (Val := Elt Ideal) (s := S2x1024x256) (e := .f32) arg10.view _ (tileG (Qs x2 x3) (Ks x4 x5 o) (Vs x6 o) 1024) _ ?_ _ ?_
  · exact List.forall_mem_cons.2 ⟨ok_hi (Qs x2 x3) (Ks x4 x5 o) (Vs x6 o) 1024 1 inb_S2x1024x256_S1x512x256_1_512_0 _ (fun ρ e => pay10_at _ _ _ (Qs x2 x3 1) (Ks x4 x5 o 1) (Vs x6 o) (fun a d => (pay24_at _ a d).trans (q1_at arg5 harg5 x2 x3 a d)) (fun a d => load_at (m := 8192) (n := 128) arg7 harg7 x5 _ e7 (ix2 a d)) (fun a d => load_at (m := 8192) (n := 256) arg8 harg8 x6 _ e8 (ix2 a d)) ρ e),
      List.forall_mem_cons.2 ⟨ok_lo (Qs x2 x3) (Ks x4 x5 o) (Vs x6 o) 1024 1 inb_S2x1024x256_S1x512x256_1_0_0 _ (fun ρ e => pay9_at _ _ _ (Qs x2 x3 1) (Ks x4 x5 o 1) (Vs x6 o) (fun a d => (pay24_at _ a d).trans (q1_at arg5 harg5 x2 x3 a d)) (fun a d => load_at (m := 8192) (n := 128) arg7 harg7 x5 _ e5 (ix2 a d)) (fun a d => load_at (m := 8192) (n := 256) arg8 harg8 x6 _ e6 (ix2 a d)) ρ e),
      List.forall_mem_cons.2 ⟨ok_hi (Qs x2 x3) (Ks x4 x5 o) (Vs x6 o) 1024 0 inb_S2x1024x256_S1x512x256_0_512_0 _ (fun ρ e => pay8_at _ _ _ (Qs x2 x3 0) (Ks x4 x5 o 0) (Vs x6 o) (fun a d => (pay23_at _ a d).trans (q0_at arg4 harg4 x2 x3 a d)) (fun a d => load_at (m := 8192) (n := 128) arg6 harg6 x4 _ e7 (ix2 a d)) (fun a d => load_at (m := 8192) (n := 256) arg8 harg8 x6 _ e8 (ix2 a d)) ρ e),
      List.forall_mem_cons.2 ⟨ok_lo (Qs x2 x3) (Ks x4 x5 o) (Vs x6 o) 1024 0 inb_S2x1024x256_S1x512x256_0_0_0 _ (fun ρ e => pay6_at _ _ _ (Qs x2 x3 0) (Ks x4 x5 o 0) (Vs x6 o) (fun a d => (pay23_at _ a d).trans (q0_at arg4 harg4 x2 x3 a d)) (fun a d => load_at (m := 8192) (n := 128) arg6 harg6 x4 _ e5 (ix2 a d)) (fun a d => load_at (m := 8192) (n := 256) arg8 harg8 x6 _ e6 (ix2 a d)) ρ e),
        fun p hp => absurd hp List.not_mem_nil⟩⟩⟩⟩
  · rcases (show (y (0 : Fin 3)).val = 0 ∨ (y (0 : Fin 3)).val = 1 by omega) with hb | hb <;> rcases Nat.lt_or_ge (y (1 : Fin 3)).val 512 with h | h
    · exact ⟨_, List.mem_cons_of_mem _ (List.mem_cons_of_mem _ (List.mem_cons_of_mem _ List.mem_cons_self)), mem_box3 inb_S2x1024x256_S1x512x256_0_0_0 rfl rfl y (by omega) (by omega) (by omega)⟩
    · exact ⟨_, List.mem_cons_of_mem _ (List.mem_cons_of_mem _ List.mem_cons_self), mem_box3 inb_S2x1024x256_S1x512x256_0_512_0 rfl rfl y (by omega) (by omega) (by omega)⟩
    · exact ⟨_, List.mem_cons_of_mem _ List.mem_cons_self, mem_box3 inb_S2x1024x256_S1x512x256_1_0_0 rfl rfl y (by omega) (by omega) (by omega)⟩
    · exact ⟨_, List.mem_cons_self, mem_box3 inb_S2x1024x256_S1x512x256_1_512_0 rfl rfl y (by omega) (by omega) (by omega)⟩

/-- What the tile's stores leave in the accumulator, 2048 keys of the tile's group before it. -/
theorem hs_C (hc2 : cond0_2 i) (o : ℕ) (e9 : k0_off9 i = ![o, 0]) (e10 : k0_off10 i = ![o, 0]) (e11 : k0_off11 i = ![o, 0]) (e12 : k0_off12 i = ![o, 0]) (y : S2x1024x256.Idx) :
    arg10.view.read (Elt Ideal) (arg10.view.writes (Elt Ideal) arg10.view.junk (kernelRun0_C.sl.HS0_4 (F := Ideal) c i arg4 harg4 arg5 harg5 arg6 harg6 arg7 harg7 arg8 harg8 hc2 x2 x3 x4 x5 x6)) y
      = tileG (Qs x2 x3) (Ks x4 x5 o) (Vs x6 o) 2048 y := by
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  unfold kernelRun0_C.sl.HS0_4 kernelRun0_C.sl.r kernelRun0_C.sl.r_1 kernelRun0_C.sl.r_2
  refine View.read_writes_apply_of_pieces (Val := Elt Ideal) (s := S2x1024x256) (e := .f32) arg10.view _ (tileG (Qs x2 x3) (Ks x4 x5 o) (Vs x6 o) 2048) _ ?_ _ ?_
  · exact List.forall_mem_cons.2 ⟨ok_hi (Qs x2 x3) (Ks x4 x5 o) (Vs x6 o) 2048 1 inb_S2x1024x256_S1x512x256_1_512_0 _ (fun ρ e => pay16_at _ _ _ (Qs x2 x3 1) (Ks x4 x5 o 1) (Vs x6 o) (fun a d => (pay24_at _ a d).trans (q1_at arg5 harg5 x2 x3 a d)) (fun a d => load_at (m := 8192) (n := 128) arg7 harg7 x5 _ e11 (ix2 a d)) (fun a d => load_at (m := 8192) (n := 256) arg8 harg8 x6 _ e12 (ix2 a d)) ρ e),
      List.forall_mem_cons.2 ⟨ok_lo (Qs x2 x3) (Ks x4 x5 o) (Vs x6 o) 2048 1 inb_S2x1024x256_S1x512x256_1_0_0 _ (fun ρ e => pay15_at _ _ _ (Qs x2 x3 1) (Ks x4 x5 o 1) (Vs x6 o) (fun a d => (pay24_at _ a d).trans (q1_at arg5 harg5 x2 x3 a d)) (fun a d => load_at (m := 8192) (n := 128) arg7 harg7 x5 _ e9 (ix2 a d)) (fun a d => load_at (m := 8192) (n := 256) arg8 harg8 x6 _ e10 (ix2 a d)) ρ e),
      List.forall_mem_cons.2 ⟨ok_hi (Qs x2 x3) (Ks x4 x5 o) (Vs x6 o) 2048 0 inb_S2x1024x256_S1x512x256_0_512_0 _ (fun ρ e => pay14_at _ _ _ (Qs x2 x3 0) (Ks x4 x5 o 0) (Vs x6 o) (fun a d => (pay23_at _ a d).trans (q0_at arg4 harg4 x2 x3 a d)) (fun a d => load_at (m := 8192) (n := 128) arg6 harg6 x4 _ e11 (ix2 a d)) (fun a d => load_at (m := 8192) (n := 256) arg8 harg8 x6 _ e12 (ix2 a d)) ρ e),
      List.forall_mem_cons.2 ⟨ok_lo (Qs x2 x3) (Ks x4 x5 o) (Vs x6 o) 2048 0 inb_S2x1024x256_S1x512x256_0_0_0 _ (fun ρ e => pay12_at _ _ _ (Qs x2 x3 0) (Ks x4 x5 o 0) (Vs x6 o) (fun a d => (pay23_at _ a d).trans (q0_at arg4 harg4 x2 x3 a d)) (fun a d => load_at (m := 8192) (n := 128) arg6 harg6 x4 _ e9 (ix2 a d)) (fun a d => load_at (m := 8192) (n := 256) arg8 harg8 x6 _ e10 (ix2 a d)) ρ e),
        fun p hp => absurd hp List.not_mem_nil⟩⟩⟩⟩
  · rcases (show (y (0 : Fin 3)).val = 0 ∨ (y (0 : Fin 3)).val = 1 by omega) with hb | hb <;> rcases Nat.lt_or_ge (y (1 : Fin 3)).val 512 with h | h
    · exact ⟨_, List.mem_cons_of_mem _ (List.mem_cons_of_mem _ (List.mem_cons_of_mem _ List.mem_cons_self)), mem_box3 inb_S2x1024x256_S1x512x256_0_0_0 rfl rfl y (by omega) (by omega) (by omega)⟩
    · exact ⟨_, List.mem_cons_of_mem _ (List.mem_cons_of_mem _ List.mem_cons_self), mem_box3 inb_S2x1024x256_S1x512x256_0_512_0 rfl rfl y (by omega) (by omega) (by omega)⟩
    · exact ⟨_, List.mem_cons_of_mem _ List.mem_cons_self, mem_box3 inb_S2x1024x256_S1x512x256_1_0_0 rfl rfl y (by omega) (by omega) (by omega)⟩
    · exact ⟨_, List.mem_cons_self, mem_box3 inb_S2x1024x256_S1x512x256_1_512_0 rfl rfl y (by omega) (by omega) (by omega)⟩

/-- What the tile's stores leave in the accumulator, 3072 keys of the tile's group before it. -/
theorem hs_D (hc3 : cond0_3 i) (o : ℕ) (e13 : k0_off13 i = ![o, 0]) (e14 : k0_off14 i = ![o, 0]) (e15 : k0_off15 i = ![o, 0]) (e16 : k0_off16 i = ![o, 0]) (y : S2x1024x256.Idx) :
    arg10.view.read (Elt Ideal) (arg10.view.writes (Elt Ideal) arg10.view.junk (kernelRun0_D.sl.HS0_4 (F := Ideal) c i arg4 harg4 arg5 harg5 arg6 harg6 arg7 harg7 arg8 harg8 hc3 x2 x3 x4 x5 x6)) y
      = tileG (Qs x2 x3) (Ks x4 x5 o) (Vs x6 o) 3072 y := by
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  unfold kernelRun0_D.sl.HS0_4 kernelRun0_D.sl.r kernelRun0_D.sl.r_1 kernelRun0_D.sl.r_2
  refine View.read_writes_apply_of_pieces (Val := Elt Ideal) (s := S2x1024x256) (e := .f32) arg10.view _ (tileG (Qs x2 x3) (Ks x4 x5 o) (Vs x6 o) 3072) _ ?_ _ ?_
  · exact List.forall_mem_cons.2 ⟨ok_hi (Qs x2 x3) (Ks x4 x5 o) (Vs x6 o) 3072 1 inb_S2x1024x256_S1x512x256_1_512_0 _ (fun ρ e => pay22_at _ _ _ (Qs x2 x3 1) (Ks x4 x5 o 1) (Vs x6 o) (fun a d => (pay24_at _ a d).trans (q1_at arg5 harg5 x2 x3 a d)) (fun a d => load_at (m := 8192) (n := 128) arg7 harg7 x5 _ e15 (ix2 a d)) (fun a d => load_at (m := 8192) (n := 256) arg8 harg8 x6 _ e16 (ix2 a d)) ρ e),
      List.forall_mem_cons.2 ⟨ok_lo (Qs x2 x3) (Ks x4 x5 o) (Vs x6 o) 3072 1 inb_S2x1024x256_S1x512x256_1_0_0 _ (fun ρ e => pay21_at _ _ _ (Qs x2 x3 1) (Ks x4 x5 o 1) (Vs x6 o) (fun a d => (pay24_at _ a d).trans (q1_at arg5 harg5 x2 x3 a d)) (fun a d => load_at (m := 8192) (n := 128) arg7 harg7 x5 _ e13 (ix2 a d)) (fun a d => load_at (m := 8192) (n := 256) arg8 harg8 x6 _ e14 (ix2 a d)) ρ e),
      List.forall_mem_cons.2 ⟨ok_hi (Qs x2 x3) (Ks x4 x5 o) (Vs x6 o) 3072 0 inb_S2x1024x256_S1x512x256_0_512_0 _ (fun ρ e => pay20_at _ _ _ (Qs x2 x3 0) (Ks x4 x5 o 0) (Vs x6 o) (fun a d => (pay23_at _ a d).trans (q0_at arg4 harg4 x2 x3 a d)) (fun a d => load_at (m := 8192) (n := 128) arg6 harg6 x4 _ e15 (ix2 a d)) (fun a d => load_at (m := 8192) (n := 256) arg8 harg8 x6 _ e16 (ix2 a d)) ρ e),
      List.forall_mem_cons.2 ⟨ok_lo (Qs x2 x3) (Ks x4 x5 o) (Vs x6 o) 3072 0 inb_S2x1024x256_S1x512x256_0_0_0 _ (fun ρ e => pay18_at _ _ _ (Qs x2 x3 0) (Ks x4 x5 o 0) (Vs x6 o) (fun a d => (pay23_at _ a d).trans (q0_at arg4 harg4 x2 x3 a d)) (fun a d => load_at (m := 8192) (n := 128) arg6 harg6 x4 _ e13 (ix2 a d)) (fun a d => load_at (m := 8192) (n := 256) arg8 harg8 x6 _ e14 (ix2 a d)) ρ e),
        fun p hp => absurd hp List.not_mem_nil⟩⟩⟩⟩
  · rcases (show (y (0 : Fin 3)).val = 0 ∨ (y (0 : Fin 3)).val = 1 by omega) with hb | hb <;> rcases Nat.lt_or_ge (y (1 : Fin 3)).val 512 with h | h
    · exact ⟨_, List.mem_cons_of_mem _ (List.mem_cons_of_mem _ (List.mem_cons_of_mem _ List.mem_cons_self)), mem_box3 inb_S2x1024x256_S1x512x256_0_0_0 rfl rfl y (by omega) (by omega) (by omega)⟩
    · exact ⟨_, List.mem_cons_of_mem _ (List.mem_cons_of_mem _ List.mem_cons_self), mem_box3 inb_S2x1024x256_S1x512x256_0_512_0 rfl rfl y (by omega) (by omega) (by omega)⟩
    · exact ⟨_, List.mem_cons_of_mem _ List.mem_cons_self, mem_box3 inb_S2x1024x256_S1x512x256_1_0_0 rfl rfl y (by omega) (by omega) (by omega)⟩
    · exact ⟨_, List.mem_cons_self, mem_box3 inb_S2x1024x256_S1x512x256_1_512_0 rfl rfl y (by omega) (by omega) (by omega)⟩

/-! ## The loop over the keys before -/

/-- One trip over 4096 keys before the tile's group. -/
theorem trip_at (v1 v3 : FVec Ideal S1024x128 .bf16) (hv1 : ∀ (a : Fin 1024) (d : Fin 128), v1 (ix2 a d) = Qs x2 x3 0 a.val d.val) (hv3 : ∀ (a : Fin 1024) (d : Fin 128), v3 (ix2 a d) = Qs x2 x3 1 a.val d.val)
    (arg1 v20 : BitVec 32) (k : Fin (k0_t1_loop i).trips) (e17 : k0_off17 i k = ![0, 0]) (e18 : k0_off18 i k = ![0, 0]) (n : ℕ)
    (f : BufTy.Contents (Elt Ideal) arg10.view.ty) (hf : ∀ y : S2x1024x256.Idx, arg10.view.read (Elt Ideal) f y = tileG (Qs x2 x3) (Ks x4 x5 4096) (Vs x6 4096) n y) (y : S2x1024x256.Idx) :
    arg10.view.read (Elt Ideal) (arg10.view.writes (Elt Ideal) f (tripL_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) k f)) y
      = tileG (Qs x2 x3) (Ks x4 x5 0) (Vs x6 0) (4096 + n) y := by
  have h0 : (y (0 : Fin 3)).val < 2 := (y (0 : Fin 3)).isLt
  have h1 : (y (1 : Fin 3)).val < 1024 := (y (1 : Fin 3)).isLt
  have h2 : (y (2 : Fin 3)).val < 256 := (y (2 : Fin 3)).isLt
  have hj : ∀ (b ρ e : ℕ), b < 2 → ∑ t ∈ Finset.range (n + (0 + ρ) + 1), term (Qs x2 x3 b) (Ks x4 x5 4096 b) (Vs x6 4096) (0 + ρ) e t + ∑ t ∈ Finset.range 4096, term (Qs x2 x3 b) (Ks x4 x5 0 b) (Vs x6 0) ρ e t
      = ∑ t ∈ Finset.range (4096 + n + (0 + ρ) + 1), term (Qs x2 x3 b) (Ks x4 x5 0 b) (Vs x6 0) (0 + ρ) e t := by
    intro b ρ e _
    rw [Nat.zero_add, add_comm, show 4096 + n + ρ + 1 = 4096 + (n + ρ + 1) by omega]
    refine Eq.trans ?_ (sum_join (term (Qs x2 x3 b) (Ks x4 x5 0 b) (Vs x6 0) ρ e) 4096 (n + ρ + 1))
    refine congrArg₂ (fun a b : EReal => a + b) rfl (Finset.sum_congr rfl fun t _ => ?_)
    unfold term Ks Vs
    simp only [Nat.zero_add]
  unfold tripL_k0_t1 trip_k0_t1 trip_k0_t1.sl.v117
  dsimp only
  refine View.read_writes_apply_of_pieces (Val := Elt Ideal) (s := S2x1024x256) (e := .f32) arg10.view _ (tileG (Qs x2 x3) (Ks x4 x5 0) (Vs x6 0) (4096 + n)) _ ?_ _ ?_
  · refine List.forall_mem_cons.2 ⟨fun (x : S1x1024x256.Idx) => ?_, List.forall_mem_cons.2 ⟨fun (x : S1x1024x256.Idx) => ?_, fun p hp => absurd hp List.not_mem_nil⟩⟩
    · obtain ⟨ρ, e, rfl⟩ : ∃ (ρ : Fin 1024) (e : Fin 256), x = ix3 0 ρ e := ⟨x 1, x 2, (eq_ix3 x).trans (congrArg (fun z => ix3 z (x 1) (x 2)) (Subsingleton.elim (α := Fin 1) _ _))⟩
      refine (pay29_at _ _ _ _ (Qs x2 x3 1) (Ks x4 x5 0 1) (Vs x6 0) hv3 (fun a d => load_at (m := 8192) (n := 128) arg7 harg7 x5 _ e18 (ix2 a d)) (fun a d => load_at (m := 8192) (n := 256) arg8 harg8 x6 _ e17 (ix2 a d)) ρ e).trans ?_
      refine Eq.trans ?_ (tile_emb (Qs x2 x3) (Ks x4 x5 0) (Vs x6 0) (4096 + n) inb_S2x1024x256_S1x1024x256_1_0_0 rfl (ix3 0 ρ e) rfl).symm
      refine Eq.trans (congrArg (· + _) ?_) (hj 1 ρ.val e.val (by decide))
      exact (hf _).trans (tile_emb (Qs x2 x3) (Ks x4 x5 4096) (Vs x6 4096) n inb_S2x1024x256_S1x1024x256_1_0_0 rfl (ix3 0 ρ e) rfl)
    · obtain ⟨ρ, e, rfl⟩ : ∃ (ρ : Fin 1024) (e : Fin 256), x = ix3 0 ρ e := ⟨x 1, x 2, (eq_ix3 x).trans (congrArg (fun z => ix3 z (x 1) (x 2)) (Subsingleton.elim (α := Fin 1) _ _))⟩
      refine (pay28_at _ _ _ _ (Qs x2 x3 0) (Ks x4 x5 0 0) (Vs x6 0) hv1 (fun a d => load_at (m := 8192) (n := 128) arg6 harg6 x4 _ e18 (ix2 a d)) (fun a d => load_at (m := 8192) (n := 256) arg8 harg8 x6 _ e17 (ix2 a d)) ρ e).trans ?_
      refine Eq.trans ?_ (tile_emb (Qs x2 x3) (Ks x4 x5 0) (Vs x6 0) (4096 + n) inb_S2x1024x256_S1x1024x256_0_0_0 rfl (ix3 0 ρ e) rfl).symm
      refine Eq.trans (congrArg (· + _) ?_) (hj 0 ρ.val e.val (by decide))
      exact (hf _).trans (tile_emb (Qs x2 x3) (Ks x4 x5 4096) (Vs x6 4096) n inb_S2x1024x256_S1x1024x256_0_0_0 rfl (ix3 0 ρ e) rfl)
  · rcases (show (y (0 : Fin 3)).val = 0 ∨ (y (0 : Fin 3)).val = 1 by omega) with hb | hb
    · exact ⟨_, List.mem_cons_of_mem _ List.mem_cons_self, mem_box3 inb_S2x1024x256_S1x1024x256_0_0_0 rfl rfl y (by omega) (by omega) (by omega)⟩
    · exact ⟨_, List.mem_cons_self, mem_box3 inb_S2x1024x256_S1x1024x256_1_0_0 rfl rfl y (by omega) (by omega) (by omega)⟩

/-- What the tile and both loops leave in the accumulator: the second loop has no trip, the first one at most. -/
theorem acc_at (v1 v3 : FVec Ideal S1024x128 .bf16) (hv1 : ∀ (a : Fin 1024) (d : Fin 128), v1 (ix2 a d) = Qs x2 x3 0 a.val d.val) (hv3 : ∀ (a : Fin 1024) (d : Fin 128), v3 (ix2 a d) = Qs x2 x3 1 a.val d.val)
    (arg1 v20 : BitVec 32) (p n : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0])
    (HS : List (View.Piece (Elt Ideal) S2x1024x256 .f32))
    (hHS : ∀ y : S2x1024x256.Idx, arg10.view.read (Elt Ideal) (arg10.view.writes (Elt Ideal) arg10.view.junk HS) y = tileG (Qs x2 x3) (Ks x4 x5 (4096 * p)) (Vs x6 (4096 * p)) n y) (y : S2x1024x256.Idx) :
    arg10.view.read (Elt Ideal) (arg10.view.writes (Elt Ideal) arg10.view.junk
      (pb_k0_t2 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6)
          (arg10.view.writes (Elt Ideal) arg10.view.junk
            (pb_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6)
                (arg10.view.writes (Elt Ideal) arg10.view.junk HS) (k0_t1_loop i).trips ++ HS))
          (k0_t2_loop i).trips ++
        (pb_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6)
            (arg10.view.writes (Elt Ideal) arg10.view.junk HS) (k0_t1_loop i).trips ++ HS))) y
      = tileG (Qs x2 x3) (Ks x4 x5 0) (Vs x6 0) (4096 * p + n) y := by
  rw [ht2, show ∀ G, pb_k0_t2 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) G 0 = [] from fun _ => rfl, List.nil_append, View.writes_append]
  rcases (show p = 0 ∨ p = 1 by omega) with rfl | rfl
  · rw [ht1]
    refine (hHS y).trans ?_
    rw [Nat.mul_zero, Nat.zero_add]
  · have hk : 0 < (k0_t1_loop i).trips := by omega
    rw [show pb_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) (arg10.view.writes (Elt Ideal) arg10.view.junk HS) (k0_t1_loop i).trips
        = tripL_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) ⟨0, hk⟩ (arg10.view.writes (Elt Ideal) arg10.view.junk HS)
      from (congrArg (pb_k0_t1 (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) (arg10.view.writes (Elt Ideal) arg10.view.junk HS)) ht1).trans
        ((pb_k0_t1_succ (F := Ideal) Variants.none c none i arg2 harg2 arg3 harg3 arg4 harg4 arg5 harg5 arg6 harg6 arg7 harg7 arg8 harg8 arg9 harg9 arg10 harg10 arg1 v1 v3 v20 (harg6.unread x4) (harg7.unread x5) (harg8.unread x6) (arg10.view.writes (Elt Ideal) arg10.view.junk HS) ⟨0, hk⟩).trans (List.append_nil _))]
    exact trip_at i c arg2 harg2 arg3 harg3 arg4 harg4 arg5 harg5 arg6 harg6 arg7 harg7 arg8 harg8 arg9 harg9 arg10 harg10 x2 x3 x4 x5 x6 v1 v3 hv1 hv3 arg1 v20 ⟨0, hk⟩ (e17 _).1 (e17 _).2 n _ hHS y

end Tile

end Cert.Proof.Att

end
-- ==== Proof.AttOut.lean ====
/-
  The attention's output block: what one grid point stores, from the accumulator and the weight.
-/
module

public import proofs.«01_k».proof.Proof.AttAcc

@[expose] public section

set_option maxRecDepth 16384

noncomputable section

namespace Cert.Proof.Att

open Cert.Kernel4Ideal Cert.Kernel4Ideal.Gen
open Idealize.ShloMosaic Idealize.ShloMosaic.TcCoe Idealize.SL.Sem
open Cert.Proof.Ffn (at2 at2_eq box2 unit_coord)

/-- A component's whole slab of the accumulator. -/
theorem slab_at (Q K : ℕ → ℕ → ℕ → EReal) (V : ℕ → ℕ → EReal) (n b : ℕ) (inb : ∀ a, (![b, 0, 0] : Fin 3 → ℕ) a + S1x1024x256.size a ≤ S2x1024x256.size a) (ρ : Fin 1024) (l : Fin 256) :
    tileG Q K V n ((Rect.unit (s := S2x1024x256) ![b, 0, 0] S1x1024x256.size inb).emb (ix3 0 ρ l)) = ∑ t ∈ Finset.range (n + ρ.val + 1), term (Q b) (K b) V ρ.val l.val t := by
  refine (tile_emb Q K V n inb rfl (ix3 0 ρ l) rfl).trans ?_
  show ∑ t ∈ Finset.range (n + (0 + ρ.val) + 1), term (Q b) (K b) V (0 + ρ.val) l.val t = _
  rw [Nat.zero_add]

/-- A load of a whole buffer that holds an array. -/
theorem load_whole {m n : ℕ} (arg : Memref sig .tc .vmem ⟨2, ![m, n]⟩ .f32) (harg : arg.IsWhole) (x : Vec Ideal ⟨2, ![m, n]⟩ .f32)
    (inb : ∀ a, (![0, 0] : Fin 2 → ℕ) a + (⟨2, ![m, n]⟩ : Shape).size a ≤ (⟨2, ![m, n]⟩ : Shape).size a) (a : Fin m) (d : Fin n) :
    View.readAt (Elt Ideal) arg.view (Rect.unit (s := ⟨2, ![m, n]⟩) ![0, 0] (⟨2, ![m, n]⟩ : Shape).size inb).toLoadRect (harg.unread x) (ix2 a d) = x (ix2 a d) := by
  refine (box2 (m := m) (n := n) (arg.view.read (Elt Ideal) (harg.unread x)) inb rfl (ix2 a d) (Nat.zero_add _) (Nat.zero_add _)).trans ?_
  rw [harg.read_unread]
  exact (at2_eq (m := m) (n := n) x (ix2 a d) rfl rfl).symm

section Out
variable (i : grid0.Coords) (c : Dev nD) (arg2 : Memref sig .tc .vmem S4x64 .f32) (harg2 : arg2.IsWhole) (arg3 : Memref sig .tc .vmem S1x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x256 .bf16) (harg8 : arg8.IsWhole) (arg9 : Memref sig .tc .vmem S1024x128 .bf16) (harg9 : arg9.IsWhole) (arg10 : Memref sig .tc .vmem S2x1024x256 .f32) (harg10 : arg10.IsWhole)
variable (x0 : Vec Ideal S4x64 .f32) (x1 : Vec Ideal S1x128 .f32) (x2 : Vec Ideal S1024x128 .bf16) (x3 : Vec Ideal S1024x128 .bf16) (x4 : Vec Ideal S8192x128 .bf16) (x5 : Vec Ideal S8192x128 .bf16) (x6 : Vec Ideal S8192x256 .bf16)

/-- Component `b`'s sum over the keys up to query `ρ` of the tile, `n` keys before the tile, at column `l`. -/
def slab (n b ρ l : ℕ) : EReal := ∑ t ∈ Finset.range (n + ρ + 1), term (Qs x2 x3 b) (Ks x4 x5 0 b) (Vs x6 0) ρ l t

/-- The second component's weight from the block of its rows. -/
def lamB : EReal := Ideal.exp (∑ x : Fin 64, x0 (ix2 0 x) * x0 (ix2 1 x)) - Ideal.exp (∑ x : Fin 64, x0 (ix2 2 x) * x0 (ix2 3 x)) + Ideal.ofBits FTy.f32 0x3E4CCCCD#32

/-- The difference of the two attentions, from the blocks. -/
def mixB (n ρ l : ℕ) : EReal :=
  Ideal.div (slab x2 x3 x4 x5 x6 n 0 ρ l) (slab x2 x3 x4 x5 x6 n 0 ρ (128 + l)) - lamB x0 * Ideal.div (slab x2 x3 x4 x5 x6 n 1 ρ l) (slab x2 x3 x4 x5 x6 n 1 ρ (128 + l))

/-- A block of one store of the normalised difference, read back. -/
theorem stored (y : FVec Ideal S1x1 .f32) (a b : FVec Ideal S1024x128 .f32) (g : Vec Ideal S1x128 .f32) (n : ℕ)
    (hx : ∀ (ρ : Fin 1024) (e : Fin 128), a (ix2 ρ e) - y (ix2 0 0) * b (ix2 ρ e) = mixB x0 x2 x3 x4 x5 x6 n ρ.val e.val) (hg : ∀ e : Fin 128, g (ix2 0 e) = x1 (ix2 0 e)) (ρ : Fin 1024) (e : Fin 128) :
    (VO0_7.read (Elt Ideal) (VO0_7.writes (Elt Ideal) VO0_7.junk [⟨Rect.unit (s := S1024x128) ![0, 0] S1024x128.size inb_S1024x128_S1024x128_0_0, k0_pay1 (F := Ideal) y a b g⟩]) : S1024x128.Idx → EReal) (ix2 ρ e)
      = headNorm (mixB x0 x2 x3 x4 x5 x6 n ρ.val) (x1 (ix2 0 e)) e.val := by
  refine View.read_writes_apply_of_pieces (Val := Elt Ideal) (s := S1024x128) (e := .bf16) VO0_7 _
    (fun z => headNorm (mixB x0 x2 x3 x4 x5 x6 n (z (0 : Fin 2)).val) (at2 (m := 1) (n := 128) x1 0 (z (1 : Fin 2)).val) (z (1 : Fin 2)).val) _ ?_ (ix2 ρ e) ?_ |>.trans ?_
  · refine List.forall_mem_cons.2 ⟨fun z => ?_, fun p hp => absurd hp List.not_mem_nil⟩
    obtain ⟨ρ', e', rfl⟩ : ∃ (ρ' : Fin 1024) (e' : Fin 128), z = ix2 ρ' e' := ⟨z 0, z 1, eq_ix2 z⟩
    refine (pay1_at y a b g (mixB x0 x2 x3 x4 x5 x6 n ρ'.val) ρ' (hx ρ') e').trans ?_
    have f0 : ((Rect.unit (s := S1024x128) ![0, 0] S1024x128.size inb_S1024x128_S1024x128_0_0).emb (ix2 ρ' e') (0 : Fin 2)).val = ρ'.val :=
      (unit_coord (s := S1024x128) (inb := inb_S1024x128_S1024x128_0_0) rfl (ix2 ρ' e') (0 : Fin 2)).trans (Nat.zero_add _)
    have f1 : ((Rect.unit (s := S1024x128) ![0, 0] S1024x128.size inb_S1024x128_S1024x128_0_0).emb (ix2 ρ' e') (1 : Fin 2)).val = e'.val :=
      (unit_coord (s := S1024x128) (inb := inb_S1024x128_S1024x128_0_0) rfl (ix2 ρ' e') (1 : Fin 2)).trans (Nat.zero_add _)
    show _ = headNorm (mixB x0 x2 x3 x4 x5 x6 n ((Rect.unit (s := S1024x128) ![0, 0] S1024x128.size inb_S1024x128_S1024x128_0_0).emb (ix2 ρ' e') (0 : Fin 2)).val)
      (at2 (m := 1) (n := 128) x1 0 ((Rect.unit (s := S1024x128) ![0, 0] S1024x128.size inb_S1024x128_S1024x128_0_0).emb (ix2 ρ' e') (1 : Fin 2)).val)
      ((Rect.unit (s := S1024x128) ![0, 0] S1024x128.size inb_S1024x128_S1024x128_0_0).emb (ix2 ρ' e') (1 : Fin 2)).val
    rw [f0, f1, hg e']
    exact congrArg (fun w => headNorm _ w e'.val) (at2_eq (m := 1) (n := 128) x1 (ix2 0 e') rfl rfl)
  · exact ⟨_, List.mem_cons_self, Rect.mem_set_unit (inb := inb_S1024x128_S1024x128_0_0) |>.2 (Fin.forall_fin_succ.2 ⟨⟨Nat.zero_le _, by show ρ.val < 0 + 1024; omega⟩, Fin.forall_fin_succ.2 ⟨⟨Nat.zero_le _, by show e.val < 0 + 128; omega⟩, fun i => i.elim0⟩⟩)⟩
  · exact congrArg (fun w => headNorm _ w e.val) (at2_eq (m := 1) (n := 128) x1 (ix2 0 e) rfl rfl).symm

/-- Component 0's attention at a point of residue 0. -/
theorem att_A0 (hc0 : cond0_0 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e1 : k0_off1 i = ![4096 * p, 0]) (e2 : k0_off2 i = ![4096 * p, 0]) (e3 : k0_off3 i = ![4096 * p, 0]) (e4 : k0_off4 i = ![4096 * p, 0]) (ρ : Fin 1024) (e : Fin 128) :
    kernelRun0_A.sl.r_4 (F := Ideal) c i arg2 harg2 arg3 harg3 arg4 harg4 arg5 harg5 arg6 harg6 arg7 harg7 arg8 harg8 arg9 harg9 arg10 harg10 hc0 x2 x3 x4 x5 x6 (ix2 ρ e) = Ideal.div (slab x2 x3 x4 x5 x6 (4096 * p + 0) 0 ρ.val e.val) (slab x2 x3 x4 x5 x6 (4096 * p + 0) 0 ρ.val (128 + e.val)) := by
  have h : ∀ l : Fin 256, kernelRun0_A.sl.v46 (F := Ideal) c i arg2 harg2 arg3 harg3 arg4 harg4 arg5 harg5 arg6 harg6 arg7 harg7 arg8 harg8 arg9 harg9 arg10 harg10 hc0 x2 x3 x4 x5 x6 (ix3 0 ρ l) = slab x2 x3 x4 x5 x6 (4096 * p + 0) 0 ρ.val l.val := fun l => by
    unfold kernelRun0_A.sl.v46
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 0 hp ht1 ht2 e17 _
      (hs_A i c arg4 harg4 arg5 harg5 arg6 harg6 arg7 harg7 arg8 harg8 arg10 x2 x3 x4 x5 x6 hc0 (4096 * p) e1 e2 e3 e4) _).trans (slab_at (Qs x2 x3) (Ks x4 x5 0) (Vs x6 0) (4096 * p + 0) 0 inb_S2x1024x256_S1x1024x256_0_0_0 ρ l)
  unfold kernelRun0_A.sl.r_4
  exact (pay34_at _ ρ e).trans (congrArg₂ Ideal.div (h ⟨e.val, by omega⟩) (h ⟨128 + e.val, by omega⟩))

/-- Component 1's attention at a point of residue 0. -/
theorem att_A1 (hc0 : cond0_0 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e1 : k0_off1 i = ![4096 * p, 0]) (e2 : k0_off2 i = ![4096 * p, 0]) (e3 : k0_off3 i = ![4096 * p, 0]) (e4 : k0_off4 i = ![4096 * p, 0]) (ρ : Fin 1024) (e : Fin 128) :
    kernelRun0_A.sl.r_5 (F := Ideal) c i arg2 harg2 arg3 harg3 arg4 harg4 arg5 harg5 arg6 harg6 arg7 harg7 arg8 harg8 arg9 harg9 arg10 harg10 hc0 x2 x3 x4 x5 x6 (ix2 ρ e) = Ideal.div (slab x2 x3 x4 x5 x6 (4096 * p + 0) 1 ρ.val e.val) (slab x2 x3 x4 x5 x6 (4096 * p + 0) 1 ρ.val (128 + e.val)) := by
  have h : ∀ l : Fin 256, kernelRun0_A.sl.v48 (F := Ideal) c i arg2 harg2 arg3 harg3 arg4 harg4 arg5 harg5 arg6 harg6 arg7 harg7 arg8 harg8 arg9 harg9 arg10 harg10 hc0 x2 x3 x4 x5 x6 (ix3 0 ρ l) = slab x2 x3 x4 x5 x6 (4096 * p + 0) 1 ρ.val l.val := fun l => by
    unfold kernelRun0_A.sl.v48
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 0 hp ht1 ht2 e17 _
      (hs_A i c arg4 harg4 arg5 harg5 arg6 harg6 arg7 harg7 arg8 harg8 arg10 x2 x3 x4 x5 x6 hc0 (4096 * p) e1 e2 e3 e4) _).trans (slab_at (Qs x2 x3) (Ks x4 x5 0) (Vs x6 0) (4096 * p + 0) 1 inb_S2x1024x256_S1x1024x256_1_0_0 ρ l)
  unfold kernelRun0_A.sl.r_5
  exact (pay35_at _ ρ e).trans (congrArg₂ Ideal.div (h ⟨e.val, by omega⟩) (h ⟨128 + e.val, by omega⟩))

/-- What a point of residue 0 leaves in the output's block. -/
theorem out_A (hc0 : cond0_0 i) (hc1 : ¬cond0_1 i) (hc2 : ¬cond0_2 i) (hc3 : ¬cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e1 : k0_off1 i = ![4096 * p, 0]) (e2 : k0_off2 i = ![4096 * p, 0]) (e3 : k0_off3 i = ![4096 * p, 0]) (e4 : k0_off4 i = ![4096 * p, 0]) (ρ : Fin 1024) (e : Fin 128) :
    (out0_A_7 (F := Ideal) c i arg2 harg2 arg3 harg3 arg4 harg4 arg5 harg5 arg6 harg6 arg7 harg7 arg8 harg8 arg9 harg9 arg10 harg10 hc0 hc1 hc2 hc3 x0 x1 x2 x3 x4 x5 x6 : S1024x128.Idx → EReal) (ix2 ρ e) = headNorm (mixB x0 x2 x3 x4 x5 x6 (4096 * p + 0) ρ.val) (x1 (ix2 0 e)) e.val := by
  have hl : kernelRun0_A.sl.r_3 (F := Ideal) c arg2 harg2 x0 (ix2 0 0) = lamB x0 := by
    unfold kernelRun0_A.sl.r_3
    refine (pay33_at _).trans ?_
    unfold lamB
    simp only [load_whole (m := 4) (n := 64) arg2 harg2 x0 inb_S4x64_S4x64_0_0]
  unfold out0_A_7 kernelRun0_A
  dsimp only
  refine stored x0 x1 x2 x3 x4 x5 x6 _ _ _ _ (4096 * p + 0) (fun ρ e => ?_) (fun e => load_whole (m := 1) (n := 128) arg3 harg3 x1 inb_S1x128_S1x128_0_0 0 e) ρ e
  unfold mixB
  rw [hl, att_A0 i c arg2 harg2 arg3 harg3 arg4 harg4 arg5 harg5 arg6 harg6 arg7 harg7 arg8 harg8 arg9 harg9 arg10 harg10 x2 x3 x4 x5 x6 hc0 p hp ht1 ht2 e17 e1 e2 e3 e4 ρ e, att_A1 i c arg2 harg2 arg3 harg3 arg4 harg4 arg5 harg5 arg6 harg6 arg7 harg7 arg8 harg8 arg9 harg9 arg10 harg10 x2 x3 x4 x5 x6 hc0 p hp ht1 ht2 e17 e1 e2 e3 e4 ρ e]

/-- Component 0's attention at a point of residue 1. -/
theorem att_B0 (hc1 : cond0_1 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e5 : k0_off5 i = ![4096 * p, 0]) (e6 : k0_off6 i = ![4096 * p, 0]) (e7 : k0_off7 i = ![4096 * p, 0]) (e8 : k0_off8 i = ![4096 * p, 0]) (ρ : Fin 1024) (e : Fin 128) :
    kernelRun0_B.sl.r_4 (F := Ideal) c i arg2 harg2 arg3 harg3 arg4 harg4 arg5 harg5 arg6 harg6 arg7 harg7 arg8 harg8 arg9 harg9 arg10 harg10 hc1 x2 x3 x4 x5 x6 (ix2 ρ e) = Ideal.div (slab x2 x3 x4 x5 x6 (4096 * p + 1024) 0 ρ.val e.val) (slab x2 x3 x4 x5 x6 (4096 * p + 1024) 0 ρ.val (128 + e.val)) := by
  have h : ∀ l : Fin 256, kernelRun0_B.sl.v46 (F := Ideal) c i arg2 harg2 arg3 harg3 arg4 harg4 arg5 harg5 arg6 harg6 arg7 harg7 arg8 harg8 arg9 harg9 arg10 harg10 hc1 x2 x3 x4 x5 x6 (ix3 0 ρ l) = slab x2 x3 x4 x5 x6 (4096 * p + 1024) 0 ρ.val l.val := fun l => by
    unfold kernelRun0_B.sl.v46
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 1024 hp ht1 ht2 e17 _
      (hs_B i c arg4 harg4 arg5 harg5 arg6 harg6 arg7 harg7 arg8 harg8 arg10 x2 x3 x4 x5 x6 hc1 (4096 * p) e5 e6 e7 e8) _).trans (slab_at (Qs x2 x3) (Ks x4 x5 0) (Vs x6 0) (4096 * p + 1024) 0 inb_S2x1024x256_S1x1024x256_0_0_0 ρ l)
  unfold kernelRun0_B.sl.r_4
  exact (pay34_at _ ρ e).trans (congrArg₂ Ideal.div (h ⟨e.val, by omega⟩) (h ⟨128 + e.val, by omega⟩))

/-- Component 1's attention at a point of residue 1. -/
theorem att_B1 (hc1 : cond0_1 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e5 : k0_off5 i = ![4096 * p, 0]) (e6 : k0_off6 i = ![4096 * p, 0]) (e7 : k0_off7 i = ![4096 * p, 0]) (e8 : k0_off8 i = ![4096 * p, 0]) (ρ : Fin 1024) (e : Fin 128) :
    kernelRun0_B.sl.r_5 (F := Ideal) c i arg2 harg2 arg3 harg3 arg4 harg4 arg5 harg5 arg6 harg6 arg7 harg7 arg8 harg8 arg9 harg9 arg10 harg10 hc1 x2 x3 x4 x5 x6 (ix2 ρ e) = Ideal.div (slab x2 x3 x4 x5 x6 (4096 * p + 1024) 1 ρ.val e.val) (slab x2 x3 x4 x5 x6 (4096 * p + 1024) 1 ρ.val (128 + e.val)) := by
  have h : ∀ l : Fin 256, kernelRun0_B.sl.v48 (F := Ideal) c i arg2 harg2 arg3 harg3 arg4 harg4 arg5 harg5 arg6 harg6 arg7 harg7 arg8 harg8 arg9 harg9 arg10 harg10 hc1 x2 x3 x4 x5 x6 (ix3 0 ρ l) = slab x2 x3 x4 x5 x6 (4096 * p + 1024) 1 ρ.val l.val := fun l => by
    unfold kernelRun0_B.sl.v48
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 1024 hp ht1 ht2 e17 _
      (hs_B i c arg4 harg4 arg5 harg5 arg6 harg6 arg7 harg7 arg8 harg8 arg10 x2 x3 x4 x5 x6 hc1 (4096 * p) e5 e6 e7 e8) _).trans (slab_at (Qs x2 x3) (Ks x4 x5 0) (Vs x6 0) (4096 * p + 1024) 1 inb_S2x1024x256_S1x1024x256_1_0_0 ρ l)
  unfold kernelRun0_B.sl.r_5
  exact (pay35_at _ ρ e).trans (congrArg₂ Ideal.div (h ⟨e.val, by omega⟩) (h ⟨128 + e.val, by omega⟩))

/-- What a point of residue 1 leaves in the output's block. -/
theorem out_B (hc0 : ¬cond0_0 i) (hc1 : cond0_1 i) (hc2 : ¬cond0_2 i) (hc3 : ¬cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e5 : k0_off5 i = ![4096 * p, 0]) (e6 : k0_off6 i = ![4096 * p, 0]) (e7 : k0_off7 i = ![4096 * p, 0]) (e8 : k0_off8 i = ![4096 * p, 0]) (ρ : Fin 1024) (e : Fin 128) :
    (out0_B_7 (F := Ideal) c i arg2 harg2 arg3 harg3 arg4 harg4 arg5 harg5 arg6 harg6 arg7 harg7 arg8 harg8 arg9 harg9 arg10 harg10 hc0 hc1 hc2 hc3 x0 x1 x2 x3 x4 x5 x6 : S1024x128.Idx → EReal) (ix2 ρ e) = headNorm (mixB x0 x2 x3 x4 x5 x6 (4096 * p + 1024) ρ.val) (x1 (ix2 0 e)) e.val := by
  have hl : kernelRun0_B.sl.r_3 (F := Ideal) c arg2 harg2 x0 (ix2 0 0) = lamB x0 := by
    unfold kernelRun0_B.sl.r_3
    refine (pay33_at _).trans ?_
    unfold lamB
    simp only [load_whole (m := 4) (n := 64) arg2 harg2 x0 inb_S4x64_S4x64_0_0]
  unfold out0_B_7 kernelRun0_B
  dsimp only
  refine stored x0 x1 x2 x3 x4 x5 x6 _ _ _ _ (4096 * p + 1024) (fun ρ e => ?_) (fun e => load_whole (m := 1) (n := 128) arg3 harg3 x1 inb_S1x128_S1x128_0_0 0 e) ρ e
  unfold mixB
  rw [hl, att_B0 i c arg2 harg2 arg3 harg3 arg4 harg4 arg5 harg5 arg6 harg6 arg7 harg7 arg8 harg8 arg9 harg9 arg10 harg10 x2 x3 x4 x5 x6 hc1 p hp ht1 ht2 e17 e5 e6 e7 e8 ρ e, att_B1 i c arg2 harg2 arg3 harg3 arg4 harg4 arg5 harg5 arg6 harg6 arg7 harg7 arg8 harg8 arg9 harg9 arg10 harg10 x2 x3 x4 x5 x6 hc1 p hp ht1 ht2 e17 e5 e6 e7 e8 ρ e]

/-- Component 0's attention at a point of residue 2. -/
theorem att_C0 (hc2 : cond0_2 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e9 : k0_off9 i = ![4096 * p, 0]) (e10 : k0_off10 i = ![4096 * p, 0]) (e11 : k0_off11 i = ![4096 * p, 0]) (e12 : k0_off12 i = ![4096 * p, 0]) (ρ : Fin 1024) (e : Fin 128) :
    kernelRun0_C.sl.r_4 (F := Ideal) c i arg2 harg2 arg3 harg3 arg4 harg4 arg5 harg5 arg6 harg6 arg7 harg7 arg8 harg8 arg9 harg9 arg10 harg10 hc2 x2 x3 x4 x5 x6 (ix2 ρ e) = Ideal.div (slab x2 x3 x4 x5 x6 (4096 * p + 2048) 0 ρ.val e.val) (slab x2 x3 x4 x5 x6 (4096 * p + 2048) 0 ρ.val (128 + e.val)) := by
  have h : ∀ l : Fin 256, kernelRun0_C.sl.v46 (F := Ideal) c i arg2 harg2 arg3 harg3 arg4 harg4 arg5 harg5 arg6 harg6 arg7 harg7 arg8 harg8 arg9 harg9 arg10 harg10 hc2 x2 x3 x4 x5 x6 (ix3 0 ρ l) = slab x2 x3 x4 x5 x6 (4096 * p + 2048) 0 ρ.val l.val := fun l => by
    unfold kernelRun0_C.sl.v46
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 2048 hp ht1 ht2 e17 _
      (hs_C i c arg4 harg4 arg5 harg5 arg6 harg6 arg7 harg7 arg8 harg8 arg10 x2 x3 x4 x5 x6 hc2 (4096 * p) e9 e10 e11 e12) _).trans (slab_at (Qs x2 x3) (Ks x4 x5 0) (Vs x6 0) (4096 * p + 2048) 0 inb_S2x1024x256_S1x1024x256_0_0_0 ρ l)
  unfold kernelRun0_C.sl.r_4
  exact (pay34_at _ ρ e).trans (congrArg₂ Ideal.div (h ⟨e.val, by omega⟩) (h ⟨128 + e.val, by omega⟩))

/-- Component 1's attention at a point of residue 2. -/
theorem att_C1 (hc2 : cond0_2 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e9 : k0_off9 i = ![4096 * p, 0]) (e10 : k0_off10 i = ![4096 * p, 0]) (e11 : k0_off11 i = ![4096 * p, 0]) (e12 : k0_off12 i = ![4096 * p, 0]) (ρ : Fin 1024) (e : Fin 128) :
    kernelRun0_C.sl.r_5 (F := Ideal) c i arg2 harg2 arg3 harg3 arg4 harg4 arg5 harg5 arg6 harg6 arg7 harg7 arg8 harg8 arg9 harg9 arg10 harg10 hc2 x2 x3 x4 x5 x6 (ix2 ρ e) = Ideal.div (slab x2 x3 x4 x5 x6 (4096 * p + 2048) 1 ρ.val e.val) (slab x2 x3 x4 x5 x6 (4096 * p + 2048) 1 ρ.val (128 + e.val)) := by
  have h : ∀ l : Fin 256, kernelRun0_C.sl.v48 (F := Ideal) c i arg2 harg2 arg3 harg3 arg4 harg4 arg5 harg5 arg6 harg6 arg7 harg7 arg8 harg8 arg9 harg9 arg10 harg10 hc2 x2 x3 x4 x5 x6 (ix3 0 ρ l) = slab x2 x3 x4 x5 x6 (4096 * p + 2048) 1 ρ.val l.val := fun l => by
    unfold kernelRun0_C.sl.v48
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 2048 hp ht1 ht2 e17 _
      (hs_C i c arg4 harg4 arg5 harg5 arg6 harg6 arg7 harg7 arg8 harg8 arg10 x2 x3 x4 x5 x6 hc2 (4096 * p) e9 e10 e11 e12) _).trans (slab_at (Qs x2 x3) (Ks x4 x5 0) (Vs x6 0) (4096 * p + 2048) 1 inb_S2x1024x256_S1x1024x256_1_0_0 ρ l)
  unfold kernelRun0_C.sl.r_5
  exact (pay35_at _ ρ e).trans (congrArg₂ Ideal.div (h ⟨e.val, by omega⟩) (h ⟨128 + e.val, by omega⟩))

/-- What a point of residue 2 leaves in the output's block. -/
theorem out_C (hc0 : ¬cond0_0 i) (hc1 : ¬cond0_1 i) (hc2 : cond0_2 i) (hc3 : ¬cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e9 : k0_off9 i = ![4096 * p, 0]) (e10 : k0_off10 i = ![4096 * p, 0]) (e11 : k0_off11 i = ![4096 * p, 0]) (e12 : k0_off12 i = ![4096 * p, 0]) (ρ : Fin 1024) (e : Fin 128) :
    (out0_C_7 (F := Ideal) c i arg2 harg2 arg3 harg3 arg4 harg4 arg5 harg5 arg6 harg6 arg7 harg7 arg8 harg8 arg9 harg9 arg10 harg10 hc0 hc1 hc2 hc3 x0 x1 x2 x3 x4 x5 x6 : S1024x128.Idx → EReal) (ix2 ρ e) = headNorm (mixB x0 x2 x3 x4 x5 x6 (4096 * p + 2048) ρ.val) (x1 (ix2 0 e)) e.val := by
  have hl : kernelRun0_C.sl.r_3 (F := Ideal) c arg2 harg2 x0 (ix2 0 0) = lamB x0 := by
    unfold kernelRun0_C.sl.r_3
    refine (pay33_at _).trans ?_
    unfold lamB
    simp only [load_whole (m := 4) (n := 64) arg2 harg2 x0 inb_S4x64_S4x64_0_0]
  unfold out0_C_7 kernelRun0_C
  dsimp only
  refine stored x0 x1 x2 x3 x4 x5 x6 _ _ _ _ (4096 * p + 2048) (fun ρ e => ?_) (fun e => load_whole (m := 1) (n := 128) arg3 harg3 x1 inb_S1x128_S1x128_0_0 0 e) ρ e
  unfold mixB
  rw [hl, att_C0 i c arg2 harg2 arg3 harg3 arg4 harg4 arg5 harg5 arg6 harg6 arg7 harg7 arg8 harg8 arg9 harg9 arg10 harg10 x2 x3 x4 x5 x6 hc2 p hp ht1 ht2 e17 e9 e10 e11 e12 ρ e, att_C1 i c arg2 harg2 arg3 harg3 arg4 harg4 arg5 harg5 arg6 harg6 arg7 harg7 arg8 harg8 arg9 harg9 arg10 harg10 x2 x3 x4 x5 x6 hc2 p hp ht1 ht2 e17 e9 e10 e11 e12 ρ e]

/-- Component 0's attention at a point of residue 3. -/
theorem att_D0 (hc3 : cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e13 : k0_off13 i = ![4096 * p, 0]) (e14 : k0_off14 i = ![4096 * p, 0]) (e15 : k0_off15 i = ![4096 * p, 0]) (e16 : k0_off16 i = ![4096 * p, 0]) (ρ : Fin 1024) (e : Fin 128) :
    kernelRun0_D.sl.r_4 (F := Ideal) c i arg2 harg2 arg3 harg3 arg4 harg4 arg5 harg5 arg6 harg6 arg7 harg7 arg8 harg8 arg9 harg9 arg10 harg10 hc3 x2 x3 x4 x5 x6 (ix2 ρ e) = Ideal.div (slab x2 x3 x4 x5 x6 (4096 * p + 3072) 0 ρ.val e.val) (slab x2 x3 x4 x5 x6 (4096 * p + 3072) 0 ρ.val (128 + e.val)) := by
  have h : ∀ l : Fin 256, kernelRun0_D.sl.v46 (F := Ideal) c i arg2 harg2 arg3 harg3 arg4 harg4 arg5 harg5 arg6 harg6 arg7 harg7 arg8 harg8 arg9 harg9 arg10 harg10 hc3 x2 x3 x4 x5 x6 (ix3 0 ρ l) = slab x2 x3 x4 x5 x6 (4096 * p + 3072) 0 ρ.val l.val := fun l => by
    unfold kernelRun0_D.sl.v46
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 3072 hp ht1 ht2 e17 _
      (hs_D i c arg4 harg4 arg5 harg5 arg6 harg6 arg7 harg7 arg8 harg8 arg10 x2 x3 x4 x5 x6 hc3 (4096 * p) e13 e14 e15 e16) _).trans (slab_at (Qs x2 x3) (Ks x4 x5 0) (Vs x6 0) (4096 * p + 3072) 0 inb_S2x1024x256_S1x1024x256_0_0_0 ρ l)
  unfold kernelRun0_D.sl.r_4
  exact (pay34_at _ ρ e).trans (congrArg₂ Ideal.div (h ⟨e.val, by omega⟩) (h ⟨128 + e.val, by omega⟩))

/-- Component 1's attention at a point of residue 3. -/
theorem att_D1 (hc3 : cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e13 : k0_off13 i = ![4096 * p, 0]) (e14 : k0_off14 i = ![4096 * p, 0]) (e15 : k0_off15 i = ![4096 * p, 0]) (e16 : k0_off16 i = ![4096 * p, 0]) (ρ : Fin 1024) (e : Fin 128) :
    kernelRun0_D.sl.r_5 (F := Ideal) c i arg2 harg2 arg3 harg3 arg4 harg4 arg5 harg5 arg6 harg6 arg7 harg7 arg8 harg8 arg9 harg9 arg10 harg10 hc3 x2 x3 x4 x5 x6 (ix2 ρ e) = Ideal.div (slab x2 x3 x4 x5 x6 (4096 * p + 3072) 1 ρ.val e.val) (slab x2 x3 x4 x5 x6 (4096 * p + 3072) 1 ρ.val (128 + e.val)) := by
  have h : ∀ l : Fin 256, kernelRun0_D.sl.v48 (F := Ideal) c i arg2 harg2 arg3 harg3 arg4 harg4 arg5 harg5 arg6 harg6 arg7 harg7 arg8 harg8 arg9 harg9 arg10 harg10 hc3 x2 x3 x4 x5 x6 (ix3 0 ρ l) = slab x2 x3 x4 x5 x6 (4096 * p + 3072) 1 ρ.val l.val := fun l => by
    unfold kernelRun0_D.sl.v48
    exact (acc_at i c arg2 harg2 arg3 harg3 arg4 harg4 arg5 harg5 arg6 harg6 arg7 harg7 arg8 harg8 arg9 harg9 arg10 harg10 x2 x3 x4 x5 x6 _ _ (fun a d => (pay23_at _ a d).trans (q0_at arg4 harg4 x2 x3 a d)) (fun a d => (pay24_at _ a d).trans (q1_at arg5 harg5 x2 x3 a d)) _ _ p 3072 hp ht1 ht2 e17 _
      (hs_D i c arg4 harg4 arg5 harg5 arg6 harg6 arg7 harg7 arg8 harg8 arg10 x2 x3 x4 x5 x6 hc3 (4096 * p) e13 e14 e15 e16) _).trans (slab_at (Qs x2 x3) (Ks x4 x5 0) (Vs x6 0) (4096 * p + 3072) 1 inb_S2x1024x256_S1x1024x256_1_0_0 ρ l)
  unfold kernelRun0_D.sl.r_5
  exact (pay35_at _ ρ e).trans (congrArg₂ Ideal.div (h ⟨e.val, by omega⟩) (h ⟨128 + e.val, by omega⟩))

/-- What a point of residue 3 leaves in the output's block. -/
theorem out_D (hc0 : ¬cond0_0 i) (hc1 : ¬cond0_1 i) (hc2 : ¬cond0_2 i) (hc3 : cond0_3 i) (p : ℕ) (hp : p < 2) (ht1 : (k0_t1_loop i).trips = p) (ht2 : (k0_t2_loop i).trips = 0)
    (e17 : ∀ k : Fin (k0_t1_loop i).trips, k0_off17 i k = ![0, 0] ∧ k0_off18 i k = ![0, 0]) (e13 : k0_off13 i = ![4096 * p, 0]) (e14 : k0_off14 i = ![4096 * p, 0]) (e15 : k0_off15 i = ![4096 * p, 0]) (e16 : k0_off16 i = ![4096 * p, 0]) (ρ : Fin 1024) (e : Fin 128) :
    (out0_D_7 (F := Ideal) c i arg2 harg2 arg3 harg3 arg4 harg4 arg5 harg5 arg6 harg6 arg7 harg7 arg8 harg8 arg9 harg9 arg10 harg10 hc0 hc1 hc2 hc3 x0 x1 x2 x3 x4 x5 x6 : S1024x128.Idx → EReal) (ix2 ρ e) = headNorm (mixB x0 x2 x3 x4 x5 x6 (4096 * p + 3072) ρ.val) (x1 (ix2 0 e)) e.val := by
  have hl : kernelRun0_D.sl.r_3 (F := Ideal) c arg2 harg2 x0 (ix2 0 0) = lamB x0 := by
    unfold kernelRun0_D.sl.r_3
    refine (pay33_at _).trans ?_
    unfold lamB
    simp only [load_whole (m := 4) (n := 64) arg2 harg2 x0 inb_S4x64_S4x64_0_0]
  unfold out0_D_7 kernelRun0_D
  dsimp only
  refine stored x0 x1 x2 x3 x4 x5 x6 _ _ _ _ (4096 * p + 3072) (fun ρ e => ?_) (fun e => load_whole (m := 1) (n := 128) arg3 harg3 x1 inb_S1x128_S1x128_0_0 0 e) ρ e
  unfold mixB
  rw [hl, att_D0 i c arg2 harg2 arg3 harg3 arg4 harg4 arg5 harg5 arg6 harg6 arg7 harg7 arg8 harg8 arg9 harg9 arg10 harg10 x2 x3 x4 x5 x6 hc3 p hp ht1 ht2 e17 e13 e14 e15 e16 ρ e, att_D1 i c arg2 harg2 arg3 harg3 arg4 harg4 arg5 harg5 arg6 harg6 arg7 harg7 arg8 harg8 arg9 harg9 arg10 harg10 x2 x3 x4 x5 x6 hc3 p hp ht1 ht2 e17 e13 e14 e15 e16 ρ e]

end Out

end Cert.Proof.Att

end
-- ==== Proof.AttHost.lean ====
/-
  The arrays the attention's call finds: the rows of the weight, and the queries, keys and values side by side.
-/
module

public import proofs.«01_k».proof.Proof.AttSum
public import proofs.«01_k».proof.Proof.Gen.Kernel4Ideal.Value
public import Idealize.ShloMosaic.Lib.Pointwise

@[expose] public section

set_option maxRecDepth 16384

noncomputable section

namespace Cert.Proof.Att

open Cert.Kernel4Ideal Cert.Kernel4Ideal.Gen
open Idealize.ShloMosaic Idealize.ShloMosaic.TcCoe Idealize.SL.Sem

/-- The four rows of the weight, one under the other. -/
def lamF (a b d e : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 d⟩, ⟨S1x64, broadcastInDim S1x64 ![1] bcast_S64_S1x64_1 e⟩] concatenates_S1x64_S1x64_S1x64_S1x64_S4x64_d0

/-- The values of each head with as many ones behind them. -/
def onesF (v : FVec Ideal S8192x1024 .f32) : FVec Ideal S8192x2048 .f32 :=
  shapeCast _ (concatenate S8192x8x256 2 [⟨S8192x8x128, shapeCast _ v shapeCasts_S8192x1024_S8192x8x128⟩, ⟨S8192x8x128, broadcastInDim S8192x8x128 ![] bcast_S_S8192x8x128 (constant (F := Ideal) S_ .f32 0x3F800000#32)⟩] concatenates_S8192x8x128_S8192x8x128_S8192x8x256_d2) shapeCasts_S8192x8x256_S8192x2048

/-- Queries, keys and values side by side. -/
def qkvF (q k : FVec Ideal S8192x2048 .f32) (v : FVec Ideal S8192x1024 .f32) : FVec Ideal S8192x6144 .bf16 :=
  truncf .bf16 (concatenate S8192x6144 1 [⟨S8192x2048, q⟩, ⟨S8192x2048, k⟩, ⟨S8192x2048, onesF v⟩] concatenates_S8192x2048_S8192x2048_S8192x2048_S8192x6144_d1) bitsLt_bf16_f32

/-- A value's entry. -/
theorem onesF_v (v : FVec Ideal S8192x1024 .f32) (s : Fin 8192) (h : Fin 8) (e : Fin 128) : onesF v (ix2 s ⟨256 * h.val + e.val, by omega⟩) = v (ix2 s ⟨128 * h.val + e.val, by omega⟩) := by
  unfold onesF
  pointwise
  rw [dif_pos (by omega)]
  exact congrArg (fun j => v (ix2 s j)) (Fin.ext (by show h.val * 128 + (256 * h.val + e.val) % 256 = 128 * h.val + e.val; omega))

/-- A one behind them. -/
theorem onesF_one (v : FVec Ideal S8192x1024 .f32) (s : Fin 8192) (h : Fin 8) (e : Fin 128) : onesF v (ix2 s ⟨256 * h.val + (128 + e.val), by omega⟩) = (1 : EReal) := by
  unfold onesF
  pointwise
  rw [dif_neg (by omega)]

/-- The columns of the queries. -/
theorem qkvF_q (q k : FVec Ideal S8192x2048 .f32) (v : FVec Ideal S8192x1024 .f32) (s : Fin 8192) (j : Fin 2048) : qkvF q k v (ix2 s ⟨j.val, by omega⟩) = q (ix2 s j) := by
  unfold qkvF
  generalize onesF v = w
  pointwise

/-- The columns of the keys. -/
theorem qkvF_k (q k : FVec Ideal S8192x2048 .f32) (v : FVec Ideal S8192x1024 .f32) (s : Fin 8192) (j : Fin 2048) : qkvF q k v (ix2 s ⟨2048 + j.val, by omega⟩) = k (ix2 s j) := by
  unfold qkvF
  generalize onesF v = w
  pointwise

/-- The columns of the values. -/
theorem qkvF_v (q k : FVec Ideal S8192x2048 .f32) (v : FVec Ideal S8192x1024 .f32) (s : Fin 8192) (j : Fin 2048) : qkvF q k v (ix2 s ⟨4096 + j.val, by omega⟩) = onesF v (ix2 s j) := by
  unfold qkvF
  generalize onesF v = w
  pointwise
  rw [dif_neg (by omega), dif_neg (by omega)]
  exact congrArg (fun j => w (ix2 s j)) (Fin.ext (by show 4096 + j.val - 2048 - 2048 = j.val; omega))

section Host
variable (m : (ℓ : Loc nD τ sig) → Buf (Elt Ideal) ℓ) (c : Dev nD)

/-- The rows of the weight that the call reads. -/
theorem V_main_v4 : (V m c main_v4 : S4x64.Idx → EReal) = lamF (m ((c : Thread nD τ).loc main_arg0)) (m ((c : Thread nD τ).loc main_arg1)) (m ((c : Thread nD τ).loc main_arg2)) (m ((c : Thread nD τ).loc main_arg3)) := by
  unfold V
  after_results_simp <;> rfl
/-- The array of queries, keys and values that the call reads. -/
theorem V_main_v10 : (V m c main_v10 : S8192x6144.Idx → EReal) = qkvF (m ((c : Thread nD τ).loc main_arg5)) (m ((c : Thread nD τ).loc main_arg6)) (m ((c : Thread nD τ).loc main_arg7)) := by
  unfold V
  after_results_simp <;> rfl
/-- The first row of the weight's four. -/
theorem lam0 (x : Fin 64) : (V m c main_v4 : S4x64.Idx → EReal) (ix2 0 x) = (m ((c : Thread nD τ).loc main_arg0) : S64.Idx → EReal) (ix1 x) := by
  rw [V_main_v4]
  pointwise [lamF]
/-- The second. -/
theorem lam1 (x : Fin 64) : (V m c main_v4 : S4x64.Idx → EReal) (ix2 1 x) = (m ((c : Thread nD τ).loc main_arg1) : S64.Idx → EReal) (ix1 x) := by
  rw [V_main_v4]
  pointwise [lamF]
/-- The third. -/
theorem lam2 (x : Fin 64) : (V m c main_v4 : S4x64.Idx → EReal) (ix2 2 x) = (m ((c : Thread nD τ).loc main_arg2) : S64.Idx → EReal) (ix1 x) := by
  rw [V_main_v4]
  pointwise [lamF]
/-- The fourth. -/
theorem lam3 (x : Fin 64) : (V m c main_v4 : S4x64.Idx → EReal) (ix2 3 x) = (m ((c : Thread nD τ).loc main_arg3) : S64.Idx → EReal) (ix1 x) := by
  rw [V_main_v4]
  pointwise [lamF]
/-- The head norm's gain as a row. -/
theorem gain (x : Fin 128) : (V m c main_v11 : S1x128.Idx → EReal) (ix2 0 x) = (m ((c : Thread nD τ).loc main_arg4) : S128.Idx → EReal) (ix1 x) := by
  unfold V
  after_results_simp
  pointwise

end Host

end Cert.Proof.Att

end
-- ==== Proof.AttRef.lean ====
/-
  What the attention's reference computes, row by row.
-/
module

public import proofs.«01_k».proof.Proof.AttSum
public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Proof.Att.Ref

open Cert.Reference4Ideal Cert.Reference4Ideal.Gen
open Idealize.ShloMosaic Idealize.ShloMosaic.TcCoe Idealize.SL.Sem
open Cert.Proof.Ffn (at2 at2_eq)

/-- The scores, masked. -/
def scores (q k : FVec Ideal S8192x2048 .f32) : FVec Ideal S8x2x8192x8192 .f32 :=
  select (broadcastInDim S8x2x8192x8192 ![2, 3] bcast_S8192x8192_S8x2x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (Host.dotGeneral dot_S8192x8x2x128_S8192x8x2x128_S8x2x8192x8192_3_3_0_0_12_12 none (shapeCast _ q shapeCasts_S8192x2048_S8192x8x2x128) (shapeCast _ k shapeCasts_S8192x2048_S8192x8x2x128)) (broadcastInDim S8x2x8192x8192 ![] bcast_S_S8x2x8192x8192 (id (constant S_ .f32 0xFF800000#32)))

/-- The two attentions of each head. -/
def att (q k : FVec Ideal S8192x2048 .f32) (v : FVec Ideal S8192x1024 .f32) : FVec Ideal S8x2x8192x128 .f32 :=
  Host.divf (Host.dotGeneral dot_S8x2x8192x8192_S8192x8x128_S8x2x8192x128_3_0_12_2_0_1 none (Host.exp (scores q k)) (shapeCast _ v shapeCasts_S8192x1024_S8192x8x128)) (broadcastInDim S8x2x8192x128 ![0, 1, 2, 3] bcast_S8x2x8192x1_S8x2x8192x128_0_1_2_3 (broadcastInDim S8x2x8192x1 ![0, 1, 2] bcast_S8x2x8192_S8x2x8192x1_0_1_2 (Host.reduceAdd (Host.exp (scores q k)) (constant S_ .f32 0x00000000#32) reducesTo_S8x2x8192x8192_S8x2x8192_d3 h_S_)))

/-- The reference's mask is the bottom element. -/
theorem mask_eq : (id (constant (F := Ideal) S_ .f32 0xFF800000#32) ix0 : EReal) = ⊥ := by
  show Ideal.ofBits FTy.f32 0xFF800000#32 = ⊥
  simp [Ideal.ofBits, Ideal.ieee]

set_option maxHeartbeats 4000000 in
/-- An entry of the masked scores. -/
theorem scores_at (q k : FVec Ideal S8192x2048 .f32) (h : Fin 8) (b : Fin 2) (s t : Fin 8192) :
    scores q k (ix4 h b s t) = Scalar.select (IntOp.cmpi .sge (BitVec.ofNat 32 s.val) (BitVec.ofNat 32 t.val)) (score q k (256 * h.val + 128 * b.val) s.val t.val) ⊥ := by
  generalize hz : Scalar.select _ _ _ = z
  unfold scores
  pointwise
  rw [← hz, mask_eq]
  refine congrArg (fun x => Scalar.select _ x ⊥) (Finset.sum_congr rfl fun d _ => ?_)
  exact congrArg₂ (· * ·) (at2_eq (m := 8192) (n := 2048) q (ix2 s ⟨h.val * 256 + b.val * 128 + d.val, by omega⟩) rfl (by show h.val * 256 + b.val * 128 + d.val = _; omega))
    (at2_eq (m := 8192) (n := 2048) k (ix2 t ⟨h.val * 256 + b.val * 128 + d.val, by omega⟩) rfl (by show h.val * 256 + b.val * 128 + d.val = _; omega))

set_option maxHeartbeats 4000000 in
/-- An entry of an attention. -/
theorem att_at (q k : FVec Ideal S8192x2048 .f32) (v : FVec Ideal S8192x1024 .f32) (h : Fin 8) (b : Fin 2) (s : Fin 8192) (e : Fin 128) :
    att q k v (ix4 h b s e) = Ideal.div (num q k v (256 * h.val + 128 * b.val) (128 * h.val + e.val) s.val) (den q k (256 * h.val + 128 * b.val) s.val) := by
  generalize hz : Ideal.div _ _ = z
  unfold att
  generalize hw : scores q k = w
  pointwise
  rw [← hz]
  subst hw
  simp only [scores_at]
  exact congrArg₂ Ideal.div
    (masked_ge (n := 8192) s.isLt (by decide) (fun t => Ideal.exp (score q k (256 * h.val + 128 * b.val) s.val t) * at2 (m := 8192) (n := 1024) v t (128 * h.val + e.val))
      fun t => congrArg (Ideal.exp (score q k (256 * h.val + 128 * b.val) s.val t.val) * ·)
        (at2_eq (m := 8192) (n := 1024) v (ix2 t ⟨h.val * 128 + e.val, by omega⟩) rfl (by show h.val * 128 + e.val = _; omega)))
    (masked_ge_one (n := 8192) s.isLt (by decide) (fun t => Ideal.exp (score q k (256 * h.val + 128 * b.val) s.val t)) fun t => rfl)

/-- The difference of each head's two attentions. -/
def mixed (a b d e : FVec Ideal S64 .f32) (D : FVec Ideal S8x2x8192x128 .f32) : FVec Ideal S8x8192x128 .f32 :=
  subf (shapeCast _ (extractStridedSlice S8x1x8192x128 ![0, 0, 0, 0] D slices_S8x2x8192x128_S8x1x8192x128_0_0_0_0) shapeCasts_S8x1x8192x128_S8x8192x128) (mulf (broadcastInDim S8x8192x128 ![] bcast_S_S8x8192x128 (addf (subf (Host.exp (Host.reduceAdd (mulf a b) (constant S_ .f32 0x00000000#32) reducesTo_S64_S_d0 h_S_)) (Host.exp (Host.reduceAdd (mulf d e) (constant S_ .f32 0x00000000#32) reducesTo_S64_S_d0 h_S_))) (constant S_ .f32 0x3E4CCCCD#32))) (shapeCast _ (extractStridedSlice S8x1x8192x128 ![0, 1, 0, 0] D slices_S8x2x8192x128_S8x1x8192x128_0_1_0_0) shapeCasts_S8x1x8192x128_S8x8192x128))

/-- The head norm of the differences, heads side by side. -/
def normed (g : FVec Ideal S128 .f32) (x : FVec Ideal S8x8192x128 .f32) : FVec Ideal S8192x1024 .bf16 :=
  truncf .bf16 (shapeCast _ (transpose S8192x8x128 [1, 0, 2] (mulf (mulf (mulf x (broadcastInDim S8x8192x128 ![0, 1, 2] bcast_S8x8192x1_S8x8192x128_0_1_2 (Host.rsqrt (addf (Host.divf (broadcastInDim S8x8192x1 ![0, 1] bcast_S8x8192_S8x8192x1_0_1 (Host.reduceAdd (mulf x x) (constant S_ .f32 0x00000000#32) reducesTo_S8x8192x128_S8x8192_d2 h_S_)) (broadcastInDim S8x8192x1 ![] bcast_S_S8x8192x1 (constant S_ .f32 0x43000000#32))) (broadcastInDim S8x8192x1 ![] bcast_S_S8x8192x1 (constant S_ .f32 0x358637BD#32)))))) (broadcastInDim S8x8192x128 ![0, 1, 2] bcast_S1x1x128_S8x8192x128_0_1_2 (broadcastInDim S1x1x128 ![2] bcast_S128_S1x1x128_2 g))) (broadcastInDim S8x8192x128 ![] bcast_S_S8x8192x128 (constant S_ .f32 0x3F4CCCCD#32))) transposes_S8x8192x128_S8192x8x128_1_0_2) shapeCasts_S8192x8x128_S8192x1024) bitsLt_bf16_f32

end Cert.Proof.Att.Ref

end
-- ==== Proof.AttRefOut.lean ====
/-
  The reference of the attention: what its run leaves.
-/
module

public import proofs.«01_k».proof.Proof.AttRef
public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Proof.Att.Ref

open Cert.Reference4Ideal Cert.Reference4Ideal.Gen
open Idealize.ShloMosaic Idealize.ShloMosaic.TcCoe Idealize.SL.Sem
open Cert.Proof.Ffn (at2 at2_eq)

set_option maxHeartbeats 4000000 in
/-- An entry of the difference. -/
theorem mixed_at (a b d e : FVec Ideal S64 .f32) (q k : FVec Ideal S8192x2048 .f32) (v : FVec Ideal S8192x1024 .f32) (h : Fin 8) (s : Fin 8192) (l : Fin 128) :
    mixed a b d e (att q k v) (ix3 h s l) = diff q k v (lam a b d e) h.val s.val (128 * h.val + l.val) := by
  generalize hz : diff _ _ _ _ _ _ _ = z
  unfold mixed
  generalize hw : att q k v = w
  pointwise
  subst hw
  simp only [att_at]
  exact hz

set_option maxHeartbeats 4000000 in
/-- An entry of the head norm. -/
theorem normed_at (g : FVec Ideal S128 .f32) (x : FVec Ideal S8x8192x128 .f32) (h : Fin 8) (s : Fin 8192) (l : Fin 128) (f : ℕ → EReal) (hf : ∀ j : Fin 128, x (ix3 h s j) = f j.val) :
    normed g x (ix2 s ⟨128 * h.val + l.val, by omega⟩) = headNorm f (g (ix1 l)) l.val := by
  generalize hz : headNorm _ _ _ = z
  unfold normed
  pointwise
  simp only [hf]
  exact hz

/-- The reference's term is that norm of that difference. -/
theorem res_eq (m : (ℓ : Loc nD τ sig) → Buf (Elt Ideal) ℓ) (c : Dev nD) :
    (Cert.Reference4Ideal.Value.res_main_v49 m c : S8192x1024.Idx → EReal)
      = normed (m ((c : Thread nD τ).loc main_arg4)) (mixed (m ((c : Thread nD τ).loc main_arg0)) (m ((c : Thread nD τ).loc main_arg1)) (m ((c : Thread nD τ).loc main_arg2)) (m ((c : Thread nD τ).loc main_arg3))
        (att (m ((c : Thread nD τ).loc main_arg5)) (m ((c : Thread nD τ).loc main_arg6)) (m ((c : Thread nD τ).loc main_arg7)))) := by
  unfold Cert.Reference4Ideal.Value.res_main_v49 normed mixed att scores
  rfl

end Cert.Proof.Att.Ref

end
-- ==== Proof.AttRefRun.lean ====
/-
  The run of the attention's reference.
-/
module

public import proofs.«01_k».proof.Proof.AttRefOut
public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Proof.Att.Ref

open Cert.Reference4Ideal Cert.Reference4Ideal.Gen
open Idealize.ShloMosaic Idealize.ShloMosaic.TcCoe Idealize.SL.Sem
open Cert.Proof.Ffn (at2 at2_eq)

/-- A column from its head and its place there. -/
theorem cell (h : Fin 8) (l : Fin 128) : 128 * h.val + l.val < 1024 := by omega

/-- Every entry of the result lies in a head. -/
theorem split_at (y : S8192x1024.Idx) : ∃ (s : Fin 8192) (h : Fin 8) (l : Fin 128), y = ix2 s ⟨128 * h.val + l.val, cell h l⟩ := by
  have h1 : (y 1).val < 1024 := (y 1).isLt
  exact ⟨y 0, ⟨(y 1).val / 128, by omega⟩, ⟨(y 1).val % 128, by omega⟩, (eq_ix2 y).trans (congrArg (fun z => ix2 (y 0) z) (Fin.ext (Nat.div_add_mod _ _).symm))⟩

/-- The attention's function at an entry of a head. -/
theorem attOut_at (a b c d : FVec Ideal S64 .f32) (g : FVec Ideal S128 .f32) (q k : FVec Ideal S8192x2048 .f32) (v : FVec Ideal S8192x1024 .f32) (h : Fin 8) (s : Fin 8192) (l : Fin 128) :
    attOut a b c d g q k v (ix2 s ⟨128 * h.val + l.val, cell h l⟩) = headNorm (fun e => diff q k v (lam a b c d) h.val s.val (128 * h.val + e)) (g (ix1 l)) l.val := by
  have e0 : (128 * h.val + l.val) / 128 = h.val := by omega
  have e1 : (128 * h.val + l.val) % 128 = l.val := by omega
  have e2 : ∀ p, (⟨(128 * h.val + l.val) % 128, p⟩ : Fin 128) = l := fun p => Fin.ext e1
  show headNorm (fun e => diff q k v (lam a b c d) ((128 * h.val + l.val) / 128) s.val (128 * ((128 * h.val + l.val) / 128) + e)) (g (ix1 ⟨(128 * h.val + l.val) % 128, Nat.mod_lt _ (by decide)⟩)) ((128 * h.val + l.val) % 128) = _
  rw [e0]
  exact congrArg₂ (fun (z : EReal) (n : ℕ) => headNorm (fun e => diff q k v (lam a b c d) h.val s.val (128 * h.val + e)) z n) (congrArg (fun z => g (ix1 z)) (e2 _)) e1

/-- The reference's run leaves the attention's function of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (attOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) : S8192x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Cert.Reference4Ideal.Value.run (F := Ideal) m ρ)
  refine (res_eq m c).trans (funext fun (y : S8192x1024.Idx) => ?_)
  obtain ⟨s, h, l, rfl⟩ := split_at y
  exact (normed_at _ _ h s l _ fun j => mixed_at _ _ _ _ _ _ _ h s j).trans (attOut_at _ _ _ _ _ _ _ _ h s l).symm

end Cert.Proof.Att.Ref

end
-- ==== Proof.Att.lean ====
/-
  The attention: what its run leaves, as a function of its arguments.
-/
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.AttOut
public import proofs.«01_k».proof.Proof.AttHost
public import proofs.«01_k».proof.Proof.AttRefRun
public import Idealize.ShloMosaic.Lib.Pointwise
public import Idealize.ShloMosaic.Lib.Pipeline.Value

@[expose] public section

set_option maxRecDepth 16384

noncomputable section

namespace Cert.Proof.Att

open Cert.Kernel4Ideal Cert.Kernel4Ideal.Gen
open Idealize.ShloMosaic Idealize.ShloMosaic.TcCoe Idealize.SL.Sem
open Cert.Proof.Ffn (at2 at2_eq box2)

/-- A normalised head depends on its 128 entries. -/
theorem headNorm_congr {x x' : ℕ → EReal} (h : ∀ j : Fin 128, x j.val = x' j.val) (g : EReal) (e : Fin 128) : headNorm x g e.val = headNorm x' g e.val := by
  unfold headNorm
  simp only [h]

/-- The sums over the blocks are the sums over the arrays, when the blocks are these parts of the arrays. -/
theorem slab_eq (x2 : Vec Ideal S1024x128 .bf16) (x3 : Vec Ideal S1024x128 .bf16) (x4 : Vec Ideal S8192x128 .bf16) (x5 : Vec Ideal S8192x128 .bf16) (x6 : Vec Ideal S8192x256 .bf16)
    (q k : FVec Ideal S8192x2048 .f32) (v : FVec Ideal S8192x1024 .f32) (T h b o : ℕ) (hT : T < 8)
    (hQ : ∀ a < 1024, ∀ d < 128, Qs x2 x3 b a d = at2 (m := 8192) (n := 2048) q (1024 * T + a) (o + d))
    (hK : ∀ a < 8192, ∀ d < 128, Ks x4 x5 0 b a d = at2 (m := 8192) (n := 2048) k a (o + d))
    (hV : ∀ a < 8192, ∀ e < 128, Vs x6 0 a e = at2 (m := 8192) (n := 1024) v a (128 * h + e)) (hO : ∀ a < 8192, ∀ e < 128, Vs x6 0 a (128 + e) = (1 : EReal)) (ρ e : ℕ) (hρ : ρ < 1024) (he : e < 128) :
    Ideal.div (slab x2 x3 x4 x5 x6 (1024 * T) b ρ e) (slab x2 x3 x4 x5 x6 (1024 * T) b ρ (128 + e)) = Ideal.div (num q k v o (128 * h + e) (1024 * T + ρ)) (den q k o (1024 * T + ρ)) := by
  have hs : ∀ t < 8192, (∑ d : Fin 128, Qs x2 x3 b ρ d.val * Ks x4 x5 0 b t d.val) = score q k o (1024 * T + ρ) t := fun t ht =>
    Finset.sum_congr rfl fun d _ => congrArg₂ (fun y z : EReal => y * z) (hQ ρ hρ d.val d.isLt) (hK t ht d.val d.isLt)
  refine congrArg₂ Ideal.div (Finset.sum_congr rfl fun t ht => ?_) (Finset.sum_congr rfl fun t ht => ?_)
  · have ht' : t < 8192 := by have := Finset.mem_range.1 ht; omega
    unfold term
    rw [hs t ht', hV t ht' e he]
  · have ht' : t < 8192 := by have := Finset.mem_range.1 ht; omega
    unfold term
    rw [hs t ht', hO t ht' e he]
    exact mul_one _

/-- The weight from the block of its rows. -/
theorem lamB_of (x0 : Vec Ideal S4x64 .f32) (a b d e : FVec Ideal S64 .f32) (h0 : ∀ x : Fin 64, x0 (ix2 0 x) = a (ix1 x)) (h1 : ∀ x : Fin 64, x0 (ix2 1 x) = b (ix1 x))
    (h2 : ∀ x : Fin 64, x0 (ix2 2 x) = d (ix1 x)) (h3 : ∀ x : Fin 64, x0 (ix2 3 x) = e (ix1 x)) : lamB x0 = lam a b d e := by
  unfold lamB lam
  simp only [h0, h1, h2, h3]

section Region
variable (m : (ℓ : Loc nD τ sig) → Buf (Elt Ideal) ℓ) (c : Dev nD)

/-- An entry of the array's columns of queries. -/
theorem V_q (s j : ℕ) (hs : s < 8192) (hj : j < 2048) : at2 (m := 8192) (n := 6144) (V m c main_v10) s j = at2 (m := 8192) (n := 2048) (m ((c : Thread nD τ).loc main_arg5)) s j :=
  (congrArg (fun A => at2 (m := 8192) (n := 6144) A s j) (V_main_v10 m c)).trans ((at2_eq (m := 8192) (n := 6144) (qkvF _ _ _) (ix2 ⟨s, hs⟩ ⟨j, by omega⟩) rfl rfl).symm.trans
    ((qkvF_q _ _ _ ⟨s, hs⟩ ⟨j, hj⟩).trans (at2_eq (m := 8192) (n := 2048) _ (ix2 ⟨s, hs⟩ ⟨j, hj⟩) rfl rfl)))
/-- An entry of its columns of keys. -/
theorem V_k (s j : ℕ) (hs : s < 8192) (hj : j < 2048) : at2 (m := 8192) (n := 6144) (V m c main_v10) s (2048 + j) = at2 (m := 8192) (n := 2048) (m ((c : Thread nD τ).loc main_arg6)) s j :=
  (congrArg (fun A => at2 (m := 8192) (n := 6144) A s (2048 + j)) (V_main_v10 m c)).trans ((at2_eq (m := 8192) (n := 6144) (qkvF _ _ _) (ix2 ⟨s, hs⟩ ⟨2048 + j, by omega⟩) rfl rfl).symm.trans
    ((qkvF_k _ _ _ ⟨s, hs⟩ ⟨j, hj⟩).trans (at2_eq (m := 8192) (n := 2048) _ (ix2 ⟨s, hs⟩ ⟨j, hj⟩) rfl rfl)))
/-- An entry of a head's columns of values. -/
theorem V_v (s h e : ℕ) (hs : s < 8192) (hh : h < 8) (he : e < 128) :
    at2 (m := 8192) (n := 6144) (V m c main_v10) s (4096 + (256 * h + e)) = at2 (m := 8192) (n := 1024) (m ((c : Thread nD τ).loc main_arg7)) s (128 * h + e) :=
  (congrArg (fun A => at2 (m := 8192) (n := 6144) A s (4096 + (256 * h + e))) (V_main_v10 m c)).trans ((at2_eq (m := 8192) (n := 6144) (qkvF _ _ _) (ix2 ⟨s, hs⟩ ⟨4096 + (256 * h + e), by omega⟩) rfl rfl).symm.trans
    ((qkvF_v _ _ _ ⟨s, hs⟩ ⟨256 * h + e, by omega⟩).trans ((onesF_v _ ⟨s, hs⟩ ⟨h, hh⟩ ⟨e, he⟩).trans (at2_eq (m := 8192) (n := 1024) _ (ix2 ⟨s, hs⟩ ⟨128 * h + e, by omega⟩) rfl rfl))))
/-- An entry of the ones behind them. -/
theorem V_one (s h e : ℕ) (hs : s < 8192) (hh : h < 8) (he : e < 128) : at2 (m := 8192) (n := 6144) (V m c main_v10) s (4096 + (256 * h + (128 + e))) = 1 :=
  (congrArg (fun A => at2 (m := 8192) (n := 6144) A s (4096 + (256 * h + (128 + e)))) (V_main_v10 m c)).trans ((at2_eq (m := 8192) (n := 6144) (qkvF _ _ _) (ix2 ⟨s, hs⟩ ⟨4096 + (256 * h + (128 + e)), by omega⟩) rfl rfl).symm.trans
    ((qkvF_v _ _ _ ⟨s, hs⟩ ⟨256 * h + (128 + e), by omega⟩).trans (onesF_one _ ⟨s, hs⟩ ⟨h, hh⟩ ⟨e, he⟩)))

/-! ## The points -/

/-- Where each window's block lies. -/
theorem offs : ∀ t : Fin cfg0.N,
    (fun a => win0_0.index t a * win0_0.size a) = ![0, 0] ∧ (fun a => win0_1.index t a * win0_1.size a) = ![0, 0]
    ∧ (fun a => win0_2.index t a * win0_2.size a) = ![1024 * (t.val % 8), 256 * (t.val / 8)] ∧ (fun a => win0_3.index t a * win0_3.size a) = ![1024 * (t.val % 8), 256 * (t.val / 8) + 128]
    ∧ (fun a => win0_4.index t a * win0_4.size a) = ![0, 2048 + 256 * (t.val / 8)] ∧ (fun a => win0_5.index t a * win0_5.size a) = ![0, 2048 + (256 * (t.val / 8) + 128)]
    ∧ (fun a => win0_6.index t a * win0_6.size a) = ![0, 4096 + 256 * (t.val / 8)] ∧ (fun a => win0_7.index t a * win0_7.size a) = ![1024 * (t.val % 8), 128 * (t.val / 8)] :=
  (by decide +kernel : ∀ t : Fin grid0.N, _)
/-- How often the two loops run. -/
theorem trips : ∀ t : Fin cfg0.N, (k0_t1_loop (grid0.coords t)).trips = t.val % 8 / 4 ∧ (k0_t2_loop (grid0.coords t)).trips = 0 :=
  (by decide +kernel : ∀ t : Fin grid0.N, _)
/-- Where the loop reads the keys and values. -/
theorem offs_loop : ∀ (t : Fin cfg0.N) (k : Fin (k0_t1_loop (grid0.coords t)).trips), k0_off17 (grid0.coords t) k = ![0, 0] ∧ k0_off18 (grid0.coords t) k = ![0, 0] :=
  (by decide +kernel : ∀ (t : Fin grid0.N) (k : Fin (k0_t1_loop (grid0.coords t)).trips), _)
/-- Where the tile's own keys and values lie, at the points of residue 0. -/
theorem offs_A : ∀ t : Fin cfg0.N, t.val % 4 = 0 → k0_off1 (grid0.coords t) = ![4096 * (t.val % 8 / 4), 0] ∧ k0_off2 (grid0.coords t) = ![4096 * (t.val % 8 / 4), 0] ∧ k0_off3 (grid0.coords t) = ![4096 * (t.val % 8 / 4), 0] ∧ k0_off4 (grid0.coords t) = ![4096 * (t.val % 8 / 4), 0] :=
  (by decide +kernel : ∀ t : Fin grid0.N, _)
/-- Where the tile's own keys and values lie, at the points of residue 1. -/
theorem offs_B : ∀ t : Fin cfg0.N, t.val % 4 = 1 → k0_off5 (grid0.coords t) = ![4096 * (t.val % 8 / 4), 0] ∧ k0_off6 (grid0.coords t) = ![4096 * (t.val % 8 / 4), 0] ∧ k0_off7 (grid0.coords t) = ![4096 * (t.val % 8 / 4), 0] ∧ k0_off8 (grid0.coords t) = ![4096 * (t.val % 8 / 4), 0] :=
  (by decide +kernel : ∀ t : Fin grid0.N, _)
/-- Where the tile's own keys and values lie, at the points of residue 2. -/
theorem offs_C : ∀ t : Fin cfg0.N, t.val % 4 = 2 → k0_off9 (grid0.coords t) = ![4096 * (t.val % 8 / 4), 0] ∧ k0_off10 (grid0.coords t) = ![4096 * (t.val % 8 / 4), 0] ∧ k0_off11 (grid0.coords t) = ![4096 * (t.val % 8 / 4), 0] ∧ k0_off12 (grid0.coords t) = ![4096 * (t.val % 8 / 4), 0] :=
  (by decide +kernel : ∀ t : Fin grid0.N, _)
/-- Where the tile's own keys and values lie, at the points of residue 3. -/
theorem offs_D : ∀ t : Fin cfg0.N, t.val % 4 = 3 → k0_off13 (grid0.coords t) = ![4096 * (t.val % 8 / 4), 0] ∧ k0_off14 (grid0.coords t) = ![4096 * (t.val % 8 / 4), 0] ∧ k0_off15 (grid0.coords t) = ![4096 * (t.val % 8 / 4), 0] ∧ k0_off16 (grid0.coords t) = ![4096 * (t.val % 8 / 4), 0] :=
  (by decide +kernel : ∀ t : Fin grid0.N, _)

variable (t : Fin cfg0.N)

/-- A point's block of the first component's queries. -/
theorem blk2 (a d : ℕ) (ha : a < 1024) (hd : d < 128) : at2 (m := 1024) (n := 128) (iblk m c 2 t) a d = at2 (m := 8192) (n := 6144) (V m c main_v10) (1024 * (t.val % 8) + a) (256 * (t.val / 8) + d) :=
  (at2_eq (m := 1024) (n := 128) (iblk m c 2 t) (ix2 ⟨a, ha⟩ ⟨d, hd⟩) rfl rfl).symm.trans (box2 (m := 8192) (n := 6144) (V m c main_v10) _ (offs t).2.2.1 (ix2 ⟨a, ha⟩ ⟨d, hd⟩) rfl rfl)
/-- A point's block of the second component's queries. -/
theorem blk3 (a d : ℕ) (ha : a < 1024) (hd : d < 128) : at2 (m := 1024) (n := 128) (iblk m c 3 t) a d = at2 (m := 8192) (n := 6144) (V m c main_v10) (1024 * (t.val % 8) + a) (256 * (t.val / 8) + 128 + d) :=
  (at2_eq (m := 1024) (n := 128) (iblk m c 3 t) (ix2 ⟨a, ha⟩ ⟨d, hd⟩) rfl rfl).symm.trans (box2 (m := 8192) (n := 6144) (V m c main_v10) _ (offs t).2.2.2.1 (ix2 ⟨a, ha⟩ ⟨d, hd⟩) rfl rfl)
/-- A point's block of the first component's keys. -/
theorem blk4 (a d : ℕ) (ha : a < 8192) (hd : d < 128) : at2 (m := 8192) (n := 128) (iblk m c 4 t) a d = at2 (m := 8192) (n := 6144) (V m c main_v10) a (2048 + (256 * (t.val / 8) + d)) :=
  (at2_eq (m := 8192) (n := 128) (iblk m c 4 t) (ix2 ⟨a, ha⟩ ⟨d, hd⟩) rfl rfl).symm.trans (box2 (m := 8192) (n := 6144) (V m c main_v10) _ (offs t).2.2.2.2.1 (ix2 ⟨a, ha⟩ ⟨d, hd⟩) (Nat.zero_add _) (Nat.add_assoc _ _ _))
/-- A point's block of the second component's keys. -/
theorem blk5 (a d : ℕ) (ha : a < 8192) (hd : d < 128) : at2 (m := 8192) (n := 128) (iblk m c 5 t) a d = at2 (m := 8192) (n := 6144) (V m c main_v10) a (2048 + (256 * (t.val / 8) + 128 + d)) :=
  (at2_eq (m := 8192) (n := 128) (iblk m c 5 t) (ix2 ⟨a, ha⟩ ⟨d, hd⟩) rfl rfl).symm.trans (box2 (m := 8192) (n := 6144) (V m c main_v10) _ (offs t).2.2.2.2.2.1 (ix2 ⟨a, ha⟩ ⟨d, hd⟩) (Nat.zero_add _) (Nat.add_assoc _ _ _))
/-- A point's block of values and ones. -/
theorem blk6 (a d : ℕ) (ha : a < 8192) (hd : d < 256) : at2 (m := 8192) (n := 256) (iblk m c 6 t) a d = at2 (m := 8192) (n := 6144) (V m c main_v10) a (4096 + (256 * (t.val / 8) + d)) :=
  (at2_eq (m := 8192) (n := 256) (iblk m c 6 t) (ix2 ⟨a, ha⟩ ⟨d, hd⟩) rfl rfl).symm.trans (box2 (m := 8192) (n := 6144) (V m c main_v10) _ (offs t).2.2.2.2.2.2.1 (ix2 ⟨a, ha⟩ ⟨d, hd⟩) (Nat.zero_add _) (Nat.add_assoc _ _ _))
/-- The rows of the weight at every point. -/
theorem blk0 (a : Fin 4) (x : Fin 64) : (iblk m c 0 t : S4x64.Idx → EReal) (ix2 a x) = (V m c main_v4 : S4x64.Idx → EReal) (ix2 a x) :=
  (box2 (m := 4) (n := 64) (V m c main_v4) _ (offs t).1 (ix2 a x) (Nat.zero_add _) (Nat.zero_add _)).trans (at2_eq (m := 4) (n := 64) (V m c main_v4) (ix2 a x) rfl rfl).symm
/-- The gain at every point. -/
theorem blk1 (e : Fin 128) : (iblk m c 1 t : S1x128.Idx → EReal) (ix2 0 e) = (m ((c : Thread nD τ).loc main_arg4) : S128.Idx → EReal) (ix1 e) :=
  (box2 (m := 1) (n := 128) (V m c main_v11) _ (offs t).2.1 (ix2 0 e) (Nat.zero_add _) (Nat.zero_add _)).trans ((at2_eq (m := 1) (n := 128) (V m c main_v11) (ix2 0 e) rfl rfl).symm.trans (gain m c e))

/-- The weight at every point. -/
theorem lamB_eq : lamB (iblk m c 0 t) = lam (m ((c : Thread nD τ).loc main_arg0)) (m ((c : Thread nD τ).loc main_arg1)) (m ((c : Thread nD τ).loc main_arg2)) (m ((c : Thread nD τ).loc main_arg3)) :=
  lamB_of (iblk m c 0 t) _ _ _ _ (fun x => (blk0 m c t 0 x).trans (lam0 m c x)) (fun x => (blk0 m c t 1 x).trans (lam1 m c x)) (fun x => (blk0 m c t 2 x).trans (lam2 m c x)) (fun x => (blk0 m c t 3 x).trans (lam3 m c x))

/-- The difference of the two attentions at a point. -/
theorem mix_eq (ρ e : ℕ) (hρ : ρ < 1024) (he : e < 128) :
    mixB (iblk m c 0 t) (iblk m c 2 t) (iblk m c 3 t) (iblk m c 4 t) (iblk m c 5 t) (iblk m c 6 t) (1024 * (t.val % 8)) ρ e
      = diff (m ((c : Thread nD τ).loc main_arg5)) (m ((c : Thread nD τ).loc main_arg6)) (m ((c : Thread nD τ).loc main_arg7))
          (lam (m ((c : Thread nD τ).loc main_arg0)) (m ((c : Thread nD τ).loc main_arg1)) (m ((c : Thread nD τ).loc main_arg2)) (m ((c : Thread nD τ).loc main_arg3)))
          (t.val / 8) (1024 * (t.val % 8) + ρ) (128 * (t.val / 8) + e) := by
  have hN : t.val < 64 := t.isLt.trans_eq N_0
  have hT : t.val % 8 < 8 := Nat.mod_lt _ (by decide)
  have hh : t.val / 8 < 8 := by omega
  have hV : ∀ a < 8192, ∀ e < 128, Vs (iblk m c 6 t) 0 a e = at2 (m := 8192) (n := 1024) (m ((c : Thread nD τ).loc main_arg7)) a (128 * (t.val / 8) + e) := fun a ha e he => by
    unfold Vs
    rw [Nat.zero_add]
    exact (blk6 m c t a e ha (by omega)).trans (V_v m c a _ e ha hh he)
  have hO : ∀ a < 8192, ∀ e < 128, Vs (iblk m c 6 t) 0 a (128 + e) = (1 : EReal) := fun a ha e he => by
    unfold Vs
    rw [Nat.zero_add]
    exact (blk6 m c t a (128 + e) ha (by omega)).trans (V_one m c a _ e ha hh he)
  have h0 := slab_eq (iblk m c 2 t) (iblk m c 3 t) (iblk m c 4 t) (iblk m c 5 t) (iblk m c 6 t) (m ((c : Thread nD τ).loc main_arg5)) (m ((c : Thread nD τ).loc main_arg6)) (m ((c : Thread nD τ).loc main_arg7))
    (t.val % 8) (t.val / 8) 0 (256 * (t.val / 8)) hT
    (fun a ha d hd => (blk2 m c t a d ha hd).trans (V_q m c _ _ (by omega) (by omega)))
    (fun a ha d hd => (congrArg (fun x => at2 (m := 8192) (n := 128) (iblk m c 4 t) x d) (Nat.zero_add a)).trans ((blk4 m c t a d ha hd).trans (V_k m c _ _ ha (by omega)))) hV hO ρ e hρ he
  have h1 := slab_eq (iblk m c 2 t) (iblk m c 3 t) (iblk m c 4 t) (iblk m c 5 t) (iblk m c 6 t) (m ((c : Thread nD τ).loc main_arg5)) (m ((c : Thread nD τ).loc main_arg6)) (m ((c : Thread nD τ).loc main_arg7))
    (t.val % 8) (t.val / 8) 1 (256 * (t.val / 8) + 128) hT
    (fun a ha d hd => (blk3 m c t a d ha hd).trans (V_q m c _ _ (by omega) (by omega)))
    (fun a ha d hd => (congrArg (fun x => at2 (m := 8192) (n := 128) (iblk m c 5 t) x d) (Nat.zero_add a)).trans ((blk5 m c t a d ha hd).trans (V_k m c _ _ ha (by omega)))) hV hO ρ e hρ he
  unfold mixB diff
  rw [h0, h1, lamB_eq m c t]

/-! ## The result -/

/-- Entry `(ρ, e)` of the block a point writes back. -/
theorem flushed_at (ρ : Fin 1024) (e : Fin 128) :
    ((dats m 0 c).flushed 7 t : S1024x128.Idx → EReal) (ix2 ρ e)
      = headNorm (fun l => diff (m ((c : Thread nD τ).loc main_arg5)) (m ((c : Thread nD τ).loc main_arg6)) (m ((c : Thread nD τ).loc main_arg7))
          (lam (m ((c : Thread nD τ).loc main_arg0)) (m ((c : Thread nD τ).loc main_arg1)) (m ((c : Thread nD τ).loc main_arg2)) (m ((c : Thread nD τ).loc main_arg3)))
          (t.val / 8) (1024 * (t.val % 8) + ρ.val) (128 * (t.val / 8) + l)) ((m ((c : Thread nD τ).loc main_arg4) : S128.Idx → EReal) (ix1 e)) e.val := by
  have hp : t.val % 8 / 4 < 2 := by omega
  have key : ∀ n, n = 1024 * (t.val % 8) → ((dats m 0 c).flushed 7 t : S1024x128.Idx → EReal) (ix2 ρ e)
      = headNorm (mixB (iblk m c 0 t) (iblk m c 2 t) (iblk m c 3 t) (iblk m c 4 t) (iblk m c 5 t) (iblk m c 6 t) n ρ.val) ((iblk m c 1 t : S1x128.Idx → EReal) (ix2 0 e)) e.val
      → ((dats m 0 c).flushed 7 t : S1024x128.Idx → EReal) (ix2 ρ e)
      = headNorm (fun l => diff (m ((c : Thread nD τ).loc main_arg5)) (m ((c : Thread nD τ).loc main_arg6)) (m ((c : Thread nD τ).loc main_arg7))
          (lam (m ((c : Thread nD τ).loc main_arg0)) (m ((c : Thread nD τ).loc main_arg1)) (m ((c : Thread nD τ).loc main_arg2)) (m ((c : Thread nD τ).loc main_arg3)))
          (t.val / 8) (1024 * (t.val % 8) + ρ.val) (128 * (t.val / 8) + l)) ((m ((c : Thread nD τ).loc main_arg4) : S128.Idx → EReal) (ix1 e)) e.val := by
    rintro n rfl h
    refine h.trans ((headNorm_congr (x' := fun l => diff (m ((c : Thread nD τ).loc main_arg5)) (m ((c : Thread nD τ).loc main_arg6)) (m ((c : Thread nD τ).loc main_arg7))
          (lam (m ((c : Thread nD τ).loc main_arg0)) (m ((c : Thread nD τ).loc main_arg1)) (m ((c : Thread nD τ).loc main_arg2)) (m ((c : Thread nD τ).loc main_arg3)))
          (t.val / 8) (1024 * (t.val % 8) + ρ.val) (128 * (t.val / 8) + l)) (fun j => mix_eq m c t ρ.val j.val ρ.isLt j.isLt) _ e).trans ?_)
    exact congrArg (fun g => headNorm _ g e.val) (blk1 m c t e)
  rcases (show t.val % 4 = 0 ∨ t.val % 4 = 1 ∨ t.val % 4 = 2 ∨ t.val % 4 = 3 by omega) with h | h | h | h
  · exact key (4096 * (t.val % 8 / 4) + 0) (by omega) ((congrFun (Value.flushed7_A m c t h (by omega) (by omega) (by omega)) (ix2 ρ e)).trans
      (out_A _ c _ _ _ _ _ _ _ _ _ _ _ _ _ _ _ _ _ _ (iblk m c 0 t) (iblk m c 1 t) (iblk m c 2 t) (iblk m c 3 t) (iblk m c 4 t) (iblk m c 5 t) (iblk m c 6 t) _ _ _ _
        (t.val % 8 / 4) hp (trips t).1 (trips t).2 (offs_loop t) (offs_A t h).1 (offs_A t h).2.1 (offs_A t h).2.2.1 (offs_A t h).2.2.2 ρ e))
  · exact key (4096 * (t.val % 8 / 4) + 1024) (by omega) ((congrFun (Value.flushed7_B m c t (by omega) h (by omega) (by omega)) (ix2 ρ e)).trans
      (out_B _ c _ _ _ _ _ _ _ _ _ _ _ _ _ _ _ _ _ _ (iblk m c 0 t) (iblk m c 1 t) (iblk m c 2 t) (iblk m c 3 t) (iblk m c 4 t) (iblk m c 5 t) (iblk m c 6 t) _ _ _ _
        (t.val % 8 / 4) hp (trips t).1 (trips t).2 (offs_loop t) (offs_B t h).1 (offs_B t h).2.1 (offs_B t h).2.2.1 (offs_B t h).2.2.2 ρ e))
  · exact key (4096 * (t.val % 8 / 4) + 2048) (by omega) ((congrFun (Value.flushed7_C m c t (by omega) (by omega) h (by omega)) (ix2 ρ e)).trans
      (out_C _ c _ _ _ _ _ _ _ _ _ _ _ _ _ _ _ _ _ _ (iblk m c 0 t) (iblk m c 1 t) (iblk m c 2 t) (iblk m c 3 t) (iblk m c 4 t) (iblk m c 5 t) (iblk m c 6 t) _ _ _ _
        (t.val % 8 / 4) hp (trips t).1 (trips t).2 (offs_loop t) (offs_C t h).1 (offs_C t h).2.1 (offs_C t h).2.2.1 (offs_C t h).2.2.2 ρ e))
  · exact key (4096 * (t.val % 8 / 4) + 3072) (by omega) ((congrFun (Value.flushed7_D m c t (by omega) (by omega) (by omega) h) (ix2 ρ e)).trans
      (out_D _ c _ _ _ _ _ _ _ _ _ _ _ _ _ _ _ _ _ _ (iblk m c 0 t) (iblk m c 1 t) (iblk m c 2 t) (iblk m c 3 t) (iblk m c 4 t) (iblk m c 5 t) (iblk m c 6 t) _ _ _ _
        (t.val % 8 / 4) hp (trips t).1 (trips t).2 (offs_loop t) (offs_D t h).1 (offs_D t h).2.1 (offs_D t h).2.2.1 (offs_D t h).2.2.2 ρ e))

/-- An entry of the array the run leaves is an entry of the block that holds it. -/
theorem read_at (ρ : Fin 1024) (e : Fin 128) {i l : ℕ} (hi : 1024 * (t.val % 8) + ρ.val = i) (hl : 128 * (t.val / 8) + e.val = l) :
    at2 (m := 8192) (n := 1024) ((dats m 0 c).arrAt 7 cfg0.N) i l = ((dats m 0 c).flushed 7 t : S1024x128.Idx → EReal) (ix2 ρ e) :=
  have hy : (((cfg0.win 7).blk t).view.read (Elt Ideal) ((dats m 0 c).arrAt 7 cfg0.N) : S1024x128.Idx → EReal) (ix2 ρ e)
      = at2 (m := 8192) (n := 1024) ((dats m 0 c).arrAt 7 cfg0.N) i l :=
    box2 (m := 8192) (n := 1024) ((dats m 0 c).arrAt 7 cfg0.N) _ (offs t).2.2.2.2.2.2.2 (ix2 ρ e) hi hl
  hy.symm.trans (congrFun (Value.blocks7 m c t (flush0_7 t)) (ix2 ρ e))

/-- The array the run leaves, as a function of its arguments. -/
theorem result : ((dats m 0 c).arrAt 7 cfg0.N : S8192x1024.Idx → EReal)
    = attOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext y
  have h0 : (y 0).val < 8192 := (y 0).isLt
  have h1 : (y 1).val < 1024 := (y 1).isLt
  obtain ⟨t, ht, hh⟩ : ∃ t : Fin cfg0.N, t.val % 8 = (y 0).val / 1024 ∧ t.val / 8 = (y 1).val / 128 :=
    ⟨⟨8 * ((y 1).val / 128) + (y 0).val / 1024, by have := N_0; show _ < grid0.N; omega⟩, by show (8 * ((y 1).val / 128) + (y 0).val / 1024) % 8 = _; omega, by show (8 * ((y 1).val / 128) + (y 0).val / 1024) / 8 = _; omega⟩
  have hy := read_at m c t ⟨(y 0).val % 1024, Nat.mod_lt _ (by decide)⟩ ⟨(y 1).val % 128, Nat.mod_lt _ (by decide)⟩ (i := (y 0).val) (l := (y 1).val)
    (by show 1024 * (t.val % 8) + (y 0).val % 1024 = _; omega) (by show 128 * (t.val / 8) + (y 1).val % 128 = _; omega)
  refine (at2_eq (m := 8192) (n := 1024) _ y rfl rfl).trans (hy.trans ((flushed_at m c t _ _).trans ?_))
  unfold attOut
  show headNorm (fun l => diff _ _ _ _ (t.val / 8) (1024 * (t.val % 8) + (y 0).val % 1024) (128 * (t.val / 8) + l)) _ _ = _
  rw [ht, hh, Nat.div_add_mod]

end Region

end Cert.Proof.Att

end
-- ==== Proof.lean ====
/- The proof of the claims of `Cert.Claim` (proofs.«01_k».proof.Defs). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Alg
public import proofs.«01_k».proof.Proof.Ref
public import proofs.«01_k».proof.Proof.Ple
public import proofs.«01_k».proof.Proof.Merge
public import proofs.«01_k».proof.Proof.Att

@[expose] public section

noncomputable section

namespace Cert.Proof

open Idealize.ShloMosaic Idealize.ShloMosaic.TcCoe Idealize.SL.Sem

/-- Nothing is claimed of the values. -/
def nothing {F : FTy → Type} [FloatOps F] (m : (ℓ : Loc Cert.KernelIdeal.nD Cert.KernelIdeal.τ Cert.KernelIdeal.sig) → Buf (Elt F) ℓ) : Ffn.Claims m :=
  fun c => { Car := fun _ _ => True, Acc := fun _ _ _ => True, Res := fun _ _ => True, start := fun _ => trivial,
             step := fun _ _ _ _ _ _ _ _ _ _ _ _ _ => ⟨trivial, trivial⟩, done := fun _ _ _ _ => trivial }

/-- The feed-forward kernel at the ideal instance runs to its end and changes only its result. -/
theorem frame_kernelIdeal : Cert.quiescent_KernelIdeal := fun m ρ _ =>
  (θ_run Cert.KernelIdeal.defs _ _).mono (fun _ h => ⟨fun c => (h.1 c).1, h.2⟩) (Ffn.run_main (F := Ideal) m ρ (nothing m))

/-- The feed-forward kernel on the machine's words runs to its end and changes only its result. -/
theorem frame_kernel : Cert.quiescent_Kernel := fun m ρ _ =>
  (θ_run Cert.KernelIdeal.defs _ _).mono (fun _ h => ⟨fun c => (h.1 c).1, h.2⟩) (Ffn.run_main (F := Bits) m ρ (nothing m))

/-- The feed-forward reference runs to its end and changes only its result. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- At the ideal instance the kernel's result is the reference's: both are, entry by entry, the down-projection of the gated
    activations over the same arguments. -/
theorem algebraic : Cert.algebraic_KernelIdeal_ReferenceIdeal := by
  intro m g m' g' _ hargs
  refine ⟨fun c => Cert.ReferenceIdeal.Value.res_main_v21 (F := Ideal) m' c,
    (θ_run Cert.KernelIdeal.defs _ _).mono (fun r h c => ⟨?_, (h.1 c).1⟩) (Ffn.run_main (F := Ideal) m g (Ffn.claims m)),
    Cert.ReferenceIdeal.Value.run (F := Ideal) m' g'⟩
  obtain ⟨a0, a1, a2, a3⟩ := hargs c
  funext y
  refine (Ffn.result_at m c _ (h.1 c).2 y).trans (Eq.symm ((Ffn.ref_at m' c y).trans ?_))
  rw [a0, a1, a2, a3]

/-- The embedding gate, at the ideal instance, leaves its arguments and its counters as they were. -/
theorem frame_kernel2Ideal : Cert.quiescent_Kernel2Ideal := fun m ρ _ => Cert.Kernel2Ideal.Gen.frame (F := Ideal) m ρ

/-- The embedding gate's body table is the same text in both programs. -/
theorem bodies2 : Cert.Kernel2.defs₀ (F := Bits) = Cert.Kernel2Ideal.defs₀ (F := Bits) :=
  congrArg Defs.onTc (funext fun l => match l with
    | ⟨0, _⟩ => funext fun _ => rfl)
/-- The embedding gate's whole body table is the same in both programs. -/
theorem defs2 : Cert.Kernel2.defs (F := Bits) = Cert.Kernel2Ideal.defs (F := Bits) :=
  congrArg (Pipeline.defs Cert.Kernel2Ideal.pcfgs) bodies2
/-- The embedding gate, in bits, leaves its arguments and its counters as they were. -/
theorem frame_kernel2 : Cert.quiescent_Kernel2 := fun m ρ _ => by
  rw [defs2]
  exact Cert.Kernel2Ideal.Gen.frame (F := Bits) m ρ

/-- The embedding gate's reference leaves its arguments and its counters as they were. -/
theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Ple.Ref.run m ρ)

/-- The merge, at the ideal instance, leaves its arguments and its counters as they were. -/
theorem frame_kernel3Ideal : Cert.quiescent_Kernel3Ideal := fun m ρ _ => Cert.Kernel3Ideal.Gen.frame (F := Ideal) m ρ

/-- The merge's body table is the same text in both programs. -/
theorem bodies3 : Cert.Kernel3.defs₀ (F := Bits) = Cert.Kernel3Ideal.defs₀ (F := Bits) :=
  congrArg Defs.onTc (funext fun l => match l with
    | ⟨0, _⟩ => funext fun _ => rfl)
/-- The merge's whole body table is the same in both programs. -/
theorem defs3 : Cert.Kernel3.defs (F := Bits) = Cert.Kernel3Ideal.defs (F := Bits) :=
  congrArg (Pipeline.defs Cert.Kernel3Ideal.pcfgs) bodies3
/-- The merge, in bits, leaves its arguments and its counters as they were. -/
theorem frame_kernel3 : Cert.quiescent_Kernel3 := fun m ρ _ => by
  rw [defs3]
  exact Cert.Kernel3Ideal.Gen.frame (F := Bits) m ρ

/-- The merge's reference leaves its arguments and its counters as they were. -/
theorem frame_reference3Ideal : Cert.quiescent_Reference3Ideal := fun m ρ _ =>
  (θ_run Cert.Reference3Ideal.defs _ _).mono (fun r h => ⟨fun c => (h c).2.2, Idealize.ShloMosaic.sem_eq_zero_of_no_sems (by decide) r.2⟩)
    (Merge.Ref.run m ρ)

/-- At the ideal instance the embedding gate's result is its reference's: both are the same function of the arguments. -/
theorem algebraic2 : Cert.algebraic_Kernel2Ideal_Reference2Ideal := by
  intro m g m' g' _ hargs
  refine ⟨_, (θ_run Cert.Kernel2Ideal.defs _ _).mono (fun r h c => ⟨(h c).1.trans (Ple.result m c), (h c).2⟩) (Cert.Kernel2Ideal.Value.run_blocks (F := Ideal) m g),
    (θ_run Cert.Reference2Ideal.defs _ _).mono (fun r h c => ⟨(h c).1.trans ?_, (h c).2⟩) (Ple.Ref.run m' g')⟩
  obtain ⟨a0, a1, a2, a3, a4, a5, a6, a7⟩ := hargs c
  rw [a0, a1, a2, a3, a4, a5, a6, a7]

/-- At the ideal instance the merge's two results are its reference's: both are the same functions of the arguments. -/
theorem algebraic3 : Cert.algebraic_Kernel3Ideal_Reference3Ideal := by
  intro m g m' g' _ hargs
  refine ⟨_, _, (θ_run Cert.Kernel3Ideal.defs _ _).mono (fun r h c => ⟨(h c).1.trans (Merge.result11 m c), (h c).2.1.trans (Merge.result12 m c), (h c).2.2⟩)
      (Cert.Kernel3Ideal.Value.run_blocks (F := Ideal) m g),
    (θ_run Cert.Reference3Ideal.defs _ _).mono (fun r h c => ⟨(h c).1.trans ?_, (h c).2.1.trans ?_, (h c).2.2⟩) (Merge.Ref.run m' g')⟩
  all_goals
    obtain ⟨a0, a1, a2, a3, a4, a5, a6, a7, a8, a9⟩ := hargs c
    rw [a0, a1, a2, a3, a4, a5, a6, a7, a8]
  rw [a9]

/-- The attention, at the ideal instance, leaves its arguments and its counters as they were. -/
theorem frame_kernel4Ideal : Cert.quiescent_Kernel4Ideal := fun m ρ _ => Cert.Kernel4Ideal.Gen.frame (F := Ideal) m ρ

/-- In bits a named constant is the literal it names. -/
local instance literal : Named Bits where
  named _ _ {φ} bits := Scalar.ofBits φ bits

/-- The attention's body table is the same text in both programs, the mask's literal in place of its name. -/
theorem bodies4 : Cert.Kernel4.defs₀ (F := Bits) = Cert.Kernel4Ideal.defs₀ (F := Bits) :=
  congrArg Defs.onTc (funext fun l => match l with
    | ⟨0, _⟩ => funext fun _ => rfl)
/-- The attention's whole body table is the same in both programs. -/
theorem defs4 : Cert.Kernel4.defs (F := Bits) = Cert.Kernel4Ideal.defs (F := Bits) :=
  congrArg (Pipeline.defs Cert.Kernel4Ideal.pcfgs) bodies4
/-- The attention, in bits, leaves its arguments and its counters as they were. -/
theorem frame_kernel4 : Cert.quiescent_Kernel4 := fun m ρ _ => by
  rw [defs4]
  exact Cert.Kernel4Ideal.Gen.frame (F := Bits) m ρ

/-- The attention's reference leaves its arguments and its counters as they were. -/
theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Att.Ref.run m ρ)

/-- The mask's name stands for the bottom element. -/
theorem preserves4 : Cert.preserves_Kernel4_Kernel4Ideal := IdealRules.named_const.statement _ _ _ _ _ rfl

/-- At the ideal instance the attention's result is its reference's: both are the same function of the arguments. -/
theorem algebraic4 : Cert.algebraic_Kernel4Ideal_Reference4Ideal := by
  intro m g m' g' _ hargs
  refine ⟨_, (θ_run Cert.Kernel4Ideal.defs _ _).mono (fun r h c => ⟨(h c).1.trans (Att.result m c), (h c).2⟩) (Cert.Kernel4Ideal.Value.run_blocks (F := Ideal) m g),
    (θ_run Cert.Reference4Ideal.defs _ _).mono (fun r h c => ⟨(h c).1.trans ?_, (h c).2⟩) (Att.Ref.run m' g')⟩
  obtain ⟨a0, a1, a2, a3, a4, a5, a6, a7⟩ := hargs c
  rw [a0, a1, a2, a3, a4, a5, a6, a7]

/-- All claims of the certificate together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_kernelIdeal, frame_referenceIdeal, frame_kernel2, frame_kernel2Ideal, frame_reference2Ideal,
  frame_kernel3, frame_kernel3Ideal, frame_reference3Ideal, frame_kernel4, frame_kernel4Ideal, frame_reference4Ideal,
  trivial, algebraic, trivial, algebraic2, trivial, algebraic3, preserves4, algebraic4⟩

end Cert.Proof

end
